-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Down [hPre_down_tables : Cert.Pre_down_tables.Facts] (m : (ℓ : Loc Cert.Down.nD Cert.Down.τ Cert.Down.sig) → Buf (Elt Bits) ℓ) : Prop :=
  ∀ c : Dev Cert.Down.nD,
    (Cert.Pre_down_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_down_tables : Cert.Pre_down_tables.Facts] (m : (ℓ : Loc Cert.DownIdeal.nD Cert.DownIdeal.τ Cert.DownIdeal.sig) → Buf (Elt Ideal) ℓ) : Prop :=
  ∀ c : Dev Cert.DownIdeal.nD,
    (Cert.Pre_down_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_tables [hPre_down_tables : Cert.Pre_down_tables.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_tables.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Up [hPre_up_tables : Cert.Pre_up_tables.Facts] (m : (ℓ : Loc Cert.Up.nD Cert.Up.τ Cert.Up.sig) → Buf (Elt Bits) ℓ) : Prop :=
  ∀ c : Dev Cert.Up.nD,
    (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))) = (fun _ => 1#1)

def Pre_UpIdeal [hPre_up_tables : Cert.Pre_up_tables.Facts] (m : (ℓ : Loc Cert.UpIdeal.nD Cert.UpIdeal.τ Cert.UpIdeal.sig) → Buf (Elt Ideal) ℓ) : Prop :=
  ∀ c : Dev Cert.UpIdeal.nD,
    (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_tables [hPre_up_tables : Cert.Pre_up_tables.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_tables.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7)) (m ((c.tc : Thread Cert.UpRefIdeal.nD Cert.UpRefIdeal.τ).loc Cert.UpRefIdeal.main_arg8))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_QkNorm (m : (ℓ : Loc Cert.QkNorm.nD Cert.QkNorm.τ Cert.QkNorm.sig) → Buf (Elt Bits) ℓ) : Prop :=
  True

def Pre_QkNormIdeal (m : (ℓ : Loc Cert.QkNormIdeal.nD Cert.QkNormIdeal.τ Cert.QkNormIdeal.sig) → Buf (Elt Ideal) ℓ) : Prop :=
  True

def Pre_QkNormRefIdeal (m : (ℓ : Loc Cert.QkNormRefIdeal.nD Cert.QkNormRefIdeal.τ Cert.QkNormRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Down [hDown : Cert.Down.Facts] [hPre_down_tables : Cert.Pre_down_tables.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_down_tables : Cert.Pre_down_tables.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_down_tables [hDownRefIdeal : Cert.DownRefIdeal.Facts] [hPre_down_tables : Cert.Pre_down_tables.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_tables m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Up [hUp : Cert.Up.Facts] [hPre_up_tables : Cert.Pre_up_tables.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7)
      ∧ r.2.mem ((c.tc : Thread Cert.Up.nD Cert.Up.τ).loc Cert.Up.main_arg8) = m ((c.tc : Thread Cert.Up.nD Cert.Up.τ).loc Cert.Up.main_arg8))
      ∧ r.2.sem = fun _ => 0)

def quiescent_UpIdeal [hUpIdeal : Cert.UpIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
      ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7)
      ∧ r.2.mem ((c.tc : Thread Cert.UpRefIdeal.nD Cert.UpRefIdeal.τ).loc Cert.UpRefIdeal.main_arg8) = m ((c.tc : Thread Cert.UpRefIdeal.nD Cert.UpRefIdeal.τ).loc Cert.UpRefIdeal.main_arg8))
      ∧ r.2.sem = fun _ => 0)

def quiescent_UpRefIdeal_pre_up_tables [hUpRefIdeal : Cert.UpRefIdeal.Facts] [hPre_up_tables : Cert.Pre_up_tables.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_tables m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7)
      ∧ r.2.mem ((c.tc : Thread Cert.UpRefIdeal.nD Cert.UpRefIdeal.τ).loc Cert.UpRefIdeal.main_arg8) = m ((c.tc : Thread Cert.UpRefIdeal.nD Cert.UpRefIdeal.τ).loc Cert.UpRefIdeal.main_arg8))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_QkNorm [hQkNorm : Cert.QkNorm.Facts] : Prop :=
  ∀ (m : (ℓ : Loc Cert.QkNorm.nD Cert.QkNorm.τ Cert.QkNorm.sig) → Buf (Elt Bits) ℓ) (g : Dev Cert.QkNorm.nD → PrngReg), Pre_QkNorm m →
    θ_run (Cert.QkNorm.defs (F := Bits)) (onTc (τ := Cert.QkNorm.τ) (Cert.QkNorm.main (F := Bits))) ⟨m, fun _ => 0, g⟩ (fun r => (∀ c : Dev Cert.QkNorm.nD,
      r.2.mem ((c.tc : Thread Cert.QkNorm.nD Cert.QkNorm.τ).loc Cert.QkNorm.main_arg0) = m ((c.tc : Thread Cert.QkNorm.nD Cert.QkNorm.τ).loc Cert.QkNorm.main_arg0)
      ∧ r.2.mem ((c.tc : Thread Cert.QkNorm.nD Cert.QkNorm.τ).loc Cert.QkNorm.main_arg1) = m ((c.tc : Thread Cert.QkNorm.nD Cert.QkNorm.τ).loc Cert.QkNorm.main_arg1)
      ∧ r.2.mem ((c.tc : Thread Cert.QkNorm.nD Cert.QkNorm.τ).loc Cert.QkNorm.main_arg2) = m ((c.tc : Thread Cert.QkNorm.nD Cert.QkNorm.τ).loc Cert.QkNorm.main_arg2))
      ∧ r.2.sem = fun _ => 0)

def quiescent_QkNormIdeal [hQkNormIdeal : Cert.QkNormIdeal.Facts] : Prop :=
  ∀ (m : (ℓ : Loc Cert.QkNormIdeal.nD Cert.QkNormIdeal.τ Cert.QkNormIdeal.sig) → Buf (Elt Ideal) ℓ) (g : Dev Cert.QkNormIdeal.nD → PrngReg), Pre_QkNormIdeal m →
    θ_run (Cert.QkNormIdeal.defs (F := Ideal)) (onTc (τ := Cert.QkNormIdeal.τ) (Cert.QkNormIdeal.main (F := Ideal))) ⟨m, fun _ => 0, g⟩ (fun r => (∀ c : Dev Cert.QkNormIdeal.nD,
      r.2.mem ((c.tc : Thread Cert.QkNormIdeal.nD Cert.QkNormIdeal.τ).loc Cert.QkNormIdeal.main_arg0) = m ((c.tc : Thread Cert.QkNormIdeal.nD Cert.QkNormIdeal.τ).loc Cert.QkNormIdeal.main_arg0)
      ∧ r.2.mem ((c.tc : Thread Cert.QkNormIdeal.nD Cert.QkNormIdeal.τ).loc Cert.QkNormIdeal.main_arg1) = m ((c.tc : Thread Cert.QkNormIdeal.nD Cert.QkNormIdeal.τ).loc Cert.QkNormIdeal.main_arg1)
      ∧ r.2.mem ((c.tc : Thread Cert.QkNormIdeal.nD Cert.QkNormIdeal.τ).loc Cert.QkNormIdeal.main_arg2) = m ((c.tc : Thread Cert.QkNormIdeal.nD Cert.QkNormIdeal.τ).loc Cert.QkNormIdeal.main_arg2))
      ∧ r.2.sem = fun _ => 0)

def quiescent_QkNormRefIdeal [hQkNormRefIdeal : Cert.QkNormRefIdeal.Facts] : Prop :=
  ∀ (m : (ℓ : Loc Cert.QkNormRefIdeal.nD Cert.QkNormRefIdeal.τ Cert.QkNormRefIdeal.sig) → Buf (Elt Ideal) ℓ) (g : Dev Cert.QkNormRefIdeal.nD → PrngReg), Pre_QkNormRefIdeal m →
    θ_run (Cert.QkNormRefIdeal.defs (F := Ideal)) (onTc (τ := Cert.QkNormRefIdeal.τ) (Cert.QkNormRefIdeal.main (F := Ideal))) ⟨m, fun _ => 0, g⟩ (fun r => (∀ c : Dev Cert.QkNormRefIdeal.nD,
      r.2.mem ((c.tc : Thread Cert.QkNormRefIdeal.nD Cert.QkNormRefIdeal.τ).loc Cert.QkNormRefIdeal.main_arg0) = m ((c.tc : Thread Cert.QkNormRefIdeal.nD Cert.QkNormRefIdeal.τ).loc Cert.QkNormRefIdeal.main_arg0)
      ∧ r.2.mem ((c.tc : Thread Cert.QkNormRefIdeal.nD Cert.QkNormRefIdeal.τ).loc Cert.QkNormRefIdeal.main_arg1) = m ((c.tc : Thread Cert.QkNormRefIdeal.nD Cert.QkNormRefIdeal.τ).loc Cert.QkNormRefIdeal.main_arg1)
      ∧ r.2.mem ((c.tc : Thread Cert.QkNormRefIdeal.nD Cert.QkNormRefIdeal.τ).loc Cert.QkNormRefIdeal.main_arg2) = m ((c.tc : Thread Cert.QkNormRefIdeal.nD Cert.QkNormRefIdeal.τ).loc Cert.QkNormRefIdeal.main_arg2))
      ∧ r.2.sem = fun _ => 0)

def preserves_Ret_RetIdeal : Prop :=
  IdealRules.named_const.Statement Cert.RetIdeal.κ "chunk0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.RetIdeal.κ "chunk1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.RetIdeal.κ "chunk2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.RetIdeal.κ "chunk3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.RetIdeal.κ "chunk4" .f32 0x3F475303#32 ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  ∧ IdealRules.named_const.Statement Cert.RetIdeal.κ "chunk5" .f32 0x3F61E7C9#32 ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.RetIdeal.κ "chunk6" .f32 0x3F707C6F#32 ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  ∧ IdealRules.named_const.Statement Cert.RetIdeal.κ "chunk7" .f32 0x3F781F6D#32 ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v70)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v70) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v174) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Down_DownIdeal : Prop :=
  True

def algebraic_DownIdeal_DownRefIdeal [hDownIdeal : Cert.DownIdeal.Facts] [hDownRefIdeal : Cert.DownRefIdeal.Facts] [hPre_down_tables : Cert.Pre_down_tables.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v102) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Up_UpIdeal : Prop :=
  True

def algebraic_UpIdeal_UpRefIdeal [hUpIdeal : Cert.UpIdeal.Facts] [hUpRefIdeal : Cert.UpRefIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)
      ∧ m' ((c.tc : Thread Cert.UpRefIdeal.nD Cert.UpRefIdeal.τ).loc Cert.UpRefIdeal.main_arg7) = m ((c.tc : Thread Cert.UpIdeal.nD Cert.UpIdeal.τ).loc Cert.UpIdeal.main_arg7)
      ∧ m' ((c.tc : Thread Cert.UpRefIdeal.nD Cert.UpRefIdeal.τ).loc Cert.UpRefIdeal.main_arg8) = m ((c.tc : Thread Cert.UpIdeal.nD Cert.UpIdeal.τ).loc Cert.UpIdeal.main_arg8)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
          ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v166) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6)
          ∧ r.2.mem ((c.tc : Thread Cert.UpRefIdeal.nD Cert.UpRefIdeal.τ).loc Cert.UpRefIdeal.main_arg7) = m' ((c.tc : Thread Cert.UpRefIdeal.nD Cert.UpRefIdeal.τ).loc Cert.UpRefIdeal.main_arg7)
          ∧ r.2.mem ((c.tc : Thread Cert.UpRefIdeal.nD Cert.UpRefIdeal.τ).loc Cert.UpRefIdeal.main_arg8) = m' ((c.tc : Thread Cert.UpRefIdeal.nD Cert.UpRefIdeal.τ).loc Cert.UpRefIdeal.main_arg8))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v21) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v30) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_QkNorm_QkNormIdeal : Prop :=
  True

def algebraic_QkNormIdeal_QkNormRefIdeal [hQkNormIdeal : Cert.QkNormIdeal.Facts] [hQkNormRefIdeal : Cert.QkNormRefIdeal.Facts] : Prop :=
  ∀ (m : (ℓ : Loc Cert.QkNormIdeal.nD Cert.QkNormIdeal.τ Cert.QkNormIdeal.sig) → Buf (Elt Ideal) ℓ) (g : Dev Cert.QkNormIdeal.nD → PrngReg)
    (m' : (ℓ : Loc Cert.QkNormRefIdeal.nD Cert.QkNormRefIdeal.τ Cert.QkNormRefIdeal.sig) → Buf (Elt Ideal) ℓ) (g' : Dev Cert.QkNormRefIdeal.nD → PrngReg), Pre_QkNormIdeal m →
    (∀ c : Dev Cert.QkNormIdeal.nD,
      m' ((c.tc : Thread Cert.QkNormRefIdeal.nD Cert.QkNormRefIdeal.τ).loc Cert.QkNormRefIdeal.main_arg0) = m ((c.tc : Thread Cert.QkNormIdeal.nD Cert.QkNormIdeal.τ).loc Cert.QkNormIdeal.main_arg0)
      ∧ m' ((c.tc : Thread Cert.QkNormRefIdeal.nD Cert.QkNormRefIdeal.τ).loc Cert.QkNormRefIdeal.main_arg1) = m ((c.tc : Thread Cert.QkNormIdeal.nD Cert.QkNormIdeal.τ).loc Cert.QkNormIdeal.main_arg1)
      ∧ m' ((c.tc : Thread Cert.QkNormRefIdeal.nD Cert.QkNormRefIdeal.τ).loc Cert.QkNormRefIdeal.main_arg2) = m ((c.tc : Thread Cert.QkNormIdeal.nD Cert.QkNormIdeal.τ).loc Cert.QkNormIdeal.main_arg2)) →
    ∃ (v0 : (c : Dev Cert.QkNormIdeal.nD) → Buf (Elt Ideal) ((c.tc : Thread Cert.QkNormIdeal.nD Cert.QkNormIdeal.τ).loc Cert.QkNormIdeal.main_v2_0)) (v1 : (c : Dev Cert.QkNormIdeal.nD) → Buf (Elt Ideal) ((c.tc : Thread Cert.QkNormIdeal.nD Cert.QkNormIdeal.τ).loc Cert.QkNormIdeal.main_v2_1)),
      θ_run (Cert.QkNormIdeal.defs (F := Ideal)) (onTc (τ := Cert.QkNormIdeal.τ) (Cert.QkNormIdeal.main (F := Ideal))) ⟨m, fun _ => 0, g⟩ (fun r => ∀ c : Dev Cert.QkNormIdeal.nD,
          r.2.mem ((c.tc : Thread Cert.QkNormIdeal.nD Cert.QkNormIdeal.τ).loc Cert.QkNormIdeal.main_v2_0) = v0 c
          ∧ r.2.mem ((c.tc : Thread Cert.QkNormIdeal.nD Cert.QkNormIdeal.τ).loc Cert.QkNormIdeal.main_v2_1) = v1 c
          ∧ r.2.mem ((c.tc : Thread Cert.QkNormIdeal.nD Cert.QkNormIdeal.τ).loc Cert.QkNormIdeal.main_arg0) = m ((c.tc : Thread Cert.QkNormIdeal.nD Cert.QkNormIdeal.τ).loc Cert.QkNormIdeal.main_arg0)
          ∧ r.2.mem ((c.tc : Thread Cert.QkNormIdeal.nD Cert.QkNormIdeal.τ).loc Cert.QkNormIdeal.main_arg1) = m ((c.tc : Thread Cert.QkNormIdeal.nD Cert.QkNormIdeal.τ).loc Cert.QkNormIdeal.main_arg1)
          ∧ r.2.mem ((c.tc : Thread Cert.QkNormIdeal.nD Cert.QkNormIdeal.τ).loc Cert.QkNormIdeal.main_arg2) = m ((c.tc : Thread Cert.QkNormIdeal.nD Cert.QkNormIdeal.τ).loc Cert.QkNormIdeal.main_arg2))
      ∧ θ_run (Cert.QkNormRefIdeal.defs (F := Ideal)) (onTc (τ := Cert.QkNormRefIdeal.τ) (Cert.QkNormRefIdeal.main (F := Ideal))) ⟨m', fun _ => 0, g'⟩ (fun r => ∀ c : Dev Cert.QkNormRefIdeal.nD,
          r.2.mem ((c.tc : Thread Cert.QkNormRefIdeal.nD Cert.QkNormRefIdeal.τ).loc Cert.QkNormRefIdeal.main_v22) = v0 c
          ∧ r.2.mem ((c.tc : Thread Cert.QkNormRefIdeal.nD Cert.QkNormRefIdeal.τ).loc Cert.QkNormRefIdeal.main_v37) = v1 c
          ∧ r.2.mem ((c.tc : Thread Cert.QkNormRefIdeal.nD Cert.QkNormRefIdeal.τ).loc Cert.QkNormRefIdeal.main_arg0) = m' ((c.tc : Thread Cert.QkNormRefIdeal.nD Cert.QkNormRefIdeal.τ).loc Cert.QkNormRefIdeal.main_arg0)
          ∧ r.2.mem ((c.tc : Thread Cert.QkNormRefIdeal.nD Cert.QkNormRefIdeal.τ).loc Cert.QkNormRefIdeal.main_arg1) = m' ((c.tc : Thread Cert.QkNormRefIdeal.nD Cert.QkNormRefIdeal.τ).loc Cert.QkNormRefIdeal.main_arg1)
          ∧ r.2.mem ((c.tc : Thread Cert.QkNormRefIdeal.nD Cert.QkNormRefIdeal.τ).loc Cert.QkNormRefIdeal.main_arg2) = m' ((c.tc : Thread Cert.QkNormRefIdeal.nD Cert.QkNormRefIdeal.τ).loc Cert.QkNormRefIdeal.main_arg2))

def Claim : Prop :=
  ∃ (hRet : Cert.Ret.Facts) (hRetIdeal : Cert.RetIdeal.Facts) (hRetRefIdeal : Cert.RetRefIdeal.Facts) (hInProj : Cert.InProj.Facts) (hInProjIdeal : Cert.InProjIdeal.Facts) (hInProjRefIdeal : Cert.InProjRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hGlu : Cert.Glu.Facts) (hGluIdeal : Cert.GluIdeal.Facts) (hGluRefIdeal : Cert.GluRefIdeal.Facts) (hMerge : Cert.Merge.Facts) (hMergeIdeal : Cert.MergeIdeal.Facts) (hMergeRefIdeal : Cert.MergeRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hConv : Cert.Conv.Facts) (hConvIdeal : Cert.ConvIdeal.Facts) (hConvRefIdeal : Cert.ConvRefIdeal.Facts) (hQkNorm : Cert.QkNorm.Facts) (hQkNormIdeal : Cert.QkNormIdeal.Facts) (hQkNormRefIdeal : Cert.QkNormRefIdeal.Facts) (hPre_down_tables : Cert.Pre_down_tables.Facts) (hPre_up_tables : Cert.Pre_up_tables.Facts),
    quiescent_Ret (hRet := hRet)
    ∧ quiescent_RetIdeal (hRetIdeal := hRetIdeal)
    ∧ quiescent_RetRefIdeal (hRetRefIdeal := hRetRefIdeal)
    ∧ quiescent_InProj (hInProj := hInProj)
    ∧ quiescent_InProjIdeal (hInProjIdeal := hInProjIdeal)
    ∧ quiescent_InProjRefIdeal (hInProjRefIdeal := hInProjRefIdeal)
    ∧ quiescent_Down (hDown := hDown) (hPre_down_tables := hPre_down_tables)
    ∧ quiescent_DownIdeal (hDownIdeal := hDownIdeal) (hPre_down_tables := hPre_down_tables)
    ∧ quiescent_DownRefIdeal (hDownRefIdeal := hDownRefIdeal)
    ∧ quiescent_DownRefIdeal_pre_down_tables (hDownRefIdeal := hDownRefIdeal) (hPre_down_tables := hPre_down_tables)
    ∧ quiescent_Up (hUp := hUp) (hPre_up_tables := hPre_up_tables)
    ∧ quiescent_UpIdeal (hUpIdeal := hUpIdeal) (hPre_up_tables := hPre_up_tables)
    ∧ quiescent_UpRefIdeal (hUpRefIdeal := hUpRefIdeal)
    ∧ quiescent_UpRefIdeal_pre_up_tables (hUpRefIdeal := hUpRefIdeal) (hPre_up_tables := hPre_up_tables)
    ∧ quiescent_Glu (hGlu := hGlu)
    ∧ quiescent_GluIdeal (hGluIdeal := hGluIdeal)
    ∧ quiescent_GluRefIdeal (hGluRefIdeal := hGluRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ quiescent_Conv (hConv := hConv)
    ∧ quiescent_ConvIdeal (hConvIdeal := hConvIdeal)
    ∧ quiescent_ConvRefIdeal (hConvRefIdeal := hConvRefIdeal)
    ∧ quiescent_QkNorm (hQkNorm := hQkNorm)
    ∧ quiescent_QkNormIdeal (hQkNormIdeal := hQkNormIdeal)
    ∧ quiescent_QkNormRefIdeal (hQkNormRefIdeal := hQkNormRefIdeal)
    ∧ preserves_Ret_RetIdeal
    ∧ algebraic_RetIdeal_RetRefIdeal (hRetIdeal := hRetIdeal) (hRetRefIdeal := hRetRefIdeal)
    ∧ preserves_InProj_InProjIdeal
    ∧ algebraic_InProjIdeal_InProjRefIdeal (hInProjIdeal := hInProjIdeal) (hInProjRefIdeal := hInProjRefIdeal)
    ∧ preserves_Down_DownIdeal
    ∧ algebraic_DownIdeal_DownRefIdeal (hDownIdeal := hDownIdeal) (hDownRefIdeal := hDownRefIdeal) (hPre_down_tables := hPre_down_tables)
    ∧ preserves_Up_UpIdeal
    ∧ algebraic_UpIdeal_UpRefIdeal (hUpIdeal := hUpIdeal) (hUpRefIdeal := hUpRefIdeal) (hPre_up_tables := hPre_up_tables)
    ∧ preserves_Glu_GluIdeal
    ∧ algebraic_GluIdeal_GluRefIdeal (hGluIdeal := hGluIdeal) (hGluRefIdeal := hGluRefIdeal)
    ∧ preserves_Merge_MergeIdeal
    ∧ algebraic_MergeIdeal_MergeRefIdeal (hMergeIdeal := hMergeIdeal) (hMergeRefIdeal := hMergeRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
    ∧ preserves_Conv_ConvIdeal
    ∧ algebraic_ConvIdeal_ConvRefIdeal (hConvIdeal := hConvIdeal) (hConvRefIdeal := hConvRefIdeal)
    ∧ preserves_QkNorm_QkNormIdeal
    ∧ algebraic_QkNormIdeal_QkNormRefIdeal (hQkNormIdeal := hQkNormIdeal) (hQkNormRefIdeal := hQkNormRefIdeal)
-- ==== Pre_down_tables.lean ====
abbrev S72 : Shape := ⟨1, ![72]⟩
abbrev S36864x7168 : Shape := ⟨2, ![36864, 7168]⟩
abbrev S8x7168x2048 : Shape := ⟨3, ![8, 7168, 2048]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S72 32) (main_arg2 : FVec F S36864x7168 .bf16) (main_arg3 : FVec F S8x7168x2048 .bf16) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 32 := constantI S_ 32 0#32
  let main_v5 : IVec S72 32 := broadcastInDim S72 ![] bcast_S_S72 main_c_1
  let main_v6 : IVec S72 1 := cmpi .sge main_arg1 main_v5
  let main_v7 : IVec S72 1 := andi main_v4 main_v6
  let main_c_2 : IVec S_ 32 := constantI S_ 32 2#32
  let main_v8 : IVec S72 32 := broadcastInDim S72 ![] bcast_S_S72 main_c_2
  let main_v9 : IVec S72 1 := cmpi .slt main_arg1 main_v8
  let main_v10 : IVec S72 1 := andi main_v7 main_v9
  main_v10
-- ==== Pre_up_tables.lean ====
abbrev S1008 : Shape := ⟨1, ![1008]⟩
abbrev S36864x2048 : Shape := ⟨2, ![36864, 2048]⟩
abbrev S8x2048x7168 : Shape := ⟨3, ![8, 2048, 7168]⟩
abbrev S1008x1 : Shape := ⟨2, ![1008, 1]⟩
abbrev S1x1008 : Shape := ⟨2, ![1, 1008]⟩
abbrev S_ : Shape := ⟨0, ![]⟩
abbrev S1008x1008 : Shape := ⟨2, ![1008, 1008]⟩

class Facts : Prop where
  bcast_S1008_S1008x1_0 : S1008.BroadcastsInDim S1008x1 (![0] : Fin 1 → Fin S1008x1.rank)
  bcast_S1008_S1x1008_1 : S1008.BroadcastsInDim S1x1008 (![1] : Fin 1 → Fin S1x1008.rank)
  bcast_S_S1008 : S_.BroadcastsInDim S1008 (![] : Fin 0 → Fin S1008.rank)
  bcast_S1008x1_S1008x1008_0_1 : S1008x1.BroadcastsInDim S1008x1008 (![0, 1] : Fin 2 → Fin S1008x1008.rank)
  bcast_S1x1008_S1008x1008_0_1 : S1x1008.BroadcastsInDim S1008x1008 (![0, 1] : Fin 2 → Fin S1008x1008.rank)
  bcast_S_S1008x1 : S_.BroadcastsInDim S1008x1 (![] : Fin 0 → Fin S1008x1.rank)
  bcast_S_S1x1008 : S_.BroadcastsInDim S1x1008 (![] : Fin 0 → Fin S1x1008.rank)

variable [Facts]

def fn_where {F : FTy → Type} [FloatOps F] (arg0 : IVec S1008 1) (arg1 : IVec S1008 1) (arg2 : IVec S1008 1) : IVec S1008 1 :=
  let v0 : IVec S1008 1 := select arg0 arg1 arg2
  v0

def fn_part6 {F : FTy → Type} [FloatOps F] (main_v39 : IVec S1008x1 1) (main_v46 : IVec S1008x1 1) (main_v61 : IVec S1008x1008 1) (main_v79 : IVec S1008x1008 1) (main_v111 : IVec S1008x1008 1) (main_v121 : IVec S1008x1 1) : IVec S1008x1008 1 :=
  let main_v122 : IVec S1008x1 1 := andi main_v39 main_v46
  let main_v123 : IVec S1008x1008 1 := broadcastInDim S1008x1008 ![0, 1] bcast_S1008x1_S1008x1008_0_1 main_v122
  let main_v124 : IVec S1008x1008 1 := andi main_v123 main_v61
  let main_v125 : IVec S1008x1008 1 := andi main_v124 main_v79
  let main_v126 : IVec S1008x1008 1 := andi main_v125 main_v111
  let main_v127 : IVec S1008x1008 1 := broadcastInDim S1008x1008 ![0, 1] bcast_S1008x1_S1008x1008_0_1 main_v121
  let main_v128 : IVec S1008x1008 1 := andi main_v126 main_v127
  main_v128

def fn_part5 {F : FTy → Type} [FloatOps F] (main_arg2 : IVec S1008 32) (main_arg4 : IVec S1008 32) (main_arg5 : IVec S1008 32) (main_v1 : IVec S1008x1 32) (main_v39 : IVec S1008x1 1) (main_v46 : IVec S1008x1 1) (main_v61 : IVec S1008x1008 1) (main_v79 : IVec S1008x1008 1) (main_v94 : IVec S1008x1008 1) (main_v97 : IVec S1008x1 1) (main_v99 : IVec S1x1008 32) (main_v100 : IVec S1008x1008 32) : IVec S1008x1008 1 :=
  let main_v101 : IVec S1008x1008 32 := broadcastInDim S1008x1008 ![0, 1] bcast_S1x1008_S1008x1008_0_1 main_v99
  let main_v102 : IVec S1008x1008 1 := cmpi .eq main_v100 main_v101
  let main_v103 : IVec S1008x1008 1 := broadcastInDim S1008x1008 ![0, 1] bcast_S1008x1_S1008x1008_0_1 main_v97
  let main_v104 : IVec S1008x1008 1 := andi main_v103 main_v102
  let main_v105 : IVec S1008x1 32 := broadcastInDim S1008x1 ![0] bcast_S1008_S1008x1_0 main_arg2
  let main_v106 : IVec S1x1008 32 := broadcastInDim S1x1008 ![1] bcast_S1008_S1x1008_1 main_arg2
  let main_v107 : IVec S1008x1008 32 := broadcastInDim S1008x1008 ![0, 1] bcast_S1008x1_S1008x1008_0_1 main_v105
  let main_v108 : IVec S1008x1008 32 := broadcastInDim S1008x1008 ![0, 1] bcast_S1x1008_S1008x1008_0_1 main_v106
  let main_v109 : IVec S1008x1008 1 := cmpi .eq main_v107 main_v108
  let main_v110 : IVec S1008x1008 1 := andi main_v104 main_v109
  let main_v111 : IVec S1008x1008 1 := ori main_v94 main_v110
  let main_c_18 : IVec S_ 32 := constantI S_ 32 0#32
  let main_v112 : IVec S1008x1 32 := broadcastInDim S1008x1 ![] bcast_S_S1008x1 main_c_18
  let main_v113 : IVec S1008x1 1 := cmpi .ne main_v1 main_v112
  let main_v114 : IVec S1008x1 32 := broadcastInDim S1008x1 ![0] bcast_S1008_S1008x1_0 main_arg5
  let main_c_19 : IVec S_ 32 := constantI S_ 32 0#32
  let main_v115 : IVec S1008x1 32 := broadcastInDim S1008x1 ![] bcast_S_S1008x1 main_c_19
  let main_v116 : IVec S1008x1 1 := cmpi .eq main_v114 main_v115
  let main_v117 : IVec S1008x1 1 := ori main_v113 main_v116
  let main_v118 : IVec S1008x1 32 := broadcastInDim S1008x1 ![0] bcast_S1008_S1008x1_0 main_arg4
  let main_c_20 : IVec S_ 32 := constantI S_ 32 1#32
  let main_v119 : IVec S1008x1 32 := broadcastInDim S1008x1 ![] bcast_S_S1008x1 main_c_20
  let main_v120 : IVec S1008x1 1 := cmpi .eq main_v118 main_v119
  let main_v121 : IVec S1008x1 1 := ori main_v117 main_v120
  fn_part6 (F := F) main_v39 main_v46 main_v61 main_v79 main_v111 main_v121

def fn_part4 {F : FTy → Type} [FloatOps F] (main_arg2 : IVec S1008 32) (main_arg3 : IVec S1008 32) (main_arg4 : IVec S1008 32) (main_arg5 : IVec S1008 32) (main_v1 : IVec S1008x1 32) (main_v3 : IVec S1x1008 32) (main_v39 : IVec S1008x1 1) (main_v46 : IVec S1008x1 1) (main_v61 : IVec S1008x1008 1) (main_v79 : IVec S1008x1008 1) (main_c_14 : IVec S_ 32) : IVec S1008x1008 1 :=
  let main_v80 : IVec S1008x1 32 := broadcastInDim S1008x1 ![] bcast_S_S1008x1 main_c_14
  let main_v81 : IVec S1008x1 32 := addi main_v1 main_v80
  let main_v82 : IVec S1008x1008 32 := broadcastInDim S1008x1008 ![0, 1] bcast_S1008x1_S1008x1008_0_1 main_v81
  let main_v83 : IVec S1008x1008 32 := broadcastInDim S1008x1008 ![0, 1] bcast_S1x1008_S1008x1008_0_1 main_v3
  let main_v84 : IVec S1008x1008 1 := cmpi .ne main_v82 main_v83
  let main_v85 : IVec S1x1008 32 := broadcastInDim S1x1008 ![1] bcast_S1008_S1x1008_1 main_arg5
  let main_c_15 : IVec S_ 32 := constantI S_ 32 0#32
  let main_v86 : IVec S1x1008 32 := broadcastInDim S1x1008 ![] bcast_S_S1x1008 main_c_15
  let main_v87 : IVec S1x1008 1 := cmpi .eq main_v85 main_v86
  let main_v88 : IVec S1008x1008 1 := broadcastInDim S1008x1008 ![0, 1] bcast_S1x1008_S1008x1008_0_1 main_v87
  let main_v89 : IVec S1008x1008 1 := ori main_v84 main_v88
  let main_v90 : IVec S1x1008 32 := broadcastInDim S1x1008 ![1] bcast_S1008_S1x1008_1 main_arg4
  let main_c_16 : IVec S_ 32 := constantI S_ 32 1#32
  let main_v91 : IVec S1x1008 32 := broadcastInDim S1x1008 ![] bcast_S_S1x1008 main_c_16
  let main_v92 : IVec S1x1008 1 := cmpi .eq main_v90 main_v91
  let main_v93 : IVec S1008x1008 1 := broadcastInDim S1008x1008 ![0, 1] bcast_S1x1008_S1008x1008_0_1 main_v92
  let main_v94 : IVec S1008x1008 1 := ori main_v89 main_v93
  let main_v95 : IVec S1008x1 32 := broadcastInDim S1008x1 ![0] bcast_S1008_S1008x1_0 main_arg5
  let main_c_17 : IVec S_ 32 := constantI S_ 32 1#32
  let main_v96 : IVec S1008x1 32 := broadcastInDim S1008x1 ![] bcast_S_S1008x1 main_c_17
  let main_v97 : IVec S1008x1 1 := cmpi .eq main_v95 main_v96
  let main_v98 : IVec S1008x1 32 := broadcastInDim S1008x1 ![0] bcast_S1008_S1008x1_0 main_arg3
  let main_v99 : IVec S1x1008 32 := broadcastInDim S1x1008 ![1] bcast_S1008_S1x1008_1 main_arg3
  let main_v100 : IVec S1008x1008 32 := broadcastInDim S1008x1008 ![0, 1] bcast_S1008x1_S1008x1008_0_1 main_v98
  fn_part5 (F := F) main_arg2 main_arg4 main_arg5 main_v1 main_v39 main_v46 main_v61 main_v79 main_v94 main_v97 main_v99 main_v100

def fn_part3 {F : FTy → Type} [FloatOps F] (main_arg0 : IVec S1008 32) (main_arg2 : IVec S1008 32) (main_arg3 : IVec S1008 32) (main_arg4 : IVec S1008 32) (main_arg5 : IVec S1008 32) (main_v1 : IVec S1008x1 32) (main_v3 : IVec S1x1008 32) (main_v39 : IVec S1008x1 1) (main_v46 : IVec S1008x1 1) (main_v55 : IVec S1008x1008 1) (main_v56 : IVec S1008x1 32) (main_v57 : IVec S1x1008 32) : IVec S1008x1008 1 :=
  let main_v58 : IVec S1008x1008 32 := broadcastInDim S1008x1008 ![0, 1] bcast_S1008x1_S1008x1008_0_1 main_v56
  let main_v59 : IVec S1008x1008 32 := broadcastInDim S1008x1008 ![0, 1] bcast_S1x1008_S1008x1008_0_1 main_v57
  let main_v60 : IVec S1008x1008 1 := cmpi .ne main_v58 main_v59
  let main_v61 : IVec S1008x1008 1 := ori main_v55 main_v60
  let main_v62 : IVec S1008x1 32 := broadcastInDim S1008x1 ![0] bcast_S1008_S1008x1_0 main_arg0
  let main_c_13 : IVec S_ 32 := constantI S_ 32 14#32
  let main_v63 : IVec S1008x1 32 := broadcastInDim S1008x1 ![] bcast_S_S1008x1 main_c_13
  let main_v64 : IVec S1008x1 32 := muli main_v63 main_v62
  let main_v65 : IVec S1008x1008 32 := broadcastInDim S1008x1008 ![0, 1] bcast_S1008x1_S1008x1008_0_1 main_v64
  let main_v66 : IVec S1008x1008 32 := broadcastInDim S1008x1008 ![0, 1] bcast_S1x1008_S1008x1008_0_1 main_v3
  let main_v67 : IVec S1008x1008 1 := cmpi .ne main_v65 main_v66
  let main_v68 : IVec S1008x1 32 := broadcastInDim S1008x1 ![0] bcast_S1008_S1008x1_0 main_arg3
  let main_v69 : IVec S1x1008 32 := broadcastInDim S1x1008 ![1] bcast_S1008_S1x1008_1 main_arg3
  let main_v70 : IVec S1008x1008 32 := broadcastInDim S1008x1008 ![0, 1] bcast_S1008x1_S1008x1008_0_1 main_v68
  let main_v71 : IVec S1008x1008 32 := broadcastInDim S1008x1008 ![0, 1] bcast_S1x1008_S1008x1008_0_1 main_v69
  let main_v72 : IVec S1008x1008 1 := cmpi .eq main_v70 main_v71
  let main_v73 : IVec S1008x1 32 := broadcastInDim S1008x1 ![0] bcast_S1008_S1008x1_0 main_arg5
  let main_v74 : IVec S1x1008 32 := broadcastInDim S1x1008 ![1] bcast_S1008_S1x1008_1 main_arg5
  let main_v75 : IVec S1008x1008 32 := broadcastInDim S1008x1008 ![0, 1] bcast_S1008x1_S1008x1008_0_1 main_v73
  let main_v76 : IVec S1008x1008 32 := broadcastInDim S1008x1008 ![0, 1] bcast_S1x1008_S1008x1008_0_1 main_v74
  let main_v77 : IVec S1008x1008 1 := cmpi .eq main_v75 main_v76
  let main_v78 : IVec S1008x1008 1 := andi main_v72 main_v77
  let main_v79 : IVec S1008x1008 1 := ori main_v67 main_v78
  let main_c_14 : IVec S_ 32 := constantI S_ 32 1#32
  fn_part4 (F := F) main_arg2 main_arg3 main_arg4 main_arg5 main_v1 main_v3 main_v39 main_v46 main_v61 main_v79 main_c_14

def fn_part2 {F : FTy → Type} [FloatOps F] (main_arg0 : IVec S1008 32) (main_arg1 : IVec S1008 32) (main_arg2 : IVec S1008 32) (main_arg3 : IVec S1008 32) (main_arg4 : IVec S1008 32) (main_arg5 : IVec S1008 32) (main_v1 : IVec S1008x1 32) (main_v3 : IVec S1x1008 32) (main_v35 : IVec S1008 1) (main_c_10 : IVec S_ 32) : IVec S1008x1008 1 :=
  let main_v36 : IVec S1008 32 := broadcastInDim S1008 ![] bcast_S_S1008 main_c_10
  let main_v37 : IVec S1008 1 := cmpi .slt main_arg5 main_v36
  let main_v38 : IVec S1008 1 := andi main_v35 main_v37
  let main_v39 : IVec S1008x1 1 := broadcastInDim S1008x1 ![0] bcast_S1008_S1008x1_0 main_v38
  let main_c_11 : IVec S_ 32 := constantI S_ 32 1#32
  let main_v40 : IVec S1008 32 := broadcastInDim S1008 ![] bcast_S_S1008 main_c_11
  let main_v41 : IVec S1008 1 := cmpi .eq main_arg5 main_v40
  let main_v42 : IVec S1008 1 := cmpi .eq main_arg2 main_arg1
  let main_c_12 : IVec S_ 32 := constantI S_ 32 0#32
  let main_v43 : IVec S1008 32 := broadcastInDim S1008 ![] bcast_S_S1008 main_c_12
  let main_v44 : IVec S1008 1 := cmpi .eq main_arg4 main_v43
  let main_v45 : IVec S1008 1 := fn_where (F := F) main_v41 main_v42 main_v44
  let main_v46 : IVec S1008x1 1 := broadcastInDim S1008x1 ![0] bcast_S1008_S1008x1_0 main_v45
  let main_v47 : IVec S1008x1008 32 := broadcastInDim S1008x1008 ![0, 1] bcast_S1008x1_S1008x1008_0_1 main_v1
  let main_v48 : IVec S1008x1008 32 := broadcastInDim S1008x1008 ![0, 1] bcast_S1x1008_S1008x1008_0_1 main_v3
  let main_v49 : IVec S1008x1008 1 := cmpi .eq main_v47 main_v48
  let main_v50 : IVec S1008x1 32 := broadcastInDim S1008x1 ![0] bcast_S1008_S1008x1_0 main_arg0
  let main_v51 : IVec S1x1008 32 := broadcastInDim S1x1008 ![1] bcast_S1008_S1x1008_1 main_arg0
  let main_v52 : IVec S1008x1008 32 := broadcastInDim S1008x1008 ![0, 1] bcast_S1008x1_S1008x1008_0_1 main_v50
  let main_v53 : IVec S1008x1008 32 := broadcastInDim S1008x1008 ![0, 1] bcast_S1x1008_S1008x1008_0_1 main_v51
  let main_v54 : IVec S1008x1008 1 := cmpi .ne main_v52 main_v53
  let main_v55 : IVec S1008x1008 1 := ori main_v49 main_v54
  let main_v56 : IVec S1008x1 32 := broadcastInDim S1008x1 ![0] bcast_S1008_S1008x1_0 main_arg1
  let main_v57 : IVec S1x1008 32 := broadcastInDim S1x1008 ![1] bcast_S1008_S1x1008_1 main_arg1
  fn_part3 (F := F) main_arg0 main_arg2 main_arg3 main_arg4 main_arg5 main_v1 main_v3 main_v39 main_v46 main_v55 main_v56 main_v57

def fn_part1 {F : FTy → Type} [FloatOps F] (main_arg0 : IVec S1008 32) (main_arg1 : IVec S1008 32) (main_arg2 : IVec S1008 32) (main_arg3 : IVec S1008 32) (main_arg4 : IVec S1008 32) (main_arg5 : IVec S1008 32) (main_v1 : IVec S1008x1 32) (main_v3 : IVec S1x1008 32) (main_v17 : IVec S1008 1) (main_c_4 : IVec S_ 32) : IVec S1008x1008 1 :=
  let main_v18 : IVec S1008 32 := broadcastInDim S1008 ![] bcast_S_S1008 main_c_4
  let main_v19 : IVec S1008 1 := cmpi .slt main_arg2 main_v18
  let main_v20 : IVec S1008 1 := andi main_v17 main_v19
  let main_c_5 : IVec S_ 32 := constantI S_ 32 0#32
  let main_v21 : IVec S1008 32 := broadcastInDim S1008 ![] bcast_S_S1008 main_c_5
  let main_v22 : IVec S1008 1 := cmpi .sge main_arg3 main_v21
  let main_v23 : IVec S1008 1 := andi main_v20 main_v22
  let main_c_6 : IVec S_ 32 := constantI S_ 32 8#32
  let main_v24 : IVec S1008 32 := broadcastInDim S1008 ![] bcast_S_S1008 main_c_6
  let main_v25 : IVec S1008 1 := cmpi .slt main_arg3 main_v24
  let main_v26 : IVec S1008 1 := andi main_v23 main_v25
  let main_c_7 : IVec S_ 32 := constantI S_ 32 0#32
  let main_v27 : IVec S1008 32 := broadcastInDim S1008 ![] bcast_S_S1008 main_c_7
  let main_v28 : IVec S1008 1 := cmpi .sge main_arg4 main_v27
  let main_v29 : IVec S1008 1 := andi main_v26 main_v28
  let main_c_8 : IVec S_ 32 := constantI S_ 32 2#32
  let main_v30 : IVec S1008 32 := broadcastInDim S1008 ![] bcast_S_S1008 main_c_8
  let main_v31 : IVec S1008 1 := cmpi .slt main_arg4 main_v30
  let main_v32 : IVec S1008 1 := andi main_v29 main_v31
  let main_c_9 : IVec S_ 32 := constantI S_ 32 0#32
  let main_v33 : IVec S1008 32 := broadcastInDim S1008 ![] bcast_S_S1008 main_c_9
  let main_v34 : IVec S1008 1 := cmpi .sge main_arg5 main_v33
  let main_v35 : IVec S1008 1 := andi main_v32 main_v34
  let main_c_10 : IVec S_ 32 := constantI S_ 32 2#32
  fn_part2 (F := F) main_arg0 main_arg1 main_arg2 main_arg3 main_arg4 main_arg5 main_v1 main_v3 main_v35 main_c_10

def fn {F : FTy → Type} [FloatOps F] (main_arg0 : IVec S1008 32) (main_arg1 : IVec S1008 32) (main_arg2 : IVec S1008 32) (main_arg3 : IVec S1008 32) (main_arg4 : IVec S1008 32) (main_arg5 : IVec S1008 32) (main_arg6 : FVec F S36864x2048 .bf16) (main_arg7 : FVec F S8x2048x7168 .f32) (main_arg8 : FVec F S8x2048x7168 .f32) : IVec S1008x1008 1 :=
  let main_v0 : IVec S1008 32 := iotaInDim S1008 32 0
  let main_v1 : IVec S1008x1 32 := broadcastInDim S1008x1 ![0] bcast_S1008_S1008x1_0 main_v0
  let main_v2 : IVec S1008 32 := iotaInDim S1008 32 0
  let main_v3 : IVec S1x1008 32 := broadcastInDim S1x1008 ![1] bcast_S1008_S1x1008_1 main_v2
  let main_c : IVec S_ 32 := constantI S_ 32 0#32
  let main_v4 : IVec S1008 32 := broadcastInDim S1008 ![] bcast_S_S1008 main_c
  let main_v5 : IVec S1008 1 := cmpi .sge main_arg0 main_v4
  let main_c_0 : IVec S_ 32 := constantI S_ 32 72#32
  let main_v6 : IVec S1008 32 := broadcastInDim S1008 ![] bcast_S_S1008 main_c_0
  let main_v7 : IVec S1008 1 := cmpi .slt main_arg0 main_v6
  let main_v8 : IVec S1008 1 := andi main_v5 main_v7
  let main_c_1 : IVec S_ 32 := constantI S_ 32 0#32
  let main_v9 : IVec S1008 32 := broadcastInDim S1008 ![] bcast_S_S1008 main_c_1
  let main_v10 : IVec S1008 1 := cmpi .sge main_arg1 main_v9
  let main_v11 : IVec S1008 1 := andi main_v8 main_v10
  let main_c_2 : IVec S_ 32 := constantI S_ 32 14#32
  let main_v12 : IVec S1008 32 := broadcastInDim S1008 ![] bcast_S_S1008 main_c_2
  let main_v13 : IVec S1008 1 := cmpi .slt main_arg1 main_v12
  let main_v14 : IVec S1008 1 := andi main_v11 main_v13
  let main_c_3 : IVec S_ 32 := constantI S_ 32 0#32
  let main_v15 : IVec S1008 32 := broadcastInDim S1008 ![] bcast_S_S1008 main_c_3
  let main_v16 : IVec S1008 1 := cmpi .sge main_arg2 main_v15
  let main_v17 : IVec S1008 1 := andi main_v14 main_v16
  let main_c_4 : IVec S_ 32 := constantI S_ 32 14#32
  fn_part1 (F := F) main_arg0 main_arg1 main_arg2 main_arg3 main_arg4 main_arg5 main_v1 main_v3 main_v17 main_c_4
-- ==== Ret.lean ====
abbrev S2x8192x17408 : Shape := ⟨3, ![2, 8192, 17408]⟩
abbrev S2x8192 : Shape := ⟨2, ![2, 8192]⟩
abbrev S1024 : Shape := ⟨1, ![1024]⟩
abbrev S64 : Shape := ⟨1, ![64]⟩
abbrev S_ : Shape := ⟨0, ![]⟩
abbrev S128 : Shape := ⟨1, ![128]⟩
abbrev S1x1x128 : Shape := ⟨3, ![1, 1, 128]⟩
abbrev S2x8192x1 : Shape := ⟨3, ![2, 8192, 1]⟩
abbrev S2x8192x128 : Shape := ⟨3, ![2, 8192, 128]⟩
abbrev S8 : Shape := ⟨1, ![8]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S1x1024 : Shape := ⟨2, ![1, 1024]⟩
abbrev S2x8192x1024 : Shape := ⟨3, ![2, 8192, 1024]⟩
abbrev S1x128x1024 : Shape := ⟨3, ![1, 128, 1024]⟩

abbrev nBuf : Space → Nat
  | .hbm => 90
  | .vmem => 20
  | .smem => 0
  | _ => 0

abbrev bufTy : (tb : Table) → Fin (tcTables nBuf tb) → BufTy
  | .hbm, ⟨0, _⟩ => ⟨S2x8192x17408, .bf16⟩
  | .hbm, ⟨1, _⟩ => ⟨S2x8192, .i32⟩
  | .hbm, ⟨2, _⟩ => ⟨S1024, .f32⟩
  | .hbm, ⟨3, _⟩ => ⟨S1024, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S128, .f32⟩
  | .hbm, ⟨19, _⟩ => ⟨S1x1x128, .f32⟩
  | .hbm, ⟨20, _⟩ => ⟨S2x8192x1, .i32⟩
  | .hbm, ⟨21, _⟩ => ⟨S2x8192x1, .f32⟩
  | .hbm, ⟨22, _⟩ => ⟨S2x8192x128, .f32⟩
  | .hbm, ⟨23, _⟩ => ⟨S2x8192x128, .f32⟩
  | .hbm, ⟨24, _⟩ => ⟨S2x8192x128, .f32⟩
  | .hbm, ⟨25, _⟩ => ⟨S2x8192x128, .f32⟩
  | .hbm, ⟨26, _⟩ => ⟨S2x8192x128, .i32⟩
  | .hbm, ⟨27, _⟩ => ⟨S2x8192x128, .f32⟩
  | .hbm, ⟨28, _⟩ => ⟨S_, .i32⟩
  | .hbm, ⟨29, _⟩ => ⟨S2x8192x128, .i32⟩
  | .hbm, ⟨30, _⟩ => ⟨S2x8192x128, .i1⟩
  | .hbm, ⟨31, _⟩ => ⟨S2x8192x128, .f32⟩
  | .hbm, ⟨32, _⟩ => ⟨S2x8192x128, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S128, .f32⟩
  | .hbm, ⟨43, _⟩ => ⟨S128x1, .f32⟩
  | .hbm, ⟨44, _⟩ => ⟨S1x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .i1⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S1x128x128, .f32⟩
  | .hbm, ⟨55, _⟩ => ⟨S8x1x1, .f32⟩
  | .hbm, ⟨56, _⟩ => ⟨S8x128x128, .f32⟩
  | .hbm, ⟨57, _⟩ => ⟨S8x128x128, .f32⟩
  | .hbm, ⟨58, _⟩ => ⟨S8x128x128, .f32⟩
  | .hbm, ⟨59, _⟩ => ⟨S8x128x128, .f32⟩
  | .hbm, ⟨60, _⟩ => ⟨S_, .f32⟩
  | .hbm, ⟨61, _⟩ => ⟨S_, .f32⟩
  | .hbm, ⟨62, _⟩ => ⟨S8x128x128, .i1⟩
  | .hbm, ⟨63, _⟩ => ⟨S8x128x128, .f32⟩
  | .hbm, ⟨64, _⟩ => ⟨S8x128x128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S8x1, .f32⟩
  | .hbm, ⟨70, _⟩ => ⟨S8x128, .f32⟩
  | .hbm, ⟨71, _⟩ => ⟨S8x128, .f32⟩
  | .hbm, ⟨72, _⟩ => ⟨S8x128, .f32⟩
  | .hbm, ⟨73, _⟩ => ⟨S8x128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S8x1, .f32⟩
  | .hbm, ⟨79, _⟩ => ⟨S8x128, .f32⟩
  | .hbm, ⟨80, _⟩ => ⟨S8x128, .f32⟩
  | .hbm, ⟨81, _⟩ => ⟨S8x128, .f32⟩
  | .hbm, ⟨82, _⟩ => ⟨S8x128, .f32⟩
  | .hbm, ⟨83, _⟩ => ⟨S8x128x1, .f32⟩
  | .hbm, ⟨84, _⟩ => ⟨S8x128x128, .f32⟩
  | .hbm, ⟨85, _⟩ => ⟨S8x128x1, .f32⟩
  | .hbm, ⟨86, _⟩ => ⟨S8x128x128, .f32⟩
  | .hbm, ⟨87, _⟩ => ⟨S1x1024, .f32⟩
  | .hbm, ⟨88, _⟩ => ⟨S1x1024, .f32⟩
  | .hbm, ⟨89, _⟩ => ⟨S2x8192x1024, .bf16⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S1x1024, .f32⟩
  | .local _ .vmem, ⟨16, _⟩ => ⟨S1x1024, .f32⟩
  | .local _ .vmem, ⟨17, _⟩ => ⟨S1x128x1024, .bf16⟩
  | .local _ .vmem, ⟨18, _⟩ => ⟨S1x128x1024, .bf16⟩
  | .local _ .vmem, ⟨19, _⟩ => ⟨S8x128x128, .f32⟩
  | _, _ => ⟨S2x8192x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RetIdeal.lean ====
variable {F : FTy → Type} [FloatOps F] [Named F]
def κ : String → Option EReal := fun
  | "chunk0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "chunk1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "chunk2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "chunk3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "chunk4" => some ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  | "chunk5" => some ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "chunk6" => some ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  | "chunk7" => some ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | _ => none
-- ==== RetRefIdeal.lean ====
abbrev S2x8192x17408 : Shape := ⟨3, ![2, 8192, 17408]⟩
abbrev S2x8192 : Shape := ⟨2, ![2, 8192]⟩
abbrev S1024 : Shape := ⟨1, ![1024]⟩
abbrev S2x8192x1024 : Shape := ⟨3, ![2, 8192, 1024]⟩
abbrev S2x8192x8x128 : Shape := ⟨4, ![2, 8192, 8, 128]⟩
abbrev S64 : Shape := ⟨1, ![64]⟩
abbrev S_ : Shape := ⟨0, ![]⟩
abbrev S2x8192x1 : Shape := ⟨3, ![2, 8192, 1]⟩
abbrev S1x1x64 : Shape := ⟨3, ![1, 1, 64]⟩
abbrev S2x8192x64 : Shape := ⟨3, ![2, 8192, 64]⟩
abbrev S2x8192x1x64 : Shape := ⟨4, ![2, 8192, 1, 64]⟩
abbrev S2x8192x8x64 : Shape := ⟨4, ![2, 8192, 8, 64]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S2x64x128x8x128 : Shape := ⟨5, ![2, 64, 128, 8, 128]⟩
abbrev S2x64x8x128x128 : Shape := ⟨5, ![2, 64, 8, 128, 128]⟩
abbrev S1x1x8x128x128 : Shape := ⟨5, ![1, 1, 8, 128, 128]⟩
abbrev S128x8x1 : Shape := ⟨3, ![128, 8, 1]⟩
abbrev S1x1x128x8x1 : Shape := ⟨5, ![1, 1, 128, 8, 1]⟩
abbrev S64x2x8x128x128 : Shape := ⟨5, ![64, 2, 8, 128, 128]⟩
abbrev S2x8x128x128 : Shape := ⟨4, ![2, 8, 128, 128]⟩
abbrev S1x2x8x128x128 : Shape := ⟨5, ![1, 2, 8, 128, 128]⟩
abbrev S1x8x1x1 : Shape := ⟨4, ![1, 8, 1, 1]⟩
abbrev S2x8192x8 : Shape := ⟨3, ![2, 8192, 8]⟩
abbrev S2x8192x8x1 : Shape := ⟨4, ![2, 8192, 8, 1]⟩
abbrev S1x1x1024 : Shape := ⟨3, ![1, 1, 1024]⟩

abbrev nBuf : Space → Nat
  | .hbm => 240
  | .vmem => 0
  | .smem => 0
  | _ => 0

abbrev hbmTy0_0 (i : Nat) : BufTy := match i % 128 with
  | 0 => ⟨S2x8192x17408, .bf16⟩
  | 1 => ⟨S2x8192, .i32⟩
  | 2 => ⟨S1024, .f32⟩
  | 3 => ⟨S1024, .f32⟩
  | 4 => ⟨S2x8192x1024, .bf16⟩
  | 5 => ⟨S2x8192x1024, .f32⟩
  | 6 => ⟨S2x8192x1024, .bf16⟩
  | 7 => ⟨S2x8192x1024, .f32⟩
  | 8 => ⟨S2x8192x1024, .bf16⟩
  | 9 => ⟨S2x8192x1024, .f32⟩
  | 10 => ⟨S2x8192x1024, .bf16⟩
  | 11 => ⟨S2x8192x1024, .f32⟩
  | 12 => ⟨S2x8192x8x128, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S2x8192, .f32⟩
  | 28 => ⟨S2x8192x1, .f32⟩
  | 29 => ⟨S1x1x64, .f32⟩
  | 30 => ⟨S2x8192x64, .f32⟩
  | 31 => ⟨S2x8192x64, .f32⟩
  | 32 => ⟨S2x8192x64, .f32⟩
  | 33 => ⟨S2x8192x64, .f32⟩
  | 34 => ⟨S2x8192x1x64, .f32⟩
  | 35 => ⟨S2x8192x64, .f32⟩
  | 36 => ⟨S2x8192x1x64, .f32⟩
  | 37 => ⟨S2x8192x8x64, .f32⟩
  | 38 => ⟨S2x8192x8x64, .f32⟩
  | 39 => ⟨S2x8192x8x64, .f32⟩
  | 40 => ⟨S2x8192x8x64, .f32⟩
  | 41 => ⟨S2x8192x8x64, .f32⟩
  | 42 => ⟨S2x8192x8x64, .f32⟩
  | 43 => ⟨S2x8192x8x64, .f32⟩
  | 44 => ⟨S2x8192x8x64, .f32⟩
  | 45 => ⟨S2x8192x8x64, .f32⟩
  | 46 => ⟨S2x8192x8x64, .f32⟩
  | 47 => ⟨S2x8192x8x64, .f32⟩
  | 48 => ⟨S2x8192x8x64, .f32⟩
  | 49 => ⟨S2x8192x8x128, .f32⟩
  | 50 => ⟨S2x8192x8x128, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S2x8192, .f32⟩
  | 66 => ⟨S2x8192x1, .f32⟩
  | 67 => ⟨S1x1x64, .f32⟩
  | 68 => ⟨S2x8192x64, .f32⟩
  | 69 => ⟨S2x8192x64, .f32⟩
  | 70 => ⟨S2x8192x64, .f32⟩
  | 71 => ⟨S2x8192x64, .f32⟩
  | 72 => ⟨S2x8192x1x64, .f32⟩
  | 73 => ⟨S2x8192x64, .f32⟩
  | 74 => ⟨S2x8192x1x64, .f32⟩
  | 75 => ⟨S2x8192x8x64, .f32⟩
  | 76 => ⟨S2x8192x8x64, .f32⟩
  | 77 => ⟨S2x8192x8x64, .f32⟩
  | 78 => ⟨S2x8192x8x64, .f32⟩
  | 79 => ⟨S2x8192x8x64, .f32⟩
  | 80 => ⟨S2x8192x8x64, .f32⟩
  | 81 => ⟨S2x8192x8x64, .f32⟩
  | 82 => ⟨S2x8192x8x64, .f32⟩
  | 83 => ⟨S2x8192x8x64, .f32⟩
  | 84 => ⟨S2x8192x8x64, .f32⟩
  | 85 => ⟨S2x8192x8x64, .f32⟩
  | 86 => ⟨S2x8192x8x64, .f32⟩
  | 87 => ⟨S2x8192x8x128, .f32⟩
  | 88 => ⟨S2x8192x8x128, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S8, .f32⟩
  | 97 => ⟨S8, .f32⟩
  | 98 => ⟨S128, .f32⟩
  | 99 => ⟨S128x1, .f32⟩
  | 100 => ⟨S1x128, .f32⟩
  | 101 => ⟨S128x128, .f32⟩
  | 102 => ⟨S128x128, .f32⟩
  | 103 => ⟨S128x128, .f32⟩
  | 104 => ⟨S_, .f32⟩
  | 105 => ⟨S128x128, .f32⟩
  | 106 => ⟨S128x128, .i1⟩
  | 107 => ⟨S_, .f32⟩
  | 108 => ⟨S128x128, .f32⟩
  | 109 => ⟨S128x128, .f32⟩
  | 110 => ⟨S1x128x128, .f32⟩
  | 111 => ⟨S8x1x1, .f32⟩
  | 112 => ⟨S8x128x128, .f32⟩
  | 113 => ⟨S8x128x128, .f32⟩
  | 114 => ⟨S8x128x128, .f32⟩
  | 115 => ⟨S8x128x128, .f32⟩
  | 116 => ⟨S_, .f32⟩
  | 117 => ⟨S_, .f32⟩
  | 118 => ⟨S8x128x128, .i1⟩
  | 119 => ⟨S8x128x128, .f32⟩
  | 120 => ⟨S8x128x128, .f32⟩
  | 121 => ⟨S_, .f32⟩
  | 122 => ⟨S128, .f32⟩
  | 123 => ⟨S128, .f32⟩
  | 124 => ⟨S128x1, .f32⟩
  | 125 => ⟨S1x8, .f32⟩
  | 126 => ⟨S128x8, .f32⟩
  | 127 => ⟨S128x8, .f32⟩
  | _ => ⟨S2x8192x17408, .bf16⟩

abbrev hbmTy0_1 (i : Nat) : BufTy := match i % 128 with
  | 0 => ⟨S128x8, .f32⟩
  | 1 => ⟨S128x8, .f32⟩
  | 2 => ⟨S_, .f32⟩
  | 3 => ⟨S128, .f32⟩
  | 4 => ⟨S128, .f32⟩
  | 5 => ⟨S128x1, .f32⟩
  | 6 => ⟨S1x8, .f32⟩
  | 7 => ⟨S128x8, .f32⟩
  | 8 => ⟨S128x8, .f32⟩
  | 9 => ⟨S128x8, .f32⟩
  | 10 => ⟨S128x8, .f32⟩
  | 11 => ⟨S_, .f32⟩
  | 12 => ⟨S8, .f32⟩
  | 13 => ⟨S8, .f32⟩
  | 14 => ⟨S8, .f32⟩
  | 15 => ⟨S2x64x128x8x128, .f32⟩
  | 16 => ⟨S_, .f32⟩
  | 17 => ⟨S2x8192x8x128, .f32⟩
  | 18 => ⟨S2x8192x8x128, .f32⟩
  | 19 => ⟨S2x64x128x8x128, .f32⟩
  | 20 => ⟨S2x64x128x8x128, .f32⟩
  | 21 => ⟨S2x64x8x128x128, .f32⟩
  | 22 => ⟨S1x1x8x128x128, .f32⟩
  | 23 => ⟨S2x64x8x128x128, .f32⟩
  | 24 => ⟨S2x64x8x128x128, .f32⟩
  | 25 => ⟨S2x64x8x128x128, .f32⟩
  | 26 => ⟨S2x64x128x8x128, .f32⟩
  | 27 => ⟨S128x8x1, .f32⟩
  | 28 => ⟨S1x1x128x8x1, .f32⟩
  | 29 => ⟨S2x64x128x8x128, .f32⟩
  | 30 => ⟨S2x64x128x8x128, .f32⟩
  | 31 => ⟨S64x2x8x128x128, .f32⟩
  | 32 => ⟨S_, .f32⟩
  | 33 => ⟨S2x8x128x128, .f32⟩
  | 34 => ⟨S_, .f32⟩
  | 35 => ⟨S64x2x8x128x128, .f32⟩
  | 36 => ⟨S_, .i32⟩
  | 37 => ⟨S64x2x8x128x128, .f32⟩
  | 38 => ⟨S8, .f32⟩
  | 39 => ⟨S_, .i32⟩
  | 40 => ⟨S2x8x128x128, .f32⟩
  | 41 => ⟨S64x2x8x128x128, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S1x2x8x128x128, .f32⟩
  | 49 => ⟨S2x8x128x128, .f32⟩
  | 50 => ⟨S8x1x1, .f32⟩
  | 51 => ⟨S1x8x1x1, .f32⟩
  | 52 => ⟨S2x8x128x128, .f32⟩
  | 53 => ⟨S2x8x128x128, .f32⟩
  | 54 => ⟨S2x8x128x128, .f32⟩
  | 55 => ⟨S1x2x8x128x128, .f32⟩
  | 56 => ⟨S_, .i32⟩
  | 57 => ⟨S_, .i32⟩
  | 58 => ⟨S_, .i32⟩
  | 59 => ⟨S_, .i32⟩
  | 60 => ⟨S64x2x8x128x128, .f32⟩
  | 61 => ⟨S_, .i32⟩
  | 62 => ⟨S_, .i32⟩
  | 63 => ⟨S2x64x8x128x128, .f32⟩
  | 64 => ⟨S2x64x128x8x128, .f32⟩
  | 65 => ⟨S128x8x1, .f32⟩
  | 66 => ⟨S1x1x128x8x1, .f32⟩
  | 67 => ⟨S2x64x128x8x128, .f32⟩
  | 68 => ⟨S2x64x128x8x128, .f32⟩
  | 69 => ⟨S2x64x128x8x128, .f32⟩
  | 70 => ⟨S2x8192x8x128, .f32⟩
  | 71 => ⟨S2x8192x1024, .f32⟩
  | 72 => ⟨S2x8192x1024, .f32⟩
  | 73 => ⟨S_, .f32⟩
  | 74 => ⟨S2x8192x1024, .f32⟩
  | 75 => ⟨S2x8192x1024, .f32⟩
  | 76 => ⟨S_, .f32⟩
  | 77 => ⟨S2x8192x1024, .f32⟩
  | 78 => ⟨S2x8192x1024, .f32⟩
  | 79 => ⟨S2x8192x1024, .f32⟩
  | 80 => ⟨S_, .f32⟩
  | 81 => ⟨S2x8192x8, .f32⟩
  | 82 => ⟨S2x8192x8x1, .f32⟩
  | 83 => ⟨S_, .f32⟩
  | 84 => ⟨S2x8192x8x1, .f32⟩
  | 85 => ⟨S2x8192x8x1, .f32⟩
  | 86 => ⟨S2x8192x8x128, .f32⟩
  | 87 => ⟨S2x8192x8x128, .f32⟩
  | 88 => ⟨S2x8192x8x128, .f32⟩
  | 89 => ⟨S_, .f32⟩
  | 90 => ⟨S2x8192x8, .f32⟩
  | 91 => ⟨S2x8192x8x1, .f32⟩
  | 92 => ⟨S_, .f32⟩
  | 93 => ⟨S2x8192x8x1, .f32⟩
  | 94 => ⟨S2x8192x8x1, .f32⟩
  | 95 => ⟨S2x8192x8x128, .f32⟩
  | 96 => ⟨S2x8192x8x128, .f32⟩
  | 97 => ⟨S_, .f32⟩
  | 98 => ⟨S2x8192x8x1, .f32⟩
  | 99 => ⟨S2x8192x8x1, .f32⟩
  | 100 => ⟨S2x8192x8x1, .f32⟩
  | 101 => ⟨S2x8192x8x128, .f32⟩
  | 102 => ⟨S2x8192x8x128, .f32⟩
  | 103 => ⟨S2x8192x1024, .f32⟩
  | 104 => ⟨S1x1x1024, .f32⟩
  | 105 => ⟨S2x8192x1024, .f32⟩
  | 106 => ⟨S2x8192x1024, .f32⟩
  | 107 => ⟨S1x1x1024, .f32⟩
  | 108 => ⟨S2x8192x1024, .f32⟩
  | 109 => ⟨S2x8192x1024, .f32⟩
  | 110 => ⟨S2x8192x1024, .f32⟩
  | 111 => ⟨S2x8192x1024, .bf16⟩
  | _ => ⟨S2x8192x17408, .bf16⟩

abbrev hbmTy (i : Nat) : BufTy := match i / 128 with
  | 0 => hbmTy0_0 i
  | 1 => hbmTy0_1 i
  | _ => ⟨S2x8192x17408, .bf16⟩

abbrev bufTy : (tb : Table) → Fin (tcTables nBuf tb) → BufTy
  | .hbm, ⟨i, _⟩ => hbmTy i
  | _, _ => ⟨S2x8192x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_7 : Ref sig .tc := ⟨.hbm, 90, rfl⟩
abbrev main_v78 : Ref sig .tc := ⟨.hbm, 91, rfl⟩
abbrev main_v79 : Ref sig .tc := ⟨.hbm, 92, rfl⟩
abbrev main_cst_8 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_9 : Ref sig .tc := ⟨.hbm, 104, rfl⟩
abbrev main_v90 : Ref sig .tc := ⟨.hbm, 105, rfl⟩
abbrev main_v91 : Ref sig .tc := ⟨.hbm, 106, rfl⟩
abbrev main_cst_10 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_11 : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_v100 : Ref sig .tc := ⟨.hbm, 120, rfl⟩
abbrev main_cst_12 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_13 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_14 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_15 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_16 : Ref sig .tc := ⟨.hbm, 160, rfl⟩
abbrev main_v136 : Ref sig .tc := ⟨.hbm, 161, rfl⟩
abbrev main_cst_17 : Ref sig .tc := ⟨.hbm, 162, rfl⟩
abbrev main_v137 : Ref sig .tc := ⟨.hbm, 163, rfl⟩
abbrev main_c : Ref sig .tc := ⟨.hbm, 164, rfl⟩
abbrev main_v138_0 : Ref sig .tc := ⟨.hbm, 165, rfl⟩
abbrev main_v138_1 : Ref sig .tc := ⟨.hbm, 166, rfl⟩
abbrev main_v138_2 : Ref sig .tc := ⟨.hbm, 167, rfl⟩
abbrev main_v138_3 : Ref sig .tc := ⟨.hbm, 168, rfl⟩
abbrev main_v138_4 : Ref sig .tc := ⟨.hbm, 169, rfl⟩
abbrev main_while0c_c_27 : Ref sig .tc := ⟨.hbm, 170, rfl⟩
abbrev main_while0c_v175 : Ref sig .tc := ⟨.hbm, 171, rfl⟩
abbrev main_while0b_call1_c : Ref sig .tc := ⟨.hbm, 172, rfl⟩
abbrev main_while0b_call1_c_0 : Ref sig .tc := ⟨.hbm, 173, rfl⟩
abbrev main_while0b_call1_c_1 : Ref sig .tc := ⟨.hbm, 174, rfl⟩
abbrev main_while0b_call1_c_2 : Ref sig .tc := ⟨.hbm, 175, rfl⟩
abbrev main_while0b_call1_v0 : Ref sig .tc := ⟨.hbm, 176, rfl⟩
abbrev main_while0b_v175 : Ref sig .tc := ⟨.hbm, 177, rfl⟩
abbrev main_while0b_v176 : Ref sig .tc := ⟨.hbm, 178, rfl⟩
abbrev main_while0b_v177 : Ref sig .tc := ⟨.hbm, 179, rfl⟩
abbrev main_while0b_v178 : Ref sig .tc := ⟨.hbm, 180, rfl⟩
abbrev main_while0b_v179 : Ref sig .tc := ⟨.hbm, 181, rfl⟩
abbrev main_while0b_v180 : Ref sig .tc := ⟨.hbm, 182, rfl⟩
abbrev main_while0b_call2_v0 : Ref sig .tc := ⟨.hbm, 183, rfl⟩
abbrev main_while0b_call2_c : Ref sig .tc := ⟨.hbm, 184, rfl⟩
abbrev main_while0b_call2_c_0 : Ref sig .tc := ⟨.hbm, 185, rfl⟩
abbrev main_while0b_call2_c_1 : Ref sig .tc := ⟨.hbm, 186, rfl⟩
abbrev main_while0b_call2_c_2 : Ref sig .tc := ⟨.hbm, 187, rfl⟩
abbrev main_while0b_v181 : Ref sig .tc := ⟨.hbm, 188, rfl⟩
abbrev main_while0b_c_27 : Ref sig .tc := ⟨.hbm, 189, rfl⟩
abbrev main_while0b_v182 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_call3_v0 : Ref sig .tc := ⟨.hbm, 199, rfl⟩
abbrev main_call3_v1 : Ref sig .tc := ⟨.hbm, 200, rfl⟩
abbrev main_call3_cst : Ref sig .tc := ⟨.hbm, 201, rfl⟩
abbrev main_call3_v2 : Ref sig .tc := ⟨.hbm, 202, rfl⟩
abbrev main_call3_v3 : Ref sig .tc := ⟨.hbm, 203, rfl⟩
abbrev main_call3_cst_0 : Ref sig .tc := ⟨.hbm, 204, rfl⟩
abbrev main_call3_v4 : Ref sig .tc := ⟨.hbm, 205, rfl⟩
abbrev main_call3_v5 : Ref sig .tc := ⟨.hbm, 206, rfl⟩
abbrev main_v147 : Ref sig .tc := ⟨.hbm, 207, rfl⟩
abbrev main_cst_18 : Ref sig .tc := ⟨.hbm, 208, rfl⟩
abbrev main_v148 : Ref sig .tc := ⟨.hbm, 209, rfl⟩
abbrev main_v149 : Ref sig .tc := ⟨.hbm, 210, rfl⟩
abbrev main_cst_19 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_20 : Ref sig .tc := ⟨.hbm, 217, rfl⟩
abbrev main_v155 : Ref sig .tc := ⟨.hbm, 218, rfl⟩
abbrev main_v156 : Ref sig .tc := ⟨.hbm, 219, rfl⟩
abbrev main_cst_21 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_22 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩

abbrev nD : Nat := 1
abbrev τ : Topo := Topo.v7x

variable {F : FTy → Type} [FloatOps F]

abbrev main_while0_count : Scf.Loop 32 := ⟨0#32, 64#32, 1#32⟩
-- ==== InProj.lean ====
abbrev S16384x2048 : Shape := ⟨2, ![16384, 2048]⟩
abbrev S2048x17408 : Shape := ⟨2, ![2048, 17408]⟩
abbrev S16384x17408 : Shape := ⟨2, ![16384, 17408]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x17408, .bf16⟩
  | .hbm, ⟨2, _⟩ => ⟨S16384x17408, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16384x2048 : Shape := ⟨2, ![16384, 2048]⟩
abbrev S2048x17408 : Shape := ⟨2, ![2048, 17408]⟩
abbrev S16384x17408 : Shape := ⟨2, ![16384, 17408]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x17408, .bf16⟩
  | .hbm, ⟨2, _⟩ => ⟨S16384x2048, .f32⟩
  | .hbm, ⟨3, _⟩ => ⟨S2048x17408, .f32⟩
  | .hbm, ⟨4, _⟩ => ⟨S16384x17408, .f32⟩
  | .hbm, ⟨5, _⟩ => ⟨S16384x17408, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S72 : Shape := ⟨1, ![72]⟩
abbrev S36864x7168 : Shape := ⟨2, ![36864, 7168]⟩
abbrev S8x7168x2048 : Shape := ⟨3, ![8, 7168, 2048]⟩
abbrev S36864x2048 : Shape := ⟨2, ![36864, 2048]⟩
abbrev S512x7168 : Shape := ⟨2, ![512, 7168]⟩
abbrev S1x7168x512 : Shape := ⟨3, ![1, 7168, 512]⟩
abbrev S1 : Shape := ⟨1, ![1]⟩
abbrev S512x512 : Shape := ⟨2, ![512, 512]⟩
abbrev S7168x512 : Shape := ⟨2, ![7168, 512]⟩

abbrev nBuf : Space → Nat
  | .hbm => 3
  | .vmem => 6
  | .smem => 2
  | _ => 0

abbrev bufTy : (tb : Table) → Fin (tcTables nBuf tb) → BufTy
  | .hbm, ⟨0, _⟩ => ⟨S36864x7168, .bf16⟩
  | .hbm, ⟨1, _⟩ => ⟨S8x7168x2048, .bf16⟩
  | .hbm, ⟨2, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .bf16⟩
  | .local _ .vmem, ⟨3, _⟩ => ⟨S1x7168x512, .bf16⟩
  | .local _ .vmem, ⟨4, _⟩ => ⟨S512x512, .f32⟩
  | .local _ .vmem, ⟨5, _⟩ => ⟨S512x512, .f32⟩
  | .local _ .smem, ⟨0, _⟩ => ⟨S72, .i32⟩
  | .local _ .smem, ⟨1, _⟩ => ⟨S72, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![72, 4], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c3_i32 : BitVec 32 := 3#32
  let v5 : BitVec 32 := Scalar.select v4 arg1 c3_i32
  let c0_i32 : BitVec 32 := 0#32
  let c0_i32_0 : BitVec 32 := 0#32
  ![v1.toNat, c0_i32.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x7168x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S72 : Shape := ⟨1, ![72]⟩
abbrev S36864x7168 : Shape := ⟨2, ![36864, 7168]⟩
abbrev S8x7168x2048 : Shape := ⟨3, ![8, 7168, 2048]⟩
abbrev S72x1 : Shape := ⟨2, ![72, 1]⟩
abbrev S72x512 : Shape := ⟨2, ![72, 512]⟩
abbrev S36864 : Shape := ⟨1, ![36864]⟩
abbrev S_ : Shape := ⟨0, ![]⟩
abbrev S36864x2048 : Shape := ⟨2, ![36864, 2048]⟩
abbrev S1x7168x2048 : Shape := ⟨3, ![1, 7168, 2048]⟩
abbrev S7168x2048 : Shape := ⟨2, ![7168, 2048]⟩
abbrev S36864x1 : Shape := ⟨2, ![36864, 1]⟩

abbrev nBuf : Space → Nat
  | .hbm => 132
  | .vmem => 0
  | .smem => 0
  | _ => 0

abbrev hbmTy0_0 (i : Nat) : BufTy := match i % 128 with
  | 0 => ⟨S72, .i32⟩
  | 1 => ⟨S72, .i32⟩
  | 2 => ⟨S36864x7168, .bf16⟩
  | 3 => ⟨S8x7168x2048, .bf16⟩
  | 4 => ⟨S72x1, .i32⟩
  | 5 => ⟨S72x512, .i32⟩
  | 6 => ⟨S36864, .i32⟩
  | 7 => ⟨S72x1, .i32⟩
  | 8 => ⟨S72x512, .i32⟩
  | 9 => ⟨S36864, .i32⟩
  | 10 => ⟨S_, .f32⟩
  | 11 => ⟨S36864x2048, .f32⟩
  | 12 => ⟨S36864x7168, .f32⟩
  | 13 => ⟨S1x7168x2048, .bf16⟩
  | 14 => ⟨S7168x2048, .bf16⟩
  | 15 => ⟨S7168x2048, .f32⟩
  | 16 => ⟨S36864x2048, .f32⟩
  | 17 => ⟨S_, .i32⟩
  | 18 => ⟨S36864, .i32⟩
  | 19 => ⟨S36864, .i1⟩
  | 20 => ⟨S_, .i32⟩
  | 21 => ⟨S36864, .i32⟩
  | 22 => ⟨S36864, .i1⟩
  | 23 => ⟨S36864, .i1⟩
  | 24 => ⟨S36864x1, .i1⟩
  | 25 => ⟨S36864x2048, .i1⟩
  | 26 => ⟨S36864x2048, .f32⟩
  | 27 => ⟨S36864x7168, .f32⟩
  | 28 => ⟨S1x7168x2048, .bf16⟩
  | 29 => ⟨S7168x2048, .bf16⟩
  | 30 => ⟨S7168x2048, .f32⟩
  | 31 => ⟨S36864x2048, .f32⟩
  | 32 => ⟨S_, .i32⟩
  | 33 => ⟨S36864, .i32⟩
  | 34 => ⟨S36864, .i1⟩
  | 35 => ⟨S_, .i32⟩
  | 36 => ⟨S36864, .i32⟩
  | 37 => ⟨S36864, .i1⟩
  | 38 => ⟨S36864, .i1⟩
  | 39 => ⟨S36864x1, .i1⟩
  | 40 => ⟨S36864x2048, .i1⟩
  | 41 => ⟨S36864x2048, .f32⟩
  | 42 => ⟨S36864x7168, .f32⟩
  | 43 => ⟨S1x7168x2048, .bf16⟩
  | 44 => ⟨S7168x2048, .bf16⟩
  | 45 => ⟨S7168x2048, .f32⟩
  | 46 => ⟨S36864x2048, .f32⟩
  | 47 => ⟨S_, .i32⟩
  | 48 => ⟨S36864, .i32⟩
  | 49 => ⟨S36864, .i1⟩
  | 50 => ⟨S_, .i32⟩
  | 51 => ⟨S36864, .i32⟩
  | 52 => ⟨S36864, .i1⟩
  | 53 => ⟨S36864, .i1⟩
  | 54 => ⟨S36864x1, .i1⟩
  | 55 => ⟨S36864x2048, .i1⟩
  | 56 => ⟨S36864x2048, .f32⟩
  | 57 => ⟨S36864x7168, .f32⟩
  | 58 => ⟨S1x7168x2048, .bf16⟩
  | 59 => ⟨S7168x2048, .bf16⟩
  | 60 => ⟨S7168x2048, .f32⟩
  | 61 => ⟨S36864x2048, .f32⟩
  | 62 => ⟨S_, .i32⟩
  | 63 => ⟨S36864, .i32⟩
  | 64 => ⟨S36864, .i1⟩
  | 65 => ⟨S_, .i32⟩
  | 66 => ⟨S36864, .i32⟩
  | 67 => ⟨S36864, .i1⟩
  | 68 => ⟨S36864, .i1⟩
  | 69 => ⟨S36864x1, .i1⟩
  | 70 => ⟨S36864x2048, .i1⟩
  | 71 => ⟨S36864x2048, .f32⟩
  | 72 => ⟨S36864x7168, .f32⟩
  | 73 => ⟨S1x7168x2048, .bf16⟩
  | 74 => ⟨S7168x2048, .bf16⟩
  | 75 => ⟨S7168x2048, .f32⟩
  | 76 => ⟨S36864x2048, .f32⟩
  | 77 => ⟨S_, .i32⟩
  | 78 => ⟨S36864, .i32⟩
  | 79 => ⟨S36864, .i1⟩
  | 80 => ⟨S_, .i32⟩
  | 81 => ⟨S36864, .i32⟩
  | 82 => ⟨S36864, .i1⟩
  | 83 => ⟨S36864, .i1⟩
  | 84 => ⟨S36864x1, .i1⟩
  | 85 => ⟨S36864x2048, .i1⟩
  | 86 => ⟨S36864x2048, .f32⟩
  | 87 => ⟨S36864x7168, .f32⟩
  | 88 => ⟨S1x7168x2048, .bf16⟩
  | 89 => ⟨S7168x2048, .bf16⟩
  | 90 => ⟨S7168x2048, .f32⟩
  | 91 => ⟨S36864x2048, .f32⟩
  | 92 => ⟨S_, .i32⟩
  | 93 => ⟨S36864, .i32⟩
  | 94 => ⟨S36864, .i1⟩
  | 95 => ⟨S_, .i32⟩
  | 96 => ⟨S36864, .i32⟩
  | 97 => ⟨S36864, .i1⟩
  | 98 => ⟨S36864, .i1⟩
  | 99 => ⟨S36864x1, .i1⟩
  | 100 => ⟨S36864x2048, .i1⟩
  | 101 => ⟨S36864x2048, .f32⟩
  | 102 => ⟨S36864x7168, .f32⟩
  | 103 => ⟨S1x7168x2048, .bf16⟩
  | 104 => ⟨S7168x2048, .bf16⟩
  | 105 => ⟨S7168x2048, .f32⟩
  | 106 => ⟨S36864x2048, .f32⟩
  | 107 => ⟨S_, .i32⟩
  | 108 => ⟨S36864, .i32⟩
  | 109 => ⟨S36864, .i1⟩
  | 110 => ⟨S_, .i32⟩
  | 111 => ⟨S36864, .i32⟩
  | 112 => ⟨S36864, .i1⟩
  | 113 => ⟨S36864, .i1⟩
  | 114 => ⟨S36864x1, .i1⟩
  | 115 => ⟨S36864x2048, .i1⟩
  | 116 => ⟨S36864x2048, .f32⟩
  | 117 => ⟨S36864x7168, .f32⟩
  | 118 => ⟨S1x7168x2048, .bf16⟩
  | 119 => ⟨S7168x2048, .bf16⟩
  | 120 => ⟨S7168x2048, .f32⟩
  | 121 => ⟨S36864x2048, .f32⟩
  | 122 => ⟨S_, .i32⟩
  | 123 => ⟨S36864, .i32⟩
  | 124 => ⟨S36864, .i1⟩
  | 125 => ⟨S_, .i32⟩
  | 126 => ⟨S36864, .i32⟩
  | 127 => ⟨S36864, .i1⟩
  | _ => ⟨S72, .i32⟩

abbrev hbmTy0_1 (i : Nat) : BufTy := match i % 128 with
  | 0 => ⟨S36864, .i1⟩
  | 1 => ⟨S36864x1, .i1⟩
  | 2 => ⟨S36864x2048, .i1⟩
  | 3 => ⟨S36864x2048, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call1_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call2_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_c_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call3_v0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_7 : Ref sig .tc := ⟨.hbm, 77, rfl⟩
abbrev main_v60 : Ref sig .tc := ⟨.hbm, 78, rfl⟩
abbrev main_v61 : Ref sig .tc := ⟨.hbm, 79, rfl⟩
abbrev main_c_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call4_v0 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_9 : Ref sig .tc := ⟨.hbm, 92, rfl⟩
abbrev main_v72 : Ref sig .tc := ⟨.hbm, 93, rfl⟩
abbrev main_v73 : Ref sig .tc := ⟨.hbm, 94, rfl⟩
abbrev main_c_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call5_v0 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_11 : Ref sig .tc := ⟨.hbm, 107, rfl⟩
abbrev main_v84 : Ref sig .tc := ⟨.hbm, 108, rfl⟩
abbrev main_v85 : Ref sig .tc := ⟨.hbm, 109, rfl⟩
abbrev main_c_12 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_call6_v0 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_13 : Ref sig .tc := ⟨.hbm, 122, rfl⟩
abbrev main_v96 : Ref sig .tc := ⟨.hbm, 123, rfl⟩
abbrev main_v97 : Ref sig .tc := ⟨.hbm, 124, rfl⟩
abbrev main_c_14 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_call7_v0 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== Up.lean ====
abbrev S1008 : Shape := ⟨1, ![1008]⟩
abbrev S36864x2048 : Shape := ⟨2, ![36864, 2048]⟩
abbrev S8x2048x7168 : Shape := ⟨3, ![8, 2048, 7168]⟩
abbrev S36864x7168 : Shape := ⟨2, ![36864, 7168]⟩
abbrev S512x2048 : Shape := ⟨2, ![512, 2048]⟩
abbrev S1 : Shape := ⟨1, ![1]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 10
  | .smem => 6
  | _ => 0

abbrev bufTy : (tb : Table) → Fin (tcTables nBuf tb) → BufTy
  | .hbm, ⟨0, _⟩ => ⟨S36864x2048, .bf16⟩
  | .hbm, ⟨1, _⟩ => ⟨S8x2048x7168, .f32⟩
  | .hbm, ⟨2, _⟩ => ⟨S8x2048x7168, .f32⟩
  | .hbm, ⟨3, _⟩ => ⟨S36864x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S1008, .i32⟩
  | .local _ .smem, ⟨1, _⟩ => ⟨S1008, .i32⟩
  | .local _ .smem, ⟨2, _⟩ => ⟨S1008, .i32⟩
  | .local _ .smem, ⟨3, _⟩ => ⟨S1008, .i32⟩
  | .local _ .smem, ⟨4, _⟩ => ⟨S1008, .i32⟩
  | .local _ .smem, ⟨5, _⟩ => ⟨S1008, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1008], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v10 : Index := Scalar.indexCast arg0
  ![v10.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (k0_off1_inb : ∀ i : grid0.Coords, ∀ a, (k0_off1 i) a + S1.size a ≤ S1008.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S1008) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S1008.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S1008) ![v0.toNat] S1.size (k0_off1_inb i)) numel1_S1
  let v2 : Index := Scalar.indexCast arg0
  let v3 : BitVec 32 := pf.at 2 (Rect.unit (s := S1008) ![v2.toNat] S1.size (k0_off1_inb i)) numel1_S1
  let c0_i32 : BitVec 32 := 0#32
  let c0_i32_0 : BitVec 32 := 0#32
  ![v1.toNat, c0_i32.toNat, v3.toNat]

def cc0_transform_2 (k0_off1_inb : ∀ i : grid0.Coords, ∀ a, (k0_off1 i) a + S1.size a ≤ S1008.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S1008) ![v0.toNat] S1.size (k0_off1_inb i)) numel1_S1
  let v2 : Index := Scalar.indexCast arg0
  let v3 : BitVec 32 := pf.at 2 (Rect.unit (s := S1008) ![v2.toNat] S1.size (k0_off1_inb i)) numel1_S1
  let c0_i32 : BitVec 32 := 0#32
  let c0_i32_0 : BitVec 32 := 0#32
  ![v1.toNat, c0_i32.toNat, v3.toNat]

def cc0_transform_3 (k0_off1_inb : ∀ i : grid0.Coords, ∀ a, (k0_off1 i) a + S1.size a ≤ S1008.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S1008) ![v0.toNat] S1.size (k0_off1_inb i)) numel1_S1
  let v2 : Index := Scalar.indexCast arg0
  let v3 : BitVec 32 := pf.at 1 (Rect.unit (s := S1008) ![v2.toNat] S1.size (k0_off1_inb i)) numel1_S1
  let c0_i32 : BitVec 32 := 0#32
  ![v1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpRefIdeal.lean ====
abbrev S1008 : Shape := ⟨1, ![1008]⟩
abbrev S36864x2048 : Shape := ⟨2, ![36864, 2048]⟩
abbrev S8x2048x7168 : Shape := ⟨3, ![8, 2048, 7168]⟩
abbrev S72x14 : Shape := ⟨2, ![72, 14]⟩
abbrev S72x1 : Shape := ⟨2, ![72, 1]⟩
abbrev S72 : Shape := ⟨1, ![72]⟩
abbrev S72x512 : Shape := ⟨2, ![72, 512]⟩
abbrev S36864 : Shape := ⟨1, ![36864]⟩
abbrev S_ : Shape := ⟨0, ![]⟩
abbrev S36864x7168 : Shape := ⟨2, ![36864, 7168]⟩
abbrev S1x2048x7168 : Shape := ⟨3, ![1, 2048, 7168]⟩
abbrev S2048x7168 : Shape := ⟨2, ![2048, 7168]⟩
abbrev S36864x1 : Shape := ⟨2, ![36864, 1]⟩

abbrev nBuf : Space → Nat
  | .hbm => 265
  | .vmem => 0
  | .smem => 0
  | _ => 0

abbrev hbmTy0_0 (i : Nat) : BufTy := match i % 128 with
  | 0 => ⟨S1008, .i32⟩
  | 1 => ⟨S1008, .i32⟩
  | 2 => ⟨S1008, .i32⟩
  | 3 => ⟨S1008, .i32⟩
  | 4 => ⟨S1008, .i32⟩
  | 5 => ⟨S1008, .i32⟩
  | 6 => ⟨S36864x2048, .bf16⟩
  | 7 => ⟨S8x2048x7168, .f32⟩
  | 8 => ⟨S8x2048x7168, .f32⟩
  | 9 => ⟨S72x14, .i32⟩
  | 10 => ⟨S72x1, .i32⟩
  | 11 => ⟨S72, .i32⟩
  | 12 => ⟨S72x14, .i32⟩
  | 13 => ⟨S72x1, .i32⟩
  | 14 => ⟨S72, .i32⟩
  | 15 => ⟨S72x1, .i32⟩
  | 16 => ⟨S72x512, .i32⟩
  | 17 => ⟨S36864, .i32⟩
  | 18 => ⟨S72x1, .i32⟩
  | 19 => ⟨S72x512, .i32⟩
  | 20 => ⟨S36864, .i32⟩
  | 21 => ⟨S36864x2048, .f32⟩
  | 22 => ⟨S_, .f32⟩
  | 23 => ⟨S36864x7168, .f32⟩
  | 24 => ⟨S1x2048x7168, .f32⟩
  | 25 => ⟨S2048x7168, .f32⟩
  | 26 => ⟨S2048x7168, .bf16⟩
  | 27 => ⟨S2048x7168, .f32⟩
  | 28 => ⟨S36864x7168, .f32⟩
  | 29 => ⟨S36864x7168, .f32⟩
  | 30 => ⟨S36864x7168, .f32⟩
  | 31 => ⟨S_, .f32⟩
  | 32 => ⟨S36864x7168, .f32⟩
  | 33 => ⟨S36864x7168, .f32⟩
  | 34 => ⟨S_, .f32⟩
  | 35 => ⟨S36864x7168, .f32⟩
  | 36 => ⟨S36864x7168, .f32⟩
  | 37 => ⟨S36864x7168, .f32⟩
  | 38 => ⟨S1x2048x7168, .f32⟩
  | 39 => ⟨S2048x7168, .f32⟩
  | 40 => ⟨S2048x7168, .bf16⟩
  | 41 => ⟨S2048x7168, .f32⟩
  | 42 => ⟨S36864x7168, .f32⟩
  | 43 => ⟨S36864x7168, .f32⟩
  | 44 => ⟨S_, .i32⟩
  | 45 => ⟨S36864, .i32⟩
  | 46 => ⟨S36864, .i1⟩
  | 47 => ⟨S_, .i32⟩
  | 48 => ⟨S36864, .i32⟩
  | 49 => ⟨S36864, .i1⟩
  | 50 => ⟨S36864, .i1⟩
  | 51 => ⟨S36864x1, .i1⟩
  | 52 => ⟨S36864x7168, .i1⟩
  | 53 => ⟨S36864x7168, .f32⟩
  | 54 => ⟨S1x2048x7168, .f32⟩
  | 55 => ⟨S2048x7168, .f32⟩
  | 56 => ⟨S2048x7168, .bf16⟩
  | 57 => ⟨S2048x7168, .f32⟩
  | 58 => ⟨S36864x7168, .f32⟩
  | 59 => ⟨S36864x7168, .f32⟩
  | 60 => ⟨S36864x7168, .f32⟩
  | 61 => ⟨S_, .f32⟩
  | 62 => ⟨S36864x7168, .f32⟩
  | 63 => ⟨S36864x7168, .f32⟩
  | 64 => ⟨S_, .f32⟩
  | 65 => ⟨S36864x7168, .f32⟩
  | 66 => ⟨S36864x7168, .f32⟩
  | 67 => ⟨S36864x7168, .f32⟩
  | 68 => ⟨S1x2048x7168, .f32⟩
  | 69 => ⟨S2048x7168, .f32⟩
  | 70 => ⟨S2048x7168, .bf16⟩
  | 71 => ⟨S2048x7168, .f32⟩
  | 72 => ⟨S36864x7168, .f32⟩
  | 73 => ⟨S36864x7168, .f32⟩
  | 74 => ⟨S_, .i32⟩
  | 75 => ⟨S36864, .i32⟩
  | 76 => ⟨S36864, .i1⟩
  | 77 => ⟨S_, .i32⟩
  | 78 => ⟨S36864, .i32⟩
  | 79 => ⟨S36864, .i1⟩
  | 80 => ⟨S36864, .i1⟩
  | 81 => ⟨S36864x1, .i1⟩
  | 82 => ⟨S36864x7168, .i1⟩
  | 83 => ⟨S36864x7168, .f32⟩
  | 84 => ⟨S1x2048x7168, .f32⟩
  | 85 => ⟨S2048x7168, .f32⟩
  | 86 => ⟨S2048x7168, .bf16⟩
  | 87 => ⟨S2048x7168, .f32⟩
  | 88 => ⟨S36864x7168, .f32⟩
  | 89 => ⟨S36864x7168, .f32⟩
  | 90 => ⟨S36864x7168, .f32⟩
  | 91 => ⟨S_, .f32⟩
  | 92 => ⟨S36864x7168, .f32⟩
  | 93 => ⟨S36864x7168, .f32⟩
  | 94 => ⟨S_, .f32⟩
  | 95 => ⟨S36864x7168, .f32⟩
  | 96 => ⟨S36864x7168, .f32⟩
  | 97 => ⟨S36864x7168, .f32⟩
  | 98 => ⟨S1x2048x7168, .f32⟩
  | 99 => ⟨S2048x7168, .f32⟩
  | 100 => ⟨S2048x7168, .bf16⟩
  | 101 => ⟨S2048x7168, .f32⟩
  | 102 => ⟨S36864x7168, .f32⟩
  | 103 => ⟨S36864x7168, .f32⟩
  | 104 => ⟨S_, .i32⟩
  | 105 => ⟨S36864, .i32⟩
  | 106 => ⟨S36864, .i1⟩
  | 107 => ⟨S_, .i32⟩
  | 108 => ⟨S36864, .i32⟩
  | 109 => ⟨S36864, .i1⟩
  | 110 => ⟨S36864, .i1⟩
  | 111 => ⟨S36864x1, .i1⟩
  | 112 => ⟨S36864x7168, .i1⟩
  | 113 => ⟨S36864x7168, .f32⟩
  | 114 => ⟨S1x2048x7168, .f32⟩
  | 115 => ⟨S2048x7168, .f32⟩
  | 116 => ⟨S2048x7168, .bf16⟩
  | 117 => ⟨S2048x7168, .f32⟩
  | 118 => ⟨S36864x7168, .f32⟩
  | 119 => ⟨S36864x7168, .f32⟩
  | 120 => ⟨S36864x7168, .f32⟩
  | 121 => ⟨S_, .f32⟩
  | 122 => ⟨S36864x7168, .f32⟩
  | 123 => ⟨S36864x7168, .f32⟩
  | 124 => ⟨S_, .f32⟩
  | 125 => ⟨S36864x7168, .f32⟩
  | 126 => ⟨S36864x7168, .f32⟩
  | 127 => ⟨S36864x7168, .f32⟩
  | _ => ⟨S1008, .i32⟩

abbrev hbmTy0_1 (i : Nat) : BufTy := match i % 128 with
  | 0 => ⟨S1x2048x7168, .f32⟩
  | 1 => ⟨S2048x7168, .f32⟩
  | 2 => ⟨S2048x7168, .bf16⟩
  | 3 => ⟨S2048x7168, .f32⟩
  | 4 => ⟨S36864x7168, .f32⟩
  | 5 => ⟨S36864x7168, .f32⟩
  | 6 => ⟨S_, .i32⟩
  | 7 => ⟨S36864, .i32⟩
  | 8 => ⟨S36864, .i1⟩
  | 9 => ⟨S_, .i32⟩
  | 10 => ⟨S36864, .i32⟩
  | 11 => ⟨S36864, .i1⟩
  | 12 => ⟨S36864, .i1⟩
  | 13 => ⟨S36864x1, .i1⟩
  | 14 => ⟨S36864x7168, .i1⟩
  | 15 => ⟨S36864x7168, .f32⟩
  | 16 => ⟨S1x2048x7168, .f32⟩
  | 17 => ⟨S2048x7168, .f32⟩
  | 18 => ⟨S2048x7168, .bf16⟩
  | 19 => ⟨S2048x7168, .f32⟩
  | 20 => ⟨S36864x7168, .f32⟩
  | 21 => ⟨S36864x7168, .f32⟩
  | 22 => ⟨S36864x7168, .f32⟩
  | 23 => ⟨S_, .f32⟩
  | 24 => ⟨S36864x7168, .f32⟩
  | 25 => ⟨S36864x7168, .f32⟩
  | 26 => ⟨S_, .f32⟩
  | 27 => ⟨S36864x7168, .f32⟩
  | 28 => ⟨S36864x7168, .f32⟩
  | 29 => ⟨S36864x7168, .f32⟩
  | 30 => ⟨S1x2048x7168, .f32⟩
  | 31 => ⟨S2048x7168, .f32⟩
  | 32 => ⟨S2048x7168, .bf16⟩
  | 33 => ⟨S2048x7168, .f32⟩
  | 34 => ⟨S36864x7168, .f32⟩
  | 35 => ⟨S36864x7168, .f32⟩
  | 36 => ⟨S_, .i32⟩
  | 37 => ⟨S36864, .i32⟩
  | 38 => ⟨S36864, .i1⟩
  | 39 => ⟨S_, .i32⟩
  | 40 => ⟨S36864, .i32⟩
  | 41 => ⟨S36864, .i1⟩
  | 42 => ⟨S36864, .i1⟩
  | 43 => ⟨S36864x1, .i1⟩
  | 44 => ⟨S36864x7168, .i1⟩
  | 45 => ⟨S36864x7168, .f32⟩
  | 46 => ⟨S1x2048x7168, .f32⟩
  | 47 => ⟨S2048x7168, .f32⟩
  | 48 => ⟨S2048x7168, .bf16⟩
  | 49 => ⟨S2048x7168, .f32⟩
  | 50 => ⟨S36864x7168, .f32⟩
  | 51 => ⟨S36864x7168, .f32⟩
  | 52 => ⟨S36864x7168, .f32⟩
  | 53 => ⟨S_, .f32⟩
  | 54 => ⟨S36864x7168, .f32⟩
  | 55 => ⟨S36864x7168, .f32⟩
  | 56 => ⟨S_, .f32⟩
  | 57 => ⟨S36864x7168, .f32⟩
  | 58 => ⟨S36864x7168, .f32⟩
  | 59 => ⟨S36864x7168, .f32⟩
  | 60 => ⟨S1x2048x7168, .f32⟩
  | 61 => ⟨S2048x7168, .f32⟩
  | 62 => ⟨S2048x7168, .bf16⟩
  | 63 => ⟨S2048x7168, .f32⟩
  | 64 => ⟨S36864x7168, .f32⟩
  | 65 => ⟨S36864x7168, .f32⟩
  | 66 => ⟨S_, .i32⟩
  | 67 => ⟨S36864, .i32⟩
  | 68 => ⟨S36864, .i1⟩
  | 69 => ⟨S_, .i32⟩
  | 70 => ⟨S36864, .i32⟩
  | 71 => ⟨S36864, .i1⟩
  | 72 => ⟨S36864, .i1⟩
  | 73 => ⟨S36864x1, .i1⟩
  | 74 => ⟨S36864x7168, .i1⟩
  | 75 => ⟨S36864x7168, .f32⟩
  | 76 => ⟨S1x2048x7168, .f32⟩
  | 77 => ⟨S2048x7168, .f32⟩
  | 78 => ⟨S2048x7168, .bf16⟩
  | 79 => ⟨S2048x7168, .f32⟩
  | 80 => ⟨S36864x7168, .f32⟩
  | 81 => ⟨S36864x7168, .f32⟩
  | 82 => ⟨S36864x7168, .f32⟩
  | 83 => ⟨S_, .f32⟩
  | 84 => ⟨S36864x7168, .f32⟩
  | 85 => ⟨S36864x7168, .f32⟩
  | 86 => ⟨S_, .f32⟩
  | 87 => ⟨S36864x7168, .f32⟩
  | 88 => ⟨S36864x7168, .f32⟩
  | 89 => ⟨S36864x7168, .f32⟩
  | 90 => ⟨S1x2048x7168, .f32⟩
  | 91 => ⟨S2048x7168, .f32⟩
  | 92 => ⟨S2048x7168, .bf16⟩
  | 93 => ⟨S2048x7168, .f32⟩
  | 94 => ⟨S36864x7168, .f32⟩
  | 95 => ⟨S36864x7168, .f32⟩
  | 96 => ⟨S_, .i32⟩
  | 97 => ⟨S36864, .i32⟩
  | 98 => ⟨S36864, .i1⟩
  | 99 => ⟨S_, .i32⟩
  | 100 => ⟨S36864, .i32⟩
  | 101 => ⟨S36864, .i1⟩
  | 102 => ⟨S36864, .i1⟩
  | 103 => ⟨S36864x1, .i1⟩
  | 104 => ⟨S36864x7168, .i1⟩
  | 105 => ⟨S36864x7168, .f32⟩
  | 106 => ⟨S1x2048x7168, .f32⟩
  | 107 => ⟨S2048x7168, .f32⟩
  | 108 => ⟨S2048x7168, .bf16⟩
  | 109 => ⟨S2048x7168, .f32⟩
  | 110 => ⟨S36864x7168, .f32⟩
  | 111 => ⟨S36864x7168, .f32⟩
  | 112 => ⟨S36864x7168, .f32⟩
  | 113 => ⟨S_, .f32⟩
  | 114 => ⟨S36864x7168, .f32⟩
  | 115 => ⟨S36864x7168, .f32⟩
  | 116 => ⟨S_, .f32⟩
  | 117 => ⟨S36864x7168, .f32⟩
  | 118 => ⟨S36864x7168, .f32⟩
  | 119 => ⟨S36864x7168, .f32⟩
  | 120 => ⟨S1x2048x7168, .f32⟩
  | 121 => ⟨S2048x7168, .f32⟩
  | 122 => ⟨S2048x7168, .bf16⟩
  | 123 => ⟨S2048x7168, .f32⟩
  | 124 => ⟨S36864x7168, .f32⟩
  | 125 => ⟨S36864x7168, .f32⟩
  | 126 => ⟨S_, .i32⟩
  | 127 => ⟨S36864, .i32⟩
  | _ => ⟨S1008, .i32⟩

abbrev hbmTy0_2 (i : Nat) : BufTy := match i % 128 with
  | 0 => ⟨S36864, .i1⟩
  | 1 => ⟨S_, .i32⟩
  | 2 => ⟨S36864, .i32⟩
  | 3 => ⟨S36864, .i1⟩
  | 4 => ⟨S36864, .i1⟩
  | 5 => ⟨S36864x1, .i1⟩
  | 6 => ⟨S36864x7168, .i1⟩
  | 7 => ⟨S36864x7168, .f32⟩
  | 8 => ⟨S36864x7168, .bf16⟩
  | _ => ⟨S1008, .i32⟩

abbrev hbmTy (i : Nat) : BufTy := match i / 128 with
  | 0 => hbmTy0_0 i
  | 1 => hbmTy0_1 i
  | 2 => hbmTy0_2 i
  | _ => ⟨S1008, .i32⟩

abbrev bufTy : (tb : Table) → Fin (tcTables nBuf tb) → BufTy
  | .hbm, ⟨i, _⟩ => hbmTy i
  | _, _ => ⟨S1008, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_v26 : Ref sig .tc := ⟨.hbm, 45, rfl⟩
abbrev main_v27 : Ref sig .tc := ⟨.hbm, 46, rfl⟩
abbrev main_c_0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_1 : Ref sig .tc := ⟨.hbm, 74, rfl⟩
abbrev main_v45 : Ref sig .tc := ⟨.hbm, 75, rfl⟩
abbrev main_v46 : Ref sig .tc := ⟨.hbm, 76, rfl⟩
abbrev main_c_2 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call3_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call4_v0 : Ref sig .tc := ⟨.hbm, 89, rfl⟩
abbrev main_call4_v1 : Ref sig .tc := ⟨.hbm, 90, rfl⟩
abbrev main_call4_cst : Ref sig .tc := ⟨.hbm, 91, rfl⟩
abbrev main_call4_v2 : Ref sig .tc := ⟨.hbm, 92, rfl⟩
abbrev main_call4_v3 : Ref sig .tc := ⟨.hbm, 93, rfl⟩
abbrev main_call4_cst_0 : Ref sig .tc := ⟨.hbm, 94, rfl⟩
abbrev main_call4_v4 : Ref sig .tc := ⟨.hbm, 95, rfl⟩
abbrev main_call4_v5 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_3 : Ref sig .tc := ⟨.hbm, 104, rfl⟩
abbrev main_v64 : Ref sig .tc := ⟨.hbm, 105, rfl⟩
abbrev main_v65 : Ref sig .tc := ⟨.hbm, 106, rfl⟩
abbrev main_c_4 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call5_v0 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_call6_v0 : Ref sig .tc := ⟨.hbm, 119, rfl⟩
abbrev main_call6_v1 : Ref sig .tc := ⟨.hbm, 120, rfl⟩
abbrev main_call6_cst : Ref sig .tc := ⟨.hbm, 121, rfl⟩
abbrev main_call6_v2 : Ref sig .tc := ⟨.hbm, 122, rfl⟩
abbrev main_call6_v3 : Ref sig .tc := ⟨.hbm, 123, rfl⟩
abbrev main_call6_cst_0 : Ref sig .tc := ⟨.hbm, 124, rfl⟩
abbrev main_call6_v4 : Ref sig .tc := ⟨.hbm, 125, rfl⟩
abbrev main_call6_v5 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_c_5 : Ref sig .tc := ⟨.hbm, 134, rfl⟩
abbrev main_v83 : Ref sig .tc := ⟨.hbm, 135, rfl⟩
abbrev main_v84 : Ref sig .tc := ⟨.hbm, 136, rfl⟩
abbrev main_c_6 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_call7_v0 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_call8_v0 : Ref sig .tc := ⟨.hbm, 149, rfl⟩
abbrev main_call8_v1 : Ref sig .tc := ⟨.hbm, 150, rfl⟩
abbrev main_call8_cst : Ref sig .tc := ⟨.hbm, 151, rfl⟩
abbrev main_call8_v2 : Ref sig .tc := ⟨.hbm, 152, rfl⟩
abbrev main_call8_v3 : Ref sig .tc := ⟨.hbm, 153, rfl⟩
abbrev main_call8_cst_0 : Ref sig .tc := ⟨.hbm, 154, rfl⟩
abbrev main_call8_v4 : Ref sig .tc := ⟨.hbm, 155, rfl⟩
abbrev main_call8_v5 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_c_7 : Ref sig .tc := ⟨.hbm, 164, rfl⟩
abbrev main_v102 : Ref sig .tc := ⟨.hbm, 165, rfl⟩
abbrev main_v103 : Ref sig .tc := ⟨.hbm, 166, rfl⟩
abbrev main_c_8 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_call9_v0 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_call10_v0 : Ref sig .tc := ⟨.hbm, 179, rfl⟩
abbrev main_call10_v1 : Ref sig .tc := ⟨.hbm, 180, rfl⟩
abbrev main_call10_cst : Ref sig .tc := ⟨.hbm, 181, rfl⟩
abbrev main_call10_v2 : Ref sig .tc := ⟨.hbm, 182, rfl⟩
abbrev main_call10_v3 : Ref sig .tc := ⟨.hbm, 183, rfl⟩
abbrev main_call10_cst_0 : Ref sig .tc := ⟨.hbm, 184, rfl⟩
abbrev main_call10_v4 : Ref sig .tc := ⟨.hbm, 185, rfl⟩
abbrev main_call10_v5 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_c_9 : Ref sig .tc := ⟨.hbm, 194, rfl⟩
abbrev main_v121 : Ref sig .tc := ⟨.hbm, 195, rfl⟩
abbrev main_v122 : Ref sig .tc := ⟨.hbm, 196, rfl⟩
abbrev main_c_10 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_call11_v0 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_call12_v0 : Ref sig .tc := ⟨.hbm, 209, rfl⟩
abbrev main_call12_v1 : Ref sig .tc := ⟨.hbm, 210, rfl⟩
abbrev main_call12_cst : Ref sig .tc := ⟨.hbm, 211, rfl⟩
abbrev main_call12_v2 : Ref sig .tc := ⟨.hbm, 212, rfl⟩
abbrev main_call12_v3 : Ref sig .tc := ⟨.hbm, 213, rfl⟩
abbrev main_call12_cst_0 : Ref sig .tc := ⟨.hbm, 214, rfl⟩
abbrev main_call12_v4 : Ref sig .tc := ⟨.hbm, 215, rfl⟩
abbrev main_call12_v5 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_c_11 : Ref sig .tc := ⟨.hbm, 224, rfl⟩
abbrev main_v140 : Ref sig .tc := ⟨.hbm, 225, rfl⟩
abbrev main_v141 : Ref sig .tc := ⟨.hbm, 226, rfl⟩
abbrev main_c_12 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_call13_v0 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_call14_v0 : Ref sig .tc := ⟨.hbm, 239, rfl⟩
abbrev main_call14_v1 : Ref sig .tc := ⟨.hbm, 240, rfl⟩
abbrev main_call14_cst : Ref sig .tc := ⟨.hbm, 241, rfl⟩
abbrev main_call14_v2 : Ref sig .tc := ⟨.hbm, 242, rfl⟩
abbrev main_call14_v3 : Ref sig .tc := ⟨.hbm, 243, rfl⟩
abbrev main_call14_cst_0 : Ref sig .tc := ⟨.hbm, 244, rfl⟩
abbrev main_call14_v4 : Ref sig .tc := ⟨.hbm, 245, rfl⟩
abbrev main_call14_v5 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_c_13 : Ref sig .tc := ⟨.hbm, 254, rfl⟩
abbrev main_v159 : Ref sig .tc := ⟨.hbm, 255, rfl⟩
abbrev main_v160 : Ref sig .tc := ⟨.hbm, 256, rfl⟩
abbrev main_c_14 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_call15_v0 : Ref sig .tc := ⟨.hbm, 262, rfl⟩
abbrev main_v165 : Ref sig .tc := ⟨.hbm, 263, rfl⟩
abbrev main_v166 : Ref sig .tc := ⟨.hbm, 264, rfl⟩

abbrev nD : Nat := 1
abbrev τ : Topo := Topo.v7x

variable {F : FTy → Type} [FloatOps F]
-- ==== Glu.lean ====
abbrev S16384x2048 : Shape := ⟨2, ![16384, 2048]⟩
abbrev S2048 : Shape := ⟨1, ![2048]⟩
abbrev S2048x5632 : Shape := ⟨2, ![2048, 5632]⟩
abbrev S1x2048 : Shape := ⟨2, ![1, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S1x2048, .f32⟩
  | .hbm, ⟨5, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluRefIdeal.lean ====
abbrev S16384x2048 : Shape := ⟨2, ![16384, 2048]⟩
abbrev S2048 : Shape := ⟨1, ![2048]⟩
abbrev S2048x5632 : Shape := ⟨2, ![2048, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | .hbm, ⟨21, _⟩ => ⟨S16384x2048, .f32⟩
  | .hbm, ⟨22, _⟩ => ⟨S2048x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S2048x5632, .f32⟩
  | .hbm, ⟨34, _⟩ => ⟨S16384x5632, .f32⟩
  | .hbm, ⟨35, _⟩ => ⟨S16384x5632, .f32⟩
  | .hbm, ⟨36, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Merge.lean ====
abbrev S16384x1024 : Shape := ⟨2, ![16384, 1024]⟩
abbrev S3x1024x2048 : Shape := ⟨3, ![3, 1024, 2048]⟩
abbrev S16384x17408 : Shape := ⟨2, ![16384, 17408]⟩
abbrev S16384x2048 : Shape := ⟨2, ![16384, 2048]⟩
abbrev S1024x1024 : Shape := ⟨2, ![1024, 1024]⟩
abbrev S3x1024x512 : Shape := ⟨3, ![3, 1024, 512]⟩
abbrev S1024x512 : Shape := ⟨2, ![1024, 512]⟩
abbrev S1x1024x512 : Shape := ⟨3, ![1, 1024, 512]⟩

abbrev nBuf : Space → Nat
  | .hbm => 6
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S3x1024x2048, .bf16⟩
  | .hbm, ⟨4, _⟩ => ⟨S16384x17408, .bf16⟩
  | .hbm, ⟨5, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S3x1024x512, .bf16⟩
  | .local _ .vmem, ⟨7, _⟩ => ⟨S3x1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16384x1024 : Shape := ⟨2, ![16384, 1024]⟩
abbrev S3x1024x2048 : Shape := ⟨3, ![3, 1024, 2048]⟩
abbrev S16384x17408 : Shape := ⟨2, ![16384, 17408]⟩
abbrev S1x16384x1024 : Shape := ⟨3, ![1, 16384, 1024]⟩
abbrev S3x16384x1024 : Shape := ⟨3, ![3, 16384, 1024]⟩
abbrev S3x16384x2048 : Shape := ⟨3, ![3, 16384, 2048]⟩
abbrev S16384x6144 : Shape := ⟨2, ![16384, 6144]⟩
abbrev S16384x3x2048 : Shape := ⟨3, ![16384, 3, 2048]⟩
abbrev S_ : Shape := ⟨0, ![]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S3x1024x2048, .bf16⟩
  | .hbm, ⟨4, _⟩ => ⟨S16384x17408, .bf16⟩
  | .hbm, ⟨5, _⟩ => ⟨S1x16384x1024, .bf16⟩
  | .hbm, ⟨6, _⟩ => ⟨S1x16384x1024, .bf16⟩
  | .hbm, ⟨7, _⟩ => ⟨S1x16384x1024, .bf16⟩
  | .hbm, ⟨8, _⟩ => ⟨S3x16384x1024, .bf16⟩
  | .hbm, ⟨9, _⟩ => ⟨S3x16384x1024, .f32⟩
  | .hbm, ⟨10, _⟩ => ⟨S3x1024x2048, .f32⟩
  | .hbm, ⟨11, _⟩ => ⟨S3x16384x2048, .f32⟩
  | .hbm, ⟨12, _⟩ => ⟨S16384x6144, .bf16⟩
  | .hbm, ⟨13, _⟩ => ⟨S16384x6144, .f32⟩
  | .hbm, ⟨14, _⟩ => ⟨S16384x3x2048, .f32⟩
  | .hbm, ⟨15, _⟩ => ⟨S16384x3x2048, .f32⟩
  | .hbm, ⟨16, _⟩ => ⟨S16384x3x2048, .f32⟩
  | .hbm, ⟨17, _⟩ => ⟨S_, .f32⟩
  | .hbm, ⟨18, _⟩ => ⟨S16384x3x2048, .f32⟩
  | .hbm, ⟨19, _⟩ => ⟨S16384x3x2048, .f32⟩
  | .hbm, ⟨20, _⟩ => ⟨S_, .f32⟩
  | .hbm, ⟨21, _⟩ => ⟨S16384x3x2048, .f32⟩
  | .hbm, ⟨22, _⟩ => ⟨S16384x3x2048, .f32⟩
  | .hbm, ⟨23, _⟩ => ⟨S16384x2048, .f32⟩
  | .hbm, ⟨24, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FfnDown.lean ====
abbrev S16384x5632 : Shape := ⟨2, ![16384, 5632]⟩
abbrev S5632x2048 : Shape := ⟨2, ![5632, 2048]⟩
abbrev S16384x2048 : Shape := ⟨2, ![16384, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S16384x5632 : Shape := ⟨2, ![16384, 5632]⟩
abbrev S5632x2048 : Shape := ⟨2, ![5632, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S16384x5632, .f32⟩
  | .hbm, ⟨4, _⟩ => ⟨S5632x2048, .f32⟩
  | .hbm, ⟨5, _⟩ => ⟨S16384x2048, .f32⟩
  | .hbm, ⟨6, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16384x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x2048 : Shape := ⟨2, ![16384, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Conv.lean ====
abbrev S2x8192x17408 : Shape := ⟨3, ![2, 8192, 17408]⟩
abbrev S3x1024 : Shape := ⟨2, ![3, 1024]⟩
abbrev S2x8192x1024 : Shape := ⟨3, ![2, 8192, 1024]⟩
abbrev S1x512x1024 : Shape := ⟨3, ![1, 512, 1024]⟩
abbrev S520x1024 : Shape := ⟨2, ![520, 1024]⟩
abbrev S8x1024 : Shape := ⟨2, ![8, 1024]⟩
abbrev S512x1024 : Shape := ⟨2, ![512, 1024]⟩
abbrev S1x1024 : Shape := ⟨2, ![1, 1024]⟩

abbrev nBuf : Space → Nat
  | .hbm => 3
  | .vmem => 10
  | .smem => 0
  | _ => 0

abbrev bufTy : (tb : Table) → Fin (tcTables nBuf tb) → BufTy
  | .hbm, ⟨0, _⟩ => ⟨S2x8192x17408, .bf16⟩
  | .hbm, ⟨1, _⟩ => ⟨S3x1024, .f32⟩
  | .hbm, ⟨2, _⟩ => ⟨S2x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S3x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S520x1024, .f32⟩
  | _, _ => ⟨S2x8192x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S2x8192x17408 : Shape := ⟨3, ![2, 8192, 17408]⟩
abbrev S3x1024 : Shape := ⟨2, ![3, 1024]⟩
abbrev S2x8192x1024 : Shape := ⟨3, ![2, 8192, 1024]⟩
abbrev S_ : Shape := ⟨0, ![]⟩
abbrev S2x2x1024 : Shape := ⟨3, ![2, 2, 1024]⟩
abbrev S2x8194x1024 : Shape := ⟨3, ![2, 8194, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x17408, .bf16⟩
  | .hbm, ⟨1, _⟩ => ⟨S3x1024, .f32⟩
  | .hbm, ⟨2, _⟩ => ⟨S2x8192x1024, .bf16⟩
  | .hbm, ⟨3, _⟩ => ⟨S2x8192x1024, .f32⟩
  | .hbm, ⟨4, _⟩ => ⟨S2x8192x1024, .bf16⟩
  | .hbm, ⟨5, _⟩ => ⟨S2x8192x1024, .f32⟩
  | .hbm, ⟨6, _⟩ => ⟨S2x8192x1024, .bf16⟩
  | .hbm, ⟨7, _⟩ => ⟨S2x8192x1024, .f32⟩
  | .hbm, ⟨8, _⟩ => ⟨S_, .f32⟩
  | .hbm, ⟨9, _⟩ => ⟨S2x2x1024, .f32⟩
  | .hbm, ⟨10, _⟩ => ⟨S2x8192x1024, .f32⟩
  | .hbm, ⟨11, _⟩ => ⟨S2x8194x1024, .f32⟩
  | .hbm, ⟨12, _⟩ => ⟨S1x1024, .f32⟩
  | .hbm, ⟨13, _⟩ => ⟨S1024, .f32⟩
  | .hbm, ⟨14, _⟩ => ⟨S2x8192x1024, .f32⟩
  | .hbm, ⟨15, _⟩ => ⟨S1x1x1024, .f32⟩
  | .hbm, ⟨16, _⟩ => ⟨S2x8192x1024, .f32⟩
  | .hbm, ⟨17, _⟩ => ⟨S2x8192x1024, .f32⟩
  | .hbm, ⟨18, _⟩ => ⟨S1x1024, .f32⟩
  | .hbm, ⟨19, _⟩ => ⟨S1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S1x1024, .f32⟩
  | .hbm, ⟨26, _⟩ => ⟨S1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .bf16⟩
  | _, _ => ⟨S2x8192x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== QkNorm.lean ====
abbrev S2x8192x17408 : Shape := ⟨3, ![2, 8192, 17408]⟩
abbrev S128 : Shape := ⟨1, ![128]⟩
abbrev S1x128 : Shape := ⟨2, ![1, 128]⟩
abbrev S2x8192x1024 : Shape := ⟨3, ![2, 8192, 1024]⟩
abbrev S1x512x1024 : Shape := ⟨3, ![1, 512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x8192x17408, .bf16⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S2x8192x1024, .bf16⟩
  | .hbm, ⟨6, _⟩ => ⟨S2x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x128, .f32⟩
  | .local _ .vmem, ⟨5, _⟩ => ⟨S1x128, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | _, _ => ⟨S2x8192x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkNormRefIdeal.lean ====
abbrev S2x8192x17408 : Shape := ⟨3, ![2, 8192, 17408]⟩
abbrev S128 : Shape := ⟨1, ![128]⟩
abbrev S2x8192x1024 : Shape := ⟨3, ![2, 8192, 1024]⟩
abbrev S2x8192x8x128 : Shape := ⟨4, ![2, 8192, 8, 128]⟩
abbrev S_ : Shape := ⟨0, ![]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x17408, .bf16⟩
  | .hbm, ⟨1, _⟩ => ⟨S128, .f32⟩
  | .hbm, ⟨2, _⟩ => ⟨S128, .f32⟩
  | .hbm, ⟨3, _⟩ => ⟨S2x8192x1024, .bf16⟩
  | .hbm, ⟨4, _⟩ => ⟨S2x8192x1024, .f32⟩
  | .hbm, ⟨5, _⟩ => ⟨S2x8192x8x128, .f32⟩
  | .hbm, ⟨6, _⟩ => ⟨S2x8192x1024, .bf16⟩
  | .hbm, ⟨7, _⟩ => ⟨S2x8192x1024, .f32⟩
  | .hbm, ⟨8, _⟩ => ⟨S2x8192x8x128, .f32⟩
  | .hbm, ⟨9, _⟩ => ⟨S2x8192x8x128, .f32⟩
  | .hbm, ⟨10, _⟩ => ⟨S_, .f32⟩
  | .hbm, ⟨11, _⟩ => ⟨S2x8192x8, .f32⟩
  | .hbm, ⟨12, _⟩ => ⟨S2x8192x8x1, .f32⟩
  | .hbm, ⟨13, _⟩ => ⟨S_, .f32⟩
  | .hbm, ⟨14, _⟩ => ⟨S2x8192x8x1, .f32⟩
  | .hbm, ⟨15, _⟩ => ⟨S2x8192x8x1, .f32⟩
  | .hbm, ⟨16, _⟩ => ⟨S_, .f32⟩
  | .hbm, ⟨17, _⟩ => ⟨S2x8192x8x1, .f32⟩
  | .hbm, ⟨18, _⟩ => ⟨S2x8192x8x1, .f32⟩
  | .hbm, ⟨19, _⟩ => ⟨S2x8192x8x1, .f32⟩
  | .hbm, ⟨20, _⟩ => ⟨S2x8192x8x128, .f32⟩
  | .hbm, ⟨21, _⟩ => ⟨S2x8192x8x128, .f32⟩
  | .hbm, ⟨22, _⟩ => ⟨S1x1x1x128, .f32⟩
  | .hbm, ⟨23, _⟩ => ⟨S2x8192x8x128, .f32⟩
  | .hbm, ⟨24, _⟩ => ⟨S2x8192x8x128, .f32⟩
  | .hbm, ⟨25, _⟩ => ⟨S_, .f32⟩
  | .hbm, ⟨26, _⟩ => ⟨S2x8192x8x128, .f32⟩
  | .hbm, ⟨27, _⟩ => ⟨S2x8192x8x128, .f32⟩
  | .hbm, ⟨28, _⟩ => ⟨S2x8192x1024, .f32⟩
  | .hbm, ⟨29, _⟩ => ⟨S2x8192x1024, .bf16⟩
  | .hbm, ⟨30, _⟩ => ⟨S2x8192x8x128, .f32⟩
  | .hbm, ⟨31, _⟩ => ⟨S_, .f32⟩
  | .hbm, ⟨32, _⟩ => ⟨S2x8192x8, .f32⟩
  | .hbm, ⟨33, _⟩ => ⟨S2x8192x8x1, .f32⟩
  | .hbm, ⟨34, _⟩ => ⟨S_, .f32⟩
  | .hbm, ⟨35, _⟩ => ⟨S2x8192x8x1, .f32⟩
  | .hbm, ⟨36, _⟩ => ⟨S2x8192x8x1, .f32⟩
  | .hbm, ⟨37, _⟩ => ⟨S_, .f32⟩
  | .hbm, ⟨38, _⟩ => ⟨S2x8192x8x1, .f32⟩
  | .hbm, ⟨39, _⟩ => ⟨S2x8192x8x1, .f32⟩
  | .hbm, ⟨40, _⟩ => ⟨S2x8192x8x1, .f32⟩
  | .hbm, ⟨41, _⟩ => ⟨S2x8192x8x128, .f32⟩
  | .hbm, ⟨42, _⟩ => ⟨S2x8192x8x128, .f32⟩
  | .hbm, ⟨43, _⟩ => ⟨S1x1x1x128, .f32⟩
  | .hbm, ⟨44, _⟩ => ⟨S2x8192x8x128, .f32⟩
  | .hbm, ⟨45, _⟩ => ⟨S2x8192x8x128, .f32⟩
  | .hbm, ⟨46, _⟩ => ⟨S2x8192x1024, .f32⟩
  | .hbm, ⟨47, _⟩ => ⟨S2x8192x1024, .bf16⟩
  | _, _ => ⟨S2x8192x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Proof.RetSpec.lean ====
/-
  The retention layer's value, written once over the extended reals: rotary angles, decays, the state carried from chunk to chunk,
  the retention of a chunk, the normalisation of a head and the gate. Both programs are read against these definitions.
-/
module

public import Idealize.ShloMosaic.Lib.Pointwise

@[expose] public section

noncomputable section

namespace Cert.RetSpec

open Idealize.ShloMosaic

/-- Row `i` of chunk `n`, as a row of the sequence. -/
abbrev row (n : Fin 64) (i : Fin 128) : Fin 8192 := ⟨n.val * 128 + i.val, by have := n.isLt; have := i.isLt; omega⟩

/-- A small natural number as a float. -/
abbrev num (n : ℕ) : EReal := FloatOps.sitofp (F := Ideal) FTy.f32 (BitVec.ofNat 32 n)

/-- The frequency of rotary pair `j`. -/
def inv (j : Fin 64) : EReal :=
  Ideal.pow (Ideal.ofBits FTy.f32 0x461C4000#32)
    (Ideal.div (-(Ideal.ofBits FTy.f32 0x40000000#32 * num j.val)) (Ideal.ofBits FTy.f32 0x43000000#32))

/-- The logarithm of head `h`'s decay per row. -/
def lg (h : Fin 8) : EReal :=
  Ideal.log1p (-Ideal.pow (Ideal.ofBits FTy.f32 0x40000000#32) (Ideal.ofBits FTy.f32 0xC0A00000#32 - num h.val))

/-- The decay from row `j` to row `i` of a chunk. -/
def dec (h : Fin 8) (i j : Fin 128) : EReal :=
  if 0 ≤ num i.val - num j.val then Ideal.exp (max (num i.val - num j.val) 0 * lg h) else 0

/-- The decay from row `j` to the end of its chunk. -/
def kdec (h : Fin 8) (j : Fin 128) : EReal := Ideal.exp ((Ideal.ofBits FTy.f32 0x42FE0000#32 - num j.val) * lg h)

/-- The decay from the chunk's start to row `i`. -/
def qdec (h : Fin 8) (i : Fin 128) : EReal := Ideal.exp ((num i.val + 1) * lg h)

/-- The decay over one chunk. -/
def cdec (h : Fin 8) : EReal := Ideal.exp (Ideal.ofBits FTy.f32 0x43000000#32 * lg h)

section
variable (A : Fin 2 → Fin 8192 → Fin 17408 → EReal) (P : Fin 2 → Fin 8192 → BitVec 32) (W B : Fin 1024 → EReal)

/-- The rotary angle. -/
def ang (b : Fin 2) (s : Fin 8192) (j : Fin 64) : EReal := FloatOps.sitofp (F := Ideal) FTy.f32 (P b s) * inv j

/-- Lane `l` of head `h`, in the part of the projection that starts at column `o`. -/
def col (o : ℕ) (ho : o ≤ 3072) (h : Fin 8) (l : Fin 128) : Fin 17408 :=
  ⟨o + (h.val * 128 + l.val), by have := h.isLt; have := l.isLt; omega⟩

/-- The rotary turn of a part of the projection. -/
def rot (o : ℕ) (ho : o ≤ 3072) (b : Fin 2) (s : Fin 8192) (h : Fin 8) (l : Fin 128) : EReal :=
  if hl : l.val < 64 then
    A b s (col o ho h l) * Ideal.cos (ang P b s ⟨l.val, hl⟩)
      - A b s (col o ho h ⟨l.val + 64, by omega⟩) * Ideal.sin (ang P b s ⟨l.val, hl⟩)
  else
    A b s (col o ho h ⟨l.val - 64, by omega⟩) * Ideal.sin (ang P b s ⟨l.val - 64, by omega⟩)
      + A b s (col o ho h l) * Ideal.cos (ang P b s ⟨l.val - 64, by omega⟩)

/-- Queries, scaled keys, values and gates. -/
def qr (b : Fin 2) (s : Fin 8192) (h : Fin 8) (l : Fin 128) : EReal := rot A P 0 (by decide) b s h l
def kr (b : Fin 2) (s : Fin 8192) (h : Fin 8) (l : Fin 128) : EReal :=
  rot A P 1024 (by decide) b s h l * Ideal.ofBits FTy.f32 0x3DB504F3#32
def vv (b : Fin 2) (s : Fin 8192) (h : Fin 8) (l : Fin 128) : EReal := A b s (col 2048 (by decide) h l)
def gg (b : Fin 2) (s : Fin 8192) (h : Fin 8) (l : Fin 128) : EReal := A b s (col 3072 (by decide) h l)

/-- What chunk `n` adds to the state. -/
def kv (b : Fin 2) (h : Fin 8) (n : Fin 64) (d e : Fin 128) : EReal :=
  ∑ j : Fin 128, kr A P b (row n j) h d * kdec h j * vv A b (row n j) h e

/-- The state before chunk `n`. -/
def st (b : Fin 2) (h : Fin 8) : ℕ → Fin 128 → Fin 128 → EReal
  | 0 => fun _ _ => 0
  | n + 1 => fun d e => st b h n d e * cdec h + (if hn : n < 64 then kv A P b h ⟨n, hn⟩ d e else 0)

/-- The retention at row `i` of chunk `n`. -/
def ret (b : Fin 2) (n : Fin 64) (i : Fin 128) (h : Fin 8) (e : Fin 128) : EReal :=
  (∑ j : Fin 128, (∑ d : Fin 128, qr A P b (row n i) h d * kr A P b (row n j) h d) * dec h i j * vv A b (row n j) h e)
    + (∑ d : Fin 128, qr A P b (row n i) h d * st A P b h n.val d e) * qdec h i

/-- The mean of a head's row. -/
def mu (b : Fin 2) (n : Fin 64) (i : Fin 128) (h : Fin 8) : EReal :=
  Ideal.div (∑ e : Fin 128, ret A P b n i h e) (Ideal.ofBits FTy.f32 0x43000000#32)

/-- The variance of a head's row. -/
def var (b : Fin 2) (n : Fin 64) (i : Fin 128) (h : Fin 8) : EReal :=
  Ideal.div (∑ e : Fin 128, (ret A P b n i h e - mu A P b n i h) * (ret A P b n i h e - mu A P b n i h))
    (Ideal.ofBits FTy.f32 0x43000000#32)

/-- Lane `e` of head `h` among the 1024 lanes of the result. -/
def lane (h : Fin 8) (e : Fin 128) : Fin 1024 := ⟨h.val * 128 + e.val, by have := h.isLt; have := e.isLt; omega⟩

/-- The layer's result. -/
def out (b : Fin 2) (n : Fin 64) (i : Fin 128) (h : Fin 8) (e : Fin 128) : EReal :=
  gg A b (row n i) h e * Ideal.div 1 (1 + Ideal.exp (-gg A b (row n i) h e))
    * ((ret A P b n i h e - mu A P b n i h) * Ideal.rsqrt (var A P b n i h + Ideal.ofBits FTy.f32 0x358637BD#32) * W (lane h e) + B (lane h e))

end

end Cert.RetSpec

end
-- ==== Proof.RetTables.lean ====
/-
  The tables that the host computes before the retention kernel runs, read at an index: the rotary tables, the decays, the
  weights and the biases.
-/
module

public import proofs.«01_k».proof.Proof.RetSpec
public import proofs.«01_k».proof.Proof.Gen.RetIdeal.Frame
public import Idealize.ShloMosaic.Lib.StableHlo.ReadAt

@[expose] public section

set_option maxRecDepth 16384

noncomputable section

namespace Cert.RetIdeal.Tables

open Cert.RetIdeal Cert.RetIdeal.Gen Idealize.ShloMosaic Idealize.SL.Sem Idealize.ShloMosaic.TcCoe

variable (m : (ℓ : Loc nD τ sig) → Buf (Elt Ideal) ℓ)

/-- The projection, the positions, the weights and the biases, as launched. -/
def argA (c : Dev nD) : Fin 2 → Fin 8192 → Fin 17408 → EReal := fun b s l => m ((c : Thread nD τ).loc main_arg0) (ix3 b s l)
def argP (c : Dev nD) : Fin 2 → Fin 8192 → BitVec 32 := fun b s => m ((c : Thread nD τ).loc main_arg1) (ix2 b s)
def argW (c : Dev nD) : Fin 1024 → EReal := fun l => m ((c : Thread nD τ).loc main_arg2) (ix1 l)
def argB (c : Dev nD) : Fin 1024 → EReal := fun l => m ((c : Thread nD τ).loc main_arg3) (ix1 l)

/-- The rotary pair of lane `l`. -/
def pair (l : Fin 128) : Fin 64 := ⟨l.val % 64, Nat.mod_lt _ (by decide)⟩

theorem v16 (c : Dev nD) (b : Fin 2) (s : Fin 8192) (l : Fin 128) :
    V m c main_v16 (ix3 b s l) = RetSpec.ang (argP m c) b s (pair l) := by
  unfold V
  after_reads_at
  by_cases h : l.val < 64
  · rw [dif_pos h]
    after_reads_at
    unfold RetSpec.ang RetSpec.inv
    rw [show (pair l).val = l.val from Nat.mod_eq_of_lt h]
    rfl
  · rw [dif_neg h]
    after_reads_at
    unfold RetSpec.ang RetSpec.inv
    rw [show (pair l).val = l.val - 64 from by show l.val % 64 = l.val - 64; have := l.isLt; omega]
    rfl

theorem lt_word (l : Fin 128) : IntOp.cmpi .slt (BitVec.ofNat 32 l.val) 64#32 = if l.val < 64 then 1#1 else 0#1 := by
  revert l; decide

theorem v19 (c : Dev nD) (b : Fin 2) (s : Fin 8192) (l : Fin 128) :
    V m c main_v19 (ix3 b s l) = Ideal.cos (RetSpec.ang (argP m c) b s (pair l)) := by
  rw [← v16]
  unfold V
  after_reads_at

theorem v23 (c : Dev nD) (b : Fin 2) (s : Fin 8192) (l : Fin 128) :
    V m c main_v23 (ix3 b s l) =
      if l.val < 64 then -Ideal.sin (RetSpec.ang (argP m c) b s (pair l)) else Ideal.sin (RetSpec.ang (argP m c) b s (pair l)) := by
  rw [← v16]
  unfold V
  after_reads_at
  rw [lt_word]
  by_cases h : l.val < 64
  · simp only [if_pos h, dif_pos h]; rfl
  · simp only [if_neg h, dif_neg h]; rfl

theorem v47 (c : Dev nD) (h : Fin 8) (i j : Fin 128) : V m c main_v47 (ix3 h i j) = RetSpec.dec h i j := by
  unfold V
  after_reads_at
  unfold RetSpec.dec RetSpec.lg
  congr 1
  exact Ideal.ofBits_zero .f32

theorem v65 (c : Dev nD) (h : Fin 8) (i j : Fin 128) : V m c main_v65 (ix3 h i j) = RetSpec.kdec h i := by
  unfold V
  after_reads_at
  rfl

theorem v67 (c : Dev nD) (h : Fin 8) (i j : Fin 128) : V m c main_v67 (ix3 h i j) = RetSpec.qdec h i := by
  unfold V
  after_reads_at
  rfl

theorem v68 (c : Dev nD) (l : Fin 1024) : V m c main_v68 (ix2 0 l) = argW m c l := by
  unfold V
  after_reads_at
  rfl

theorem v69 (c : Dev nD) (l : Fin 1024) : V m c main_v69 (ix2 0 l) = argB m c l := by
  unfold V
  after_reads_at
  rfl

end Cert.RetIdeal.Tables

end
-- ==== Proof.RetBlocks.lean ====
/-
  The blocks the retention kernel sees at a grid point, read as entries of its operands: point `t` works on chunk `t % 64` of
  sequence `t / 64`.
-/
module

public import proofs.«01_k».proof.Proof.RetTables

@[expose] public section

set_option maxRecDepth 16384

noncomputable section

namespace Cert.RetIdeal.Blocks

open Cert.RetIdeal Cert.RetIdeal.Gen Cert.RetIdeal.Tables Cert.RetSpec Idealize.ShloMosaic Idealize.SL.Sem Idealize.ShloMosaic.TcCoe

variable (m : (ℓ : Loc nD τ sig) → Buf (Elt Ideal) ℓ)

/-- The sequence and the chunk of point `t`. -/
def bq (t : Fin cfg0.N) : Fin 2 := ⟨t.val / 64, by have := lt_of_lt_of_eq t.isLt (show cfg0.N = 128 from N_0); omega⟩
def nq (t : Fin cfg0.N) : Fin 64 := ⟨t.val % 64, Nat.mod_lt _ (by decide)⟩

theorem index0 : ∀ t : Fin grid0.N, win0_0.index t 0 = t.val / 64 ∧ win0_0.index t 1 = t.val % 64 ∧ win0_0.index t 2 = 0 := by
  decide +kernel

theorem iblk0 (c : Dev nD) (t : Fin cfg0.N) (i l : Fin 128) :
    (iblk m c 0 t : Vec Ideal S1x128x128 .f32) (ix3 0 i l) = V m c main_v19 (ix3 (bq t) (row (nq t) i) l) := by
  have hi := index0 t
  unfold iblk
  rw [View.read_apply]
  refine congrArg (V m c main_v19) (funext fun a => Fin.ext ?_)
  match a with
  | ⟨0, _⟩ => show win0_0.index t 0 * 1 + 1 * 0 = t.val / 64; rw [hi.1]; omega
  | ⟨1, _⟩ => show win0_0.index t 1 * 128 + 1 * i.val = t.val % 64 * 128 + i.val; rw [hi.2.1]; omega
  | ⟨2, _⟩ => show win0_0.index t 2 * 128 + 1 * l.val = l.val; rw [hi.2.2]; omega

theorem index1 : ∀ t : Fin grid0.N, win0_1.index t 0 = t.val / 64 ∧ win0_1.index t 1 = t.val % 64 ∧ win0_1.index t 2 = 0 := by
  decide +kernel

theorem iblk1 (c : Dev nD) (t : Fin cfg0.N) (i l : Fin 128) :
    (iblk m c 1 t : Vec Ideal S1x128x128 .f32) (ix3 0 i l) = V m c main_v23 (ix3 (bq t) (row (nq t) i) l) := by
  have hi := index1 t
  unfold iblk
  rw [View.read_apply]
  refine congrArg (V m c main_v23) (funext fun a => Fin.ext ?_)
  match a with
  | ⟨0, _⟩ => show win0_1.index t 0 * 1 + 1 * 0 = t.val / 64; rw [hi.1]; omega
  | ⟨1, _⟩ => show win0_1.index t 1 * 128 + 1 * i.val = t.val % 64 * 128 + i.val; rw [hi.2.1]; omega
  | ⟨2, _⟩ => show win0_1.index t 2 * 128 + 1 * l.val = l.val; rw [hi.2.2]; omega

theorem index2 : ∀ t : Fin grid0.N, win0_2.index t 0 = t.val / 64 ∧ win0_2.index t 1 = t.val % 64 ∧ win0_2.index t 2 = 0 := by
  decide +kernel

theorem iblk2 (c : Dev nD) (t : Fin cfg0.N) (i : Fin 128) (q : Fin 1024) :
    (iblk m c 2 t : Vec Ideal S1x128x1024 .bf16) (ix3 0 i q)
      = argA m c (bq t) (row (nq t) i) ⟨0 + q.val, by have := q.isLt; omega⟩ := by
  have hi := index2 t
  unfold iblk argA
  rw [View.read_apply, ← V_main_arg0 m c]
  refine congrArg (V m c main_arg0) (funext fun a => Fin.ext ?_)
  match a with
  | ⟨0, _⟩ => show win0_2.index t 0 * 1 + 1 * 0 = t.val / 64; rw [hi.1]; omega
  | ⟨1, _⟩ => show win0_2.index t 1 * 128 + 1 * i.val = t.val % 64 * 128 + i.val; rw [hi.2.1]; omega
  | ⟨2, _⟩ => show win0_2.index t 2 * 1024 + 1 * q.val = 0 + q.val; rw [hi.2.2]; omega

theorem index3 : ∀ t : Fin grid0.N, win0_3.index t 0 = t.val / 64 ∧ win0_3.index t 1 = t.val % 64 ∧ win0_3.index t 2 = 1 := by
  decide +kernel

theorem iblk3 (c : Dev nD) (t : Fin cfg0.N) (i : Fin 128) (q : Fin 1024) :
    (iblk m c 3 t : Vec Ideal S1x128x1024 .bf16) (ix3 0 i q)
      = argA m c (bq t) (row (nq t) i) ⟨1024 + q.val, by have := q.isLt; omega⟩ := by
  have hi := index3 t
  unfold iblk argA
  rw [View.read_apply, ← V_main_arg0 m c]
  refine congrArg (V m c main_arg0) (funext fun a => Fin.ext ?_)
  match a with
  | ⟨0, _⟩ => show win0_3.index t 0 * 1 + 1 * 0 = t.val / 64; rw [hi.1]; omega
  | ⟨1, _⟩ => show win0_3.index t 1 * 128 + 1 * i.val = t.val % 64 * 128 + i.val; rw [hi.2.1]; omega
  | ⟨2, _⟩ => show win0_3.index t 2 * 1024 + 1 * q.val = 1024 + q.val; rw [hi.2.2]; omega

theorem index4 : ∀ t : Fin grid0.N, win0_4.index t 0 = t.val / 64 ∧ win0_4.index t 1 = t.val % 64 ∧ win0_4.index t 2 = 2 := by
  decide +kernel

theorem iblk4 (c : Dev nD) (t : Fin cfg0.N) (i : Fin 128) (q : Fin 1024) :
    (iblk m c 4 t : Vec Ideal S1x128x1024 .bf16) (ix3 0 i q)
      = argA m c (bq t) (row (nq t) i) ⟨2048 + q.val, by have := q.isLt; omega⟩ := by
  have hi := index4 t
  unfold iblk argA
  rw [View.read_apply, ← V_main_arg0 m c]
  refine congrArg (V m c main_arg0) (funext fun a => Fin.ext ?_)
  match a with
  | ⟨0, _⟩ => show win0_4.index t 0 * 1 + 1 * 0 = t.val / 64; rw [hi.1]; omega
  | ⟨1, _⟩ => show win0_4.index t 1 * 128 + 1 * i.val = t.val % 64 * 128 + i.val; rw [hi.2.1]; omega
  | ⟨2, _⟩ => show win0_4.index t 2 * 1024 + 1 * q.val = 2048 + q.val; rw [hi.2.2]; omega

theorem index5 : ∀ t : Fin grid0.N, win0_5.index t 0 = t.val / 64 ∧ win0_5.index t 1 = t.val % 64 ∧ win0_5.index t 2 = 3 := by
  decide +kernel

theorem iblk5 (c : Dev nD) (t : Fin cfg0.N) (i : Fin 128) (q : Fin 1024) :
    (iblk m c 5 t : Vec Ideal S1x128x1024 .bf16) (ix3 0 i q)
      = argA m c (bq t) (row (nq t) i) ⟨3072 + q.val, by have := q.isLt; omega⟩ := by
  have hi := index5 t
  unfold iblk argA
  rw [View.read_apply, ← V_main_arg0 m c]
  refine congrArg (V m c main_arg0) (funext fun a => Fin.ext ?_)
  match a with
  | ⟨0, _⟩ => show win0_5.index t 0 * 1 + 1 * 0 = t.val / 64; rw [hi.1]; omega
  | ⟨1, _⟩ => show win0_5.index t 1 * 128 + 1 * i.val = t.val % 64 * 128 + i.val; rw [hi.2.1]; omega
  | ⟨2, _⟩ => show win0_5.index t 2 * 1024 + 1 * q.val = 3072 + q.val; rw [hi.2.2]; omega

theorem index6 : ∀ t : Fin grid0.N, win0_6.index t 0 = 0 ∧ win0_6.index t 1 = 0 ∧ win0_6.index t 2 = 0 := by
  decide +kernel

theorem iblk6 (c : Dev nD) (t : Fin cfg0.N) (h : Fin 8) (i j : Fin 128) :
    (iblk m c 6 t : Vec Ideal S8x128x128 .f32) (ix3 h i j) = V m c main_v47 (ix3 h i j) := by
  have hi := index6 t
  unfold iblk
  rw [View.read_apply]
  refine congrArg (V m c main_v47) (funext fun a => Fin.ext ?_)
  match a with
  | ⟨0, _⟩ => show win0_6.index t 0 * 8 + 1 * h.val = h.val; rw [hi.1]; omega
  | ⟨1, _⟩ => show win0_6.index t 1 * 128 + 1 * i.val = i.val; rw [hi.2.1]; omega
  | ⟨2, _⟩ => show win0_6.index t 2 * 128 + 1 * j.val = j.val; rw [hi.2.2]; omega

theorem index7 : ∀ t : Fin grid0.N, win0_7.index t 0 = 0 ∧ win0_7.index t 1 = 0 ∧ win0_7.index t 2 = 0 := by
  decide +kernel

theorem iblk7 (c : Dev nD) (t : Fin cfg0.N) (h : Fin 8) (i j : Fin 128) :
    (iblk m c 7 t : Vec Ideal S8x128x128 .f32) (ix3 h i j) = V m c main_v65 (ix3 h i j) := by
  have hi := index7 t
  unfold iblk
  rw [View.read_apply]
  refine congrArg (V m c main_v65) (funext fun a => Fin.ext ?_)
  match a with
  | ⟨0, _⟩ => show win0_7.index t 0 * 8 + 1 * h.val = h.val; rw [hi.1]; omega
  | ⟨1, _⟩ => show win0_7.index t 1 * 128 + 1 * i.val = i.val; rw [hi.2.1]; omega
  | ⟨2, _⟩ => show win0_7.index t 2 * 128 + 1 * j.val = j.val; rw [hi.2.2]; omega

theorem index8 : ∀ t : Fin grid0.N, win0_8.index t 0 = 0 ∧ win0_8.index t 1 = 0 ∧ win0_8.index t 2 = 0 := by
  decide +kernel

theorem iblk8 (c : Dev nD) (t : Fin cfg0.N) (h : Fin 8) (i j : Fin 128) :
    (iblk m c 8 t : Vec Ideal S8x128x128 .f32) (ix3 h i j) = V m c main_v67 (ix3 h i j) := by
  have hi := index8 t
  unfold iblk
  rw [View.read_apply]
  refine congrArg (V m c main_v67) (funext fun a => Fin.ext ?_)
  match a with
  | ⟨0, _⟩ => show win0_8.index t 0 * 8 + 1 * h.val = h.val; rw [hi.1]; omega
  | ⟨1, _⟩ => show win0_8.index t 1 * 128 + 1 * i.val = i.val; rw [hi.2.1]; omega
  | ⟨2, _⟩ => show win0_8.index t 2 * 128 + 1 * j.val = j.val; rw [hi.2.2]; omega

theorem index9 : ∀ t : Fin grid0.N, win0_9.index t 0 = 0 ∧ win0_9.index t 1 = 0 := by
  decide +kernel

theorem iblk9 (c : Dev nD) (t : Fin cfg0.N) (q : Fin 1024) :
    (iblk m c 9 t : Vec Ideal S1x1024 .f32) (ix2 0 q) = V m c main_v68 (ix2 0 q) := by
  have hi := index9 t
  unfold iblk
  rw [View.read_apply]
  refine congrArg (V m c main_v68) (funext fun a => Fin.ext ?_)
  match a with
  | ⟨0, _⟩ => show win0_9.index t 0 * 1 + 1 * 0 = 0; rw [hi.1]
  | ⟨1, _⟩ => show win0_9.index t 1 * 1024 + 1 * q.val = q.val; rw [hi.2]; omega

theorem index10 : ∀ t : Fin grid0.N, win0_10.index t 0 = 0 ∧ win0_10.index t 1 = 0 := by
  decide +kernel

theorem iblk10 (c : Dev nD) (t : Fin cfg0.N) (q : Fin 1024) :
    (iblk m c 10 t : Vec Ideal S1x1024 .f32) (ix2 0 q) = V m c main_v69 (ix2 0 q) := by
  have hi := index10 t
  unfold iblk
  rw [View.read_apply]
  refine congrArg (V m c main_v69) (funext fun a => Fin.ext ?_)
  match a with
  | ⟨0, _⟩ => show win0_10.index t 0 * 1 + 1 * 0 = 0; rw [hi.1]
  | ⟨1, _⟩ => show win0_10.index t 1 * 1024 + 1 * q.val = q.val; rw [hi.2]; omega

end Cert.RetIdeal.Blocks

end
-- ==== Proof.RetHead.lean ====
/-
  One head of the retention chunk, in the kernel's own vector operations: the eight heads of the body are this text with
  another slice of the blocks, another plane of the tables and another decay of the state.
-/
module

public import proofs.«01_k».proof.Proof.Gen.RetIdeal.Skeleton
public import Idealize.ShloMosaic.Lib.Pointwise

@[expose] public section

set_option maxRecDepth 16384

noncomputable section

namespace Cert.RetIdeal.Head

open Cert.RetIdeal Cert.RetIdeal.Gen Idealize.ShloMosaic Idealize.SL.Sem

variable {F : FTy → Type} [FloatOps F] [Named F]

/-- A block of 128 rows turned by the rotary angles: `x · cos + roll x 64 · sin`, the sign of the sine already in its table. -/
def ropeV (cos sin : Vec F S1x128x128 .f32) (x : Vec F S1x128x128 .bf16) : FVec F S128x128 .f32 :=
  have xf : FVec F S128x128 .f32 := extf .f32 (shapeCast S128x128 x shapeCasts_S1x128x128_S128x128) bitsLt_bf16_f32
  addf (mulf xf (shapeCast S128x128 cos shapeCasts_S1x128x128_S128x128))
    (mulf (dynamicRotate 1 64#32 none xf rotates_S128x128_d1) (shapeCast S128x128 sin shapeCasts_S1x128x128_S128x128))

/-- The turned queries. -/
def qrV (cos sin : Vec F S1x128x128 .f32) (q : Vec F S1x128x128 .bf16) : FVec F S128x128 .bf16 :=
  truncf .bf16 (ropeV cos sin q) bitsLt_bf16_f32

/-- The turned and scaled keys. -/
def krV (cos sin : Vec F S1x128x128 .f32) (k : Vec F S1x128x128 .bf16) : FVec F S128x128 .f32 :=
  mulf (ropeV cos sin k) (broadcast S128x128 (Scalar.ofBits .f32 0x3DB504F3#32))

/-- The head's state after the chunk: the state before, decayed, plus the decayed keys against the values. -/
def stateV (γ : F .f32) (cos sin : Vec F S1x128x128 .f32) (k v : Vec F S1x128x128 .bf16) (kd prev : Vec F S1x128x128 .f32) :
    FVec F S1x128x128 .f32 :=
  shapeCast S1x128x128
    (addf (mulf (shapeCast S128x128 prev shapeCasts_S1x128x128_S128x128) (broadcast S128x128 γ))
      (matmul dot_S128x128_S128x128_S128x128_0_0_1_1_n_n none
        (truncf .bf16 (mulf (krV cos sin k) (shapeCast S128x128 kd shapeCasts_S1x128x128_S128x128)) bitsLt_bf16_f32)
        (shapeCast S128x128 v shapeCasts_S1x128x128_S128x128) (constant S128x128 .f32 0x00000000#32)))
    shapeCasts_S128x128_S1x128x128

/-- The head's retention over the chunk: the part within the chunk plus the part the state carries. -/
def retV (cos sin : Vec F S1x128x128 .f32) (q k v : Vec F S1x128x128 .bf16) (dec qd prev : Vec F S1x128x128 .f32) :
    FVec F S128x128 .f32 :=
  addf
    (matmul dot_S128x128_S128x128_S128x128_1_0_0_1_n_n none
      (truncf .bf16 (mulf (matmul dot_S128x128_S128x128_S128x128_1_1_0_0_n_n none (qrV cos sin q)
          (truncf .bf16 (krV cos sin k) bitsLt_bf16_f32) (constant S128x128 .f32 0x00000000#32))
        (shapeCast S128x128 dec shapeCasts_S1x128x128_S128x128)) bitsLt_bf16_f32)
      (shapeCast S128x128 v shapeCasts_S1x128x128_S128x128) (constant S128x128 .f32 0x00000000#32))
    (mulf (matmul dot_S128x128_S128x128_S128x128_1_0_0_1_n_n none (qrV cos sin q)
        (truncf .bf16 (shapeCast S128x128 prev shapeCasts_S1x128x128_S128x128) bitsLt_bf16_f32) (constant S128x128 .f32 0x00000000#32))
      (shapeCast S128x128 qd shapeCasts_S1x128x128_S128x128))

/-- A row less its mean. -/
def cenV (r : FVec F S128x128 .f32) : FVec F S128x128 .f32 :=
  subf r (broadcastTo S128x128
    (divf (shapeCast S128x1 (multiReduction .add [1] S128 r 0x00000000#32 reduces_S128x128_S128 (.inl rfl) rfl) shapeCasts_S128_S128x1)
      (broadcast S128x1 (Scalar.ofBits .f32 0x43000000#32))) broadcasts_S128x1_S128x128)

/-- A row normalised. -/
def normV (r : FVec F S128x128 .f32) : FVec F S128x128 .f32 :=
  mulf (cenV r) (broadcastTo S128x128
    (rsqrt (addf (divf (shapeCast S128x1 (multiReduction .add [1] S128 (mulf (cenV r) (cenV r)) 0x00000000#32 reduces_S128x128_S128 (.inl rfl) rfl) shapeCasts_S128_S128x1)
      (broadcast S128x1 (Scalar.ofBits .f32 0x43000000#32))) (broadcast S128x1 (Scalar.ofBits .f32 0x358637BD#32)))) broadcasts_S128x1_S128x128)

/-- The gate times the normalised row under its weight and bias. -/
def gateV (n : FVec F S128x128 .f32) (g : Vec F S1x128x128 .bf16) (gw gb : Vec F S1x128 .f32) : FVec F S1x128x128 .bf16 :=
  have gf : FVec F S128x128 .f32 := extf .f32 (shapeCast S128x128 g shapeCasts_S1x128x128_S128x128) bitsLt_bf16_f32
  shapeCast S1x128x128
    (truncf .bf16
      (mulf
        (mulf gf (divf (broadcast S128x128 (Scalar.ofBits .f32 0x3F800000#32))
          (addf (broadcast S128x128 (Scalar.ofBits .f32 0x3F800000#32)) (exp (subf (broadcast S128x128 (Scalar.ofBits .f32 0x00000000#32)) gf)))))
        (addf (mulf n (broadcastTo S128x128 (shapeCast S1x128 gw shapeCasts_S1x128_S1x128) broadcasts_S1x128_S128x128))
          (broadcastTo S128x128 (shapeCast S1x128 gb shapeCasts_S1x128_S1x128) broadcasts_S1x128_S128x128)))
      bitsLt_bf16_f32)
    shapeCasts_S128x128_S1x128x128

/-- The head's output over the chunk. -/
def outV (cos sin : Vec F S1x128x128 .f32) (q k v g : Vec F S1x128x128 .bf16) (dec qd prev : Vec F S1x128x128 .f32)
    (gw gb : Vec F S1x128 .f32) : FVec F S1x128x128 .bf16 :=
  gateV (normV (retV cos sin q k v dec qd prev)) g gw gb

end Cert.RetIdeal.Head

end
-- ==== Proof.RetBody.lean ====
/-
  What the retention body leaves at a grid point, head by head: each of its eight stores to the output block, and to the
  state carried between the chunks, is one head's text (RetHead) over that head's slices of the blocks.
-/
module

public import proofs.«01_k».proof.Proof.RetHead
public import proofs.«01_k».proof.Proof.Gen.RetIdeal.Frame
public import Idealize.ShloMosaic.Lib.Pipeline.Value
public import Idealize.ShloMosaic.Lib.Pipeline.ReadBack

@[expose] public section

set_option maxRecDepth 16384
set_option pp.maxSteps 600

noncomputable section

namespace Cert.RetIdeal.Head

open Cert.RetIdeal Cert.RetIdeal.Gen Idealize.ShloMosaic Idealize.ShloMosaic.TcCoe Idealize.SL.Sem

/-- Head `h`'s 128 lanes of a block of 1024. -/
def hs {α : Type} (x : S1x128x1024.Idx → α) (h : Fin 8) : S1x128x128.Idx → α := fun y =>
  x (ix3 0 (y 1) ⟨128 * h.val + (y 2).val, by have := h.isLt; have : (y 2).val < 128 := (y 2).isLt; omega⟩)

/-- Plane `h` of a table with one plane per head. -/
def pl {α : Type} (x : S8x128x128.Idx → α) (h : Fin 8) : S1x128x128.Idx → α := fun y => x (ix3 h (y 1) (y 2))

/-- Head `h`'s 128 lanes of a row of 1024. -/
def ws {α : Type} (x : S1x1024.Idx → α) (h : Fin 8) : S1x128.Idx → α := fun y =>
  x (ix2 0 ⟨128 * h.val + (y 1).val, by have := h.isLt; have : (y 1).val < 128 := (y 1).isLt; omega⟩)

/-- A block of 1024 lanes put together from its heads. -/
def ofHeads {α : Type} (f : Fin 8 → S1x128x128.Idx → α) : S1x128x1024.Idx → α := fun j =>
  f ⟨(j 2).val / 128, by have : (j 2).val < 1024 := (j 2).isLt; omega⟩ (ix3 0 (j 1) ⟨(j 2).val % 128, by omega⟩)

/-- A table put together from its planes. -/
def ofPlanes {α : Type} (f : Fin 8 → S1x128x128.Idx → α) : S8x128x128.Idx → α := fun j => f (j 0) (ix3 0 (j 1) (j 2))

theorem ofHeads_emb {α : Type} (f : Fin 8 → S1x128x128.Idx → α) (h : Fin 8) {off : Fin 3 → Nat} (ho : off = ![0, 0, 128 * h.val])
    (inb : ∀ a, off a + S1x128x128.size a ≤ S1x128x1024.size a) (x : S1x128x128.Idx) :
    ofHeads f ((Rect.unit (s := S1x128x1024) off S1x128x128.size inb).emb x) = f h x := by
  subst ho
  have hx : (x 2).val < 128 := (x 2).isLt
  have h0 : (x 0).val < 1 := (x 0).isLt
  unfold ofHeads
  refine congrArg₂ f (Fin.ext (by show (128 * h.val + 1 * (x 2).val) / 128 = h.val; omega)) ?_
  · funext a
    apply Fin.ext
    match a with
    | ⟨0, _⟩ => show 0 = (x 0).val; omega
    | ⟨1, _⟩ => show 0 + 1 * (x 1).val = (x 1).val; omega
    | ⟨2, _⟩ => show (128 * h.val + 1 * (x 2).val) % 128 = (x 2).val; omega

theorem ofPlanes_emb {α : Type} (f : Fin 8 → S1x128x128.Idx → α) (h : Fin 8) {off : Fin 3 → Nat} (ho : off = ![h.val, 0, 0])
    (inb : ∀ a, off a + S1x128x128.size a ≤ S8x128x128.size a) (x : S1x128x128.Idx) :
    ofPlanes f ((Rect.unit (s := S8x128x128) off S1x128x128.size inb).emb x) = f h x := by
  subst ho
  have h0 : (x 0).val < 1 := (x 0).isLt
  unfold ofPlanes
  refine congrArg₂ f (Fin.ext (by show h.val + 1 * (x 0).val = h.val; omega)) ?_
  · funext a
    apply Fin.ext
    match a with
    | ⟨0, _⟩ => show 0 = (x 0).val; omega
    | ⟨1, _⟩ => show 0 + 1 * (x 1).val = (x 1).val; omega
    | ⟨2, _⟩ => show 0 + 1 * (x 2).val = (x 2).val; omega

section Loads
variable {Val : EltTy → Type} {e : EltTy}

theorem ld_hs (h : Fin 8) {off : Fin 3 → Nat} (ho : off = ![0, 0, 128 * h.val])
    (inb : ∀ a, off a + S1x128x128.size a ≤ S1x128x1024.size a) (x : S1x128x1024.Idx → Val e) :
    View.ld x (Rect.unit (s := S1x128x1024) off S1x128x128.size inb) = hs x h := by
  subst ho
  funext y
  have h0 : (y 0).val < 1 := (y 0).isLt
  refine congrArg x (funext fun a => Fin.ext ?_)
  match a with
  | ⟨0, _⟩ => show 0 + 1 * (y 0).val = 0; omega
  | ⟨1, _⟩ => show 0 + 1 * (y 1).val = (y 1).val; omega
  | ⟨2, _⟩ => show 128 * h.val + 1 * (y 2).val = 128 * h.val + (y 2).val; omega

theorem ld_pl (h : Fin 8) {off : Fin 3 → Nat} (ho : off = ![h.val, 0, 0])
    (inb : ∀ a, off a + S1x128x128.size a ≤ S8x128x128.size a) (x : S8x128x128.Idx → Val e) :
    View.ld x (Rect.unit (s := S8x128x128) off S1x128x128.size inb) = pl x h := by
  subst ho
  funext y
  have h0 : (y 0).val < 1 := (y 0).isLt
  refine congrArg x (funext fun a => Fin.ext ?_)
  match a with
  | ⟨0, _⟩ => show h.val + 1 * (y 0).val = h.val; omega
  | ⟨1, _⟩ => show 0 + 1 * (y 1).val = (y 1).val; omega
  | ⟨2, _⟩ => show 0 + 1 * (y 2).val = (y 2).val; omega

theorem ld_ws (h : Fin 8) {off : Fin 2 → Nat} (ho : off = ![0, 128 * h.val])
    (inb : ∀ a, off a + S1x128.size a ≤ S1x1024.size a) (x : S1x1024.Idx → Val e) :
    View.ld x (Rect.unit (s := S1x1024) off S1x128.size inb) = ws x h := by
  subst ho
  funext y
  have h0 : (y 0).val < 1 := (y 0).isLt
  refine congrArg x (funext fun a => Fin.ext ?_)
  match a with
  | ⟨0, _⟩ => show 0 + 1 * (y 0).val = 0; omega
  | ⟨1, _⟩ => show 128 * h.val + 1 * (y 1).val = 128 * h.val + (y 1).val; omega

end Loads

theorem hz3 : (![0, 0, 0] : Fin 3 → Nat) = fun _ => 0 := funext fun a => by fin_cases a <;> rfl

variable {F : FTy → Type} [FloatOps F] [Named F]

/-- Head `h`'s decay of the state over one chunk. -/
def gam (h : Fin 8) : F .f32 :=
  match h with
  | 0 => Named.named κ "chunk0" 0x3C8CC36A#32
  | 1 => Named.named κ "chunk1" 0x3E08698E#32
  | 2 => Named.named κ "chunk2" 0x3EBB9DB9#32
  | 3 => Named.named κ "chunk3" 0x3F1B1EB1#32
  | 4 => Named.named κ "chunk4" 0x3F475303#32
  | 5 => Named.named κ "chunk5" 0x3F61E7C9#32
  | 6 => Named.named κ "chunk6" 0x3F707C6F#32
  | 7 => Named.named κ "chunk7" 0x3F781F6D#32

/-- The output block a point leaves, over the state `S` before it. -/
def outBlk (x0 x1 : Vec F S1x128x128 .f32) (x2 x3 x4 x5 : Vec F S1x128x1024 .bf16) (x6 x8 S : Vec F S8x128x128 .f32)
    (x9 x10 : Vec F S1x1024 .f32) (h : Fin 8) : FVec F S1x128x128 .bf16 :=
  outV x0 x1 (hs x2 h) (hs x3 h) (hs x4 h) (hs x5 h) (pl x6 h) (pl x8 h) (pl S h) (ws x9 h) (ws x10 h)

/-- The state a point leaves, over the state `S` before it. -/
def stBlk (x0 x1 : Vec F S1x128x128 .f32) (x3 x4 : Vec F S1x128x1024 .bf16) (x7 S : Vec F S8x128x128 .f32) (h : Fin 8) :
    FVec F S1x128x128 .f32 :=
  stateV (gam h) x0 x1 (hs x3 h) (hs x4 h) (pl x7 h) (pl S h)

/-- The state at the first chunk of a sequence. -/
abbrev zeroS : FVec F S8x128x128 .f32 := k0_pay2

end Cert.RetIdeal.Head

end
-- ==== Proof.RetAt.lean ====
/-
  One head of the retention chunk, read at an index with exact arithmetic.
-/
module

public import proofs.«01_k».proof.Proof.RetBody

@[expose] public section

set_option maxRecDepth 16384

noncomputable section

namespace Cert.RetIdeal.Head

open Cert.RetIdeal Cert.RetIdeal.Gen Idealize.ShloMosaic Idealize.SL.Sem Idealize.ShloMosaic.TcCoe

/-- The turned block at row `i`, lane `l`. -/
def ropeAt (cos sin : Vec Ideal S1x128x128 .f32) (x : Vec Ideal S1x128x128 .bf16) (i l : Fin 128) : EReal :=
  x (ix3 0 i l) * cos (ix3 0 i l) + x (ix3 0 i ⟨(l.val + 128 - 64) % 128, Nat.mod_lt _ (by decide)⟩) * sin (ix3 0 i l)

theorem ropeV_at (cos sin : Vec Ideal S1x128x128 .f32) (x : Vec Ideal S1x128x128 .bf16) (i l : Fin 128) :
    ropeV cos sin x (ix2 i l) = ropeAt cos sin x i l := by
  unfold ropeV
  pointwise
  rfl

theorem qrV_at (cos sin : Vec Ideal S1x128x128 .f32) (x : Vec Ideal S1x128x128 .bf16) (i l : Fin 128) :
    qrV cos sin x (ix2 i l) = ropeAt cos sin x i l := ropeV_at cos sin x i l

theorem krV_at (cos sin : Vec Ideal S1x128x128 .f32) (x : Vec Ideal S1x128x128 .bf16) (i l : Fin 128) :
    krV cos sin x (ix2 i l) = ropeAt cos sin x i l * Ideal.ofBits .f32 0x3DB504F3#32 :=
  congrArg (· * Ideal.ofBits .f32 0x3DB504F3#32) (ropeV_at cos sin x i l)

theorem stateV_at (γ : Ideal .f32) (cos sin : Vec Ideal S1x128x128 .f32) (k v : Vec Ideal S1x128x128 .bf16)
    (kd prev : Vec Ideal S1x128x128 .f32) (d e : Fin 128) :
    stateV γ cos sin k v kd prev (ix3 0 d e) = prev (ix3 0 d e) * γ
      + ∑ j : Fin 128, ropeAt cos sin k j d * Ideal.ofBits .f32 0x3DB504F3#32 * kd (ix3 0 j d) * v (ix3 0 j e) := by
  unfold stateV
  pointwise [krV, ropeV]
  rfl

theorem retV_at (cos sin : Vec Ideal S1x128x128 .f32) (q k v : Vec Ideal S1x128x128 .bf16) (dec qd prev : Vec Ideal S1x128x128 .f32)
    (i e : Fin 128) :
    retV cos sin q k v dec qd prev (ix2 i e) =
      (∑ j : Fin 128, (∑ d : Fin 128, ropeAt cos sin q i d * (ropeAt cos sin k j d * Ideal.ofBits .f32 0x3DB504F3#32))
          * dec (ix3 0 i j) * v (ix3 0 j e))
        + (∑ d : Fin 128, ropeAt cos sin q i d * prev (ix3 0 d e)) * qd (ix3 0 i e) := by
  unfold retV
  pointwise [qrV, krV, ropeV]
  rfl

/-- The mean and the variance of a row. -/
def muAt (r : FVec Ideal S128x128 .f32) (i : Fin 128) : EReal :=
  Ideal.div (∑ e : Fin 128, r (ix2 i e)) (Ideal.ofBits .f32 0x43000000#32)
def varAt (r : FVec Ideal S128x128 .f32) (i : Fin 128) : EReal :=
  Ideal.div (∑ e : Fin 128, (r (ix2 i e) - muAt r i) * (r (ix2 i e) - muAt r i)) (Ideal.ofBits .f32 0x43000000#32)

theorem outV_at (cos sin : Vec Ideal S1x128x128 .f32) (q k v g : Vec Ideal S1x128x128 .bf16) (dec qd prev : Vec Ideal S1x128x128 .f32)
    (gw gb : Vec Ideal S1x128 .f32) (i e : Fin 128) :
    outV cos sin q k v g dec qd prev gw gb (ix3 0 i e) =
      g (ix3 0 i e) * Ideal.div 1 (1 + Ideal.exp (0 - g (ix3 0 i e)))
        * ((retV cos sin q k v dec qd prev (ix2 i e) - muAt (retV cos sin q k v dec qd prev) i)
            * Ideal.rsqrt (varAt (retV cos sin q k v dec qd prev) i + Ideal.ofBits .f32 0x358637BD#32) * gw (ix2 0 e) + gb (ix2 0 e)) := by
  unfold outV
  generalize retV cos sin q k v dec qd prev = r
  pointwise [gateV, normV, cenV]
  rfl

end Cert.RetIdeal.Head

end
-- ==== Proof.RetDecay.lean ====
/-
  The decay over one chunk as the kernel holds it, a rational number per head, is the decay the layer computes:
  `((2^(5+h) − 1) / 2^(5+h))^128 = exp (128 · log (1 − 2^(−5−h)))`.
-/
module

public import proofs.«01_k».proof.Proof.RetSpec
public import proofs.«01_k».proof.Proof.RetBody

@[expose] public section

set_option maxRecDepth 16384

noncomputable section

namespace Cert.RetIdeal.Decay

open Cert.RetIdeal Cert.RetIdeal.Gen Idealize.ShloMosaic Idealize.SL.Sem

theorem num_coe (h : Fin 8) : RetSpec.num h.val = ((h.val : ℝ) : EReal) := by
  fin_cases h <;> (show (((BitVec.toInt _ : ℤ) : ℝ) : EReal) = _; norm_num [BitVec.toInt])

theorem two : Ideal.ofBits FTy.f32 0x40000000#32 = ((2 : ℝ) : EReal) := by
  simp [Ideal.ofBits, Ideal.ieee, -EReal.coe_mul]; norm_num
theorem neg_five : Ideal.ofBits FTy.f32 0xC0A00000#32 = ((-5 : ℝ) : EReal) := by
  simp [Ideal.ofBits, Ideal.ieee, -EReal.coe_mul]; norm_num
theorem rows : Ideal.ofBits FTy.f32 0x43000000#32 = ((128 : ℝ) : EReal) := by
  simp [Ideal.ofBits, Ideal.ieee, -EReal.coe_mul]; norm_num

theorem cdec_coe (h : Fin 8) : RetSpec.cdec h = ((((1 : ℝ) - (2 ^ (5 + h.val))⁻¹) ^ 128 : ℝ) : EReal) := by
  unfold RetSpec.cdec RetSpec.lg
  rw [num_coe, two, neg_five, rows, ← EReal.coe_sub]
  have hp : Ideal.pow ((2 : ℝ) : EReal) (((-5 : ℝ) - (h.val : ℝ) : ℝ) : EReal) = (((2 ^ (5 + h.val))⁻¹ : ℝ) : EReal) := by
    show ((Real.rpow 2 (-5 - (h.val : ℝ)) : ℝ) : EReal) = _
    congr 1
    show (2 : ℝ) ^ (-5 - (h.val : ℝ)) = _
    rw [show (-5 - (h.val : ℝ)) = -(((5 + h.val : ℕ) : ℝ)) by push_cast; ring, Real.rpow_neg (by norm_num), Real.rpow_natCast]
  rw [hp]
  have hx : (0 : ℝ) < 1 - (2 ^ (5 + h.val))⁻¹ := by
    have : ((2 : ℝ) ^ (5 + h.val))⁻¹ < 1 := inv_lt_one_of_one_lt₀ (one_lt_pow₀ (by norm_num) (by omega))
    linarith
  have hl : Ideal.log1p (-(((2 ^ (5 + h.val))⁻¹ : ℝ) : EReal)) = ((Real.log (1 - (2 ^ (5 + h.val))⁻¹) : ℝ) : EReal) := by
    unfold Ideal.log1p
    rw [← EReal.coe_neg, ← EReal.coe_one, ← EReal.coe_add, ← sub_eq_add_neg]
    show (if _ then _ else _) = _
    rw [if_neg (not_le.mpr hx)]
  rw [hl, ← EReal.coe_mul]
  show ((Real.exp _ : ℝ) : EReal) = _
  congr 1
  rw [mul_comm, Real.exp_mul, Real.exp_log hx]
  exact_mod_cast Real.rpow_natCast _ 128

theorem gam_eq (h : Fin 8) : (Head.gam h : Ideal .f32) = RetSpec.cdec h := by
  rw [cdec_coe]
  fin_cases h
  all_goals
    show ((_ : ℝ) : EReal) = _
    congr 1
    norm_num

end Cert.RetIdeal.Decay

end
-- ==== Proof.RetBodyAO.lean ====
/-
  The retention body at the first chunk of a sequence: the output block it leaves, head by head.
-/
module

public import proofs.«01_k».proof.Proof.RetBody
public import proofs.«01_k».proof.Proof.Gen.RetIdeal.Frame
public import Idealize.ShloMosaic.Lib.Pipeline.Value
public import Idealize.ShloMosaic.Lib.Pipeline.ReadBack

@[expose] public section

set_option maxRecDepth 16384
set_option pp.maxSteps 600

noncomputable section

namespace Cert.RetIdeal.Head

open Cert.RetIdeal Cert.RetIdeal.Gen Idealize.ShloMosaic Idealize.ShloMosaic.TcCoe Idealize.SL.Sem

variable {F : FTy → Type} [FloatOps F] [Named F]

set_option maxHeartbeats 4000000 in
/-- The output block at the first chunk of a sequence. -/
theorem out_A (c : Dev nD) (i : grid0.Coords) (a2 : Memref sig .tc .vmem S1x128x128 .f32) (h2 : a2.IsWhole) (a3 : Memref sig .tc .vmem S1x128x128 .f32) (h3 : a3.IsWhole) (a4 : Memref sig .tc .vmem S1x128x1024 .bf16) (h4 : a4.IsWhole) (a5 : Memref sig .tc .vmem S1x128x1024 .bf16) (h5 : a5.IsWhole) (a6 : Memref sig .tc .vmem S1x128x1024 .bf16) (h6 : a6.IsWhole) (a7 : Memref sig .tc .vmem S1x128x1024 .bf16) (h7 : a7.IsWhole) (a8 : Memref sig .tc .vmem S8x128x128 .f32) (h8 : a8.IsWhole) (a9 : Memref sig .tc .vmem S8x128x128 .f32) (h9 : a9.IsWhole) (a10 : Memref sig .tc .vmem S8x128x128 .f32) (h10 : a10.IsWhole) (a11 : Memref sig .tc .vmem S1x1024 .f32) (h11 : a11.IsWhole) (a12 : Memref sig .tc .vmem S1x1024 .f32) (h12 : a12.IsWhole) (a13 : Memref sig .tc .vmem S1x128x1024 .bf16) (h13 : a13.IsWhole) (a14 : Memref sig .tc .vmem S8x128x128 .f32) (h14 : a14.IsWhole) (hc0 : cond0_0 i) (x0 x1 : Vec F S1x128x128 .f32) (x2 x3 x4 x5 : Vec F S1x128x1024 .bf16) (x6 x7 x8 : Vec F S8x128x128 .f32) (x9 x10 : Vec F S1x1024 .f32) :
    out0_A_11 c i a2 h2 a3 h3 a4 h4 a5 h5 a6 h6 a7 h7 a8 h8 a9 h9 a10 h10 a11 h11 a12 h12 a13 h13 a14 h14 hc0 x0 x1 x2 x3 x4 x5 x6 x7 x8 x9 x10 = ofHeads (outBlk x0 x1 x2 x3 x4 x5 x6 x8 zeroS x9 x10) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc0 x0 x1 x2 x3 x4 x5 x6 x7 x8 x9 x10)]
  funext j
  have hcov := cover0_A_11 c i a2 h2 a3 h3 a4 h4 a5 h5 a6 h6 a7 h7 a8 h8 a9 h9 a10 h10 a11 h11 a12 h12 a13 h13 a14 h14 hc0 x0 x1 x2 x3 x4 x5 x6 x7 x8 x9 x10 j
  revert hcov
  unfold kernelRun0_A
  dsimp only
  intro hcov
  refine View.canon_apply_of_pieces _ _ (View.PiecesOf.mem ?_) j hcov
  clear hcov
  refine ⟨?_, ?_, ?_, ?_, ?_, ?_, ?_, ?_, trivial⟩
  · intro x
    refine Eq.trans ?_ (ofHeads_emb _ 7 (off := ![0, 0, 896]) rfl inb_S1x128x1024_S1x128x128_0_0_896 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 7 (off := ![0, 0, 896]) rfl inb_S1x128x1024_S1x128x128_0_0_896, ld_pl 7 (off := ![7, 0, 0]) rfl inb_S8x128x128_S1x128x128_7_0_0, ld_ws 7 (off := ![0, 896]) rfl inb_S1x1024_S1x128_0_896]
    rfl
  · intro x
    refine Eq.trans ?_ (ofHeads_emb _ 6 (off := ![0, 0, 768]) rfl inb_S1x128x1024_S1x128x128_0_0_768 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 6 (off := ![0, 0, 768]) rfl inb_S1x128x1024_S1x128x128_0_0_768, ld_pl 6 (off := ![6, 0, 0]) rfl inb_S8x128x128_S1x128x128_6_0_0, ld_ws 6 (off := ![0, 768]) rfl inb_S1x1024_S1x128_0_768]
    rfl
  · intro x
    refine Eq.trans ?_ (ofHeads_emb _ 5 (off := ![0, 0, 640]) rfl inb_S1x128x1024_S1x128x128_0_0_640 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 5 (off := ![0, 0, 640]) rfl inb_S1x128x1024_S1x128x128_0_0_640, ld_pl 5 (off := ![5, 0, 0]) rfl inb_S8x128x128_S1x128x128_5_0_0, ld_ws 5 (off := ![0, 640]) rfl inb_S1x1024_S1x128_0_640]
    rfl
  · intro x
    refine Eq.trans ?_ (ofHeads_emb _ 4 (off := ![0, 0, 512]) rfl inb_S1x128x1024_S1x128x128_0_0_512 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 4 (off := ![0, 0, 512]) rfl inb_S1x128x1024_S1x128x128_0_0_512, ld_pl 4 (off := ![4, 0, 0]) rfl inb_S8x128x128_S1x128x128_4_0_0, ld_ws 4 (off := ![0, 512]) rfl inb_S1x1024_S1x128_0_512]
    rfl
  · intro x
    refine Eq.trans ?_ (ofHeads_emb _ 3 (off := ![0, 0, 384]) rfl inb_S1x128x1024_S1x128x128_0_0_384 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 3 (off := ![0, 0, 384]) rfl inb_S1x128x1024_S1x128x128_0_0_384, ld_pl 3 (off := ![3, 0, 0]) rfl inb_S8x128x128_S1x128x128_3_0_0, ld_ws 3 (off := ![0, 384]) rfl inb_S1x1024_S1x128_0_384]
    rfl
  · intro x
    refine Eq.trans ?_ (ofHeads_emb _ 2 (off := ![0, 0, 256]) rfl inb_S1x128x1024_S1x128x128_0_0_256 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 2 (off := ![0, 0, 256]) rfl inb_S1x128x1024_S1x128x128_0_0_256, ld_pl 2 (off := ![2, 0, 0]) rfl inb_S8x128x128_S1x128x128_2_0_0, ld_ws 2 (off := ![0, 256]) rfl inb_S1x1024_S1x128_0_256]
    rfl
  · intro x
    refine Eq.trans ?_ (ofHeads_emb _ 1 (off := ![0, 0, 128]) rfl inb_S1x128x1024_S1x128x128_0_0_128 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 1 (off := ![0, 0, 128]) rfl inb_S1x128x1024_S1x128x128_0_0_128, ld_pl 1 (off := ![1, 0, 0]) rfl inb_S8x128x128_S1x128x128_1_0_0, ld_ws 1 (off := ![0, 128]) rfl inb_S1x1024_S1x128_0_128]
    rfl
  · intro x
    refine Eq.trans ?_ (ofHeads_emb _ 0 (off := ![0, 0, 0]) rfl inb_S1x128x1024_S1x128x128_0_0_0 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 0 (off := ![0, 0, 0]) rfl inb_S1x128x1024_S1x128x128_0_0_0, ld_pl 0 (off := ![0, 0, 0]) rfl inb_S8x128x128_S1x128x128_0_0_0, ld_ws 0 (off := ![0, 0]) rfl inb_S1x1024_S1x128_0_0]
    rfl

end Cert.RetIdeal.Head

end
-- ==== Proof.RetBodyAS.lean ====
/-
  The retention body at the first chunk of a sequence: the state it leaves, head by head.
-/
module

public import proofs.«01_k».proof.Proof.RetBody
public import proofs.«01_k».proof.Proof.Gen.RetIdeal.Frame
public import Idealize.ShloMosaic.Lib.Pipeline.Value
public import Idealize.ShloMosaic.Lib.Pipeline.ReadBack

@[expose] public section

set_option maxRecDepth 16384
set_option pp.maxSteps 600

noncomputable section

namespace Cert.RetIdeal.Head

open Cert.RetIdeal Cert.RetIdeal.Gen Idealize.ShloMosaic Idealize.ShloMosaic.TcCoe Idealize.SL.Sem

variable {F : FTy → Type} [FloatOps F] [Named F]

set_option maxHeartbeats 4000000 in
/-- The state at the first chunk of a sequence. -/
theorem sout_A (c : Dev nD) (i : grid0.Coords) (a2 : Memref sig .tc .vmem S1x128x128 .f32) (h2 : a2.IsWhole) (a3 : Memref sig .tc .vmem S1x128x128 .f32) (h3 : a3.IsWhole) (a4 : Memref sig .tc .vmem S1x128x1024 .bf16) (h4 : a4.IsWhole) (a5 : Memref sig .tc .vmem S1x128x1024 .bf16) (h5 : a5.IsWhole) (a6 : Memref sig .tc .vmem S1x128x1024 .bf16) (h6 : a6.IsWhole) (a7 : Memref sig .tc .vmem S1x128x1024 .bf16) (h7 : a7.IsWhole) (a8 : Memref sig .tc .vmem S8x128x128 .f32) (h8 : a8.IsWhole) (a9 : Memref sig .tc .vmem S8x128x128 .f32) (h9 : a9.IsWhole) (a10 : Memref sig .tc .vmem S8x128x128 .f32) (h10 : a10.IsWhole) (a11 : Memref sig .tc .vmem S1x1024 .f32) (h11 : a11.IsWhole) (a12 : Memref sig .tc .vmem S1x1024 .f32) (h12 : a12.IsWhole) (a13 : Memref sig .tc .vmem S1x128x1024 .bf16) (h13 : a13.IsWhole) (a14 : Memref sig .tc .vmem S8x128x128 .f32) (h14 : a14.IsWhole) (hc0 : cond0_0 i) (x0 x1 : Vec F S1x128x128 .f32) (x2 x3 x4 x5 : Vec F S1x128x1024 .bf16) (x6 x7 x8 : Vec F S8x128x128 .f32) (x9 x10 : Vec F S1x1024 .f32) :
    sout0_A_0 c i a2 h2 a3 h3 a4 h4 a5 h5 a6 h6 a7 h7 a8 h8 a9 h9 a10 h10 a11 h11 a12 h12 a13 h13 a14 h14 hc0 x0 x1 x2 x3 x4 x5 x6 x7 x8 x9 x10 = ofPlanes (stBlk x0 x1 x3 x4 x7 zeroS) := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 x0 x1 x2 x3 x4 x5 x6 x7 x8 x9 x10)]
  funext j
  have hcov := scover0_A_0 c i a2 h2 a3 h3 a4 h4 a5 h5 a6 h6 a7 h7 a8 h8 a9 h9 a10 h10 a11 h11 a12 h12 a13 h13 a14 h14 hc0 x0 x1 x2 x3 x4 x5 x6 x7 x8 x9 x10 j
  revert hcov
  unfold kernelRun0_A
  dsimp only
  intro hcov
  refine View.canon_append_of_piecesOf _ [_] [_, _, _, _, _, _, _, _] ?_ j ?_
  rotate_left
  · exact View.cover_of_tiledL (_ : List (View.Piece (Elt F) S8x128x128 .f32)) S1x128x128.size (by sl_kernel_rfl) j
  clear hcov
  refine ⟨?_, ?_, ?_, ?_, ?_, ?_, ?_, ?_, trivial⟩
  · intro x
    refine Eq.trans ?_ (ofPlanes_emb _ 7 (off := ![7, 0, 0]) rfl inb_S8x128x128_S1x128x128_7_0_0 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 7 (off := ![0, 0, 896]) rfl inb_S1x128x1024_S1x128x128_0_0_896, ld_pl 7 (off := ![7, 0, 0]) rfl inb_S8x128x128_S1x128x128_7_0_0, ld_ws 7 (off := ![0, 896]) rfl inb_S1x1024_S1x128_0_896]
    rfl
  · intro x
    refine Eq.trans ?_ (ofPlanes_emb _ 6 (off := ![6, 0, 0]) rfl inb_S8x128x128_S1x128x128_6_0_0 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 6 (off := ![0, 0, 768]) rfl inb_S1x128x1024_S1x128x128_0_0_768, ld_pl 6 (off := ![6, 0, 0]) rfl inb_S8x128x128_S1x128x128_6_0_0, ld_ws 6 (off := ![0, 768]) rfl inb_S1x1024_S1x128_0_768]
    rfl
  · intro x
    refine Eq.trans ?_ (ofPlanes_emb _ 5 (off := ![5, 0, 0]) rfl inb_S8x128x128_S1x128x128_5_0_0 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 5 (off := ![0, 0, 640]) rfl inb_S1x128x1024_S1x128x128_0_0_640, ld_pl 5 (off := ![5, 0, 0]) rfl inb_S8x128x128_S1x128x128_5_0_0, ld_ws 5 (off := ![0, 640]) rfl inb_S1x1024_S1x128_0_640]
    rfl
  · intro x
    refine Eq.trans ?_ (ofPlanes_emb _ 4 (off := ![4, 0, 0]) rfl inb_S8x128x128_S1x128x128_4_0_0 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 4 (off := ![0, 0, 512]) rfl inb_S1x128x1024_S1x128x128_0_0_512, ld_pl 4 (off := ![4, 0, 0]) rfl inb_S8x128x128_S1x128x128_4_0_0, ld_ws 4 (off := ![0, 512]) rfl inb_S1x1024_S1x128_0_512]
    rfl
  · intro x
    refine Eq.trans ?_ (ofPlanes_emb _ 3 (off := ![3, 0, 0]) rfl inb_S8x128x128_S1x128x128_3_0_0 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 3 (off := ![0, 0, 384]) rfl inb_S1x128x1024_S1x128x128_0_0_384, ld_pl 3 (off := ![3, 0, 0]) rfl inb_S8x128x128_S1x128x128_3_0_0, ld_ws 3 (off := ![0, 384]) rfl inb_S1x1024_S1x128_0_384]
    rfl
  · intro x
    refine Eq.trans ?_ (ofPlanes_emb _ 2 (off := ![2, 0, 0]) rfl inb_S8x128x128_S1x128x128_2_0_0 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 2 (off := ![0, 0, 256]) rfl inb_S1x128x1024_S1x128x128_0_0_256, ld_pl 2 (off := ![2, 0, 0]) rfl inb_S8x128x128_S1x128x128_2_0_0, ld_ws 2 (off := ![0, 256]) rfl inb_S1x1024_S1x128_0_256]
    rfl
  · intro x
    refine Eq.trans ?_ (ofPlanes_emb _ 1 (off := ![1, 0, 0]) rfl inb_S8x128x128_S1x128x128_1_0_0 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 1 (off := ![0, 0, 128]) rfl inb_S1x128x1024_S1x128x128_0_0_128, ld_pl 1 (off := ![1, 0, 0]) rfl inb_S8x128x128_S1x128x128_1_0_0, ld_ws 1 (off := ![0, 128]) rfl inb_S1x1024_S1x128_0_128]
    rfl
  · intro x
    refine Eq.trans ?_ (ofPlanes_emb _ 0 (off := ![0, 0, 0]) rfl inb_S8x128x128_S1x128x128_0_0_0 x).symm
    refine congrFun ?_ x
    sl_unfold_words
    simp (disch := first | rfl | decide) only [↓View.readCov_skip, View.readCov_fill, View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 0 (off := ![0, 0, 0]) rfl inb_S1x128x1024_S1x128x128_0_0_0, ld_pl 0 (off := ![0, 0, 0]) rfl inb_S8x128x128_S1x128x128_0_0_0, ld_ws 0 (off := ![0, 0]) rfl inb_S1x1024_S1x128_0_0]
    rfl

end Cert.RetIdeal.Head

end
-- ==== Proof.RetBodyBO.lean ====
/-
  The retention body at a later chunk: the output block it leaves, head by head.
-/
module

public import proofs.«01_k».proof.Proof.RetBody
public import proofs.«01_k».proof.Proof.Gen.RetIdeal.Frame
public import Idealize.ShloMosaic.Lib.Pipeline.Value
public import Idealize.ShloMosaic.Lib.Pipeline.ReadBack

@[expose] public section

set_option maxRecDepth 16384
set_option pp.maxSteps 600

noncomputable section

namespace Cert.RetIdeal.Head

open Cert.RetIdeal Cert.RetIdeal.Gen Idealize.ShloMosaic Idealize.ShloMosaic.TcCoe Idealize.SL.Sem

variable {F : FTy → Type} [FloatOps F] [Named F]

set_option maxHeartbeats 4000000 in
/-- The output block at a later chunk. -/
theorem out_B (c : Dev nD) (i : grid0.Coords) (a2 : Memref sig .tc .vmem S1x128x128 .f32) (h2 : a2.IsWhole) (a3 : Memref sig .tc .vmem S1x128x128 .f32) (h3 : a3.IsWhole) (a4 : Memref sig .tc .vmem S1x128x1024 .bf16) (h4 : a4.IsWhole) (a5 : Memref sig .tc .vmem S1x128x1024 .bf16) (h5 : a5.IsWhole) (a6 : Memref sig .tc .vmem S1x128x1024 .bf16) (h6 : a6.IsWhole) (a7 : Memref sig .tc .vmem S1x128x1024 .bf16) (h7 : a7.IsWhole) (a8 : Memref sig .tc .vmem S8x128x128 .f32) (h8 : a8.IsWhole) (a9 : Memref sig .tc .vmem S8x128x128 .f32) (h9 : a9.IsWhole) (a10 : Memref sig .tc .vmem S8x128x128 .f32) (h10 : a10.IsWhole) (a11 : Memref sig .tc .vmem S1x1024 .f32) (h11 : a11.IsWhole) (a12 : Memref sig .tc .vmem S1x1024 .f32) (h12 : a12.IsWhole) (a13 : Memref sig .tc .vmem S1x128x1024 .bf16) (h13 : a13.IsWhole) (a14 : Memref sig .tc .vmem S8x128x128 .f32) (h14 : a14.IsWhole) (hc0 : ¬cond0_0 i) (x0 x1 : Vec F S1x128x128 .f32) (x2 x3 x4 x5 : Vec F S1x128x1024 .bf16) (x6 x7 x8 : Vec F S8x128x128 .f32) (x9 x10 : Vec F S1x1024 .f32) (xs0 : Vec F S8x128x128 .f32) :
    out0_B_11 c i a2 h2 a3 h3 a4 h4 a5 h5 a6 h6 a7 h7 a8 h8 a9 h9 a10 h10 a11 h11 a12 h12 a13 h13 a14 h14 hc0 x0 x1 x2 x3 x4 x5 x6 x7 x8 x9 x10 xs0 = ofHeads (outBlk x0 x1 x2 x3 x4 x5 x6 x8 xs0 x9 x10) := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc0 x0 x1 x2 x3 x4 x5 x6 x7 x8 x9 x10 xs0)]
  funext j
  have hcov := cover0_B_11 c i a2 h2 a3 h3 a4 h4 a5 h5 a6 h6 a7 h7 a8 h8 a9 h9 a10 h10 a11 h11 a12 h12 a13 h13 a14 h14 hc0 x0 x1 x2 x3 x4 x5 x6 x7 x8 x9 x10 xs0 j
  revert hcov
  unfold kernelRun0_B
  dsimp only
  intro hcov
  refine View.canon_apply_of_pieces _ _ (View.PiecesOf.mem ?_) j hcov
  clear hcov
  refine ⟨?_, ?_, ?_, ?_, ?_, ?_, ?_, ?_, trivial⟩
  · intro x
    refine Eq.trans ?_ (ofHeads_emb _ 7 (off := ![0, 0, 896]) rfl inb_S1x128x1024_S1x128x128_0_0_896 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 7 (off := ![0, 0, 896]) rfl inb_S1x128x1024_S1x128x128_0_0_896, ld_pl 7 (off := ![7, 0, 0]) rfl inb_S8x128x128_S1x128x128_7_0_0, ld_ws 7 (off := ![0, 896]) rfl inb_S1x1024_S1x128_0_896]
    rfl
  · intro x
    refine Eq.trans ?_ (ofHeads_emb _ 6 (off := ![0, 0, 768]) rfl inb_S1x128x1024_S1x128x128_0_0_768 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 6 (off := ![0, 0, 768]) rfl inb_S1x128x1024_S1x128x128_0_0_768, ld_pl 6 (off := ![6, 0, 0]) rfl inb_S8x128x128_S1x128x128_6_0_0, ld_ws 6 (off := ![0, 768]) rfl inb_S1x1024_S1x128_0_768]
    rfl
  · intro x
    refine Eq.trans ?_ (ofHeads_emb _ 5 (off := ![0, 0, 640]) rfl inb_S1x128x1024_S1x128x128_0_0_640 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 5 (off := ![0, 0, 640]) rfl inb_S1x128x1024_S1x128x128_0_0_640, ld_pl 5 (off := ![5, 0, 0]) rfl inb_S8x128x128_S1x128x128_5_0_0, ld_ws 5 (off := ![0, 640]) rfl inb_S1x1024_S1x128_0_640]
    rfl
  · intro x
    refine Eq.trans ?_ (ofHeads_emb _ 4 (off := ![0, 0, 512]) rfl inb_S1x128x1024_S1x128x128_0_0_512 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 4 (off := ![0, 0, 512]) rfl inb_S1x128x1024_S1x128x128_0_0_512, ld_pl 4 (off := ![4, 0, 0]) rfl inb_S8x128x128_S1x128x128_4_0_0, ld_ws 4 (off := ![0, 512]) rfl inb_S1x1024_S1x128_0_512]
    rfl
  · intro x
    refine Eq.trans ?_ (ofHeads_emb _ 3 (off := ![0, 0, 384]) rfl inb_S1x128x1024_S1x128x128_0_0_384 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 3 (off := ![0, 0, 384]) rfl inb_S1x128x1024_S1x128x128_0_0_384, ld_pl 3 (off := ![3, 0, 0]) rfl inb_S8x128x128_S1x128x128_3_0_0, ld_ws 3 (off := ![0, 384]) rfl inb_S1x1024_S1x128_0_384]
    rfl
  · intro x
    refine Eq.trans ?_ (ofHeads_emb _ 2 (off := ![0, 0, 256]) rfl inb_S1x128x1024_S1x128x128_0_0_256 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 2 (off := ![0, 0, 256]) rfl inb_S1x128x1024_S1x128x128_0_0_256, ld_pl 2 (off := ![2, 0, 0]) rfl inb_S8x128x128_S1x128x128_2_0_0, ld_ws 2 (off := ![0, 256]) rfl inb_S1x1024_S1x128_0_256]
    rfl
  · intro x
    refine Eq.trans ?_ (ofHeads_emb _ 1 (off := ![0, 0, 128]) rfl inb_S1x128x1024_S1x128x128_0_0_128 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 1 (off := ![0, 0, 128]) rfl inb_S1x128x1024_S1x128x128_0_0_128, ld_pl 1 (off := ![1, 0, 0]) rfl inb_S8x128x128_S1x128x128_1_0_0, ld_ws 1 (off := ![0, 128]) rfl inb_S1x1024_S1x128_0_128]
    rfl
  · intro x
    refine Eq.trans ?_ (ofHeads_emb _ 0 (off := ![0, 0, 0]) rfl inb_S1x128x1024_S1x128x128_0_0_0 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 0 (off := ![0, 0, 0]) rfl inb_S1x128x1024_S1x128x128_0_0_0, ld_pl 0 (off := ![0, 0, 0]) rfl inb_S8x128x128_S1x128x128_0_0_0, ld_ws 0 (off := ![0, 0]) rfl inb_S1x1024_S1x128_0_0]
    rfl

end Cert.RetIdeal.Head

end
-- ==== Proof.RetBodyBS.lean ====
/-
  The retention body at a later chunk: the state it leaves, head by head.
-/
module

public import proofs.«01_k».proof.Proof.RetBody
public import proofs.«01_k».proof.Proof.Gen.RetIdeal.Frame
public import Idealize.ShloMosaic.Lib.Pipeline.Value
public import Idealize.ShloMosaic.Lib.Pipeline.ReadBack

@[expose] public section

set_option maxRecDepth 16384
set_option pp.maxSteps 600

noncomputable section

namespace Cert.RetIdeal.Head

open Cert.RetIdeal Cert.RetIdeal.Gen Idealize.ShloMosaic Idealize.ShloMosaic.TcCoe Idealize.SL.Sem

variable {F : FTy → Type} [FloatOps F] [Named F]

set_option maxHeartbeats 4000000 in
/-- The state at a later chunk. -/
theorem sout_B (c : Dev nD) (i : grid0.Coords) (a2 : Memref sig .tc .vmem S1x128x128 .f32) (h2 : a2.IsWhole) (a3 : Memref sig .tc .vmem S1x128x128 .f32) (h3 : a3.IsWhole) (a4 : Memref sig .tc .vmem S1x128x1024 .bf16) (h4 : a4.IsWhole) (a5 : Memref sig .tc .vmem S1x128x1024 .bf16) (h5 : a5.IsWhole) (a6 : Memref sig .tc .vmem S1x128x1024 .bf16) (h6 : a6.IsWhole) (a7 : Memref sig .tc .vmem S1x128x1024 .bf16) (h7 : a7.IsWhole) (a8 : Memref sig .tc .vmem S8x128x128 .f32) (h8 : a8.IsWhole) (a9 : Memref sig .tc .vmem S8x128x128 .f32) (h9 : a9.IsWhole) (a10 : Memref sig .tc .vmem S8x128x128 .f32) (h10 : a10.IsWhole) (a11 : Memref sig .tc .vmem S1x1024 .f32) (h11 : a11.IsWhole) (a12 : Memref sig .tc .vmem S1x1024 .f32) (h12 : a12.IsWhole) (a13 : Memref sig .tc .vmem S1x128x1024 .bf16) (h13 : a13.IsWhole) (a14 : Memref sig .tc .vmem S8x128x128 .f32) (h14 : a14.IsWhole) (hc0 : ¬cond0_0 i) (x0 x1 : Vec F S1x128x128 .f32) (x2 x3 x4 x5 : Vec F S1x128x1024 .bf16) (x6 x7 x8 : Vec F S8x128x128 .f32) (x9 x10 : Vec F S1x1024 .f32) (xs0 : Vec F S8x128x128 .f32) :
    sout0_B_0 c i a2 h2 a3 h3 a4 h4 a5 h5 a6 h6 a7 h7 a8 h8 a9 h9 a10 h10 a11 h11 a12 h12 a13 h13 a14 h14 hc0 x0 x1 x2 x3 x4 x5 x6 x7 x8 x9 x10 xs0 = ofPlanes (stBlk x0 x1 x3 x4 x7 xs0) := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 hc0 x0 x1 x2 x3 x4 x5 x6 x7 x8 x9 x10 xs0)]
  funext j
  have hcov := scover0_B_0 c i a2 h2 a3 h3 a4 h4 a5 h5 a6 h6 a7 h7 a8 h8 a9 h9 a10 h10 a11 h11 a12 h12 a13 h13 a14 h14 hc0 x0 x1 x2 x3 x4 x5 x6 x7 x8 x9 x10 xs0 j
  revert hcov
  unfold kernelRun0_B
  dsimp only
  intro hcov
  refine View.canon_apply_of_pieces _ _ (View.PiecesOf.mem ?_) j hcov
  clear hcov
  refine ⟨?_, ?_, ?_, ?_, ?_, ?_, ?_, ?_, trivial⟩
  · intro x
    refine Eq.trans ?_ (ofPlanes_emb _ 7 (off := ![7, 0, 0]) rfl inb_S8x128x128_S1x128x128_7_0_0 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 7 (off := ![0, 0, 896]) rfl inb_S1x128x1024_S1x128x128_0_0_896, ld_pl 7 (off := ![7, 0, 0]) rfl inb_S8x128x128_S1x128x128_7_0_0, ld_ws 7 (off := ![0, 896]) rfl inb_S1x1024_S1x128_0_896]
    rfl
  · intro x
    refine Eq.trans ?_ (ofPlanes_emb _ 6 (off := ![6, 0, 0]) rfl inb_S8x128x128_S1x128x128_6_0_0 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 6 (off := ![0, 0, 768]) rfl inb_S1x128x1024_S1x128x128_0_0_768, ld_pl 6 (off := ![6, 0, 0]) rfl inb_S8x128x128_S1x128x128_6_0_0, ld_ws 6 (off := ![0, 768]) rfl inb_S1x1024_S1x128_0_768]
    rfl
  · intro x
    refine Eq.trans ?_ (ofPlanes_emb _ 5 (off := ![5, 0, 0]) rfl inb_S8x128x128_S1x128x128_5_0_0 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 5 (off := ![0, 0, 640]) rfl inb_S1x128x1024_S1x128x128_0_0_640, ld_pl 5 (off := ![5, 0, 0]) rfl inb_S8x128x128_S1x128x128_5_0_0, ld_ws 5 (off := ![0, 640]) rfl inb_S1x1024_S1x128_0_640]
    rfl
  · intro x
    refine Eq.trans ?_ (ofPlanes_emb _ 4 (off := ![4, 0, 0]) rfl inb_S8x128x128_S1x128x128_4_0_0 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 4 (off := ![0, 0, 512]) rfl inb_S1x128x1024_S1x128x128_0_0_512, ld_pl 4 (off := ![4, 0, 0]) rfl inb_S8x128x128_S1x128x128_4_0_0, ld_ws 4 (off := ![0, 512]) rfl inb_S1x1024_S1x128_0_512]
    rfl
  · intro x
    refine Eq.trans ?_ (ofPlanes_emb _ 3 (off := ![3, 0, 0]) rfl inb_S8x128x128_S1x128x128_3_0_0 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 3 (off := ![0, 0, 384]) rfl inb_S1x128x1024_S1x128x128_0_0_384, ld_pl 3 (off := ![3, 0, 0]) rfl inb_S8x128x128_S1x128x128_3_0_0, ld_ws 3 (off := ![0, 384]) rfl inb_S1x1024_S1x128_0_384]
    rfl
  · intro x
    refine Eq.trans ?_ (ofPlanes_emb _ 2 (off := ![2, 0, 0]) rfl inb_S8x128x128_S1x128x128_2_0_0 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 2 (off := ![0, 0, 256]) rfl inb_S1x128x1024_S1x128x128_0_0_256, ld_pl 2 (off := ![2, 0, 0]) rfl inb_S8x128x128_S1x128x128_2_0_0, ld_ws 2 (off := ![0, 256]) rfl inb_S1x1024_S1x128_0_256]
    rfl
  · intro x
    refine Eq.trans ?_ (ofPlanes_emb _ 1 (off := ![1, 0, 0]) rfl inb_S8x128x128_S1x128x128_1_0_0 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 1 (off := ![0, 0, 128]) rfl inb_S1x128x1024_S1x128x128_0_0_128, ld_pl 1 (off := ![1, 0, 0]) rfl inb_S8x128x128_S1x128x128_1_0_0, ld_ws 1 (off := ![0, 128]) rfl inb_S1x1024_S1x128_0_128]
    rfl
  · intro x
    refine Eq.trans ?_ (ofPlanes_emb _ 0 (off := ![0, 0, 0]) rfl inb_S8x128x128_S1x128x128_0_0_0 x).symm
    refine congrFun ?_ x
    sl_unfold_words
    simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S1x128x128) hz3, ld_hs 0 (off := ![0, 0, 0]) rfl inb_S1x128x1024_S1x128x128_0_0_0, ld_pl 0 (off := ![0, 0, 0]) rfl inb_S8x128x128_S1x128x128_0_0_0, ld_ws 0 (off := ![0, 0]) rfl inb_S1x1024_S1x128_0_0]
    rfl

end Cert.RetIdeal.Head

end
-- ==== Proof.RetPoint.lean ====
/-
  What the retention kernel leaves, point by point: after chunk `n` of a sequence the carried state is the specification's
  state, and the block written back is the specification's result on the chunk.
-/
module

public import proofs.«01_k».proof.Proof.RetBlocks
public import proofs.«01_k».proof.Proof.RetAt
public import proofs.«01_k».proof.Proof.RetDecay
public import proofs.«01_k».proof.Proof.RetBodyAO
public import proofs.«01_k».proof.Proof.RetBodyAS
public import proofs.«01_k».proof.Proof.RetBodyBO
public import proofs.«01_k».proof.Proof.RetBodyBS
public import proofs.«01_k».proof.Proof.Gen.RetIdeal.Value

@[expose] public section

set_option maxRecDepth 16384

noncomputable section

set_option maxHeartbeats 4000000

namespace Cert.RetIdeal.Blocks

open Cert.RetIdeal Cert.RetIdeal.Gen Cert.RetIdeal.Tables Cert.RetIdeal.Head Cert.RetSpec Idealize.ShloMosaic Idealize.SL.Sem
open Idealize.ShloMosaic.TcCoe

variable (m : (ℓ : Loc nD τ sig) → Buf (Elt Ideal) ℓ) (c : Dev nD)

/-- The rotary turn: the kernel's rolled lanes and signed sines against the two halves of the pairs. -/
theorem rope_rot (t : Fin cfg0.N) (x : Vec Ideal S1x128x1024 .bf16) (o : ℕ) (ho : o ≤ 3072)
    (hx : ∀ (i : Fin 128) (q : Fin 1024), x (ix3 0 i q) = argA m c (bq t) (row (nq t) i) ⟨o + q.val, by have := q.isLt; omega⟩)
    (h : Fin 8) (i l : Fin 128) :
    ropeAt (iblk m c 0 t : Vec Ideal S1x128x128 .f32) (iblk m c 1 t : Vec Ideal S1x128x128 .f32) (hs x h) i l
      = rot (argA m c) (argP m c) o ho (bq t) (row (nq t) i) h l := by
  have hh := h.isLt
  have e : ∀ l' : Fin 128, hs x h (ix3 0 i l') = argA m c (bq t) (row (nq t) i) (col o ho h l') := fun l' => by
    have hl' := l'.isLt
    show x (ix3 0 i ⟨128 * h.val + l'.val, _⟩) = _
    rw [hx]
    exact congrArg _ (Fin.ext (by show o + (128 * h.val + l'.val) = o + (h.val * 128 + l'.val); omega))
  unfold ropeAt rot
  rw [e, e, iblk0, iblk1, v19, v23]
  have hl := l.isLt
  by_cases hc : l.val < 64
  · rw [dif_pos hc, if_pos hc, mul_neg, ← sub_eq_add_neg,
      show pair l = ⟨l.val, hc⟩ from Fin.ext (Nat.mod_eq_of_lt hc),
      show (⟨(l.val + 128 - 64) % 128, Nat.mod_lt _ (by decide)⟩ : Fin 128) = ⟨l.val + 64, by omega⟩ from Fin.ext (by show (l.val + 128 - 64) % 128 = l.val + 64; omega)]
  · rw [dif_neg hc, if_neg hc, add_comm,
      show pair l = ⟨l.val - 64, by omega⟩ from Fin.ext (by show l.val % 64 = l.val - 64; omega),
      show (⟨(l.val + 128 - 64) % 128, Nat.mod_lt _ (by decide)⟩ : Fin 128) = ⟨l.val - 64, by omega⟩ from Fin.ext (by show (l.val + 128 - 64) % 128 = l.val - 64; omega)]

theorem q_rot (t : Fin cfg0.N) (h : Fin 8) (i l : Fin 128) :
    ropeAt (iblk m c 0 t : Vec Ideal S1x128x128 .f32) (iblk m c 1 t : Vec Ideal S1x128x128 .f32) (hs (iblk m c 2 t : Vec Ideal S1x128x1024 .bf16) h) i l
      = qr (argA m c) (argP m c) (bq t) (row (nq t) i) h l :=
  rope_rot m c t _ 0 (by decide) (iblk2 m c t) h i l

theorem k_rot (t : Fin cfg0.N) (h : Fin 8) (i l : Fin 128) :
    ropeAt (iblk m c 0 t : Vec Ideal S1x128x128 .f32) (iblk m c 1 t : Vec Ideal S1x128x128 .f32) (hs (iblk m c 3 t : Vec Ideal S1x128x1024 .bf16) h) i l
      * Ideal.ofBits .f32 0x3DB504F3#32 = kr (argA m c) (argP m c) (bq t) (row (nq t) i) h l :=
  congrArg (· * Ideal.ofBits .f32 0x3DB504F3#32) (rope_rot m c t _ 1024 (by decide) (iblk3 m c t) h i l)

theorem v_val (t : Fin cfg0.N) (h : Fin 8) (i l : Fin 128) :
    hs (iblk m c 4 t : Vec Ideal S1x128x1024 .bf16) h (ix3 0 i l) = vv (argA m c) (bq t) (row (nq t) i) h l := by
  have := h.isLt
  have := l.isLt
  refine (iblk4 m c t i ⟨128 * h.val + l.val, by omega⟩).trans ?_
  exact congrArg _ (Fin.ext (by show 2048 + (128 * h.val + l.val) = 2048 + (h.val * 128 + l.val); omega))

theorem g_val (t : Fin cfg0.N) (h : Fin 8) (i l : Fin 128) :
    hs (iblk m c 5 t : Vec Ideal S1x128x1024 .bf16) h (ix3 0 i l) = gg (argA m c) (bq t) (row (nq t) i) h l := by
  have := h.isLt
  have := l.isLt
  refine (iblk5 m c t i ⟨128 * h.val + l.val, by omega⟩).trans ?_
  exact congrArg _ (Fin.ext (by show 3072 + (128 * h.val + l.val) = 3072 + (h.val * 128 + l.val); omega))

theorem dec_val (t : Fin cfg0.N) (h : Fin 8) (i j : Fin 128) :
    pl (iblk m c 6 t : Vec Ideal S8x128x128 .f32) h (ix3 0 i j) = dec h i j := (iblk6 m c t h i j).trans (v47 m c h i j)
theorem kdec_val (t : Fin cfg0.N) (h : Fin 8) (i j : Fin 128) :
    pl (iblk m c 7 t : Vec Ideal S8x128x128 .f32) h (ix3 0 i j) = kdec h i := (iblk7 m c t h i j).trans (v65 m c h i j)
theorem qdec_val (t : Fin cfg0.N) (h : Fin 8) (i j : Fin 128) :
    pl (iblk m c 8 t : Vec Ideal S8x128x128 .f32) h (ix3 0 i j) = qdec h i := (iblk8 m c t h i j).trans (v67 m c h i j)

theorem lane_eq (h : Fin 8) (l : Fin 128) (hl : 128 * h.val + l.val < 1024) : (⟨128 * h.val + l.val, hl⟩ : Fin 1024) = lane h l :=
  Fin.ext (by show 128 * h.val + l.val = h.val * 128 + l.val; omega)

theorem gw_val (t : Fin cfg0.N) (h : Fin 8) (l : Fin 128) :
    ws (iblk m c 9 t : Vec Ideal S1x1024 .f32) h (ix2 0 l) = argW m c (lane h l) :=
  ((iblk9 m c t _).trans (v68 m c _)).trans (congrArg _ (lane_eq h l _))
theorem gb_val (t : Fin cfg0.N) (h : Fin 8) (l : Fin 128) :
    ws (iblk m c 10 t : Vec Ideal S1x1024 .f32) h (ix2 0 l) = argB m c (lane h l) :=
  ((iblk10 m c t _).trans (v69 m c _)).trans (congrArg _ (lane_eq h l _))

/-- A state holding the specification's state before chunk `n` of the point's sequence. -/
def IsState (S : Vec Ideal S8x128x128 .f32) (b : Fin 2) (n : ℕ) : Prop :=
  ∀ (h : Fin 8) (d e : Fin 128), S (ix3 h d e) = st (argA m c) (argP m c) b h n d e

/-- The state a point leaves. -/
theorem state_step (t : Fin cfg0.N) (S : Vec Ideal S8x128x128 .f32) (hS : IsState m c S (bq t) (nq t).val) :
    IsState m c (ofPlanes (stBlk (iblk m c 0 t) (iblk m c 1 t) (iblk m c 3 t) (iblk m c 4 t) (iblk m c 7 t) S)) (bq t) ((nq t).val + 1) := by
  intro h d e
  show stBlk (iblk m c 0 t) (iblk m c 1 t) (iblk m c 3 t) (iblk m c 4 t) (iblk m c 7 t) S h (ix3 0 d e) = _
  unfold stBlk
  rw [stateV_at, Decay.gam_eq]
  show S (ix3 h d e) * cdec h + _ = st _ _ _ _ (nq t).val d e * cdec h + dite _ _ _
  rw [hS h d e, dif_pos (nq t).isLt]
  refine congrArg _ (Finset.sum_congr rfl fun j _ => ?_)
  rw [k_rot, v_val, kdec_val]

/-- The retention of a point. -/
theorem ret_val (t : Fin cfg0.N) (S : Vec Ideal S8x128x128 .f32) (hS : IsState m c S (bq t) (nq t).val) (h : Fin 8) (i e : Fin 128) :
    retV (iblk m c 0 t : Vec Ideal S1x128x128 .f32) (iblk m c 1 t : Vec Ideal S1x128x128 .f32)
        (hs (iblk m c 2 t : Vec Ideal S1x128x1024 .bf16) h) (hs (iblk m c 3 t : Vec Ideal S1x128x1024 .bf16) h)
        (hs (iblk m c 4 t : Vec Ideal S1x128x1024 .bf16) h) (pl (iblk m c 6 t : Vec Ideal S8x128x128 .f32) h)
        (pl (iblk m c 8 t : Vec Ideal S8x128x128 .f32) h) (pl S h) (ix2 i e)
      = ret (argA m c) (argP m c) (bq t) (nq t) i h e := by
  rw [retV_at]
  unfold ret
  refine congrArg₂ (· + ·) (Finset.sum_congr rfl fun j _ => ?_) (congrArg₂ (· * ·) (Finset.sum_congr rfl fun d _ => ?_) (qdec_val m c t h i e))
  · rw [dec_val, v_val]
    refine congrArg (· * _ * _) (Finset.sum_congr rfl fun d _ => ?_)
    rw [k_rot, q_rot]
  · rw [q_rot]
    exact congrArg _ (hS h d e)

/-- The output block of a point. -/
theorem out_val (t : Fin cfg0.N) (S : Vec Ideal S8x128x128 .f32) (hS : IsState m c S (bq t) (nq t).val) (h : Fin 8) (i e : Fin 128) :
    outBlk (iblk m c 0 t) (iblk m c 1 t) (iblk m c 2 t) (iblk m c 3 t) (iblk m c 4 t) (iblk m c 5 t) (iblk m c 6 t) (iblk m c 8 t) S
        (iblk m c 9 t) (iblk m c 10 t) h (ix3 0 i e)
      = out (argA m c) (argP m c) (argW m c) (argB m c) (bq t) (nq t) i h e := by
  unfold outBlk
  rw [outV_at]
  have hm : ∀ i, muAt (retV (iblk m c 0 t : Vec Ideal S1x128x128 .f32) (iblk m c 1 t : Vec Ideal S1x128x128 .f32)
        (hs (iblk m c 2 t : Vec Ideal S1x128x1024 .bf16) h) (hs (iblk m c 3 t : Vec Ideal S1x128x1024 .bf16) h)
        (hs (iblk m c 4 t : Vec Ideal S1x128x1024 .bf16) h) (pl (iblk m c 6 t : Vec Ideal S8x128x128 .f32) h)
        (pl (iblk m c 8 t : Vec Ideal S8x128x128 .f32) h) (pl S h)) i = mu (argA m c) (argP m c) (bq t) (nq t) i h := fun i =>
    congrArg (Ideal.div · _) (Finset.sum_congr rfl fun e _ => ret_val m c t S hS h i e)
  have hv : ∀ i, varAt (retV (iblk m c 0 t : Vec Ideal S1x128x128 .f32) (iblk m c 1 t : Vec Ideal S1x128x128 .f32)
        (hs (iblk m c 2 t : Vec Ideal S1x128x1024 .bf16) h) (hs (iblk m c 3 t : Vec Ideal S1x128x1024 .bf16) h)
        (hs (iblk m c 4 t : Vec Ideal S1x128x1024 .bf16) h) (pl (iblk m c 6 t : Vec Ideal S8x128x128 .f32) h)
        (pl (iblk m c 8 t : Vec Ideal S8x128x128 .f32) h) (pl S h)) i = var (argA m c) (argP m c) (bq t) (nq t) i h := fun i =>
    congrArg (Ideal.div · _) (Finset.sum_congr rfl fun e _ => by rw [hm, ret_val m c t S hS h i e])
  rw [hm, hv, ret_val m c t S hS h i e, g_val, gw_val, gb_val, zero_sub]
  rfl

/-- The state before the first chunk. -/
theorem zero_state (b : Fin 2) : IsState m c (zeroS (F := Ideal)) b 0 := fun h d e => Ideal.ofBits_zero .f32

/-- The carried state after each point. -/
theorem carried : ∀ (k : ℕ) (hk : k < cfg0.N), IsState m c (outsAt0 m c k hk).2 (bq ⟨k, hk⟩) ((nq ⟨k, hk⟩).val + 1)
  | k, hk => by
    by_cases h0 : k % 64 = 0
    · have e := congrArg Prod.snd (outsAt0_A m c ⟨k, hk⟩ h0)
      dsimp only at e
      rw [sout_A] at e
      rw [show (outsAt0 m c k hk).2 = _ from e]
      refine state_step m c ⟨k, hk⟩ (zeroS (F := Ideal)) ?_
      rw [show (nq ⟨k, hk⟩).val = 0 from h0]
      exact zero_state m c _
    · have e := congrArg Prod.snd (outsAt0_B m c ⟨k, hk⟩ h0)
      dsimp only at e
      rw [sout_B] at e
      rw [show (outsAt0 m c k hk).2 = _ from e]
      refine state_step m c ⟨k, hk⟩ _ ?_
      have hp := carried (k - 1) (Nat.lt_of_le_of_lt (Nat.sub_le _ _) hk)
      have e1 : bq ⟨k - 1, Nat.lt_of_le_of_lt (Nat.sub_le _ _) hk⟩ = bq ⟨k, hk⟩ := Fin.ext (by show (k - 1) / 64 = k / 64; omega)
      have e2 : (nq ⟨k - 1, Nat.lt_of_le_of_lt (Nat.sub_le _ _) hk⟩).val + 1 = (nq ⟨k, hk⟩).val := by show (k - 1) % 64 + 1 = k % 64; omega
      rw [e1, e2] at hp
      exact hp
  termination_by k => k
  decreasing_by omega

/-- The block each point writes back. -/
theorem written (k : ℕ) (hk : k < cfg0.N) (i : Fin 128) (q : Fin 1024) :
    (outsAt0 m c k hk).1 (ix3 0 i q)
      = out (argA m c) (argP m c) (argW m c) (argB m c) (bq ⟨k, hk⟩) (nq ⟨k, hk⟩) i
          ⟨q.val / 128, by have := q.isLt; omega⟩ ⟨q.val % 128, Nat.mod_lt _ (by decide)⟩ := by
  by_cases h0 : k % 64 = 0
  · have e := congrArg Prod.fst (outsAt0_A m c ⟨k, hk⟩ h0)
    dsimp only at e
    rw [out_A] at e
    rw [show (outsAt0 m c k hk).1 = _ from e]
    refine out_val m c ⟨k, hk⟩ (zeroS (F := Ideal)) ?_ _ _ _
    rw [show (nq ⟨k, hk⟩).val = 0 from h0]
    exact zero_state m c _
  · have e := congrArg Prod.fst (outsAt0_B m c ⟨k, hk⟩ h0)
    dsimp only at e
    rw [out_B] at e
    rw [show (outsAt0 m c k hk).1 = _ from e]
    refine out_val m c ⟨k, hk⟩ _ ?_ _ _ _
    have hp := carried m c (k - 1) (Nat.lt_of_le_of_lt (Nat.sub_le _ _) hk)
    have e1 : bq ⟨k - 1, Nat.lt_of_le_of_lt (Nat.sub_le _ _) hk⟩ = bq ⟨k, hk⟩ := Fin.ext (by show (k - 1) / 64 = k / 64; omega)
    have e2 : (nq ⟨k - 1, Nat.lt_of_le_of_lt (Nat.sub_le _ _) hk⟩).val + 1 = (nq ⟨k, hk⟩).val := by show (k - 1) % 64 + 1 = k % 64; omega
    rw [e1, e2] at hp
    exact hp

/-- The array the kernel leaves. -/
def G : Buf (Elt Ideal) ((c : Thread nD τ).loc main_v70) := fun (j : S2x8192x1024.Idx) =>
  out (argA m c) (argP m c) (argW m c) (argB m c) (j 0) ⟨(j 1).val / 128, by have : (j 1).val < 8192 := (j 1).isLt; omega⟩
    ⟨(j 1).val % 128, Nat.mod_lt _ (by decide)⟩ ⟨(j 2).val / 128, by have : (j 2).val < 1024 := (j 2).isLt; omega⟩
    ⟨(j 2).val % 128, Nat.mod_lt _ (by decide)⟩

theorem G11_eq : Value.G11 m c = G m c := by
  funext j
  have j0 : (j 0).val < 2 := (j 0).isLt
  have j1 : (j 1).val < 8192 := (j 1).isLt
  have j2 : (j 2).val < 1024 := (j 2).isLt
  have hN : Value.pt11Of j < cfg0.N := lt_of_lt_of_eq (by show 64 * ((j 0).val / 1 - 0) + 1 * ((j 1).val / 128 - 0) + 1 * ((j 2).val / 1024 - 0) < 128; omega) (show 128 = cfg0.N from N_0.symm)
  unfold Value.G11
  rw [dif_pos hN, ← Value.outsAt0_sweep m c (Value.pt11Of j) hN]
  have hl : Value.loc11Of j = ix3 0 (⟨(j 1).val % 128, Nat.mod_lt _ (by decide)⟩ : Fin 128) (⟨(j 2).val, j2⟩ : Fin 1024) := by
    funext a
    apply Fin.ext
    match a with
    | ⟨0, _⟩ => show (j 0).val % 1 = 0; omega
    | ⟨1, _⟩ => rfl
    | ⟨2, _⟩ => show (j 2).val % 1024 = (j 2).val; omega
  rw [hl, written]
  unfold G
  have eb : bq ⟨Value.pt11Of j, hN⟩ = j 0 := Fin.ext (by show (64 * ((j 0).val / 1 - 0) + 1 * ((j 1).val / 128 - 0) + 1 * ((j 2).val / 1024 - 0)) / 64 = (j 0).val; omega)
  have en : nq ⟨Value.pt11Of j, hN⟩ = ⟨(j 1).val / 128, by omega⟩ := Fin.ext (by show (64 * ((j 0).val / 1 - 0) + 1 * ((j 1).val / 128 - 0) + 1 * ((j 2).val / 1024 - 0)) % 64 = (j 1).val / 128; omega)
  rw [eb, en]

end Cert.RetIdeal.Blocks

end
-- ==== Proof.RetRefStages.lean ====
/-
  The reference's host operations read at an index, stage by stage, from any contents.
-/
module

public import proofs.«01_k».proof.Proof.Gen.RetRefIdeal.Run
public import Idealize.ShloMosaic.Lib.StableHlo.ReadAt
public import Idealize.ShloMosaic.Lib.Pointwise
public import proofs.«01_k».proof.Proof.RetSpec

@[expose] public section

set_option maxRecDepth 16384

noncomputable section

set_option pp.maxSteps 1500

namespace Cert.RetRefIdeal.Read

open Cert.RetRefIdeal Cert.RetRefIdeal.Gen Cert.RetRefIdeal.Value Cert.RetSpec Idealize.ShloMosaic Idealize.ShloMosaic.StableHlo Idealize.SL.Sem
open Idealize.ShloMosaic.TcCoe

variable (X : Valuation τ sig (Elt Ideal)) (b : Fin 2) (n : Fin 64) (s : Fin 8192) (i e d : Fin 128) (h : Fin 8)

/-- The buffers a stage reads, at their shapes. -/
def x41 : FVec Ideal S2x8192x8x128 .f32 := X (Proc.devRef .tc main_v41)
def x75 : FVec Ideal S2x8192x8x128 .f32 := X (Proc.devRef .tc main_v75)
def x76 : FVec Ideal S2x8192x8x128 .f32 := X (Proc.devRef .tc main_v76)
def x83 : FVec Ideal S8 .f32 := X (Proc.devRef .tc main_v83)
def x84 : FVec Ideal S128 .f32 := X (Proc.devRef .tc main_v84)
def x100 : FVec Ideal S8x128x128 .f32 := X (Proc.devRef .tc main_v100)

theorem o2_v120 : (after hostOps0_2 X (Proc.devRef .tc main_v120) : FVec Ideal S2x64x128x8x128 .f32) (ix5 b n i h e)
    = x41 X (ix4 b (row n i) h e) := by
  after_reads_at
  rfl
theorem o2_v116 : (after hostOps0_2 X (Proc.devRef .tc main_v116) : FVec Ideal S128x8 .f32) (ix2 i h)
    = Ideal.exp ((x84 X (ix1 i) + 1) * x83 X (ix1 h)) := by
  after_reads_at
  rfl
theorem o2_v119 : (after hostOps0_2 X (Proc.devRef .tc main_v119) : FVec Ideal S8 .f32) (ix1 h)
    = Ideal.exp (Ideal.ofBits .f32 0x43000000#32 * x83 X (ix1 h)) := by
  after_reads_at
  rfl
theorem o2_v130 : (after hostOps0_2 X (Proc.devRef .tc main_v130) : FVec Ideal S2x64x128x8x128 .f32) (ix5 b n i h e)
    = ∑ j : Fin 128, x76 X (ix4 b (row n j) h e) * ((∑ d : Fin 128, x41 X (ix4 b (row n i) h d)
        * (x75 X (ix4 b (row n j) h d) * Ideal.ofBits .f32 0x3DB504F3#32)) * x100 X (ix3 h i j)) := by
  after_reads_at
  rfl
theorem o2_v135 : (after hostOps0_2 X (Proc.devRef .tc main_v135) : FVec Ideal S64x2x8x128x128 .f32) (ix5 n b h d e)
    = ∑ j : Fin 128, x75 X (ix4 b (row n j) h d) * Ideal.ofBits .f32 0x3DB504F3#32
        * Ideal.exp ((Ideal.ofBits .f32 0x42FE0000#32 - x84 X (ix1 j)) * x83 X (ix1 h)) * x76 X (ix4 b (row n j) h e) := by
  after_reads_at
  rfl
theorem o2_v138_3 : (after hostOps0_2 X (Proc.devRef .tc main_v138_3) : FVec Ideal S2x8x128x128 .f32) (ix4 b h d e) = (0 : EReal) := by
  after_reads_at
  exact Ideal.ofBits_zero .f32

/-- The reference's keys of the loop at entry: what the stage read stands unchanged. -/
theorem o2_v138_0 : (after hostOps0_2 X (Proc.devRef .tc main_v138_0) : FVec Ideal S64x2x8x128x128 .f32)
    = (after hostOps0_2 X (Proc.devRef .tc main_v135) : FVec Ideal S64x2x8x128x128 .f32) := by
  after_reads_simp
  rfl
theorem o2_v138_1 : (after hostOps0_2 X (Proc.devRef .tc main_v138_1) : FVec Ideal S8 .f32)
    = (after hostOps0_2 X (Proc.devRef .tc main_v119) : FVec Ideal S8 .f32) := by
  after_reads_simp
  rfl

/-- The buffers the last stages read. -/
def y4 : FVec Ideal S64x2x8x128x128 .f32 := X (Proc.devRef .tc main_v138_4)
def y120 : FVec Ideal S2x64x128x8x128 .f32 := X (Proc.devRef .tc main_v120)
def y130 : FVec Ideal S2x64x128x8x128 .f32 := X (Proc.devRef .tc main_v130)
def y116 : FVec Ideal S128x8 .f32 := X (Proc.devRef .tc main_v116)
def y7 : FVec Ideal S2x8192x1024 .f32 := X (Proc.devRef .tc main_v7)
def y146 : FVec Ideal S2x8192x8x128 .f32 := X (Proc.devRef .tc main_v146)
def y147 : FVec Ideal S2x8192x1024 .f32 := X (Proc.devRef .tc main_v147)
def yW : FVec Ideal S1024 .f32 := X (Proc.devRef .tc main_arg2)
def yB : FVec Ideal S1024 .f32 := X (Proc.devRef .tc main_arg3)

theorem o3_v146 : (after hostOps0_3 X (Proc.devRef .tc main_v146) : FVec Ideal S2x8192x8x128 .f32) (ix4 b s h e)
    = y130 X (ix5 b ⟨s.val / 128, by have := s.isLt; omega⟩ ⟨s.val % 128, Nat.mod_lt _ (by decide)⟩ h e)
      + (∑ d : Fin 128, y4 X (ix5 ⟨s.val / 128, by have := s.isLt; omega⟩ b h d e)
          * y120 X (ix5 b ⟨s.val / 128, by have := s.isLt; omega⟩ ⟨s.val % 128, Nat.mod_lt _ (by decide)⟩ h d))
        * y116 X (ix2 ⟨s.val % 128, Nat.mod_lt _ (by decide)⟩ h) := by
  after_reads_at
  rfl
theorem o4_v147 (q : Fin 1024) : (after hostOps0_4 X (Proc.devRef .tc main_v147) : FVec Ideal S2x8192x1024 .f32) (ix3 b s q)
    = y7 X (ix3 b s q) * Ideal.div 1 (1 + Ideal.exp (-y7 X (ix3 b s q))) := by
  after_reads_at
  rfl

/-- The mean and the variance of a head's row. -/
def m146 : EReal := Ideal.div (∑ e : Fin 128, y146 X (ix4 b s h e)) (Ideal.ofBits .f32 0x43000000#32)
def w146 : EReal := Ideal.div (∑ e : Fin 128, (y146 X (ix4 b s h e) - m146 X b s h) * (y146 X (ix4 b s h e) - m146 X b s h))
  (Ideal.ofBits .f32 0x43000000#32)

theorem o5_v174 (q : Fin 1024) : (after hostOps0_5 X (Proc.devRef .tc main_v174) : FVec Ideal S2x8192x1024 .bf16) (ix3 b s q)
    = y147 X (ix3 b s q)
      * ((y146 X (ix4 b s ⟨q.val / 128, by have := q.isLt; omega⟩ ⟨q.val % 128, Nat.mod_lt _ (by decide)⟩)
            - m146 X b s ⟨q.val / 128, by have := q.isLt; omega⟩)
          * Ideal.rsqrt (w146 X b s ⟨q.val / 128, by have := q.isLt; omega⟩ + Ideal.ofBits .f32 0x358637BD#32)
          * yW X (ix1 q) + yB X (ix1 q)) := by
  after_reads_at
  rfl

end Cert.RetRefIdeal.Read

end
-- ==== Proof.RetRefHead.lean ====
/-
  The reference's first stages, read at an index: the rotary turns, the values, the gate, the decays.
-/
module

public import proofs.«01_k».proof.Proof.RetRefStages

@[expose] public section

set_option maxRecDepth 16384

noncomputable section

set_option pp.maxSteps 1500
set_option maxHeartbeats 1000000

namespace Cert.RetRefIdeal.Read

open Cert.RetRefIdeal Cert.RetRefIdeal.Gen Cert.RetRefIdeal.Value Cert.RetSpec Idealize.ShloMosaic Idealize.ShloMosaic.StableHlo Idealize.SL.Sem
open Idealize.ShloMosaic.TcCoe

variable (X : Valuation τ sig (Elt Ideal)) (b : Fin 2) (n : Fin 64) (s : Fin 8192) (i j e d : Fin 128) (h : Fin 8)

/-- The arguments. -/
def xA : Fin 2 → Fin 8192 → Fin 17408 → EReal := fun b s l => (X (Proc.devRef .tc main_arg0) : FVec Ideal S2x8192x17408 .bf16) (ix3 b s l)
def xP : Fin 2 → Fin 8192 → BitVec 32 := fun b s => (X (Proc.devRef .tc main_arg1) : S2x8192.Idx → BitVec 32) (ix2 b s)

theorem xA_eq {k k' : Fin 17408} (hk : k.val = k'.val) : (X (Proc.devRef .tc main_arg0) : FVec Ideal S2x8192x17408 .bf16) (ix3 b s k) = xA X b s k' := by
  obtain rfl : k = k' := Fin.ext hk
  rfl

theorem o0_v76 : (after hostOps0 X (Proc.devRef .tc main_v76) : FVec Ideal S2x8192x8x128 .f32) (ix4 b s h e) = vv (xA X) b s h e := by
  after_reads_at
  exact xA_eq X b s rfl
theorem o0_v7 (q : Fin 1024) : (after hostOps0 X (Proc.devRef .tc main_v7) : FVec Ideal S2x8192x1024 .f32) (ix3 b s q)
    = xA X b s ⟨3072 + q.val, by have := q.isLt; omega⟩ := by
  after_reads_at
  exact xA_eq X b s rfl
theorem o0_v83 : (after hostOps0 X (Proc.devRef .tc main_v83) : FVec Ideal S8 .f32) (ix1 h) = lg h := by
  after_reads_at
  unfold lg
  rfl
theorem o0_v84 : (after hostOps0 X (Proc.devRef .tc main_v84) : FVec Ideal S128 .f32) (ix1 i) = num i.val := by
  after_reads_at
theorem o0_v41 : (after hostOps0 X (Proc.devRef .tc main_v41) : FVec Ideal S2x8192x8x128 .f32) (ix4 b s h e) = qr (xA X) (xP X) b s h e := by
  after_reads_at
  unfold qr rot
  by_cases hl : e.val < 64
  · refine (dif_pos hl).trans (Eq.trans ?_ (dif_pos hl).symm)
    refine congrArg₂ (fun a b : EReal => a - b) (congrArg₂ (fun a b : EReal => a * b) (xA_eq X b s ?_) ?_) (congrArg₂ (fun a b : EReal => a * b) (xA_eq X b s ?_) ?_)
    · show (h.val * 128 + e.val) = 0 + (h.val * 128 + e.val)
      omega
    · unfold ang RetSpec.inv xP
      rfl
    · show (h.val * 128 + (64 + e.val)) = 0 + (h.val * 128 + (e.val + 64))
      omega
    · unfold ang RetSpec.inv xP
      rfl
  · refine (dif_neg hl).trans (Eq.trans ?_ (dif_neg hl).symm)
    refine congrArg₂ (fun a b : EReal => a + b) (congrArg₂ (fun a b : EReal => a * b) (xA_eq X b s ?_) ?_) (congrArg₂ (fun a b : EReal => a * b) (xA_eq X b s ?_) ?_)
    · show (h.val * 128 + (e.val - 64)) = 0 + (h.val * 128 + (e.val - 64))
      omega
    · unfold ang RetSpec.inv xP
      rfl
    · show (h.val * 128 + (64 + (e.val - 64))) = 0 + (h.val * 128 + e.val)
      omega
    · unfold ang RetSpec.inv xP
      rfl
theorem o0_v75 : (after hostOps0 X (Proc.devRef .tc main_v75) : FVec Ideal S2x8192x8x128 .f32) (ix4 b s h e) = rot (xA X) (xP X) 1024 (by decide) b s h e := by
  after_reads_at
  unfold rot
  by_cases hl : e.val < 64
  · refine (dif_pos hl).trans (Eq.trans ?_ (dif_pos hl).symm)
    refine congrArg₂ (fun a b : EReal => a - b) (congrArg₂ (fun a b : EReal => a * b) (xA_eq X b s ?_) ?_) (congrArg₂ (fun a b : EReal => a * b) (xA_eq X b s ?_) ?_)
    · show 1024 + (h.val * 128 + e.val) = 1024 + (h.val * 128 + e.val)
      omega
    · unfold ang RetSpec.inv xP
      rfl
    · show 1024 + (h.val * 128 + (64 + e.val)) = 1024 + (h.val * 128 + (e.val + 64))
      omega
    · unfold ang RetSpec.inv xP
      rfl
  · refine (dif_neg hl).trans (Eq.trans ?_ (dif_neg hl).symm)
    refine congrArg₂ (fun a b : EReal => a + b) (congrArg₂ (fun a b : EReal => a * b) (xA_eq X b s ?_) ?_) (congrArg₂ (fun a b : EReal => a * b) (xA_eq X b s ?_) ?_)
    · show 1024 + (h.val * 128 + (e.val - 64)) = 1024 + (h.val * 128 + (e.val - 64))
      omega
    · unfold ang RetSpec.inv xP
      rfl
    · show 1024 + (h.val * 128 + (64 + (e.val - 64))) = 1024 + (h.val * 128 + e.val)
      omega
    · unfold ang RetSpec.inv xP
      rfl
theorem o01_v100 : (after hostOps0_1 (after hostOps0 X) (Proc.devRef .tc main_v100) : FVec Ideal S8x128x128 .f32) (ix3 h i j) = dec h i j := by
  after_reads_at
  unfold dec lg
  congr 1
  exact Ideal.ofBits_zero .f32

end Cert.RetRefIdeal.Read

end
-- ==== Proof.RetRefLoop.lean ====
/-
  The reference's loop over the chunks: after `k` trips the carried state is the specification's state before chunk `k`, and
  the states written so far stand in their rows.
-/
module

public import proofs.«01_k».proof.Proof.RetRefHead
public import Idealize.ShloMosaic.Lib.DynamicIndex

@[expose] public section

set_option maxRecDepth 16384

noncomputable section

set_option pp.maxSteps 1500
set_option maxHeartbeats 1000000

namespace Cert.RetRefIdeal.Read

open Cert.RetRefIdeal Cert.RetRefIdeal.Gen Cert.RetRefIdeal.Value Cert.RetSpec Idealize.ShloMosaic Idealize.ShloMosaic.StableHlo Idealize.SL.Sem
open Idealize.ShloMosaic.TcCoe

section Steps
variable (X : Valuation τ sig (Elt Ideal)) (b : Fin 2) (n k : Fin 64) (e d : Fin 128) (h : Fin 8)

/-- The loop's carried buffers, at their shapes. -/
def c0 : FVec Ideal S64x2x8x128x128 .f32 := X (Proc.devRef .tc main_v138_0)
def c1 : FVec Ideal S8 .f32 := X (Proc.devRef .tc main_v138_1)
def c3 : FVec Ideal S2x8x128x128 .f32 := X (Proc.devRef .tc main_v138_3)

theorem word (k : Fin 64) : BitVec.toInt (Scf.iv 0#32 1#32 k.val) = (k.val : ℤ) := by
  revert k; decide

theorem start (hk : X (Proc.devRef .tc main_v138_2) = fun _ => Scf.iv 0#32 1#32 k.val) (a : Fin 5) :
    (((![X (Proc.devRef .tc main_v138_2), constantI S_ 32 0#32, constantI S_ 32 0#32, constantI S_ 32 0#32, constantI S_ 32 0#32] : Fin 5 → (⟨S_, .i32⟩ : BufTy).Contents (Elt Ideal))) a (Shape.Idx.first h_S_)).toInt
      = ((![k.val, 0, 0, 0, 0] : Fin 5 → ℕ) a : ℤ) := by
  rw [hk]
  fin_cases a
  · exact word k
  all_goals rfl

theorem step3 (hk : X (Proc.devRef .tc main_v138_2) = fun _ => Scf.iv 0#32 1#32 k.val) :
    (step_main_v138_3 X : FVec Ideal S2x8x128x128 .f32) (ix4 b h d e) = c3 X (ix4 b h d e) * c1 X (ix1 h) + c0 X (ix5 k b h d e) := by
  unfold step_main_v138_3
  have hoff : S64x2x8x128x128.Slices ![k.val, 0, 0, 0, 0] S1x2x8x128x128 :=
    ⟨rfl, fun a => by have := k.isLt; fin_cases a <;> simp <;> omega⟩
  rw [Host.dynamicSlice_eq_extractStridedSlice S1x2x8x128x128 _ _ ![k.val, 0, 0, 0, 0] _ hoff (start X k hk)]
  show (addf (F := Ideal) _ _ : FVec Ideal S2x8x128x128 .f32) (ix4 b h d e) = _
  pointwise
  rfl

theorem step4 (hk : X (Proc.devRef .tc main_v138_2) = fun _ => Scf.iv 0#32 1#32 k.val) :
    (step_main_v138_4 X : FVec Ideal S64x2x8x128x128 .f32) (ix5 n b h d e)
      = if n = k then c3 X (ix4 b h d e) else y4 X (ix5 n b h d e) := by
  unfold step_main_v138_4
  have hoff : S64x2x8x128x128.Slices ![k.val, 0, 0, 0, 0] S1x2x8x128x128 :=
    ⟨rfl, fun a => by have := k.isLt; fin_cases a <;> simp <;> omega⟩
  rw [Host.dynamicUpdateSlice_eq_updateSlice _ _ _ _ ![k.val, 0, 0, 0, 0] (fun a => by
    have := hoff.2 a
    rw [start X k hk a]
    show (min (max _ 0) ((S64x2x8x128x128.size a - S1x2x8x128x128.size _ : ℕ) : ℤ)).toNat = _
    omega) hoff]
  show (updateSlice _ _ _ _ : FVec Ideal S64x2x8x128x128 .f32) (ix5 n b h d e) = _
  pointwise
  refine (dite_congr (propext (⟨fun h => Fin.ext (by omega), fun h => by subst h; exact ⟨le_rfl, by omega⟩⟩ : (k.val ≤ n.val ∧ n.val < k.val + 1) ↔ n = k))
    (fun _ => rfl) (fun _ => rfl)).trans ?_
  exact dite_eq_ite
end Steps

section Loop
variable (m : (ℓ : Loc nD τ sig) → Buf (Elt Ideal) ℓ) (c : Dev nD) (b : Fin 2) (n : Fin 64) (i e d : Fin 128) (h : Fin 8)

/-- The arguments, as launched. -/
def argA : Fin 2 → Fin 8192 → Fin 17408 → EReal := fun b s l => m ((c : Thread nD τ).loc main_arg0) (ix3 b s l)
def argP : Fin 2 → Fin 8192 → BitVec 32 := fun b s => m ((c : Thread nD τ).loc main_arg1) (ix2 b s)
def argW : Fin 1024 → EReal := fun l => m ((c : Thread nD τ).loc main_arg2) (ix1 l)
def argB : Fin 1024 → EReal := fun l => m ((c : Thread nD τ).loc main_arg3) (ix1 l)

abbrev L0 : Valuation τ sig (Elt Ideal) := launchContents m c
abbrev L1 : Valuation τ sig (Elt Ideal) := after hostOps0_1 (after hostOps0 (L0 m c))

theorem entry : entryContents preI m c = after hostOps0_2 (L1 m c) := rfl
theorem xA_L : xA (L0 m c) = argA m c := rfl
theorem xP_L : xP (L0 m c) = argP m c := rfl

/-- What the second stage does not write stands. -/
theorem keep1 (r : Ref sig .tc) (hr : r ∉ hostOps0_1_W) : L1 m c (Proc.devRef .tc r) = after hostOps0 (L0 m c) (Proc.devRef .tc r) :=
  after_of_writes_sub hostOps0_1 _ hostOps0_1_writes hr

theorem l41 (s : Fin 8192) : x41 (L1 m c) (ix4 b s h e) = qr (argA m c) (argP m c) b s h e :=
  (congrFun (keep1 m c main_v41 (by decide)) _).trans (o0_v41 (L0 m c) b s e h)
theorem l75 (s : Fin 8192) : x75 (L1 m c) (ix4 b s h e) = rot (argA m c) (argP m c) 1024 (by decide) b s h e :=
  (congrFun (keep1 m c main_v75 (by decide)) _).trans (o0_v75 (L0 m c) b s e h)
theorem l76 (s : Fin 8192) : x76 (L1 m c) (ix4 b s h e) = vv (argA m c) b s h e :=
  (congrFun (keep1 m c main_v76 (by decide)) _).trans (o0_v76 (L0 m c) b s e h)
theorem l83 : x83 (L1 m c) (ix1 h) = lg h :=
  (congrFun (keep1 m c main_v83 (by decide)) _).trans (o0_v83 (L0 m c) h)
theorem l84 : x84 (L1 m c) (ix1 i) = num i.val :=
  (congrFun (keep1 m c main_v84 (by decide)) _).trans (o0_v84 (L0 m c) i)
theorem l100 (i j : Fin 128) : x100 (L1 m c) (ix3 h i j) = dec h i j := o01_v100 (L0 m c) i j h

/-- The loop's entry. -/
theorem e120 : y120 (entryContents preI m c) (ix5 b n i h e) = qr (argA m c) (argP m c) b (row n i) h e :=
  (o2_v120 (L1 m c) b n i e h).trans (l41 m c b e h _)
theorem e116 : y116 (entryContents preI m c) (ix2 i h) = qdec h i := by
  refine (o2_v116 (L1 m c) i h).trans ?_
  rw [l84, l83]
  rfl
theorem e130 : y130 (entryContents preI m c) (ix5 b n i h e)
    = ∑ j : Fin 128, (∑ d : Fin 128, qr (argA m c) (argP m c) b (row n i) h d * kr (argA m c) (argP m c) b (row n j) h d)
        * dec h i j * vv (argA m c) b (row n j) h e := by
  refine (o2_v130 (L1 m c) b n i e h).trans (show (_ : EReal) = _ from Finset.sum_congr rfl fun j _ => ?_)
  rw [l76, l100, mul_comm]
  refine congrArg (fun z : EReal => z * _ * _) (Finset.sum_congr rfl fun d _ => ?_)
  rw [l41, l75]
  rfl
theorem e0 : c0 (entryContents preI m c) (ix5 n b h d e) = kv (argA m c) (argP m c) b h n d e := by
  refine (congrFun (o2_v138_0 (L1 m c)) _).trans ((o2_v135 (L1 m c) b n e d h).trans (show (_ : EReal) = _ from Finset.sum_congr rfl fun j _ => ?_))
  rw [l75, l84, l83, l76]
  rfl
theorem e1 : c1 (entryContents preI m c) (ix1 h) = cdec h := by
  refine (congrFun (o2_v138_1 (L1 m c)) _).trans ((o2_v119 (L1 m c) h).trans ?_)
  rw [l83]
  rfl
theorem e3 : c3 (entryContents preI m c) (ix4 b h d e) = 0 := o2_v138_3 (L1 m c) b e d h

/-- The trips. -/
theorem t0 : ∀ k, atK m k c (Proc.devRef .tc main_v138_0) = entryContents preI m c (Proc.devRef .tc main_v138_0)
  | 0 => rfl
  | k + 1 => ((trip_agree (atK m k c) main_v138_0 (by decide)).trans (STEP_main_v138_0 _)).trans (t0 k)
theorem t1 : ∀ k, atK m k c (Proc.devRef .tc main_v138_1) = entryContents preI m c (Proc.devRef .tc main_v138_1)
  | 0 => rfl
  | k + 1 => ((trip_agree (atK m k c) main_v138_1 (by decide)).trans (STEP_main_v138_1 _)).trans (t1 k)

theorem t3 : ∀ k : ℕ, k ≤ 64 → ∀ d e, c3 (atK m k c) (ix4 b h d e) = st (argA m c) (argP m c) b h k d e
  | 0, _ => fun d e => e3 m c b e d h
  | k + 1, hk => fun d e => by
    have hk' : k < 64 := by omega
    refine (congrFun ((trip_agree (atK m k c) main_v138_3 (by decide)).trans (STEP_main_v138_3 _)) (ix4 b h d e)).trans ?_
    refine (step3 (atK m k c) b ⟨k, hk'⟩ e d h (atK_ctr m c k)).trans ?_
    rw [t3 k (by omega) d e, show c1 (atK m k c) = c1 (entryContents preI m c) from t1 m c k,
      show c0 (atK m k c) = c0 (entryContents preI m c) from t0 m c k, e1, e0]
    show _ = _ * _ + dite _ _ _
    rw [dif_pos hk']

theorem t4 : ∀ k : ℕ, k ≤ 64 → ∀ n : Fin 64, n.val < k → ∀ d e, y4 (atK m k c) (ix5 n b h d e) = st (argA m c) (argP m c) b h n.val d e
  | 0, _ => fun n hn => absurd hn (Nat.not_lt_zero _)
  | k + 1, hk => fun n hn d e => by
    have hk' : k < 64 := by omega
    refine (congrFun ((trip_agree (atK m k c) main_v138_4 (by decide)).trans (STEP_main_v138_4 _)) (ix5 n b h d e)).trans ?_
    refine (step4 (atK m k c) b n ⟨k, hk'⟩ e d h (atK_ctr m c k)).trans ?_
    by_cases hnk : n = ⟨k, hk'⟩
    · rw [if_pos hnk, t3 m c b h k (by omega) d e, hnk]
    · rw [if_neg hnk]
      exact t4 k (by omega) n (by
        have : n.val ≠ k := fun hh => hnk (Fin.ext hh)
        omega) d e

/-- The buffers the loop does not write. -/
theorem tk (r : Ref sig .tc) (h0 : r ∉ condOps_W) (h1 : r ∉ while0Ops0_W) (h2 : r ∉ while0Ops0_1_W) (h3 : r ∉ while0Ops0_2_W) (h4 : r ∉ while0Ops0_3_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1,
      after_of_writes_sub condOps _ condOps_writes h0, tk r h0 h1 h2 h3 h4 k]
    rfl

/-- The contents after the loop. -/
def Z : Valuation τ sig (Elt Ideal) := after condOps (atK m 64 c)

theorem zk (r : Ref sig .tc) (h0 : r ∉ condOps_W) (h1 : r ∉ while0Ops0_W) (h2 : r ∉ while0Ops0_1_W) (h3 : r ∉ while0Ops0_2_W) (h4 : r ∉ while0Ops0_3_W) :
    Z m c (Proc.devRef .tc r) = entryContents preI m c (Proc.devRef .tc r) :=
  (after_of_writes_sub condOps _ condOps_writes h0).trans (tk m c r h0 h1 h2 h3 h4 64)

theorem z4 : y4 (Z m c) (ix5 n b h d e) = st (argA m c) (argP m c) b h n.val d e :=
  (congrFun (after_of_writes_sub condOps (atK m 64 c) condOps_writes (r := main_v138_4) (by decide)) _).trans (t4 m c b h 64 le_rfl n n.isLt d e)

end Loop

end Cert.RetRefIdeal.Read

end
-- ==== Proof.RetRefOut.lean ====
/-
  The reference's result, read at an index: the specification's.
-/
module

public import proofs.«01_k».proof.Proof.RetRefLoop

@[expose] public section

set_option maxRecDepth 16384

noncomputable section

set_option pp.maxSteps 1500
set_option maxHeartbeats 1000000

namespace Cert.RetRefIdeal.Read

open Cert.RetRefIdeal Cert.RetRefIdeal.Gen Cert.RetRefIdeal.Value Cert.RetSpec Idealize.ShloMosaic Idealize.ShloMosaic.StableHlo Idealize.SL.Sem
open Idealize.ShloMosaic.TcCoe

variable (m : (ℓ : Loc nD τ sig) → Buf (Elt Ideal) ℓ) (c : Dev nD) (b : Fin 2) (n : Fin 64) (i e : Fin 128) (h : Fin 8)

/-- The chunk and the row in it of a sequence position. -/
def qn (s : Fin 8192) : Fin 64 := ⟨s.val / 128, by have := s.isLt; omega⟩
def qi (s : Fin 8192) : Fin 128 := ⟨s.val % 128, Nat.mod_lt _ (by decide)⟩
theorem row_q (s : Fin 8192) : row (qn s) (qi s) = s := Fin.ext (by show s.val / 128 * 128 + s.val % 128 = s.val; omega)
/-- The head and the lane in it of a column. -/
def qh (q : Fin 1024) : Fin 8 := ⟨q.val / 128, by have := q.isLt; omega⟩
def ql (q : Fin 1024) : Fin 128 := ⟨q.val % 128, Nat.mod_lt _ (by decide)⟩
theorem lane_q (q : Fin 1024) : lane (qh q) (ql q) = q := Fin.ext (by show q.val / 128 * 128 + q.val % 128 = q.val; omega)

/-- The contents after the stages that follow the loop. -/
abbrev Z1 : Valuation τ sig (Elt Ideal) := after hostOps0_3 (Z m c)
abbrev Z2 : Valuation τ sig (Elt Ideal) := after hostOps0_4 (Z1 m c)

/-- What the later stages write. -/
abbrev W3 : List (Ref sig .tc) := [main_v139, main_v140, main_v141, main_v142, main_v143, main_v144, main_v145, main_v146]
theorem writes3 : (hostOps0_3 : List (HloOp τ sig (Elt Ideal))).Forall fun op => op.writes ⊆ (W3.map (Proc.devRef (τ := τ) .tc)).toFinset :=
  StableHlo.forall_writes_sub_of_map rfl
abbrev W4 : List (Ref sig .tc) := [main_call3_v0, main_call3_v1, main_call3_cst, main_call3_v2, main_call3_v3, main_call3_cst_0, main_call3_v4, main_call3_v5, main_v147]
theorem writes4 : (hostOps0_4 : List (HloOp τ sig (Elt Ideal))).Forall fun op => op.writes ⊆ (W4.map (Proc.devRef (τ := τ) .tc)).toFinset :=
  StableHlo.forall_writes_sub_of_map rfl
abbrev W5 : List (Ref sig .tc) := [main_cst_18, main_v148, main_v149, main_cst_19, main_v150, main_v151, main_v152, main_v153, main_v154, main_cst_20, main_v155, main_v156, main_cst_21, main_v157, main_v158, main_v159, main_v160, main_cst_22, main_v161, main_v162, main_v163, main_v164, main_v165, main_v166, main_v167, main_v168, main_v169, main_v170, main_v171, main_v172, main_v173, main_v174]
theorem writes5 : (hostOps0_5 : List (HloOp τ sig (Elt Ideal))).Forall fun op => op.writes ⊆ (W5.map (Proc.devRef (τ := τ) .tc)).toFinset :=
  StableHlo.forall_writes_sub_of_map rfl

theorem z146 (s : Fin 8192) : y146 (Z1 m c) (ix4 b s h e) = ret (argA m c) (argP m c) b (qn s) (qi s) h e := by
  refine (o3_v146 (Z m c) b s e h).trans ?_
  show y130 (Z m c) (ix5 b (qn s) (qi s) h e) + (∑ d : Fin 128, y4 (Z m c) (ix5 (qn s) b h d e) * y120 (Z m c) (ix5 b (qn s) (qi s) h d))
    * y116 (Z m c) (ix2 (qi s) h) = _
  have h0 : y130 (Z m c) (ix5 b (qn s) (qi s) h e) = _ :=
    (congrFun (zk m c main_v130 (by decide) (by decide) (by decide) (by decide) (by decide)) _).trans (e130 m c b (qn s) (qi s) e h)
  have h1 : y116 (Z m c) (ix2 (qi s) h) = _ :=
    (congrFun (zk m c main_v116 (by decide) (by decide) (by decide) (by decide) (by decide)) _).trans (e116 m c (qi s) h)
  have h2 : ∀ d, y120 (Z m c) (ix5 b (qn s) (qi s) h d) = _ := fun d =>
    (congrFun (zk m c main_v120 (by decide) (by decide) (by decide) (by decide) (by decide)) _).trans (e120 m c b (qn s) (qi s) d h)
  have h3 : (∑ d : Fin 128, y4 (Z m c) (ix5 (qn s) b h d e) * y120 (Z m c) (ix5 b (qn s) (qi s) h d) : EReal)
      = ∑ d : Fin 128, qr (argA m c) (argP m c) b (row (qn s) (qi s)) h d * st (argA m c) (argP m c) b h (qn s).val d e :=
    Finset.sum_congr rfl fun d _ => by rw [z4, h2, mul_comm]
  rw [h0, h1, h3]
  rfl

/-- A buffer no stage before the loop writes after the first, nor the loop, nor the stages up to the silu. -/
theorem keepZ (r : Ref sig .tc) (g1 : r ∉ hostOps0_1_W) (g2 : r ∉ hostOps0_2_W) (g3 : r ∉ W3)
    (h0 : r ∉ condOps_W) (h1 : r ∉ while0Ops0_W) (h2 : r ∉ while0Ops0_1_W) (h3 : r ∉ while0Ops0_2_W) (h4 : r ∉ while0Ops0_3_W) :
    Z1 m c (Proc.devRef .tc r) = after hostOps0 (L0 m c) (Proc.devRef .tc r) :=
  (after_of_writes_sub hostOps0_3 _ writes3 g3).trans ((zk m c r h0 h1 h2 h3 h4).trans
    ((after_of_writes_sub hostOps0_2 _ hostOps0_2_writes g2).trans (keep1 m c r g1)))

/-- The gate's lanes. -/
theorem z7 (s : Fin 8192) (q : Fin 1024) : y7 (Z1 m c) (ix3 b s q) = gg (argA m c) b (row (qn s) (qi s)) (qh q) (ql q) := by
  refine (congrFun (keepZ m c main_v7 (by decide) (by decide) (by decide) (by decide) (by decide) (by decide) (by decide) (by decide)) _).trans ?_
  refine (o0_v7 (L0 m c) b s q).trans ?_
  rw [row_q]
  show argA m c b s _ = argA m c b s _
  refine congrArg (argA m c b s) (Fin.ext ?_)
  show 3072 + q.val = 3072 + (q.val / 128 * 128 + q.val % 128)
  omega

theorem z147 (s : Fin 8192) (q : Fin 1024) : y147 (Z2 m c) (ix3 b s q)
    = gg (argA m c) b (row (qn s) (qi s)) (qh q) (ql q) * Ideal.div 1 (1 + Ideal.exp (-gg (argA m c) b (row (qn s) (qi s)) (qh q) (ql q))) := by
  refine (o4_v147 (Z1 m c) b s q).trans ?_
  rw [z7]

theorem z146' (s : Fin 8192) : y146 (Z2 m c) (ix4 b s h e) = ret (argA m c) (argP m c) b (qn s) (qi s) h e :=
  (congrFun (after_of_writes_sub hostOps0_4 (Z1 m c) writes4 (r := main_v146) (by decide)) _).trans (z146 m c b e h s)

theorem zmu (s : Fin 8192) : m146 (Z2 m c) b s h = mu (argA m c) (argP m c) b (qn s) (qi s) h := by
  unfold m146 mu
  exact congrArg (fun z : EReal => Ideal.div z _) (Finset.sum_congr rfl fun e _ => z146' m c b e h s)
theorem zvar (s : Fin 8192) : w146 (Z2 m c) b s h = var (argA m c) (argP m c) b (qn s) (qi s) h := by
  unfold w146 var
  refine congrArg (fun z : EReal => Ideal.div z _) (Finset.sum_congr rfl fun e _ => ?_)
  rw [z146', zmu]

/-- The arguments stand throughout. -/
theorem keepArg (r : Ref sig .tc) (g0 : r ∉ hostOps0_W) (g1 : r ∉ hostOps0_1_W) (g2 : r ∉ hostOps0_2_W) (g3 : r ∉ W3) (g4 : r ∉ W4)
    (h0 : r ∉ condOps_W) (h1 : r ∉ while0Ops0_W) (h2 : r ∉ while0Ops0_1_W) (h3 : r ∉ while0Ops0_2_W) (h4 : r ∉ while0Ops0_3_W) :
    Z2 m c (Proc.devRef .tc r) = L0 m c (Proc.devRef .tc r) :=
  (after_of_writes_sub hostOps0_4 (Z1 m c) writes4 g4).trans ((keepZ m c r g1 g2 g3 h0 h1 h2 h3 h4).trans
    (after_of_writes_sub hostOps0 _ hostOps0_writes g0))

/-- The result at an index. -/
theorem at174 (s : Fin 8192) (q : Fin 1024) :
    (finalContents condOps preI bodyI postI 64 m c (Proc.devRef .tc main_v174) : FVec Ideal S2x8192x1024 .bf16) (ix3 b s q)
      = out (argA m c) (argP m c) (argW m c) (argB m c) b (qn s) (qi s) (qh q) (ql q) := by
  refine (o5_v174 (Z2 m c) b s q).trans ?_
  have hW : yW (Z2 m c) (ix1 q) = argW m c (lane (qh q) (ql q)) :=
    (congrFun (keepArg m c main_arg2 (by decide) (by decide) (by decide) (by decide) (by decide) (by decide) (by decide) (by decide) (by decide) (by decide)) _).trans
      (by rw [lane_q]; rfl)
  have hB : yB (Z2 m c) (ix1 q) = argB m c (lane (qh q) (ql q)) :=
    (congrFun (keepArg m c main_arg3 (by decide) (by decide) (by decide) (by decide) (by decide) (by decide) (by decide) (by decide) (by decide) (by decide)) _).trans
      (by rw [lane_q]; rfl)
  show y147 (Z2 m c) (ix3 b s q) * ((y146 (Z2 m c) (ix4 b s (qh q) (ql q)) - m146 (Z2 m c) b s (qh q))
    * Ideal.rsqrt (w146 (Z2 m c) b s (qh q) + Ideal.ofBits .f32 0x358637BD#32) * yW (Z2 m c) (ix1 q) + yB (Z2 m c) (ix1 q)) = _
  rw [hW, hB, z147, z146', zmu, zvar]
  rfl

/-- A buffer that nothing writes, at the end. -/
theorem keepAll (r : Ref sig .tc) (g0 : r ∉ hostOps0_W) (g1 : r ∉ hostOps0_1_W) (g2 : r ∉ hostOps0_2_W) (g3 : r ∉ W3) (g4 : r ∉ W4) (g5 : r ∉ W5)
    (h0 : r ∉ condOps_W) (h1 : r ∉ while0Ops0_W) (h2 : r ∉ while0Ops0_1_W) (h3 : r ∉ while0Ops0_2_W) (h4 : r ∉ while0Ops0_3_W) :
    finalContents condOps preI bodyI postI 64 m c (Proc.devRef .tc r) = m ((c : Thread nD τ).loc r) :=
  (after_of_writes_sub hostOps0_5 (Z2 m c) writes5 g5).trans (keepArg m c r g0 g1 g2 g3 g4 h0 h1 h2 h3 h4)

/-- The reference's run: the result is the specification, the arguments stand. -/
theorem run (ρ : Dev nD → PrngReg) : θ_run (defs (F := Ideal)) (onTc (τ := τ) (main (F := Ideal))) ⟨m, fun _ => 0, ρ⟩ fun r => ∀ c : Dev nD,
    (∀ b s q, (r.2.mem ((c : Thread nD τ).loc main_v174) : FVec Ideal S2x8192x1024 .bf16) (ix3 b s q)
      = out (argA m c) (argP m c) (argW m c) (argB m c) b (qn s) (qi s) (qh q) (ql q))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r hr c => ⟨fun b s q => (congrFun (hr c main_v174 rfl) _).trans (at174 m c b s q), ?_, ?_, ?_, ?_⟩) (run_fold m ρ)
  · exact (hr c main_arg0 rfl).trans (keepAll m c main_arg0 (by decide) (by decide) (by decide) (by decide) (by decide) (by decide) (by decide) (by decide) (by decide) (by decide) (by decide))
  · exact (hr c main_arg1 rfl).trans (keepAll m c main_arg1 (by decide) (by decide) (by decide) (by decide) (by decide) (by decide) (by decide) (by decide) (by decide) (by decide) (by decide))
  · exact (hr c main_arg2 rfl).trans (keepAll m c main_arg2 (by decide) (by decide) (by decide) (by decide) (by decide) (by decide) (by decide) (by decide) (by decide) (by decide) (by decide))
  · exact (hr c main_arg3 rfl).trans (keepAll m c main_arg3 (by decide) (by decide) (by decide) (by decide) (by decide) (by decide) (by decide) (by decide) (by decide) (by decide) (by decide))

end Cert.RetRefIdeal.Read

end
-- ==== Proof.RetClaims.lean ====
/-
  The claims about the retention: its frames, what its named constants preserve, and the value claim.
-/
module

public import proofs.«01_k».proof.Defs
public import proofs.«01_k».proof.Proof.Gen.Ret.Frame
public import proofs.«01_k».proof.Proof.Gen.RetIdeal.Frame
public import proofs.«01_k».proof.Proof.RetPoint
public import proofs.«01_k».proof.Proof.RetRefOut
public import Idealize.ShloMosaic.Adequacy
public import Idealize.ShloMosaic.Init

@[expose] public section

set_option maxRecDepth 16384

noncomputable section

namespace Cert.RetClaims

open Idealize.ShloMosaic Idealize.SL.Sem
open Idealize.ShloMosaic.TcCoe

theorem frame_p : Cert.quiescent_Ret := fun m ρ _ => Cert.Ret.Gen.frame m ρ
theorem frame_pi : Cert.quiescent_RetIdeal := fun m ρ _ => Cert.RetIdeal.Gen.frame m ρ
theorem frame_ri : Cert.quiescent_RetRefIdeal := fun m ρ _ =>
  (θ_run Cert.RetRefIdeal.defs _ _).mono (fun r h => ⟨fun c => (h c).2, Idealize.ShloMosaic.sem_eq_zero_of_no_sems (by decide) r.2⟩)
    (Cert.RetRefIdeal.Read.run m ρ)

theorem preserves : Cert.preserves_Ret_RetIdeal :=
  ⟨ IdealRules.named_const.statement Cert.RetIdeal.κ "chunk0" .f32 0x3C8CC36A#32 _ rfl,
    IdealRules.named_const.statement Cert.RetIdeal.κ "chunk1" .f32 0x3E08698E#32 _ rfl,
    IdealRules.named_const.statement Cert.RetIdeal.κ "chunk2" .f32 0x3EBB9DB9#32 _ rfl,
    IdealRules.named_const.statement Cert.RetIdeal.κ "chunk3" .f32 0x3F1B1EB1#32 _ rfl,
    IdealRules.named_const.statement Cert.RetIdeal.κ "chunk4" .f32 0x3F475303#32 _ rfl,
    IdealRules.named_const.statement Cert.RetIdeal.κ "chunk5" .f32 0x3F61E7C9#32 _ rfl,
    IdealRules.named_const.statement Cert.RetIdeal.κ "chunk6" .f32 0x3F707C6F#32 _ rfl,
    IdealRules.named_const.statement Cert.RetIdeal.κ "chunk7" .f32 0x3F781F6D#32 _ rfl⟩

/-- An index of the result, by its coordinates. -/
theorem ix3_eta (j : Cert.RetIdeal.S2x8192x1024.Idx) : ix3 (j 0) (j 1) (j 2) = j := by
  funext a
  match a with
  | ⟨0, _⟩ => rfl
  | ⟨1, _⟩ => rfl
  | ⟨2, _⟩ => rfl

/-- The kernel's result is the reference's: each is the specification's at every index. -/
theorem value : Cert.algebraic_RetIdeal_RetRefIdeal := fun m ρ m' ρ' _ hm =>
  ⟨fun c => Cert.RetIdeal.Blocks.G m c,
    (θ_run Cert.RetIdeal.defs _ _).mono (fun r h c => ⟨(h c).1.trans (Cert.RetIdeal.Blocks.G11_eq m c), (h c).2⟩) (Cert.RetIdeal.Value.run m ρ),
    (θ_run Cert.RetRefIdeal.defs _ _).mono (fun r h c => by
      refine ⟨?_, (h c).2⟩
      obtain ⟨h0, h1, h2, h3⟩ := hm c
      have eA : Cert.RetRefIdeal.Read.argA m' c = Cert.RetIdeal.Tables.argA m c := by
        funext b s l
        exact congrFun h0 _
      have eP : Cert.RetRefIdeal.Read.argP m' c = Cert.RetIdeal.Tables.argP m c := by
        funext b s
        exact congrFun h1 _
      have eW : Cert.RetRefIdeal.Read.argW m' c = Cert.RetIdeal.Tables.argW m c := by
        funext l
        exact congrFun h2 _
      have eB : Cert.RetRefIdeal.Read.argB m' c = Cert.RetIdeal.Tables.argB m c := by
        funext l
        exact congrFun h3 _
      funext j
      have hj := (h c).1 (j 0) (j 1) (j 2)
      rw [eA, eP, eW, eB] at hj
      exact (congrArg (r.2.mem ((c.tc : Thread Cert.RetRefIdeal.nD Cert.RetRefIdeal.τ).loc Cert.RetRefIdeal.main_v174)) (ix3_eta j).symm).trans hj) (Cert.RetRefIdeal.Read.run m' ρ')⟩

end Cert.RetClaims

end
-- ==== Proof.InProjClaims.lean ====
/-
  The claims about the input projection: its frames, and its result, which is the plain product at every index.
-/
module

public import proofs.«01_k».proof.Defs
public import proofs.«01_k».proof.Proof.Gen.InProj.Frame
public import proofs.«01_k».proof.Proof.Gen.InProjIdeal.Value
public import proofs.«01_k».proof.Proof.Gen.InProjRefIdeal.Run
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.InProjIdeal.Read

open Cert.InProjIdeal Cert.InProjIdeal.Gen Idealize.ShloMosaic Idealize.SL.Sem
open Idealize.ShloMosaic.TcCoe

variable (m : (ℓ : Loc nD τ sig) → Buf (Elt Ideal) ℓ) (c : Dev nD)

/-- The row of tiles and the column of tiles of a point. -/
theorem index0 : ∀ t : Fin cfg0.N, win0_0.index t 0 = t.val / 17 ∧ win0_0.index t 1 = 0 :=
  (by decide +kernel : ∀ t : Fin grid0.N, win0_0.index t 0 = t.val / 17 ∧ win0_0.index t 1 = 0)
theorem index1 : ∀ t : Fin cfg0.N, win0_1.index t 0 = 0 ∧ win0_1.index t 1 = t.val % 17 :=
  (by decide +kernel : ∀ t : Fin grid0.N, win0_1.index t 0 = 0 ∧ win0_1.index t 1 = t.val % 17)
theorem index2 : ∀ t : Fin cfg0.N, win0_2.index t 0 = t.val / 17 ∧ win0_2.index t 1 = t.val % 17 ∧ (cfg0.win 2).flush t = true :=
  (by decide +kernel : ∀ t : Fin grid0.N, win0_2.index t 0 = t.val / 17 ∧ win0_2.index t 1 = t.val % 17 ∧ (cfg0.win 2).flush t = true)

/-- The two arguments, by row and column. -/
def argA (r : Fin 16384) (k : Fin 2048) : EReal := (m ((c : Thread nD τ).loc main_arg0) : Vec Ideal S16384x2048 .bf16) (ix2 r k)
def argW (k : Fin 2048) (s : Fin 17408) : EReal := (m ((c : Thread nD τ).loc main_arg1) : Vec Ideal S2048x17408 .bf16) (ix2 k s)

/-- The array the kernel leaves: the product. -/
def G (c : Dev nD) : Buf (Elt Ideal) ((c : Thread nD τ).loc main_v0) := fun (j : S16384x17408.Idx) =>
  (∑ k : Fin 2048, argA m c (j 0) k * argW m c k (j 1) : EReal)

theorem pt_lt (t : Fin cfg0.N) : t.val < 136 := lt_of_lt_of_eq t.isLt N_0

theorem iblk0 (t : Fin cfg0.N) (i k : Fin 2048) :
    (iblk m c 0 t : Vec Ideal S2048x2048 .bf16) (ix2 i k) = argA m c ⟨t.val / 17 * 2048 + i.val, by have := pt_lt t; have := i.isLt; omega⟩ k := by
  have hi := index0 t
  unfold iblk argA
  rw [View.read_apply, ← V_main_arg0 m c]
  refine congrArg (V m c main_arg0) (funext fun a => Fin.ext ?_)
  match a with
  | ⟨0, _⟩ => show win0_0.index t 0 * 2048 + 1 * i.val = t.val / 17 * 2048 + i.val; rw [hi.1]; omega
  | ⟨1, _⟩ => show win0_0.index t 1 * 2048 + 1 * k.val = k.val; rw [hi.2]; omega

theorem iblk1 (t : Fin cfg0.N) (k : Fin 2048) (q : Fin 1024) :
    (iblk m c 1 t : Vec Ideal S2048x1024 .bf16) (ix2 k q) = argW m c k ⟨t.val % 17 * 1024 + q.val, by have := q.isLt; omega⟩ := by
  have hi := index1 t
  unfold iblk argW
  rw [View.read_apply, ← V_main_arg1 m c]
  refine congrArg (V m c main_arg1) (funext fun a => Fin.ext ?_)
  match a with
  | ⟨0, _⟩ => show win0_1.index t 0 * 2048 + 1 * k.val = k.val; rw [hi.1]; omega
  | ⟨1, _⟩ => show win0_1.index t 1 * 1024 + 1 * q.val = t.val % 17 * 1024 + q.val; rw [hi.2]; omega

/-- The block's product at an index. -/
theorem out_at (a : Vec Ideal S2048x2048 .bf16) (b : Vec Ideal S2048x1024 .bf16) (i : Fin 2048) (q : Fin 1024) :
    out0_2 a b (ix2 i q) = ∑ k : Fin 2048, a (ix2 i k) * b (ix2 k q) := by
  have h : out0_2 a b = k0_pay1 a b := by
    unfold out0_2
    rw [View.canon_cons_unit_lit, View.ld_unit_lit, View.ld_unit_lit]
    all_goals decide
  rw [h]
  unfold k0_pay1
  pointwise

theorem result (c : Dev nD) : (dats m 0 c).arrAt 2 cfg0.N = G m c := by
  funext j
  have j0 : (j 0).val < 16384 := (j 0).isLt
  have j1 : (j 1).val < 17408 := (j 1).isLt
  have ht : (j 0).val / 2048 * 17 + (j 1).val / 1024 < cfg0.N := lt_of_lt_of_eq (by omega : _ < 136) N_0.symm
  have hi := index2 ⟨_, ht⟩
  have hb := congrFun (Value.blocks2 m c ⟨_, ht⟩ hi.2.2) (ix2 (⟨(j 0).val % 2048, Nat.mod_lt _ (by decide)⟩ : Fin 2048) (⟨(j 1).val % 1024, Nat.mod_lt _ (by decide)⟩ : Fin 1024))
  rw [View.read_apply, Value.flushed2] at hb
  refine (congrArg ((dats m 0 c).arrAt 2 cfg0.N) (funext fun a => Fin.ext ?_)).trans (hb.trans ?_)
  · match a with
    | ⟨0, _⟩ => show (j 0).val = win0_2.index ⟨_, ht⟩ 0 * 2048 + 1 * ((j 0).val % 2048); rw [hi.1]; dsimp only; omega
    | ⟨1, _⟩ => show (j 1).val = win0_2.index ⟨_, ht⟩ 1 * 1024 + 1 * ((j 1).val % 1024); rw [hi.2.1]; dsimp only; omega
  · refine (out_at _ _ _ _).trans (show (_ : EReal) = _ from Finset.sum_congr rfl fun k _ => ?_)
    rw [iblk0, iblk1]
    congr 2
    · exact Fin.ext (by show ((j 0).val / 2048 * 17 + (j 1).val / 1024) / 17 * 2048 + (j 0).val % 2048 = (j 0).val; omega)
    · exact Fin.ext (by show ((j 0).val / 2048 * 17 + (j 1).val / 1024) % 17 * 1024 + (j 1).val % 1024 = (j 1).val; omega)

end Cert.InProjIdeal.Read

namespace Cert.InProjClaims

open Idealize.ShloMosaic Idealize.SL.Sem
open Idealize.ShloMosaic.TcCoe

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ =>
  (θ_run Cert.InProjRefIdeal.defs _ _).mono (fun r h => ⟨fun c => (h c).2, Idealize.ShloMosaic.sem_eq_zero_of_no_sems (by decide) r.2⟩)
    (Cert.InProjRefIdeal.Value.run m ρ)
theorem preserves : Cert.preserves_InProj_InProjIdeal := trivial

/-- The plain product at an index. -/
theorem ref_at (a : Vec Ideal Cert.InProjRefIdeal.S16384x2048 .bf16) (b : Vec Ideal Cert.InProjRefIdeal.S2048x17408 .bf16)
    (r : Fin 16384) (s : Fin 17408) :
    (Host.dotGeneral Cert.InProjRefIdeal.dot_S16384x2048_S2048x17408_S16384x17408_1_0_0_1_n_n none
      (extf .f32 a Cert.InProjRefIdeal.Gen.bitsLt_bf16_f32) (extf .f32 b Cert.InProjRefIdeal.Gen.bitsLt_bf16_f32) : FVec Ideal Cert.InProjRefIdeal.S16384x17408 .f32) (ix2 r s)
      = ∑ k : Fin 2048, a (ix2 r k) * b (ix2 k s) := by
  pointwise

theorem ix2_eta (j : Cert.InProjIdeal.S16384x17408.Idx) : ix2 (j 0) (j 1) = j := by
  funext a
  match a with
  | ⟨0, _⟩ => rfl
  | ⟨1, _⟩ => rfl

theorem value : Cert.algebraic_InProjIdeal_InProjRefIdeal := fun m ρ m' ρ' _ hm =>
  ⟨fun c => Cert.InProjIdeal.Read.G m c,
    (θ_run Cert.InProjIdeal.defs _ _).mono (fun r h c => ⟨(h c).1.trans (Cert.InProjIdeal.Read.result m c), (h c).2⟩) (Cert.InProjIdeal.Value.run_blocks m ρ),
    (θ_run Cert.InProjRefIdeal.defs _ _).mono (fun r h c => by
      refine ⟨(h c).1.trans ?_, (h c).2⟩
      obtain ⟨h0, h1⟩ := hm c
      rw [h0, h1]
      funext j
      exact (congrArg _ (ix2_eta j).symm).trans (ref_at _ _ (j 0) (j 1))) (Cert.InProjRefIdeal.Value.run m' ρ')⟩

end Cert.InProjClaims

end
-- ==== Proof.DownTabBits.lean ====
/-
  The experts' down projection at ANY tables in range: the pipeline at them, the blocks its points read, and what the
  body leaves in the output's buffer at each point.
-/
module

public import proofs.«01_k».proof.Proof.Gen.Down.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pipeline.Value
public import Idealize.ShloMosaic.Lib.Pointwise
public import Idealize.ShloMosaic.Lib.Exec
public import Idealize.ShloMosaic.Lib.Tactic
public import Idealize.ShloMosaic.Adequacy
public import Idealize.ShloMosaic.Init

@[expose] public section

set_option maxRecDepth 16384

noncomputable section

namespace Cert.Down.Tab

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Bits) ℓ) (ρ : Dev nD → PrngReg)

/-- The one device. -/
def dev : Dev nD := ⟨0, by decide⟩
theorem dev_eq (c : Dev nD) : c = dev := by
  have := c.isLt
  exact Fin.ext (by have : c.val < 1 := c.isLt; show c.val = 0; omega)

/-- The two tables: a tile's expert and whether it is used. -/
def T0 : S72.Idx → BitVec 32 := m ((dev.tc : Thread nD τ).loc main_arg0)
def T1 : S72.Idx → BitVec 32 := m ((dev.tc : Thread nD τ).loc main_arg1)

/-- What is asked of them. -/
def InRange : Prop := ∀ x : S72.Idx, (T0 m x).toNat < 8 ∧ (T1 m x = 0#32 ∨ T1 m x = 1#32)

set_option backward.proofsInPublic true in
/-- The tables' contents. -/
def pf : pre0.Contents (Elt Bits) := fun | ⟨0, _⟩ => T0 m | ⟨1, _⟩ => T1 m | ⟨_ + 2, h⟩ => absurd h (by simp)

/-- The word of a table a point reads. -/
theorem word_at (T : S72.Idx → Elt Bits .i32) (i : grid0.Coords) :
    View.readAt (Elt Bits) (tbM0_1).view (Rect.unit (s := S72) (k0_off1 i) S1.size (k0_off1_inb i)).toLoadRect T (Shape.Idx.first (numel1_S1.symm ▸ Nat.one_pos))
      = T (ix1 (i 0)) := by
  have hi : (i 0).val < 72 := (i 0).isLt
  have h : (BitVec.ofNat 32 (i 0).val).toNat = (i 0).val := by
    rw [BitVec.toNat_ofNat]; exact Nat.mod_eq_of_lt (by omega)
  refine congrArg T (funext fun a => Fin.ext ?_)
  match a with
  | ⟨0, _⟩ =>
    refine Eq.trans ?_ h
    rfl

theorem sel_iff (v a b : BitVec 32) : Scalar.select (Scalar.cmpi .eq v 1#32) a b = if v = 1#32 then a else b := by
  by_cases h : v = 1#32
  · rw [if_pos h, h]; rfl
  · have hc : Scalar.cmpi .eq v 1#32 = 0#1 := by
      unfold Scalar.cmpi IntOp.cmpi
      rw [show (v == 1#32) = false from beq_eq_false_iff_ne.2 h]; rfl
    rw [if_neg h, hc]; rfl

theorem index1 (i : grid0.Coords) : cc0_transform_1 k0_off1_inb numel1_S1 (pf m) i
    = ![(T0 m (ix1 (i 0))).toNat, 0, if T1 m (ix1 (i 0)) = 1#32 then (i 1).val else 3] := by
  have hi : (i 0).val < 72 := (i 0).isLt
  have hj : (i 1).val < 4 := (i 1).isLt
  have h : (BitVec.ofNat 32 (i 1).val).toNat = (i 1).val := by
    rw [BitVec.toNat_ofNat]; exact Nat.mod_eq_of_lt (by omega)
  have e0 : (pf m).at 0 (Rect.unit (s := S72) ![(BitVec.ofNat 32 (i 0).val).toNat] S1.size (k0_off1_inb i)) numel1_S1 = T0 m (ix1 (i 0)) := word_at (T0 m) i
  have e1 : (pf m).at 1 (Rect.unit (s := S72) ![(BitVec.ofNat 32 (i 0).val).toNat] S1.size (k0_off1_inb i)) numel1_S1 = T1 m (ix1 (i 0)) := word_at (T1 m) i
  unfold cc0_transform_1
  simp only [Scalar.indexCast]
  rw [e0, e1, sel_iff]
  by_cases hc : T1 m (ix1 (i 0)) = 1#32
  · rw [if_pos hc, if_pos hc, h]; rfl
  · rw [if_neg hc, if_neg hc]; rfl

theorem cond1_iff (v : BitVec 32) : k0_cond1 v = 1#1 ↔ v = 1#32 := by
  unfold k0_cond1; simp only [Scalar.cmpi, IntOp.cmpi, Scalar.extui]
  by_cases h : v = 1#32
  · simp [h]
  · rw [show (v == 1#32) = false from beq_eq_false_iff_ne.2 h]
    exact iff_of_false (by decide) h
theorem cond2_iff (v : BitVec 32) : k0_cond2 v = 1#1 ↔ v = 0#32 := by
  unfold k0_cond2; simp only [Scalar.cmpi, IntOp.cmpi, Scalar.extui]
  by_cases h : v = 0#32
  · simp [h]
  · rw [show (v == 0#32) = false from beq_eq_false_iff_ne.2 h]
    exact iff_of_false (by decide) h

theorem atD_eq (i : grid0.Coords) : (pf m).atD 1 (k0_off1 i) = T1 m (ix1 (i 0)) := by
  have h : ∀ a : Fin (pre0.ref 1).ty.shape.rank, k0_off1 i a + 1 ≤ (pre0.ref 1).ty.shape.size a := fun a => by
    match a with
    | ⟨0, _⟩ => exact k0_off1_inb i 0
  exact (dif_pos h).trans (word_at (T1 m) i)

variable {m}

theorem ok (h : InRange m) : ok0 (F := Bits) (pf m) := fun i => by
  have hx := h (ix1 (i 0))
  have hj : (i 1).val < 4 := (i 1).isLt
  refine ⟨?_, Or.inr ?_⟩
  · rw [index1]
    intro a
    match a with
    | ⟨0, _⟩ => show ((T0 m (ix1 (i 0))).toNat + 1) * 1 ≤ 8; omega
    | ⟨1, _⟩ => exact (by decide : (0 + 1) * 7168 ≤ 7168)
    | ⟨2, _⟩ =>
      show ((if T1 m (ix1 (i 0)) = 1#32 then (i 1).val else 3) + 1) * 512 ≤ 2048
      split <;> omega
  · refine Or.inr ⟨by decide, rfl, ?_, rfl⟩
    show cc0_transform_1 k0_off1_inb numel1_S1 (pf m) i 1 * 7168 = 0
    rw [index1]
    rfl

/-! ## The pipeline at the tables -/

local notation "𝕄" => MT nD τ sig Unit (Elt Bits) ℕ (UR sig nD τ) ℕ

/-- The resource algebra: the pipeline's staging cells', embedded whole. -/
abbrev EP : Emb (UR sig nD τ) 𝕄 := emb₁

variable (hR : InRange m)

def adm : (pcfg0 (F := Bits)).Adm := ⟨pf m, ok hR⟩
abbrev cfgA : Pipeline.Cfg sig Λ₀ := cfg0 (F := Bits) (adm hR)
abbrev pcs : Fin 1 → Pipeline.Cfg sig Λ₀ := Pipeline.pin (pcfgs (F := Bits)) fun _ => adm hR

abbrev crd (t : Fin (cfgA hR).N) : (cfgA hR).grid.Coords := (cfgA hR).grid.coords t

abbrev ms0_0 (t : Fin (cfgA hR).N) : Memref sig .tc .vmem S512x7168 .bf16 := spec0_0.stage ((cfgA hR).slots t (0 : Fin 3))
abbrev hs0_0 (t : Fin (cfgA hR).N) : (ms0_0 hR t).IsWhole := hstage0_0 (((cfgA hR).slots t (0 : Fin 3)).cast nbuf0_0)
abbrev ms0_1 (t : Fin (cfgA hR).N) : Memref sig .tc .vmem S1x7168x512 .bf16 := spec0_1.stage ((cfgA hR).slots t (1 : Fin 3))
abbrev hs0_1 (t : Fin (cfgA hR).N) : (ms0_1 hR t).IsWhole := hstage0_1 (((cfgA hR).slots t (1 : Fin 3)).cast nbuf0_1)
abbrev ms0_2 (t : Fin (cfgA hR).N) : Memref sig .tc .vmem S512x512 .f32 := spec0_2.stage ((cfgA hR).slots t (2 : Fin 3))
abbrev hs0_2 (t : Fin (cfgA hR).N) : (ms0_2 hR t).IsWhole := hstage0_2 (((cfgA hR).slots t (2 : Fin 3)).cast nbuf0_2)

/-- The block of window `w` at point `t`, read off its array at launch. -/
def iblk (c : Dev nD) (w : Fin (cfgA hR).W) (t : Fin (cfgA hR).N) : (((cfgA hR).win w).xblock (crd hR t)).Idx → Elt Bits ((cfgA hR).win w).elt :=
  (((cfgA hR).win w).blk t).view.read (Elt Bits) (m (((cfgA hR).win w).arr.view.loc (c : Thread nD τ)))

/-! ## The schedule: nothing is left idle, every point writes its own block back -/

theorem index2_inj : ∀ t t' : Fin (cfgA hR).N, ((cfgA hR).win (2 : Fin 3)).index t = ((cfgA hR).win (2 : Fin 3)).index t' → t = t' :=
  (by decide +kernel : ∀ t t' : Fin grid0.N, cc0_transform_2 (grid0.coords t) = cc0_transform_2 (grid0.coords t') → t = t')

theorem flush2 (t : Fin (cfgA hR).N) : ((cfgA hR).win (2 : Fin 3)).flush t = true :=
  (by decide +kernel : ∀ t : Fin grid0.N, Pipeline.Window.flushOf grid0 true cc0_transform_2 t = true) t

include hR in
theorem used_or (i : grid0.Coords) : T1 m (ix1 (i 0)) = 0#32 ∨ T1 m (ix1 (i 0)) = 1#32 := (hR _).2

theorem idle2 (t : Fin (cfgA hR).N) : (cfgA hR).idle (2 : Fin 3) ((cfgA hR).grid.coords t) = false := by
  show (!(k0_cond1 ((pf m).atD 1 (k0_off1 (crd hR t))) == 1#1) && !(k0_cond2 ((pf m).atD 1 (k0_off1 (crd hR t))) == 1#1)) = false
  rw [atD_eq]
  rcases used_or hR (crd hR t) with h | h
  · rw [h]; decide
  · rw [h]; decide

theorem fresh2 (t : Fin (cfgA hR).N) : (cfgA hR).fresh (2 : Fin 3) t.val = true :=
  Pipeline.Cfg.fresh_tab (cfgA hR) (2 : Fin 3) (fun _ => true) rfl (fun t => by rw [flush2]; rfl) t.val (Nat.le_of_lt t.isLt)

/-- The hypotheses of the two paths. -/
theorem used1 {i : grid0.Coords} (h : T1 m (ix1 (i 0)) = 1#32) :
    k0_cond1 (View.readAt (Elt Bits) (tbM0_1).view (Rect.unit (s := S72) (k0_off1 i) S1.size (k0_off1_inb i)).toLoadRect (T1 m) (Shape.Idx.first (numel1_S1.symm ▸ Nat.one_pos))) = 1#1 := by
  rw [word_at, cond1_iff]; exact h
theorem used2 {i : grid0.Coords} (h : T1 m (ix1 (i 0)) = 1#32) :
    ¬ k0_cond2 (View.readAt (Elt Bits) (tbM0_1).view (Rect.unit (s := S72) (k0_off2 i) S1.size (k0_off2_inb i)).toLoadRect (T1 m) (Shape.Idx.first (numel1_S1.symm ▸ Nat.one_pos))) = 1#1 :=
  fun hc => by
    have := (cond2_iff _).1 ((congrArg k0_cond2 (word_at (T1 m) i)).symm.trans hc)
    rw [h] at this; exact absurd this (by decide)
theorem free1 {i : grid0.Coords} (h : ¬ T1 m (ix1 (i 0)) = 1#32) :
    ¬ k0_cond1 (View.readAt (Elt Bits) (tbM0_1).view (Rect.unit (s := S72) (k0_off1 i) S1.size (k0_off1_inb i)).toLoadRect (T1 m) (Shape.Idx.first (numel1_S1.symm ▸ Nat.one_pos))) = 1#1 := by
  rw [word_at, cond1_iff]; exact h
include hR in
theorem free2 {i : grid0.Coords} (h : ¬ T1 m (ix1 (i 0)) = 1#32) :
    k0_cond2 (View.readAt (Elt Bits) (tbM0_1).view (Rect.unit (s := S72) (k0_off2 i) S1.size (k0_off2_inb i)).toLoadRect (T1 m) (Shape.Idx.first (numel1_S1.symm ▸ Nat.one_pos))) = 1#1 :=
  (congrArg k0_cond2 (word_at (T1 m) i)).trans ((cond2_iff _).2 ((used_or hR i).resolve_right h))

/-- What the body leaves in the output's buffer at a point. -/
def stored (c : Dev nD) (t : Fin (cfgA hR).N) : S512x512.Idx → Elt Bits .f32 :=
  if h : T1 m (ix1 (crd hR t 0)) = 1#32 then
    out0_A_2 c (crd hR t) (ms0_0 hR t) (hs0_0 hR t) (ms0_1 hR t) (hs0_1 hR t) (ms0_2 hR t) (hs0_2 hR t) (T0 m) (T1 m) (iblk hR c (0 : Fin 3) t) (iblk hR c (1 : Fin 3) t) (used1 h) (used2 h)
  else
    out0_B_2 c (crd hR t) (ms0_0 hR t) (hs0_0 hR t) (ms0_1 hR t) (hs0_1 hR t) (ms0_2 hR t) (hs0_2 hR t) (T0 m) (T1 m) (iblk hR c (0 : Fin 3) t) (iblk hR c (1 : Fin 3) t) (free1 h) (free2 hR h)

/-! ## The pipeline's proof data -/

/-- Between points the body keeps its halves of the tables. -/
def Phi (m : (ℓ : Loc nD τ sig) → Buf (Elt Bits) ℓ) (c : Dev nD) : sProp 𝕄 :=
  iprop((tbM0_0.view.loc (c : Thread nD τ) ↦{fullShare.right} T0 m) ∗ (tbM0_1.view.loc (c : Thread nD τ) ↦{fullShare.right} T1 m))

def dats (_ : Fin 1) (c : Dev nD) : Dat τ (Elt Bits) Unit ℕ (UR sig nD τ) ℕ (cfgA hR) c where
  A w := m (((cfgA hR).win w).arr.view.loc (c : Thread nD τ))
  after w t := match w with
    | ⟨0, _⟩ => iblk hR c (0 : Fin 3) t
    | ⟨1, _⟩ => iblk hR c (1 : Fin 3) t
    | ⟨2, _⟩ => stored hR c t
  Φ _ := Phi m c
  q _ := fullShare
  owed _ := 0

theorem after0_0 (c : Dev nD) (t : Fin (cfgA hR).N) : (dats hR 0 c).after (0 : Fin 3) t = iblk hR c (0 : Fin 3) t := rfl
theorem after0_1 (c : Dev nD) (t : Fin (cfgA hR).N) : (dats hR 0 c).after (1 : Fin 3) t = iblk hR c (1 : Fin 3) t := rfl
theorem after0_2 (c : Dev nD) (t : Fin (cfgA hR).N) : (dats hR 0 c).after (2 : Fin 3) t = stored hR c t := rfl

theorem before0_0 (c : Dev nD) (t : Fin (cfgA hR).N) (d) : (dats hR 0 c).before (0 : Fin 3) t d = iblk hR c (0 : Fin 3) t :=
  ((dats hR 0 c).before_in_eq_fetched (0 : Fin 3) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA hR).N) (d) : (dats hR 0 c).before (1 : Fin 3) t d = iblk hR c (1 : Fin 3) t :=
  ((dats hR 0 c).before_in_eq_fetched (1 : Fin 3) rfl (fun _ => rfl) (fun _ _ _ => rfl) (fun t => by rw [after0_1]; unfold Dat.blockOf iblk; rfl) t d).trans
    (by unfold Dat.fetched Dat.blockOf iblk; rfl)

/-! ## The body at a point -/

abbrev bodyAt0 (t : Fin (cfgA hR).N) : Prog (TpuEff nD τ sig (Elt Bits) Λ₀ .tc) PUnit :=
  cc0_moe_down (crd hR t) (Memref.whole main_arg0) (Memref.isWhole_whole _) (Memref.whole main_arg1) (Memref.isWhole_whole _) (ms0_0 hR t) (hs0_0 hR t) (ms0_1 hR t) (hs0_1 hR t) (ms0_2 hR t) (hs0_2 hR t)

set_option maxHeartbeats 4000000 in
/-- The body, from the two blocks and any output buffer, ends with the output buffer at what is stored. -/
theorem body_run (c : Dev nD) (t : Fin (cfgA hR).N) :
    iprop(Phi m c
        ∗ owns (c : Thread nD τ) (ms0_0 hR t) fullShare (iblk hR c (0 : Fin 3) t)
        ∗ owns (c : Thread nD τ) (ms0_1 hR t) fullShare (iblk hR c (1 : Fin 3) t)
        ∗ (∃ d, owns (c : Thread nD τ) (ms0_2 hR t) fullShare d))
      ⊢ wp frame (wpE (defs₀ (F := Bits)) Variants.none c none) Set.univ (bodyAt0 hR t) fun _ =>
          iprop(Phi m c
            ∗ owns (c : Thread nD τ) (ms0_0 hR t) fullShare (iblk hR c (0 : Fin 3) t)
            ∗ owns (c : Thread nD τ) (ms0_1 hR t) fullShare (iblk hR c (1 : Fin 3) t)
            ∗ owns (c : Thread nD τ) (ms0_2 hR t) fullShare (stored hR c t)) := by
  unfold Phi
  by_cases hc : T1 m (ix1 (crd hR t 0)) = 1#32
  · rw [show stored hR c t = _ from dif_pos hc]
    iintro ⟨⟨HT0, HT1⟩, H0, H1, H2⟩
    iapply ((kernelRun0_A c (crd hR t) (ms0_0 hR t) (hs0_0 hR t) (ms0_1 hR t) (hs0_1 hR t) (ms0_2 hR t) (hs0_2 hR t) (T0 m) (T1 m) (iblk hR c (0 : Fin 3) t) (iblk hR c (1 : Fin 3) t) (used1 hc) (used2 hc)).2 _)
    isplitl [H0]; · iapply rep_of_owns; iexact H0
    isplitl [H1]; · iapply rep_of_owns; iexact H1
    isplitl [HT0]; · iexact HT0
    isplitl [HT1]; · iexact HT1
    isplitl [H2]; · iexact H2
    iintro ⟨H0, H1, HT0, HT1, ⟨%e2, H2⟩⟩
    isplitl [HT0 HT1]
    · isplitl [HT0]
      · iexact HT0
      iexact HT1
    isplitl [H0]
    · iapply owns_of_rep; iexact H0
    isplitl [H1]
    · iapply owns_of_rep; iexact H1
    unfold owns; iexists _; isplitr; swap
    · iexact H2
    · ipureintro; exact View.read_writes_of_cover _ _ _ _ _ (cover0_A_2 c _ _ _ _ _ _ _ _ _ _ _ _ _)
  · rw [show stored hR c t = _ from dif_neg hc]
    iintro ⟨⟨HT0, HT1⟩, H0, H1, H2⟩
    iapply ((kernelRun0_B c (crd hR t) (ms0_0 hR t) (hs0_0 hR t) (ms0_1 hR t) (hs0_1 hR t) (ms0_2 hR t) (hs0_2 hR t) (T0 m) (T1 m) (iblk hR c (0 : Fin 3) t) (iblk hR c (1 : Fin 3) t) (free1 hc) (free2 hR hc)).2 _)
    isplitl [H0]; · iapply rep_of_owns; iexact H0
    isplitl [H1]; · iapply rep_of_owns; iexact H1
    isplitl [HT0]; · iexact HT0
    isplitl [HT1]; · iexact HT1
    isplitl [H2]; · iexact H2
    iintro ⟨H0, H1, HT0, HT1, ⟨%e2, H2⟩⟩
    isplitl [HT0 HT1]
    · isplitl [HT0]
      · iexact HT0
      iexact HT1
    isplitl [H0]
    · iapply owns_of_rep; iexact H0
    isplitl [H1]
    · iapply owns_of_rep; iexact H1
    unfold owns; iexists _; isplitr; swap
    · iexact H2
    · ipureintro; exact View.read_writes_of_cover _ _ _ _ _ (cover0_B_2 c _ _ _ _ _ _ _ _ _ _ _ _ _)

set_option maxHeartbeats 4000000 in
/-- So it meets the pipeline's demand at every point. -/
theorem body_obligation (c : Dev nD) : BodyObligation (dats hR 0 c) (defs₀ (F := Bits)) Variants.none () Set.univ := fun t => by
  rw [bigSep_W0, bigSep_W0]
  rewrite [idle2]
  simp only [before0_0, before0_1, after0_0, after0_1, after0_2]
  rewrite [show (dats hR 0 c).Φ t.succ = Phi m c from rfl, show (dats hR 0 c).Φ t.castSucc = Phi m c from rfl,
    show (dats hR 0 c).owesAt () t.succ = (dats hR 0 c).owesAt () t.castSucc from rfl]
  iintro ⟨HP, Ho, ⟨%d0, H0⟩, ⟨%d1, H1⟩, ⟨%d2, H2⟩⟩
  iapply wp_wand_r
  isplitl [HP H0 H1 H2]
  · iapply (body_run hR c t)
    isplitl [HP]; · iexact HP
    isplitl [H0]; · iexact H0
    isplitl [H1]; · iexact H1
    iexists _; iexact H2
  iintro %a ⟨HP, H0, H1, H2⟩
  isplitl [HP]; · iexact HP
  isplitl [Ho]; · iexact Ho
  isplitl [H0]; · iexact H0
  isplitl [H1]; · iexact H1
  iexact H2

/-! ## The launch -/

/-- The launch element of the staging cells. -/
def u₀ : UR sig nD τ :=
  initOf (Pipeline.cells (pcs hR) ((launch0 (F := Bits)).cellOf_inj fun _ => adm hR))
    (Pipeline.launchToks (pcs hR) ((launch0 (F := Bits)).cellOf_inj fun _ => adm hR))

theorem share_eq (c : Dev nD) (w : Fin (cfgA hR).W) : (dats hR 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm hR).1 ∗ Pipeline.scopedRest spec0 c) ⊢ (dats hR 0 c).Φ 0 := by
  rw [prefHeld_eq, scopedRest0_eq, show (dats hR 0 c).Φ 0 = Phi m c from rfl]
  unfold Phi
  iintro ⟨-, ⟨HT0, HT1⟩, -⟩
  isplitl [HT0]
  · iexact HT0
  iexact HT1

theorem phiN_exit (c : Dev nD) : (dats hR 0 c).Φ (Fin.last (cfgA hR).N) ⊢ iprop(BI.emp ∗ Pipeline.scopedRest spec0 c) := by
  rw [scopedRest0_eq]
  iintro -
  isplitr; · iempintro
  iempintro

/-- Every array at what the pipeline computes, every table as it was. -/
def QC : PUnit × MemSt nD τ sig (Elt Bits) → Prop := fun r =>
  ∀ c : Dev nD, (∀ w : Fin (cfgA hR).W, r.2.mem (((cfgA hR).win w).arr.view.loc (c : Thread nD τ)) = (dats hR 0 c).arrAt w (cfgA hR).N)
    ∧ ∀ j, r.2.mem ((c : Thread nD τ).loc (pre0.ref j)) = (adm hR).1 j

theorem V_pre (c : Dev nD) (j : Fin 2) : m ((c : Thread nD τ).loc (pre0.ref j)) = (adm hR).1 j := by
  rw [dev_eq c]
  fin_cases j <;> rfl

set_option backward.isDefEq.respectTransparency.types false in
set_option maxHeartbeats 4000000 in
theorem run_main_quiescent : θ_run (defs (F := Bits)) (onTc (τ := τ) (main (F := Bits))) (s₀ m ρ) (fun r => QC hR r ∧ r.2.sem = fun _ => 0) :=
  Pipeline.θ_run_region_noSem_pf_quiescent pcfgs (fun _ => adm hR) (dats hR) () ((launch0 (F := Bits)).cellOf_inj fun _ => adm hR) (0 : Fin 1)
    (launch0 (F := Bits)).win.to₀ (launch0 (F := Bits)).pre EP defs₀ Variants.none m ρ main
    (hbody := fun c => (body_obligation hR c).loose) (hne := (launch0 (F := Bits)).block_pos)
    (harr := (launch0 (F := Bits)).arr_whole) (hstage := (launch0 (F := Bits)).stage_whole) (howed := fun _ _ => rfl)
    (u₀ := u₀ hR) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hR) (dats hR) 0 (launch0 (F := Bits)).win.arr_inj c (launch0 (F := Bits)).arr_whole
      (share_eq hR c) _ _ fun _ => rfl)
    (hpf := V_pre hR)
    (X := fun _ => iprop(emp)) (Y := fun _ => iprop(emp)) (Z := fun _ => iprop(emp))
    (hX := fun c => by rw [unscopedRestP0_eq]; iintro -; isplitr <;> iempintro)
    (hin := phi0_intro hR)
    (hout := phiN_exit hR)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame, and with it the result's array as the pipeline computes it. -/
theorem run : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v0) = (dats hR 0 c).arrAt (2 : Fin 3) (cfgA hR).N)
      ∧ r.2.sem = fun _ => 0) :=
  (θ_run defs _ _).mono (fun _ h => ⟨fun c => ⟨((h.1 c).2 0).trans (V_pre hR c 0).symm, ((h.1 c).2 1).trans (V_pre hR c 1).symm,
    ((h.1 c).1 (0 : Fin 3)).trans ((dats hR 0 c).arrAt_in (0 : Fin 3) rfl _),
    ((h.1 c).1 (1 : Fin 3)).trans ((dats hR 0 c).arrAt_in (1 : Fin 3) rfl _), (h.1 c).1 (2 : Fin 3)⟩, h.2⟩) (run_main_quiescent ρ hR)

end Cert.Down.Tab
-- ==== Proof.DownTab.lean ====
/-
  The experts' down projection at ANY tables in range: the pipeline at them, the blocks its points read, and what the
  body leaves in the output's buffer at each point.
-/
module

public import proofs.«01_k».proof.Proof.Gen.DownIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pipeline.Value
public import Idealize.ShloMosaic.Lib.Pointwise
public import Idealize.ShloMosaic.Lib.Exec
public import Idealize.ShloMosaic.Lib.Tactic
public import Idealize.ShloMosaic.Adequacy
public import Idealize.ShloMosaic.Init

@[expose] public section

set_option maxRecDepth 16384

noncomputable section

namespace Cert.DownIdeal.Tab

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The one device. -/
def dev : Dev nD := ⟨0, by decide⟩
theorem dev_eq (c : Dev nD) : c = dev := by
  have := c.isLt
  exact Fin.ext (by have : c.val < 1 := c.isLt; show c.val = 0; omega)

/-- The two tables: a tile's expert and whether it is used. -/
def T0 : S72.Idx → BitVec 32 := m ((dev.tc : Thread nD τ).loc main_arg0)
def T1 : S72.Idx → BitVec 32 := m ((dev.tc : Thread nD τ).loc main_arg1)

/-- What is asked of them. -/
def InRange : Prop := ∀ x : S72.Idx, (T0 m x).toNat < 8 ∧ (T1 m x = 0#32 ∨ T1 m x = 1#32)

set_option backward.proofsInPublic true in
/-- The tables' contents. -/
def pf : pre0.Contents (Elt Ideal) := fun | ⟨0, _⟩ => T0 m | ⟨1, _⟩ => T1 m | ⟨_ + 2, h⟩ => absurd h (by simp)

/-- The word of a table a point reads. -/
theorem word_at (T : S72.Idx → Elt Ideal .i32) (i : grid0.Coords) :
    View.readAt (Elt Ideal) (tbM0_1).view (Rect.unit (s := S72) (k0_off1 i) S1.size (k0_off1_inb i)).toLoadRect T (Shape.Idx.first (numel1_S1.symm ▸ Nat.one_pos))
      = T (ix1 (i 0)) := by
  have hi : (i 0).val < 72 := (i 0).isLt
  have h : (BitVec.ofNat 32 (i 0).val).toNat = (i 0).val := by
    rw [BitVec.toNat_ofNat]; exact Nat.mod_eq_of_lt (by omega)
  refine congrArg T (funext fun a => Fin.ext ?_)
  match a with
  | ⟨0, _⟩ =>
    refine Eq.trans ?_ h
    rfl

theorem sel_iff (v a b : BitVec 32) : Scalar.select (Scalar.cmpi .eq v 1#32) a b = if v = 1#32 then a else b := by
  by_cases h : v = 1#32
  · rw [if_pos h, h]; rfl
  · have hc : Scalar.cmpi .eq v 1#32 = 0#1 := by
      unfold Scalar.cmpi IntOp.cmpi
      rw [show (v == 1#32) = false from beq_eq_false_iff_ne.2 h]; rfl
    rw [if_neg h, hc]; rfl

theorem index1 (i : grid0.Coords) : cc0_transform_1 k0_off1_inb numel1_S1 (pf m) i
    = ![(T0 m (ix1 (i 0))).toNat, 0, if T1 m (ix1 (i 0)) = 1#32 then (i 1).val else 3] := by
  have hi : (i 0).val < 72 := (i 0).isLt
  have hj : (i 1).val < 4 := (i 1).isLt
  have h : (BitVec.ofNat 32 (i 1).val).toNat = (i 1).val := by
    rw [BitVec.toNat_ofNat]; exact Nat.mod_eq_of_lt (by omega)
  have e0 : (pf m).at 0 (Rect.unit (s := S72) ![(BitVec.ofNat 32 (i 0).val).toNat] S1.size (k0_off1_inb i)) numel1_S1 = T0 m (ix1 (i 0)) := word_at (T0 m) i
  have e1 : (pf m).at 1 (Rect.unit (s := S72) ![(BitVec.ofNat 32 (i 0).val).toNat] S1.size (k0_off1_inb i)) numel1_S1 = T1 m (ix1 (i 0)) := word_at (T1 m) i
  unfold cc0_transform_1
  simp only [Scalar.indexCast]
  rw [e0, e1, sel_iff]
  by_cases hc : T1 m (ix1 (i 0)) = 1#32
  · rw [if_pos hc, if_pos hc, h]; rfl
  · rw [if_neg hc, if_neg hc]; rfl

theorem cond1_iff (v : BitVec 32) : k0_cond1 v = 1#1 ↔ v = 1#32 := by
  unfold k0_cond1; simp only [Scalar.cmpi, IntOp.cmpi, Scalar.extui]
  by_cases h : v = 1#32
  · simp [h]
  · rw [show (v == 1#32) = false from beq_eq_false_iff_ne.2 h]
    exact iff_of_false (by decide) h
theorem cond2_iff (v : BitVec 32) : k0_cond2 v = 1#1 ↔ v = 0#32 := by
  unfold k0_cond2; simp only [Scalar.cmpi, IntOp.cmpi, Scalar.extui]
  by_cases h : v = 0#32
  · simp [h]
  · rw [show (v == 0#32) = false from beq_eq_false_iff_ne.2 h]
    exact iff_of_false (by decide) h

theorem atD_eq (i : grid0.Coords) : (pf m).atD 1 (k0_off1 i) = T1 m (ix1 (i 0)) := by
  have h : ∀ a : Fin (pre0.ref 1).ty.shape.rank, k0_off1 i a + 1 ≤ (pre0.ref 1).ty.shape.size a := fun a => by
    match a with
    | ⟨0, _⟩ => exact k0_off1_inb i 0
  exact (dif_pos h).trans (word_at (T1 m) i)

variable {m}

theorem ok (h : InRange m) : ok0 (F := Ideal) (pf m) := fun i => by
  have hx := h (ix1 (i 0))
  have hj : (i 1).val < 4 := (i 1).isLt
  refine ⟨?_, Or.inr ?_⟩
  · rw [index1]
    intro a
    match a with
    | ⟨0, _⟩ => show ((T0 m (ix1 (i 0))).toNat + 1) * 1 ≤ 8; omega
    | ⟨1, _⟩ => exact (by decide : (0 + 1) * 7168 ≤ 7168)
    | ⟨2, _⟩ =>
      show ((if T1 m (ix1 (i 0)) = 1#32 then (i 1).val else 3) + 1) * 512 ≤ 2048
      split <;> omega
  · refine Or.inr ⟨by decide, rfl, ?_, rfl⟩
    show cc0_transform_1 k0_off1_inb numel1_S1 (pf m) i 1 * 7168 = 0
    rw [index1]
    rfl

/-! ## The pipeline at the tables -/

local notation "𝕄" => MT nD τ sig Unit (Elt Ideal) ℕ (UR sig nD τ) ℕ

/-- The resource algebra: the pipeline's staging cells', embedded whole. -/
abbrev EP : Emb (UR sig nD τ) 𝕄 := emb₁

variable (hR : InRange m)

def adm : (pcfg0 (F := Ideal)).Adm := ⟨pf m, ok hR⟩
abbrev cfgA : Pipeline.Cfg sig Λ₀ := cfg0 (F := Ideal) (adm hR)
abbrev pcs : Fin 1 → Pipeline.Cfg sig Λ₀ := Pipeline.pin (pcfgs (F := Ideal)) fun _ => adm hR

abbrev crd (t : Fin (cfgA hR).N) : (cfgA hR).grid.Coords := (cfgA hR).grid.coords t

abbrev ms0_0 (t : Fin (cfgA hR).N) : Memref sig .tc .vmem S512x7168 .bf16 := spec0_0.stage ((cfgA hR).slots t (0 : Fin 3))
abbrev hs0_0 (t : Fin (cfgA hR).N) : (ms0_0 hR t).IsWhole := hstage0_0 (((cfgA hR).slots t (0 : Fin 3)).cast nbuf0_0)
abbrev ms0_1 (t : Fin (cfgA hR).N) : Memref sig .tc .vmem S1x7168x512 .bf16 := spec0_1.stage ((cfgA hR).slots t (1 : Fin 3))
abbrev hs0_1 (t : Fin (cfgA hR).N) : (ms0_1 hR t).IsWhole := hstage0_1 (((cfgA hR).slots t (1 : Fin 3)).cast nbuf0_1)
abbrev ms0_2 (t : Fin (cfgA hR).N) : Memref sig .tc .vmem S512x512 .f32 := spec0_2.stage ((cfgA hR).slots t (2 : Fin 3))
abbrev hs0_2 (t : Fin (cfgA hR).N) : (ms0_2 hR t).IsWhole := hstage0_2 (((cfgA hR).slots t (2 : Fin 3)).cast nbuf0_2)

/-- The block of window `w` at point `t`, read off its array at launch. -/
def iblk (c : Dev nD) (w : Fin (cfgA hR).W) (t : Fin (cfgA hR).N) : (((cfgA hR).win w).xblock (crd hR t)).Idx → Elt Ideal ((cfgA hR).win w).elt :=
  (((cfgA hR).win w).blk t).view.read (Elt Ideal) (m (((cfgA hR).win w).arr.view.loc (c : Thread nD τ)))

/-! ## The schedule: nothing is left idle, every point writes its own block back -/

theorem index2_inj : ∀ t t' : Fin (cfgA hR).N, ((cfgA hR).win (2 : Fin 3)).index t = ((cfgA hR).win (2 : Fin 3)).index t' → t = t' :=
  (by decide +kernel : ∀ t t' : Fin grid0.N, cc0_transform_2 (grid0.coords t) = cc0_transform_2 (grid0.coords t') → t = t')

theorem flush2 (t : Fin (cfgA hR).N) : ((cfgA hR).win (2 : Fin 3)).flush t = true :=
  (by decide +kernel : ∀ t : Fin grid0.N, Pipeline.Window.flushOf grid0 true cc0_transform_2 t = true) t

include hR in
theorem used_or (i : grid0.Coords) : T1 m (ix1 (i 0)) = 0#32 ∨ T1 m (ix1 (i 0)) = 1#32 := (hR _).2

theorem idle2 (t : Fin (cfgA hR).N) : (cfgA hR).idle (2 : Fin 3) ((cfgA hR).grid.coords t) = false := by
  show (!(k0_cond1 ((pf m).atD 1 (k0_off1 (crd hR t))) == 1#1) && !(k0_cond2 ((pf m).atD 1 (k0_off1 (crd hR t))) == 1#1)) = false
  rw [atD_eq]
  rcases used_or hR (crd hR t) with h | h
  · rw [h]; decide
  · rw [h]; decide

theorem fresh2 (t : Fin (cfgA hR).N) : (cfgA hR).fresh (2 : Fin 3) t.val = true :=
  Pipeline.Cfg.fresh_tab (cfgA hR) (2 : Fin 3) (fun _ => true) rfl (fun t => by rw [flush2]; rfl) t.val (Nat.le_of_lt t.isLt)

/-- The hypotheses of the two paths. -/
theorem used1 {i : grid0.Coords} (h : T1 m (ix1 (i 0)) = 1#32) :
    k0_cond1 (View.readAt (Elt Ideal) (tbM0_1).view (Rect.unit (s := S72) (k0_off1 i) S1.size (k0_off1_inb i)).toLoadRect (T1 m) (Shape.Idx.first (numel1_S1.symm ▸ Nat.one_pos))) = 1#1 := by
  rw [word_at, cond1_iff]; exact h
theorem used2 {i : grid0.Coords} (h : T1 m (ix1 (i 0)) = 1#32) :
    ¬ k0_cond2 (View.readAt (Elt Ideal) (tbM0_1).view (Rect.unit (s := S72) (k0_off2 i) S1.size (k0_off2_inb i)).toLoadRect (T1 m) (Shape.Idx.first (numel1_S1.symm ▸ Nat.one_pos))) = 1#1 :=
  fun hc => by
    have := (cond2_iff _).1 ((congrArg k0_cond2 (word_at (T1 m) i)).symm.trans hc)
    rw [h] at this; exact absurd this (by decide)
theorem free1 {i : grid0.Coords} (h : ¬ T1 m (ix1 (i 0)) = 1#32) :
    ¬ k0_cond1 (View.readAt (Elt Ideal) (tbM0_1).view (Rect.unit (s := S72) (k0_off1 i) S1.size (k0_off1_inb i)).toLoadRect (T1 m) (Shape.Idx.first (numel1_S1.symm ▸ Nat.one_pos))) = 1#1 := by
  rw [word_at, cond1_iff]; exact h
include hR in
theorem free2 {i : grid0.Coords} (h : ¬ T1 m (ix1 (i 0)) = 1#32) :
    k0_cond2 (View.readAt (Elt Ideal) (tbM0_1).view (Rect.unit (s := S72) (k0_off2 i) S1.size (k0_off2_inb i)).toLoadRect (T1 m) (Shape.Idx.first (numel1_S1.symm ▸ Nat.one_pos))) = 1#1 :=
  (congrArg k0_cond2 (word_at (T1 m) i)).trans ((cond2_iff _).2 ((used_or hR i).resolve_right h))

/-- What the body leaves in the output's buffer at a point. -/
def stored (c : Dev nD) (t : Fin (cfgA hR).N) : S512x512.Idx → Elt Ideal .f32 :=
  if h : T1 m (ix1 (crd hR t 0)) = 1#32 then
    out0_A_2 c (crd hR t) (ms0_0 hR t) (hs0_0 hR t) (ms0_1 hR t) (hs0_1 hR t) (ms0_2 hR t) (hs0_2 hR t) (T0 m) (T1 m) (iblk hR c (0 : Fin 3) t) (iblk hR c (1 : Fin 3) t) (used1 h) (used2 h)
  else
    out0_B_2 c (crd hR t) (ms0_0 hR t) (hs0_0 hR t) (ms0_1 hR t) (hs0_1 hR t) (ms0_2 hR t) (hs0_2 hR t) (T0 m) (T1 m) (iblk hR c (0 : Fin 3) t) (iblk hR c (1 : Fin 3) t) (free1 h) (free2 hR h)

/-! ## The pipeline's proof data -/

/-- Between points the body keeps its halves of the tables. -/
def Phi (m : (ℓ : Loc nD τ sig) → Buf (Elt Ideal) ℓ) (c : Dev nD) : sProp 𝕄 :=
  iprop((tbM0_0.view.loc (c : Thread nD τ) ↦{fullShare.right} T0 m) ∗ (tbM0_1.view.loc (c : Thread nD τ) ↦{fullShare.right} T1 m))

def dats (_ : Fin 1) (c : Dev nD) : Dat τ (Elt Ideal) Unit ℕ (UR sig nD τ) ℕ (cfgA hR) c where
  A w := m (((cfgA hR).win w).arr.view.loc (c : Thread nD τ))
  after w t := match w with
    | ⟨0, _⟩ => iblk hR c (0 : Fin 3) t
    | ⟨1, _⟩ => iblk hR c (1 : Fin 3) t
    | ⟨2, _⟩ => stored hR c t
  Φ _ := Phi m c
  q _ := fullShare
  owed _ := 0

theorem after0_0 (c : Dev nD) (t : Fin (cfgA hR).N) : (dats hR 0 c).after (0 : Fin 3) t = iblk hR c (0 : Fin 3) t := rfl
theorem after0_1 (c : Dev nD) (t : Fin (cfgA hR).N) : (dats hR 0 c).after (1 : Fin 3) t = iblk hR c (1 : Fin 3) t := rfl
theorem after0_2 (c : Dev nD) (t : Fin (cfgA hR).N) : (dats hR 0 c).after (2 : Fin 3) t = stored hR c t := rfl

theorem before0_0 (c : Dev nD) (t : Fin (cfgA hR).N) (d) : (dats hR 0 c).before (0 : Fin 3) t d = iblk hR c (0 : Fin 3) t :=
  ((dats hR 0 c).before_in_eq_fetched (0 : Fin 3) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA hR).N) (d) : (dats hR 0 c).before (1 : Fin 3) t d = iblk hR c (1 : Fin 3) t :=
  ((dats hR 0 c).before_in_eq_fetched (1 : Fin 3) rfl (fun _ => rfl) (fun _ _ _ => rfl) (fun t => by rw [after0_1]; unfold Dat.blockOf iblk; rfl) t d).trans
    (by unfold Dat.fetched Dat.blockOf iblk; rfl)

/-! ## The body at a point -/

abbrev bodyAt0 (t : Fin (cfgA hR).N) : Prog (TpuEff nD τ sig (Elt Ideal) Λ₀ .tc) PUnit :=
  cc0_moe_down (crd hR t) (Memref.whole main_arg0) (Memref.isWhole_whole _) (Memref.whole main_arg1) (Memref.isWhole_whole _) (ms0_0 hR t) (hs0_0 hR t) (ms0_1 hR t) (hs0_1 hR t) (ms0_2 hR t) (hs0_2 hR t)

set_option maxHeartbeats 4000000 in
/-- The body, from the two blocks and any output buffer, ends with the output buffer at what is stored. -/
theorem body_run (c : Dev nD) (t : Fin (cfgA hR).N) :
    iprop(Phi m c
        ∗ owns (c : Thread nD τ) (ms0_0 hR t) fullShare (iblk hR c (0 : Fin 3) t)
        ∗ owns (c : Thread nD τ) (ms0_1 hR t) fullShare (iblk hR c (1 : Fin 3) t)
        ∗ (∃ d, owns (c : Thread nD τ) (ms0_2 hR t) fullShare d))
      ⊢ wp frame (wpE (defs₀ (F := Ideal)) Variants.none c none) Set.univ (bodyAt0 hR t) fun _ =>
          iprop(Phi m c
            ∗ owns (c : Thread nD τ) (ms0_0 hR t) fullShare (iblk hR c (0 : Fin 3) t)
            ∗ owns (c : Thread nD τ) (ms0_1 hR t) fullShare (iblk hR c (1 : Fin 3) t)
            ∗ owns (c : Thread nD τ) (ms0_2 hR t) fullShare (stored hR c t)) := by
  unfold Phi
  by_cases hc : T1 m (ix1 (crd hR t 0)) = 1#32
  · rw [show stored hR c t = _ from dif_pos hc]
    iintro ⟨⟨HT0, HT1⟩, H0, H1, H2⟩
    iapply ((kernelRun0_A c (crd hR t) (ms0_0 hR t) (hs0_0 hR t) (ms0_1 hR t) (hs0_1 hR t) (ms0_2 hR t) (hs0_2 hR t) (T0 m) (T1 m) (iblk hR c (0 : Fin 3) t) (iblk hR c (1 : Fin 3) t) (used1 hc) (used2 hc)).2 _)
    isplitl [H0]; · iapply rep_of_owns; iexact H0
    isplitl [H1]; · iapply rep_of_owns; iexact H1
    isplitl [HT0]; · iexact HT0
    isplitl [HT1]; · iexact HT1
    isplitl [H2]; · iexact H2
    iintro ⟨H0, H1, HT0, HT1, ⟨%e2, H2⟩⟩
    isplitl [HT0 HT1]
    · isplitl [HT0]
      · iexact HT0
      iexact HT1
    isplitl [H0]
    · iapply owns_of_rep; iexact H0
    isplitl [H1]
    · iapply owns_of_rep; iexact H1
    unfold owns; iexists _; isplitr; swap
    · iexact H2
    · ipureintro; exact View.read_writes_of_cover _ _ _ _ _ (cover0_A_2 c _ _ _ _ _ _ _ _ _ _ _ _ _)
  · rw [show stored hR c t = _ from dif_neg hc]
    iintro ⟨⟨HT0, HT1⟩, H0, H1, H2⟩
    iapply ((kernelRun0_B c (crd hR t) (ms0_0 hR t) (hs0_0 hR t) (ms0_1 hR t) (hs0_1 hR t) (ms0_2 hR t) (hs0_2 hR t) (T0 m) (T1 m) (iblk hR c (0 : Fin 3) t) (iblk hR c (1 : Fin 3) t) (free1 hc) (free2 hR hc)).2 _)
    isplitl [H0]; · iapply rep_of_owns; iexact H0
    isplitl [H1]; · iapply rep_of_owns; iexact H1
    isplitl [HT0]; · iexact HT0
    isplitl [HT1]; · iexact HT1
    isplitl [H2]; · iexact H2
    iintro ⟨H0, H1, HT0, HT1, ⟨%e2, H2⟩⟩
    isplitl [HT0 HT1]
    · isplitl [HT0]
      · iexact HT0
      iexact HT1
    isplitl [H0]
    · iapply owns_of_rep; iexact H0
    isplitl [H1]
    · iapply owns_of_rep; iexact H1
    unfold owns; iexists _; isplitr; swap
    · iexact H2
    · ipureintro; exact View.read_writes_of_cover _ _ _ _ _ (cover0_B_2 c _ _ _ _ _ _ _ _ _ _ _ _ _)

set_option maxHeartbeats 4000000 in
/-- So it meets the pipeline's demand at every point. -/
theorem body_obligation (c : Dev nD) : BodyObligation (dats hR 0 c) (defs₀ (F := Ideal)) Variants.none () Set.univ := fun t => by
  rw [bigSep_W0, bigSep_W0]
  rewrite [idle2]
  simp only [before0_0, before0_1, after0_0, after0_1, after0_2]
  rewrite [show (dats hR 0 c).Φ t.succ = Phi m c from rfl, show (dats hR 0 c).Φ t.castSucc = Phi m c from rfl,
    show (dats hR 0 c).owesAt () t.succ = (dats hR 0 c).owesAt () t.castSucc from rfl]
  iintro ⟨HP, Ho, ⟨%d0, H0⟩, ⟨%d1, H1⟩, ⟨%d2, H2⟩⟩
  iapply wp_wand_r
  isplitl [HP H0 H1 H2]
  · iapply (body_run hR c t)
    isplitl [HP]; · iexact HP
    isplitl [H0]; · iexact H0
    isplitl [H1]; · iexact H1
    iexists _; iexact H2
  iintro %a ⟨HP, H0, H1, H2⟩
  isplitl [HP]; · iexact HP
  isplitl [Ho]; · iexact Ho
  isplitl [H0]; · iexact H0
  isplitl [H1]; · iexact H1
  iexact H2

/-! ## The launch -/

/-- The launch element of the staging cells. -/
def u₀ : UR sig nD τ :=
  initOf (Pipeline.cells (pcs hR) ((launch0 (F := Ideal)).cellOf_inj fun _ => adm hR))
    (Pipeline.launchToks (pcs hR) ((launch0 (F := Ideal)).cellOf_inj fun _ => adm hR))

theorem share_eq (c : Dev nD) (w : Fin (cfgA hR).W) : (dats hR 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm hR).1 ∗ Pipeline.scopedRest spec0 c) ⊢ (dats hR 0 c).Φ 0 := by
  rw [prefHeld_eq, scopedRest0_eq, show (dats hR 0 c).Φ 0 = Phi m c from rfl]
  unfold Phi
  iintro ⟨-, ⟨HT0, HT1⟩, -⟩
  isplitl [HT0]
  · iexact HT0
  iexact HT1

theorem phiN_exit (c : Dev nD) : (dats hR 0 c).Φ (Fin.last (cfgA hR).N) ⊢ iprop(BI.emp ∗ Pipeline.scopedRest spec0 c) := by
  rw [scopedRest0_eq]
  iintro -
  isplitr; · iempintro
  iempintro

/-- Every array at what the pipeline computes, every table as it was. -/
def QC : PUnit × MemSt nD τ sig (Elt Ideal) → Prop := fun r =>
  ∀ c : Dev nD, (∀ w : Fin (cfgA hR).W, r.2.mem (((cfgA hR).win w).arr.view.loc (c : Thread nD τ)) = (dats hR 0 c).arrAt w (cfgA hR).N)
    ∧ ∀ j, r.2.mem ((c : Thread nD τ).loc (pre0.ref j)) = (adm hR).1 j

theorem V_pre (c : Dev nD) (j : Fin 2) : m ((c : Thread nD τ).loc (pre0.ref j)) = (adm hR).1 j := by
  rw [dev_eq c]
  fin_cases j <;> rfl

set_option backward.isDefEq.respectTransparency.types false in
set_option maxHeartbeats 4000000 in
theorem run_main_quiescent : θ_run (defs (F := Ideal)) (onTc (τ := τ) (main (F := Ideal))) (s₀ m ρ) (fun r => QC hR r ∧ r.2.sem = fun _ => 0) :=
  Pipeline.θ_run_region_noSem_pf_quiescent pcfgs (fun _ => adm hR) (dats hR) () ((launch0 (F := Ideal)).cellOf_inj fun _ => adm hR) (0 : Fin 1)
    (launch0 (F := Ideal)).win.to₀ (launch0 (F := Ideal)).pre EP defs₀ Variants.none m ρ main
    (hbody := fun c => (body_obligation hR c).loose) (hne := (launch0 (F := Ideal)).block_pos)
    (harr := (launch0 (F := Ideal)).arr_whole) (hstage := (launch0 (F := Ideal)).stage_whole) (howed := fun _ _ => rfl)
    (u₀ := u₀ hR) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hR) (dats hR) 0 (launch0 (F := Ideal)).win.arr_inj c (launch0 (F := Ideal)).arr_whole
      (share_eq hR c) _ _ fun _ => rfl)
    (hpf := V_pre hR)
    (X := fun _ => iprop(emp)) (Y := fun _ => iprop(emp)) (Z := fun _ => iprop(emp))
    (hX := fun c => by rw [unscopedRestP0_eq]; iintro -; isplitr <;> iempintro)
    (hin := phi0_intro hR)
    (hout := phiN_exit hR)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame, and with it the result's array as the pipeline computes it. -/
theorem run : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v0) = (dats hR 0 c).arrAt (2 : Fin 3) (cfgA hR).N)
      ∧ r.2.sem = fun _ => 0) :=
  (θ_run defs _ _).mono (fun _ h => ⟨fun c => ⟨((h.1 c).2 0).trans (V_pre hR c 0).symm, ((h.1 c).2 1).trans (V_pre hR c 1).symm,
    ((h.1 c).1 (0 : Fin 3)).trans ((dats hR 0 c).arrAt_in (0 : Fin 3) rfl _),
    ((h.1 c).1 (1 : Fin 3)).trans ((dats hR 0 c).arrAt_in (1 : Fin 3) rfl _), (h.1 c).1 (2 : Fin 3)⟩, h.2⟩) (run_main_quiescent ρ hR)

end Cert.DownIdeal.Tab
-- ==== Proof.DownValue.lean ====
/-
  What the experts' down projection leaves in its result, at any tables in range: at each index the row's product with
  its tile's expert, if the tile is used, and zero if not.
-/
module

public import proofs.«01_k».proof.Proof.DownTab

@[expose] public section

set_option maxRecDepth 16384

noncomputable section

namespace Cert.DownIdeal.Tab

open Cert.DownIdeal Cert.DownIdeal.Gen
open Idealize.ShloMosaic
open Idealize.ShloMosaic.TcCoe Idealize.ShloMosaic.Tactic
open Idealize.SL.Sem
open Idealize.ShloMosaic.Pipeline (Dat Cfg Window)

variable {m : (ℓ : Loc nD τ sig) → Buf (Elt Ideal) ℓ} (hR : InRange m)

/-- The store of a used tile. -/
theorem out_used (c : Dev nD) (i : grid0.Coords) (arg4 : Memref sig .tc .vmem S512x7168 .bf16) (harg4 : arg4.IsWhole) (arg5 : Memref sig .tc .vmem S1x7168x512 .bf16) (harg5 : arg5.IsWhole) (arg6 : Memref sig .tc .vmem S512x512 .f32) (harg6 : arg6.IsWhole) (t0 t1 : S72.Idx → Elt Ideal .i32)
    (x0 : S512x7168.Idx → Elt Ideal .bf16) (x1 : S1x7168x512.Idx → Elt Ideal .bf16) (h1) (h2) (p q : Fin 512) :
    out0_A_2 c i arg4 harg4 arg5 harg5 arg6 harg6 t0 t1 x0 x1 h1 h2 (ix2 p q)
      = (∑ k : Fin 7168, x0 (ix2 p k) * x1 (ix3 (0 : Fin 1) k q) : EReal) := by
  have h : out0_A_2 c i arg4 harg4 arg5 harg5 arg6 harg6 t0 t1 x0 x1 h1 h2 = k0_pay1 x0 x1 := by
    unfold out0_A_2
    rw [View.read_writes_eq_canon _ _ _ (cover0_A_2 c i arg4 harg4 arg5 harg5 arg6 harg6 t0 t1 x0 x1 h1 h2)]
    unfold kernelRun0_A
    dsimp only
    sl_unfold_words
    rw [View.canon_cons_unit_lit]
    · simp only [View.readAt_eq_ld, harg4.read_unread, harg5.read_unread]
      rw [View.ld_unit_lit, View.ld_unit_lit]
      · rw [View.read_rep, View.read_rep]
      all_goals decide
    · decide
  rw [h]
  unfold k0_pay1
  pointwise

/-- The store of an unused one. -/
theorem out_free (c : Dev nD) (i : grid0.Coords) (arg4 : Memref sig .tc .vmem S512x7168 .bf16) (harg4 : arg4.IsWhole) (arg5 : Memref sig .tc .vmem S1x7168x512 .bf16) (harg5 : arg5.IsWhole) (arg6 : Memref sig .tc .vmem S512x512 .f32) (harg6 : arg6.IsWhole) (t0 t1 : S72.Idx → Elt Ideal .i32)
    (x0 : S512x7168.Idx → Elt Ideal .bf16) (x1 : S1x7168x512.Idx → Elt Ideal .bf16) (h1) (h2) (p q : Fin 512) :
    out0_B_2 c i arg4 harg4 arg5 harg5 arg6 harg6 t0 t1 x0 x1 h1 h2 (ix2 p q) = (0 : EReal) := by
  have h : out0_B_2 c i arg4 harg4 arg5 harg5 arg6 harg6 t0 t1 x0 x1 h1 h2 = (k0_pay2 (F := Ideal) : Vec Ideal S512x512 .f32) := by
    unfold out0_B_2
    rw [View.read_writes_eq_canon _ _ _ (cover0_B_2 c i arg4 harg4 arg5 harg5 arg6 harg6 t0 t1 x0 x1 h1 h2)]
    unfold kernelRun0_B
    dsimp only
    sl_unfold_words
    rw [View.canon_cons_unit_lit]
    decide
  rw [h]
  unfold k0_pay2
  pointwise

/-- The arguments, by their indices. -/
def argU (m : (ℓ : Loc nD τ sig) → Buf (Elt Ideal) ℓ) (r : Fin 36864) (k : Fin 7168) : EReal := (m ((dev : Thread nD τ).loc main_arg2) : Vec Ideal S36864x7168 .bf16) (ix2 r k)
def argW (m : (ℓ : Loc nD τ sig) → Buf (Elt Ideal) ℓ) (e : Fin 8) (k : Fin 7168) (s : Fin 2048) : EReal := (m ((dev : Thread nD τ).loc main_arg3) : Vec Ideal S8x7168x2048 .bf16) (ix3 e k s)

/-- The tile of a row, and its expert. -/
def tile (r : Fin 36864) : Fin 72 := ⟨r.val / 512, by have := r.isLt; omega⟩
include hR in
theorem expert_lt (i : Fin 72) : (T0 m (ix1 i)).toNat < 8 := (hR (ix1 i)).1
def expert (i : Fin 72) : Fin 8 := ⟨(T0 m (ix1 i)).toNat, expert_lt hR i⟩

/-- The result. -/
def G (c : Dev nD) : Buf (Elt Ideal) ((c : Thread nD τ).loc main_v0) := fun (j : S36864x2048.Idx) =>
  (if T1 m (ix1 (tile (j 0))) = 1#32 then ∑ k : Fin 7168, argU m (j 0) k * argW m (expert hR (tile (j 0))) k (j 1) else 0 : EReal)

theorem N_eq : (cfgA hR).N = 288 := N_0
theorem crd_eq (t : Fin (cfgA hR).N) : (crd hR t 0).val = t.val / 4 ∧ (crd hR t 1).val = t.val % 4 :=
  (by decide +kernel : ∀ t : Fin grid0.N, (grid0.coords t 0).val = t.val / 4 ∧ (grid0.coords t 1).val = t.val % 4) t
theorem idx0 (t : Fin (cfgA hR).N) : cc0_transform_0 (crd hR t) 0 = t.val / 4 ∧ cc0_transform_0 (crd hR t) 1 = 0 :=
  (by decide +kernel : ∀ t : Fin grid0.N, cc0_transform_0 (grid0.coords t) 0 = t.val / 4 ∧ cc0_transform_0 (grid0.coords t) 1 = 0) t
theorem idx2 (t : Fin (cfgA hR).N) : cc0_transform_2 (crd hR t) 0 = t.val / 4 ∧ cc0_transform_2 (crd hR t) 1 = t.val % 4 :=
  (by decide +kernel : ∀ t : Fin grid0.N, cc0_transform_2 (grid0.coords t) 0 = t.val / 4 ∧ cc0_transform_2 (grid0.coords t) 1 = t.val % 4) t

theorem iblk0 (c : Dev nD) (t : Fin (cfgA hR).N) (p : Fin 512) (k : Fin 7168) (r : Fin 36864) (hr : r.val = t.val / 4 * 512 + p.val) :
    (iblk hR c (0 : Fin 3) t : Vec Ideal S512x7168 .bf16) (ix2 p k) = argU m r k := by
  rw [dev_eq c]
  have hi := idx0 hR t
  unfold iblk argU
  rw [View.read_apply]
  refine congrArg (m ((dev : Thread nD τ).loc main_arg2)) (funext fun a => Fin.ext ?_)
  match a with
  | ⟨0, _⟩ => show cc0_transform_0 (crd hR t) 0 * 512 + 1 * p.val = r.val; rw [hi.1]; omega
  | ⟨1, _⟩ => show cc0_transform_0 (crd hR t) 1 * 7168 + 1 * k.val = k.val; rw [hi.2]; omega

theorem iblk1 (c : Dev nD) (t : Fin (cfgA hR).N) (h : T1 m (ix1 (crd hR t 0)) = 1#32) (k : Fin 7168) (q : Fin 512) (s : Fin 2048) (hs : s.val = t.val % 4 * 512 + q.val) :
    (iblk hR c (1 : Fin 3) t : Vec Ideal S1x7168x512 .bf16) (ix3 (0 : Fin 1) k q) = argW m (expert hR (crd hR t 0)) k s := by
  rw [dev_eq c]
  have hi := index1 m (crd hR t)
  rw [if_pos h, (crd_eq hR t).2] at hi
  unfold iblk argW
  rw [View.read_apply]
  refine congrArg (m ((dev : Thread nD τ).loc main_arg3)) (funext fun a => Fin.ext ?_)
  match a with
  | ⟨0, _⟩ =>
    show cc0_transform_1 k0_off1_inb numel1_S1 (pf m) (crd hR t) 0 * 1 + 1 * 0 = (T0 m (ix1 (crd hR t 0))).toNat
    rw [hi]; show (T0 m (ix1 (crd hR t 0))).toNat * 1 + 1 * 0 = _; omega
  | ⟨1, _⟩ =>
    show cc0_transform_1 k0_off1_inb numel1_S1 (pf m) (crd hR t) 1 * 7168 + 1 * k.val = k.val
    rw [hi]; show 0 * 7168 + 1 * k.val = k.val; omega
  | ⟨2, _⟩ =>
    show cc0_transform_1 k0_off1_inb numel1_S1 (pf m) (crd hR t) 2 * 512 + 1 * q.val = s.val
    rw [hi]; show t.val % 4 * 512 + 1 * q.val = s.val; omega

/-- What is stored at a point, at an index of the block. -/
theorem stored_at (c : Dev nD) (t : Fin (cfgA hR).N) (p q : Fin 512) (r : Fin 36864) (s : Fin 2048)
    (hr : r.val = t.val / 4 * 512 + p.val) (hs : s.val = t.val % 4 * 512 + q.val) :
    stored hR c t (ix2 p q) = (if T1 m (ix1 (tile r)) = 1#32 then ∑ k : Fin 7168, argU m r k * argW m (expert hR (tile r)) k s else 0 : EReal) := by
  have ht : tile r = crd hR t 0 := Fin.ext (by
    have := (crd_eq hR t).1; have := p.isLt
    show r.val / 512 = (crd hR t 0).val
    omega)
  rw [ht]
  unfold stored
  by_cases h : T1 m (ix1 (crd hR t 0)) = 1#32
  · rw [dif_pos h, if_pos h]
    refine (out_used c _ _ _ _ _ _ _ _ _ _ _ _ _ p q).trans (show (_ : EReal) = _ from Finset.sum_congr rfl fun k _ => ?_)
    rw [iblk0 hR c t p k r hr, iblk1 hR c t h k q s hs]
  · rw [dif_neg h, if_neg h]
    exact out_free c _ _ _ _ _ _ _ _ _ _ _ _ _ p q

theorem disjoint2 : ∀ t t' : Fin (cfgA hR).N, ((cfgA hR).win (2 : Fin 3)).flush t = true → ((cfgA hR).win (2 : Fin 3)).flush t' = true → t ≠ t' →
    Disjoint (((cfgA hR).win (2 : Fin 3)).blk t).view.set (((cfgA hR).win (2 : Fin 3)).blk t').view.set :=
  fun t t' _ _ hne => ((cfgA hR).win (2 : Fin 3)).disjoint_blk fun h => hne (index2_inj hR t t' h)

theorem flushed2 (c : Dev nD) (t : Fin (cfgA hR).N) : (dats hR 0 c).flushed (2 : Fin 3) t = stored hR c t := by
  show ((cfgA hR).win (2 : Fin 3)).cut ((cfgA hR).grid.coords t) ((dats hR 0 c).after (2 : Fin 3) t) = _
  rw [after0_2]
  rfl

theorem blocks2 (c : Dev nD) (t : Fin (cfgA hR).N) :
    (((cfgA hR).win (2 : Fin 3)).blk t).view.read (Elt Ideal) ((dats hR 0 c).arrAt (2 : Fin 3) (cfgA hR).N) = stored hR c t :=
  ((dats hR 0 c).read_blk_arrAt_eq_flushed (2 : Fin 3) (disjoint2 hR) (cfgA hR).N t t.isLt (flush2 hR t)).trans (flushed2 hR c t)

theorem out_at (c : Dev nD) (t : Fin (cfgA hR).N) (p q : Fin 512) (r : Fin 36864) (s : Fin 2048)
    (hr : r.val = t.val / 4 * 512 + p.val) (hs : s.val = t.val % 4 * 512 + q.val) :
    ((dats hR 0 c).arrAt (2 : Fin 3) (cfgA hR).N : S36864x2048.Idx → Elt Ideal .f32) (ix2 r s) = stored hR c t (ix2 p q) := by
  have hi := idx2 hR t
  have he : (((cfgA hR).win (2 : Fin 3)).blk t).view.emb (ix2 p q) = (ix2 r s : S36864x2048.Idx) := by
    refine funext fun a => Fin.ext ?_
    match a with
    | ⟨0, _⟩ => show cc0_transform_2 (crd hR t) 0 * 512 + 1 * p.val = r.val; rw [hi.1]; omega
    | ⟨1, _⟩ => show cc0_transform_2 (crd hR t) 1 * 512 + 1 * q.val = s.val; rw [hi.2]; omega
  have hb := congrFun (blocks2 hR c t) (ix2 p q)
  generalize (dats hR 0 c).arrAt (2 : Fin 3) (cfgA hR).N = A at hb ⊢
  rw [← he]
  exact hb

theorem ix2_eta {n k : ℕ} (j : Shape.Idx ⟨2, ![n, k]⟩) : j = ix2 (j 0) (j 1) := by
  funext a
  match a with
  | ⟨0, _⟩ => rfl
  | ⟨1, _⟩ => rfl

theorem result_at (c : Dev nD) (r : Fin 36864) (s : Fin 2048) :
    ((dats hR 0 c).arrAt (2 : Fin 3) (cfgA hR).N : S36864x2048.Idx → Elt Ideal .f32) (ix2 r s)
      = (if T1 m (ix1 (tile r)) = 1#32 then ∑ k : Fin 7168, argU m r k * argW m (expert hR (tile r)) k s else 0 : EReal) := by
  have j0 : r.val < 36864 := r.isLt
  have j1 : s.val < 2048 := s.isLt
  have ht : r.val / 512 * 4 + s.val / 512 < (cfgA hR).N := lt_of_lt_of_eq (by omega : _ < 288) (N_eq hR).symm
  have e0 : r.val = (r.val / 512 * 4 + s.val / 512) / 4 * 512 + r.val % 512 := by omega
  have e1 : s.val = (r.val / 512 * 4 + s.val / 512) % 4 * 512 + s.val % 512 := by omega
  exact (out_at hR c ⟨_, ht⟩ ⟨r.val % 512, Nat.mod_lt _ (by decide)⟩ ⟨s.val % 512, Nat.mod_lt _ (by decide)⟩ r s e0 e1).trans
    (stored_at hR c ⟨_, ht⟩ _ _ r s e0 e1)

theorem result (c : Dev nD) : (dats hR 0 c).arrAt (2 : Fin 3) (cfgA hR).N = G hR c := by
  funext j
  have h := result_at hR c (j 0) (j 1)
  generalize (dats hR 0 c).arrAt (2 : Fin 3) (cfgA hR).N = A at h ⊢
  exact (congrArg A (ix2_eta (n := 36864) (k := 2048) j)).trans h

end Cert.DownIdeal.Tab
-- ==== Proof.DownRef.lean ====
/-
  What the reference of the experts' down projection holds at an index: the row's product with its tile's expert, if the
  tile is used.
-/
module

public import proofs.«01_k».proof.Proof.Gen.DownRefIdeal.Run
public import Idealize.ShloMosaic.Lib.Pointwise

@[expose] public section

set_option maxRecDepth 16384

noncomputable section

namespace Cert.DownRefIdeal.Read

open Cert.DownRefIdeal Cert.DownRefIdeal.Gen Idealize.ShloMosaic Idealize.SL.Sem
open Idealize.ShloMosaic.TcCoe

/-- A table's word, spread over the 512 rows of its tile. -/
theorem spread_at (t : Vec Ideal S72 .i32) (r : Fin 36864) :
    (shapeCast S36864 (broadcastInDim S72x512 ![0, 1] bcast_S72x1_S72x512_0_1 (broadcastInDim S72x1 ![0] bcast_S72_S72x1_0 t)) shapeCasts_S72x512_S36864 : IVec S36864 32) (ix1 r)
      = t (ix1 (⟨r.val / 512, by have := r.isLt; omega⟩ : Fin 72)) := by
  have hr := r.isLt
  pointwise

theorem eq_zero_of_ne_one {c : BitVec 1} (h : c ≠ 1#1) : c = 0#1 := by revert h; revert c; decide

/-- One expert's turn: the rows it serves take its product, the others what they had. -/
theorem turn_at (e : ℕ) (he : e < 8) (w : BitVec 32) (hsl : S8x7168x2048.Slices ![e, 0, 0] S1x7168x2048)
    (te tv : Vec Ideal S72 .i32) (us : Vec Ideal S36864x7168 .bf16) (w2 : Vec Ideal S8x7168x2048 .bf16) (prev : FVec Ideal S36864x2048 .f32)
    (r : Fin 36864) (s : Fin 2048) :
    select (broadcastInDim S36864x2048 ![0, 1] bcast_S36864x1_S36864x2048_0_1 (broadcastInDim S36864x1 ![0] bcast_S36864_S36864x1_0 (andi (cmpi .eq (shapeCast S36864 (broadcastInDim S72x512 ![0, 1] bcast_S72x1_S72x512_0_1 (broadcastInDim S72x1 ![0] bcast_S72_S72x1_0 tv)) shapeCasts_S72x512_S36864) (broadcastInDim S36864 ![] bcast_S_S36864 (constantI S_ 32 1#32))) (cmpi .eq (shapeCast S36864 (broadcastInDim S72x512 ![0, 1] bcast_S72x1_S72x512_0_1 (broadcastInDim S72x1 ![0] bcast_S72_S72x1_0 te)) shapeCasts_S72x512_S36864) (broadcastInDim S36864 ![] bcast_S_S36864 (constantI S_ 32 w))))))
      (Host.dotGeneral dot_S36864x7168_S7168x2048_S36864x2048_1_0_0_1_n_n none (extf .f32 us bitsLt_bf16_f32) (extf .f32 (shapeCast S7168x2048 (extractStridedSlice S1x7168x2048 ![e, 0, 0] w2 hsl) shapeCasts_S1x7168x2048_S7168x2048) bitsLt_bf16_f32))
      prev (ix2 r s)
      = if tv (ix1 (⟨r.val / 512, by have := r.isLt; omega⟩ : Fin 72)) = 1#32 ∧ te (ix1 (⟨r.val / 512, by have := r.isLt; omega⟩ : Fin 72)) = w
        then (∑ k : Fin 7168, us (ix2 r k) * w2 (ix3 (⟨e, he⟩ : Fin 8) k s) : EReal) else prev (ix2 r s) := by
  have hr := r.isLt
  have hdot : (Host.dotGeneral dot_S36864x7168_S7168x2048_S36864x2048_1_0_0_1_n_n none (extf .f32 us bitsLt_bf16_f32) (extf .f32 (shapeCast S7168x2048 (extractStridedSlice S1x7168x2048 ![e, 0, 0] w2 hsl) shapeCasts_S1x7168x2048_S7168x2048) bitsLt_bf16_f32) : FVec Ideal S36864x2048 .f32) (ix2 r s)
      = ∑ k : Fin 7168, us (ix2 r k) * w2 (ix3 (⟨e, he⟩ : Fin 8) k s) := by
    pointwise
  rw [← hdot]
  clear hdot
  generalize (Host.dotGeneral dot_S36864x7168_S7168x2048_S36864x2048_1_0_0_1_n_n none (extf .f32 us bitsLt_bf16_f32) (extf .f32 (shapeCast S7168x2048 (extractStridedSlice S1x7168x2048 ![e, 0, 0] w2 hsl) shapeCasts_S1x7168x2048_S7168x2048) bitsLt_bf16_f32) : FVec Ideal S36864x2048 .f32) = D
  have h1 := spread_at tv r
  have h0 := spread_at te r
  revert h1 h0
  generalize (shapeCast S36864 (broadcastInDim S72x512 ![0, 1] bcast_S72x1_S72x512_0_1 (broadcastInDim S72x1 ![0] bcast_S72_S72x1_0 tv)) shapeCasts_S72x512_S36864 : IVec S36864 32) = A
  generalize (shapeCast S36864 (broadcastInDim S72x512 ![0, 1] bcast_S72x1_S72x512_0_1 (broadcastInDim S72x1 ![0] bcast_S72_S72x1_0 te)) shapeCasts_S72x512_S36864 : IVec S36864 32) = B
  intro h1 h0
  rw [← h1, ← h0]
  refine Eq.trans (b := Scalar.select (IntOp.andi (IntOp.cmpi CmpIPredicate.eq (A (ix1 r)) 1#32) (IntOp.cmpi CmpIPredicate.eq (B (ix1 r)) w)) (D (ix2 r s)) (prev (ix2 r s))) (by pointwise) ?_
  by_cases hA : A (ix1 r) = 1#32
  · by_cases hB : B (ix1 r) = w
    · rw [if_pos ⟨hA, hB⟩, hA, hB]
      rw [show _ = 1#1 from IntOp.andi_eq_one.2 ⟨IntOp.cmpi_eq.2 rfl, IntOp.cmpi_eq.2 rfl⟩]; rfl
    · rw [if_neg fun h => hB h.2]
      rw [show _ = 0#1 from eq_zero_of_ne_one fun h => hB (IntOp.cmpi_eq.1 (IntOp.andi_eq_one.1 h).2)]; rfl
  · rw [if_neg fun h => hA h.1]
    rw [show _ = 0#1 from eq_zero_of_ne_one fun h => hA (IntOp.cmpi_eq.1 (IntOp.andi_eq_one.1 h).1)]; rfl

theorem zeros_at (r : Fin 36864) (s : Fin 2048) :
    (broadcastInDim S36864x2048 ![] bcast_S_S36864x2048 (constant S_ .f32 0x00000000#32) : FVec Ideal S36864x2048 .f32) (ix2 r s) = (0 : EReal) := by
  pointwise

variable (m : (ℓ : Loc nD τ sig) → Buf (Elt Ideal) ℓ)

/-- The arguments, by their indices. -/
def argU (c : Dev nD) (r : Fin 36864) (k : Fin 7168) : EReal := (m ((c : Thread nD τ).loc main_arg2) : Vec Ideal S36864x7168 .bf16) (ix2 r k)
def argW (c : Dev nD) (e : Fin 8) (k : Fin 7168) (s : Fin 2048) : EReal := (m ((c : Thread nD τ).loc main_arg3) : Vec Ideal S8x7168x2048 .bf16) (ix3 e k s)

/-- The reference's result at an index, of a used tile whose expert is `e`. -/
theorem result_used (c : Dev nD) (r : Fin 36864) (s : Fin 2048) (e : Fin 8)
    (hv : (m ((c : Thread nD τ).loc main_arg1) : Vec Ideal S72 .i32) (ix1 (⟨r.val / 512, by have := r.isLt; omega⟩ : Fin 72)) = 1#32)
    (he : ((m ((c : Thread nD τ).loc main_arg0) : Vec Ideal S72 .i32) (ix1 (⟨r.val / 512, by have := r.isLt; omega⟩ : Fin 72))).toNat = e.val) :
    (Value.res_main_v102 m c : S36864x2048.Idx → Elt Ideal .f32) (ix2 r s)
      = (∑ k : Fin 7168, argU m c r k * argW m c e k s : EReal) := by
  unfold Value.res_main_v102
  rw [turn_at 7 (by decide), turn_at 6 (by decide), turn_at 5 (by decide), turn_at 4 (by decide), turn_at 3 (by decide), turn_at 2 (by decide), turn_at 1 (by decide), turn_at 0 (by decide)]
  generalize (m ((c : Thread nD τ).loc main_arg0) : Vec Ideal S72 .i32) (ix1 (⟨r.val / 512, by have := r.isLt; omega⟩ : Fin 72)) = w at he ⊢
  rw [hv]
  obtain ⟨e, hlt⟩ := e
  have hw : w = BitVec.ofNat 32 e := BitVec.eq_of_toNat_eq (he.trans (by rw [BitVec.toNat_ofNat]; exact (Nat.mod_eq_of_lt (by omega)).symm))
  subst hw
  interval_cases e
  all_goals
    simp only [true_and]
    repeat first
      | (rw [if_pos rfl]; rfl)
      | (rw [if_pos trivial]; rfl)
      | rw [if_neg (by decide)]

theorem result_free (c : Dev nD) (r : Fin 36864) (s : Fin 2048)
    (hv : ¬ (m ((c : Thread nD τ).loc main_arg1) : Vec Ideal S72 .i32) (ix1 (⟨r.val / 512, by have := r.isLt; omega⟩ : Fin 72)) = 1#32) :
    (Value.res_main_v102 m c : S36864x2048.Idx → Elt Ideal .f32) (ix2 r s) = (0 : EReal) := by
  unfold Value.res_main_v102
  rw [turn_at 7 (by decide), turn_at 6 (by decide), turn_at 5 (by decide), turn_at 4 (by decide), turn_at 3 (by decide), turn_at 2 (by decide), turn_at 1 (by decide), turn_at 0 (by decide)]
  rw [if_neg fun h => hv h.1, if_neg fun h => hv h.1, if_neg fun h => hv h.1, if_neg fun h => hv h.1,
    if_neg fun h => hv h.1, if_neg fun h => hv h.1, if_neg fun h => hv h.1, if_neg fun h => hv h.1]
  exact zeros_at r s

end Cert.DownRefIdeal.Read
-- ==== Proof.DownClaims.lean ====
/-
  The claims about the experts' down projection: at any tables of experts and of used tiles that are in range it runs,
  and its result is the plain one.
-/
module

public import proofs.«01_k».proof.Defs
public import proofs.«01_k».proof.Proof.DownTabBits
public import proofs.«01_k».proof.Proof.DownValue
public import proofs.«01_k».proof.Proof.DownRef
public import proofs.«01_k».proof.Proof.Gen.Pre_down_tables
public import Idealize.ShloMosaic.Lib.Affine

@[expose] public section

set_option maxRecDepth 16384

noncomputable section

namespace Cert.DownClaims

open Idealize.ShloMosaic Idealize.SL.Sem
open Idealize.ShloMosaic.TcCoe

/-- What the precondition says of the tables. -/
theorem pre_words {F : FTy → Type} [FloatOps F] (te tv : IVec Cert.Pre_down_tables.S72 32) (us : FVec F Cert.Pre_down_tables.S36864x7168 .bf16) (w2 : FVec F Cert.Pre_down_tables.S8x7168x2048 .bf16)
    (h : Cert.Pre_down_tables.fn te tv us w2 = fun _ => 1#1) (x : Cert.Pre_down_tables.S72.Idx) :
    (te x).toNat < 8 ∧ (tv x = 0#32 ∨ tv x = 1#32) := by
  have hx := congrFun h x
  dsimp only [Cert.Pre_down_tables.fn] at hx
  obtain ⟨h3, h4⟩ := IntOp.andi_eq_one.1 hx
  obtain ⟨h2, h3⟩ := IntOp.andi_eq_one.1 h3
  obtain ⟨h1, h2⟩ := IntOp.andi_eq_one.1 h2
  have a1 : (0#32 : BitVec 32).toInt ≤ (te x).toInt := IntOp.cmpi_sge.1 h1
  have a2 : (te x).toInt < (8#32 : BitVec 32).toInt := IntOp.cmpi_slt.1 h2
  have a3 : (0#32 : BitVec 32).toInt ≤ (tv x).toInt := IntOp.cmpi_sge.1 h3
  have a4 : (tv x).toInt < (2#32 : BitVec 32).toInt := IntOp.cmpi_slt.1 h4
  generalize te x = a at a1 a2 ⊢
  generalize tv x = b at a3 a4 ⊢
  rw [show (0#32 : BitVec 32).toInt = 0 from by decide] at a1 a3
  rw [show (8#32 : BitVec 32).toInt = 8 from by decide] at a2
  rw [show (2#32 : BitVec 32).toInt = 2 from by decide] at a4
  refine ⟨?_, ?_⟩
  · have := BitVec.toInt_eq_toNat_cond a
    have := a.isLt
    split_ifs at * <;> omega
  · have hb : b.toNat = 0 ∨ b.toNat = 1 := by
      have := BitVec.toInt_eq_toNat_cond b
      have := b.isLt
      split_ifs at * <;> omega
    exact hb.imp (fun e => BitVec.eq_of_toNat_eq e) (fun e => BitVec.eq_of_toNat_eq e)

theorem range_p (m : (ℓ : Loc Cert.Down.nD Cert.Down.τ Cert.Down.sig) → Buf (Elt Bits) ℓ) (h : Pre_Down m) : Cert.Down.Tab.InRange m :=
  fun x => pre_words _ _ _ _ (h Cert.Down.Tab.dev) x
theorem range_pi (m : (ℓ : Loc Cert.DownIdeal.nD Cert.DownIdeal.τ Cert.DownIdeal.sig) → Buf (Elt Ideal) ℓ) (h : Pre_DownIdeal m) : Cert.DownIdeal.Tab.InRange m :=
  fun x => pre_words _ _ _ _ (h Cert.DownIdeal.Tab.dev) x

theorem frame_p : Cert.quiescent_Down := fun m ρ h =>
  (θ_run Cert.Down.defs _ _).mono (fun r h => ⟨fun c => ⟨(h.1 c).1, (h.1 c).2.1, (h.1 c).2.2.1, (h.1 c).2.2.2.1⟩, h.2⟩) (Cert.Down.Tab.run ρ (range_p m h))
theorem frame_pi : Cert.quiescent_DownIdeal := fun m ρ h =>
  (θ_run Cert.DownIdeal.defs _ _).mono (fun r h => ⟨fun c => ⟨(h.1 c).1, (h.1 c).2.1, (h.1 c).2.2.1, (h.1 c).2.2.2.1⟩, h.2⟩) (Cert.DownIdeal.Tab.run ρ (range_pi m h))
theorem frame_ri : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run m ρ)
theorem frame_ri_pre : Cert.quiescent_DownRefIdeal_pre_down_tables := fun m ρ _ => frame_ri m ρ trivial
theorem preserves : Cert.preserves_Down_DownIdeal := trivial

/-- The reference's result, at the kernel's arguments. -/
theorem ref_result (m : (ℓ : Loc Cert.DownIdeal.nD Cert.DownIdeal.τ Cert.DownIdeal.sig) → Buf (Elt Ideal) ℓ) (m' : (ℓ : Loc Cert.DownRefIdeal.nD Cert.DownRefIdeal.τ Cert.DownRefIdeal.sig) → Buf (Elt Ideal) ℓ)
    (hR : Cert.DownIdeal.Tab.InRange m) (c : Dev Cert.DownIdeal.nD)
    (h0 : m' ((c : Thread Cert.DownRefIdeal.nD Cert.DownRefIdeal.τ).loc Cert.DownRefIdeal.main_arg0) = m ((c : Thread Cert.DownIdeal.nD Cert.DownIdeal.τ).loc Cert.DownIdeal.main_arg0))
    (h1 : m' ((c : Thread Cert.DownRefIdeal.nD Cert.DownRefIdeal.τ).loc Cert.DownRefIdeal.main_arg1) = m ((c : Thread Cert.DownIdeal.nD Cert.DownIdeal.τ).loc Cert.DownIdeal.main_arg1))
    (h2 : m' ((c : Thread Cert.DownRefIdeal.nD Cert.DownRefIdeal.τ).loc Cert.DownRefIdeal.main_arg2) = m ((c : Thread Cert.DownIdeal.nD Cert.DownIdeal.τ).loc Cert.DownIdeal.main_arg2))
    (h3 : m' ((c : Thread Cert.DownRefIdeal.nD Cert.DownRefIdeal.τ).loc Cert.DownRefIdeal.main_arg3) = m ((c : Thread Cert.DownIdeal.nD Cert.DownIdeal.τ).loc Cert.DownIdeal.main_arg3)) :
    Cert.DownRefIdeal.Value.res_main_v102 m' c = Cert.DownIdeal.Tab.G hR c := by
  have hc := Cert.DownIdeal.Tab.dev_eq c
  funext j
  have hU : ∀ k, Cert.DownRefIdeal.Read.argU m' c (j 0) k = Cert.DownIdeal.Tab.argU m (j 0) k := fun k => by
    unfold Cert.DownRefIdeal.Read.argU Cert.DownIdeal.Tab.argU
    rw [h2, hc]
  have hW : ∀ e k, Cert.DownRefIdeal.Read.argW m' c e k (j 1) = Cert.DownIdeal.Tab.argW m e k (j 1) := fun e k => by
    unfold Cert.DownRefIdeal.Read.argW Cert.DownIdeal.Tab.argW
    rw [h3, hc]
  have hT0 : (m' ((c : Thread Cert.DownRefIdeal.nD Cert.DownRefIdeal.τ).loc Cert.DownRefIdeal.main_arg0) : Vec Ideal Cert.DownRefIdeal.S72 .i32) (ix1 (Cert.DownIdeal.Tab.tile (j 0))) = Cert.DownIdeal.Tab.T0 m (ix1 (Cert.DownIdeal.Tab.tile (j 0))) := by
    rw [h0, hc]; rfl
  have hT1 : (m' ((c : Thread Cert.DownRefIdeal.nD Cert.DownRefIdeal.τ).loc Cert.DownRefIdeal.main_arg1) : Vec Ideal Cert.DownRefIdeal.S72 .i32) (ix1 (Cert.DownIdeal.Tab.tile (j 0))) = Cert.DownIdeal.Tab.T1 m (ix1 (Cert.DownIdeal.Tab.tile (j 0))) := by
    rw [h1, hc]; rfl
  have hN : ((m' ((c : Thread Cert.DownRefIdeal.nD Cert.DownRefIdeal.τ).loc Cert.DownRefIdeal.main_arg0) : Vec Ideal Cert.DownRefIdeal.S72 .i32) (ix1 (Cert.DownIdeal.Tab.tile (j 0)))).toNat
      = (Cert.DownIdeal.Tab.expert hR (Cert.DownIdeal.Tab.tile (j 0))).val := by rw [hT0]; rfl
  refine (congrArg (Cert.DownRefIdeal.Value.res_main_v102 m' c) (Cert.DownIdeal.Tab.ix2_eta (n := 36864) (k := 2048) j)).trans ?_
  unfold Cert.DownIdeal.Tab.G
  by_cases h : Cert.DownIdeal.Tab.T1 m (ix1 (Cert.DownIdeal.Tab.tile (j 0))) = 1#32
  · rw [if_pos h]
    refine (Cert.DownRefIdeal.Read.result_used m' c (j 0) (j 1) (Cert.DownIdeal.Tab.expert hR (Cert.DownIdeal.Tab.tile (j 0))) (hT1.trans h) hN).trans
      (show (_ : EReal) = _ from Finset.sum_congr rfl fun k _ => ?_)
    rw [hU, hW]
  · rw [if_neg h]
    exact Cert.DownRefIdeal.Read.result_free m' c (j 0) (j 1) fun e => h (hT1.symm.trans e)

theorem value : Cert.algebraic_DownIdeal_DownRefIdeal := fun m ρ m' ρ' hp hm =>
  ⟨fun c => Cert.DownIdeal.Tab.G (range_pi m hp) c,
    (θ_run Cert.DownIdeal.defs _ _).mono (fun r h c => ⟨(h.1 c).2.2.2.2.trans (Cert.DownIdeal.Tab.result (range_pi m hp) c), (h.1 c).1, (h.1 c).2.1, (h.1 c).2.2.1, (h.1 c).2.2.2.1⟩) (Cert.DownIdeal.Tab.run ρ (range_pi m hp)),
    (θ_run Cert.DownRefIdeal.defs _ _).mono (fun r h c =>
      ⟨(h c).1.trans (ref_result m m' (range_pi m hp) c (hm c).1 (hm c).2.1 (hm c).2.2.1 (hm c).2.2.2), (h c).2⟩) (Cert.DownRefIdeal.Value.run m' ρ')⟩

end Cert.DownClaims

end
-- ==== Proof.UpTabBits.lean ====
/-
  The experts' up projection at ANY tables that its steps may have: the pipeline at them, the blocks its steps read, the
  weights its two scratch buffers keep from step to step, and what the body leaves in the output's buffer at each step.
-/
module

public import proofs.«01_k».proof.Proof.Gen.Up.Flash.Runs
public import Idealize.ShloMosaic.Lib.Pipeline.Quiescent
public import Idealize.ShloMosaic.Lib.Claim
public import Idealize.ShloMosaic.Lib.Affine
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pipeline.Value
public import Idealize.ShloMosaic.Lib.Pointwise
public import Idealize.ShloMosaic.Lib.Exec
public import Idealize.ShloMosaic.Lib.Tactic
public import Idealize.ShloMosaic.Adequacy
public import Idealize.ShloMosaic.Init

@[expose] public section

set_option maxRecDepth 16384

noncomputable section

namespace Cert.Up.Tab

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## What the body stores, path by path -/

section Stores

variable (c : Dev nD) (i : grid0.Coords) (arg7 : Memref sig .tc .vmem S512x2048 .bf16) (harg7 : arg7.IsWhole) (arg8 : Memref sig .tc .vmem S1x2048x512 .f32) (harg8 : arg8.IsWhole) (arg9 : Memref sig .tc .vmem S1x2048x512 .f32) (harg9 : arg9.IsWhole) (arg10 : Memref sig .tc .vmem S512x512 .bf16) (harg10 : arg10.IsWhole)
  (t0 t1 t2 t3 t4 t5 : S1008.Idx → Elt Bits .i32)
  (x0 : S512x2048.Idx → Elt Bits .bf16) (x1 x2 : S1x2048x512.Idx → Elt Bits .f32)

/-- A store of a whole buffer leaves its payload. -/
theorem whole_store (b : Ref sig .tc) (f : b.ty.Contents (Elt Bits)) (off : Fin b.ty.shape.rank → ℕ) (inb : ∀ a, off a + b.ty.shape.size a ≤ b.ty.shape.size a) (w : b.ty.Contents (Elt Bits)) :
    (View.whole b).writes (Elt Bits) f [⟨Rect.unit off b.ty.shape.size inb, w⟩] = w :=
  View.read_writes_full (Val := Elt Bits) (View.whole b) f inb w []

theorem load0 (h1 h2 h3) : (kernelRun0_A c i arg7 harg7 arg8 harg8 arg9 harg9 arg10 harg10 t0 t1 t2 t3 t4 t5 x0 x1 x2 h1 h2 h3).2.1 = (k0_pay1 (F := Bits) x1 : Vec Bits S2048x512 .bf16) := by
  unfold kernelRun0_A
  dsimp only
  sl_unfold_words
  refine (whole_store cc0_scratch0 _ _ _ _).trans (congrArg (k0_pay1 (F := Bits)) ?_)
  rw [View.readAt_eq_ld, View.ld_unit_lit, View.read_rep]
  decide

theorem load1 (h1 h2 h3) : (kernelRun0_A c i arg7 harg7 arg8 harg8 arg9 harg9 arg10 harg10 t0 t1 t2 t3 t4 t5 x0 x1 x2 h1 h2 h3).2.2.1 = (k0_pay2 (F := Bits) x2 : Vec Bits S2048x512 .bf16) := by
  unfold kernelRun0_A
  dsimp only
  sl_unfold_words
  refine (whole_store cc0_scratch1 _ _ _ _).trans (congrArg (k0_pay2 (F := Bits)) ?_)
  rw [View.readAt_eq_ld, View.ld_unit_lit, View.read_rep]
  decide

theorem out_load (h1 h2 h3) : out0_A_3 c i arg7 harg7 arg8 harg8 arg9 harg9 arg10 harg10 t0 t1 t2 t3 t4 t5 x0 x1 x2 h1 h2 h3 = k0_pay3 (F := Bits) x0 (k0_pay1 (F := Bits) x1) (k0_pay2 (F := Bits) x2) := by
  unfold out0_A_3
  rw [View.read_writes_eq_canon _ _ _ (cover0_A_3 c i arg7 harg7 arg8 harg8 arg9 harg9 arg10 harg10 t0 t1 t2 t3 t4 t5 x0 x1 x2 h1 h2 h3)]
  unfold kernelRun0_A
  dsimp only
  sl_unfold_words
  rw [View.canon_cons_unit_lit, View.readCov_unit_lit, View.readCov_unit_lit]
  · simp only [View.readAt_eq_ld]
    rw [View.ld_unit_lit, View.ld_unit_lit, View.ld_unit_lit, View.read_rep, View.read_rep, View.read_rep]
    all_goals decide
  all_goals decide

variable (xa0 : Buf (Elt Bits) ((c : Thread nD τ).loc cc0_scratch0)) (xa1 : Buf (Elt Bits) ((c : Thread nD τ).loc cc0_scratch1))

theorem out_keep (h1 h2 h3) : out0_B_3 c i arg7 harg7 arg8 harg8 arg9 harg9 arg10 harg10 t0 t1 t2 t3 t4 t5 x0 x1 x2 xa0 xa1 h1 h2 h3 = k0_pay3 (F := Bits) x0 (xa0 : Vec Bits S2048x512 .bf16) (xa1 : Vec Bits S2048x512 .bf16) := by
  unfold out0_B_3
  rw [View.read_writes_eq_canon _ _ _ (cover0_B_3 c i arg7 harg7 arg8 harg8 arg9 harg9 arg10 harg10 t0 t1 t2 t3 t4 t5 x0 x1 x2 xa0 xa1 h1 h2 h3)]
  unfold kernelRun0_B
  dsimp only
  sl_unfold_words
  rw [View.canon_cons_unit_lit]
  · simp only [View.readAt_eq_ld]
    rw [View.ld_unit_lit, View.ld_unit_lit, View.ld_unit_lit, View.read_rep]
    · rfl
    all_goals decide
  · decide

theorem keep0 (h1 h2 h3) : (kernelRun0_B c i arg7 harg7 arg8 harg8 arg9 harg9 arg10 harg10 t0 t1 t2 t3 t4 t5 x0 x1 x2 xa0 xa1 h1 h2 h3).2.1 = xa0 := rfl
theorem keep1 (h1 h2 h3) : (kernelRun0_B c i arg7 harg7 arg8 harg8 arg9 harg9 arg10 harg10 t0 t1 t2 t3 t4 t5 x0 x1 x2 xa0 xa1 h1 h2 h3).2.2.1 = xa1 := rfl

theorem out_free (h1 h2 h3) : out0_C_3 c i arg7 harg7 arg8 harg8 arg9 harg9 arg10 harg10 t0 t1 t2 t3 t4 t5 x0 x1 x2 xa0 xa1 h1 h2 h3 = (k0_pay4 (F := Bits) : Vec Bits S512x512 .bf16) := by
  unfold out0_C_3
  rw [View.read_writes_eq_canon _ _ _ (cover0_C_3 c i arg7 harg7 arg8 harg8 arg9 harg9 arg10 harg10 t0 t1 t2 t3 t4 t5 x0 x1 x2 xa0 xa1 h1 h2 h3)]
  unfold kernelRun0_C
  dsimp only
  sl_unfold_words
  rw [View.canon_cons_unit_lit]
  decide

end Stores

variable (m : (ℓ : Loc nD τ sig) → Buf (Elt Bits) ℓ) (ρ : Dev nD → PrngReg)

/-- The one device. -/
def dev : Dev nD := ⟨0, by decide⟩
theorem dev_eq (c : Dev nD) : c = dev := by
  have := c.isLt
  exact Fin.ext (by have : c.val < 1 := c.isLt; show c.val = 0; omega)

/-- The six tables: a step's row tile, its column tile of the result, its column tile of the weights, its expert, whether
    it is the first of its group, and whether its row tile is used. -/
def T0 : S1008.Idx → BitVec 32 := m ((dev.tc : Thread nD τ).loc main_arg0)
def T1 : S1008.Idx → BitVec 32 := m ((dev.tc : Thread nD τ).loc main_arg1)
def T2 : S1008.Idx → BitVec 32 := m ((dev.tc : Thread nD τ).loc main_arg2)
def T3 : S1008.Idx → BitVec 32 := m ((dev.tc : Thread nD τ).loc main_arg3)
def T4 : S1008.Idx → BitVec 32 := m ((dev.tc : Thread nD τ).loc main_arg4)
def T5 : S1008.Idx → BitVec 32 := m ((dev.tc : Thread nD τ).loc main_arg5)

/-- What is asked of six tables. -/
structure Steps (t0 t1 t2 t3 t4 t5 : S1008.Idx → BitVec 32) : Prop where
  row : ∀ s : Fin 1008, (t0 (ix1 s)).toNat < 72
  col : ∀ s : Fin 1008, (t1 (ix1 s)).toNat < 14
  wcol : ∀ s : Fin 1008, (t2 (ix1 s)).toNat < 14
  expert : ∀ s : Fin 1008, (t3 (ix1 s)).toNat < 8
  used : ∀ s : Fin 1008, t5 (ix1 s) = 0#32 ∨ t5 (ix1 s) = 1#32
  own : ∀ s : Fin 1008, t5 (ix1 s) = 1#32 → t2 (ix1 s) = t1 (ix1 s)
  idle : ∀ s : Fin 1008, t5 (ix1 s) = 0#32 → t4 (ix1 s) = 0#32
  apart : ∀ s s' : Fin 1008, t0 (ix1 s) = t0 (ix1 s') → t1 (ix1 s) = t1 (ix1 s') → s = s'
  tile : ∀ s s' : Fin 1008, 14 * (t0 (ix1 s)).toNat = s'.val → t3 (ix1 s) = t3 (ix1 s') ∧ t5 (ix1 s) = t5 (ix1 s')
  same : ∀ s s' : Fin 1008, s.val + 1 = s'.val → t5 (ix1 s') = 1#32 → t4 (ix1 s') ≠ 1#32 →
    t5 (ix1 s) = 1#32 ∧ t3 (ix1 s) = t3 (ix1 s') ∧ t2 (ix1 s) = t2 (ix1 s')
  start : ∀ s : Fin 1008, s.val = 0 → t5 (ix1 s) = 1#32 → t4 (ix1 s) = 1#32

/-- What is asked of the launch's. -/
abbrev Good : Prop := Steps (T0 m) (T1 m) (T2 m) (T3 m) (T4 m) (T5 m)

set_option backward.proofsInPublic true in
/-- The tables' contents. -/
def pf : pre0.Contents (Elt Bits) := fun | ⟨0, _⟩ => T0 m | ⟨1, _⟩ => T1 m | ⟨2, _⟩ => T2 m | ⟨3, _⟩ => T3 m | ⟨4, _⟩ => T4 m | ⟨5, _⟩ => T5 m | ⟨_ + 6, h⟩ => absurd h (by simp)

/-- The word of a table a step reads. -/
theorem word_at (T : S1008.Idx → Elt Bits .i32) (i : grid0.Coords) :
    View.readAt (Elt Bits) (tbM0_4).view (Rect.unit (s := S1008) (k0_off1 i) S1.size (k0_off1_inb i)).toLoadRect T (Shape.Idx.first (numel1_S1.symm ▸ Nat.one_pos))
      = T (ix1 (i 0)) := by
  have hi : (i 0).val < 1008 := (i 0).isLt
  have h : (BitVec.ofNat 32 (i 0).val).toNat = (i 0).val := by
    rw [BitVec.toNat_ofNat]; exact Nat.mod_eq_of_lt (by omega)
  refine congrArg T (funext fun a => Fin.ext ?_)
  match a with
  | ⟨0, _⟩ =>
    refine Eq.trans ?_ h
    rfl

theorem index0 (i : grid0.Coords) : cc0_transform_0 k0_off1_inb numel1_S1 (pf m) i = ![(T0 m (ix1 (i 0))).toNat, 0] := by
  have e : (pf m).at 0 (Rect.unit (s := S1008) ![(BitVec.ofNat 32 (i 0).val).toNat] S1.size (k0_off1_inb i)) numel1_S1 = T0 m (ix1 (i 0)) := word_at (T0 m) i
  unfold cc0_transform_0
  simp only [Scalar.indexCast]
  rw [e]; rfl

theorem index1 (i : grid0.Coords) : cc0_transform_1 k0_off1_inb numel1_S1 (pf m) i = ![(T3 m (ix1 (i 0))).toNat, 0, (T2 m (ix1 (i 0))).toNat] := by
  have e3 : (pf m).at 3 (Rect.unit (s := S1008) ![(BitVec.ofNat 32 (i 0).val).toNat] S1.size (k0_off1_inb i)) numel1_S1 = T3 m (ix1 (i 0)) := word_at (T3 m) i
  have e2 : (pf m).at 2 (Rect.unit (s := S1008) ![(BitVec.ofNat 32 (i 0).val).toNat] S1.size (k0_off1_inb i)) numel1_S1 = T2 m (ix1 (i 0)) := word_at (T2 m) i
  unfold cc0_transform_1
  simp only [Scalar.indexCast]
  rw [e3, e2]; rfl

theorem index2 (i : grid0.Coords) : cc0_transform_2 k0_off1_inb numel1_S1 (pf m) i = ![(T3 m (ix1 (i 0))).toNat, 0, (T2 m (ix1 (i 0))).toNat] :=
  index1 m i

theorem index3 (i : grid0.Coords) : cc0_transform_3 k0_off1_inb numel1_S1 (pf m) i = ![(T0 m (ix1 (i 0))).toNat, (T1 m (ix1 (i 0))).toNat] := by
  have e0 : (pf m).at 0 (Rect.unit (s := S1008) ![(BitVec.ofNat 32 (i 0).val).toNat] S1.size (k0_off1_inb i)) numel1_S1 = T0 m (ix1 (i 0)) := word_at (T0 m) i
  have e1 : (pf m).at 1 (Rect.unit (s := S1008) ![(BitVec.ofNat 32 (i 0).val).toNat] S1.size (k0_off1_inb i)) numel1_S1 = T1 m (ix1 (i 0)) := word_at (T1 m) i
  unfold cc0_transform_3
  simp only [Scalar.indexCast]
  rw [e0, e1]

theorem first_iff (v : BitVec 32) : Scalar.cmpi .ne (Scalar.extui (Scalar.cmpi .eq v 1#32) : BitVec 32) 0#32 = 1#1 ↔ v = 1#32 := by
  simp only [Scalar.cmpi, IntOp.cmpi, Scalar.extui]
  by_cases h : v = 1#32
  · simp [h]
  · rw [show (v == 1#32) = false from beq_eq_false_iff_ne.2 h]
    exact iff_of_false (by decide) h
theorem cond2_iff (v : BitVec 32) : k0_cond2 v = 1#1 ↔ v = 1#32 := first_iff v
theorem cond3_iff (v : BitVec 32) : k0_cond3 v = 1#1 ↔ v = 0#32 := by
  unfold k0_cond3; simp only [Scalar.cmpi, IntOp.cmpi, Scalar.extui]
  by_cases h : v = 0#32
  · simp [h]
  · rw [show (v == 0#32) = false from beq_eq_false_iff_ne.2 h]
    exact iff_of_false (by decide) h

theorem atD_eq (i : grid0.Coords) : (pf m).atD 5 (k0_off2 i) = T5 m (ix1 (i 0)) := by
  have h : ∀ a : Fin (pre0.ref 5).ty.shape.rank, k0_off2 i a + 1 ≤ (pre0.ref 5).ty.shape.size a := fun a => by
    match a with
    | ⟨0, _⟩ => exact k0_off2_inb i 0
  exact (dif_pos h).trans (word_at (T5 m) i)

variable {m}

theorem ok (h : Good m) : ok0 (F := Bits) (pf m) := by
  refine ⟨fun i => ⟨?_, .inr (Affine.block_words_dvd (s := S36864x2048) (p := EltTy.packing .bf16) (by decide) (by decide))⟩, fun i => ⟨?_, .inl rfl⟩,
    fun i => ⟨?_, .inl rfl⟩, fun i => ⟨?_, .inr (Affine.block_words_dvd (s := S36864x7168) (p := EltTy.packing .bf16) (by decide) (by decide))⟩⟩
  · rw [index0]
    intro a
    match a with
    | ⟨0, _⟩ => show ((T0 m (ix1 (i 0))).toNat + 1) * 512 ≤ 36864; have := h.row (i 0); omega
    | ⟨1, _⟩ => exact (by decide : (0 + 1) * 2048 ≤ 2048)
  · rw [index1]
    intro a
    match a with
    | ⟨0, _⟩ => show ((T3 m (ix1 (i 0))).toNat + 1) * 1 ≤ 8; have := h.expert (i 0); omega
    | ⟨1, _⟩ => exact (by decide : (0 + 1) * 2048 ≤ 2048)
    | ⟨2, _⟩ => show ((T2 m (ix1 (i 0))).toNat + 1) * 512 ≤ 7168; have := h.wcol (i 0); omega
  · rw [index2]
    intro a
    match a with
    | ⟨0, _⟩ => show ((T3 m (ix1 (i 0))).toNat + 1) * 1 ≤ 8; have := h.expert (i 0); omega
    | ⟨1, _⟩ => exact (by decide : (0 + 1) * 2048 ≤ 2048)
    | ⟨2, _⟩ => show ((T2 m (ix1 (i 0))).toNat + 1) * 512 ≤ 7168; have := h.wcol (i 0); omega
  · rw [index3]
    intro a
    match a with
    | ⟨0, _⟩ => show ((T0 m (ix1 (i 0))).toNat + 1) * 512 ≤ 36864; have := h.row (i 0); omega
    | ⟨1, _⟩ => show ((T1 m (ix1 (i 0))).toNat + 1) * 512 ≤ 7168; have := h.col (i 0); omega

/-! ## The pipeline at the tables -/

local notation "𝕄" => MT nD τ sig Unit (Elt Bits) ℕ (UR sig nD τ) ℕ

/-- The resource algebra: the pipeline's staging cells', embedded whole. -/
abbrev EP : Emb (UR sig nD τ) 𝕄 := emb₁

variable (hR : Good m)

def adm : (pcfg0 (F := Bits)).Adm := ⟨pf m, ok hR⟩
abbrev cfgA : Pipeline.Cfg sig Λ₀ := cfg0 (F := Bits) (adm hR)
abbrev pcs : Fin 1 → Pipeline.Cfg sig Λ₀ := Pipeline.pin (pcfgs (F := Bits)) fun _ => adm hR

abbrev crd (t : Fin (cfgA hR).N) : (cfgA hR).grid.Coords := (cfgA hR).grid.coords t

abbrev ms0_0 (t : Fin (cfgA hR).N) : Memref sig .tc .vmem S512x2048 .bf16 := spec0_0.stage ((cfgA hR).slots t (0 : Fin 4))
abbrev hs0_0 (t : Fin (cfgA hR).N) : (ms0_0 hR t).IsWhole := hstage0_0 (((cfgA hR).slots t (0 : Fin 4)).cast nbuf0_0)
abbrev ms0_1 (t : Fin (cfgA hR).N) : Memref sig .tc .vmem S1x2048x512 .f32 := spec0_1.stage ((cfgA hR).slots t (1 : Fin 4))
abbrev hs0_1 (t : Fin (cfgA hR).N) : (ms0_1 hR t).IsWhole := hstage0_1 (((cfgA hR).slots t (1 : Fin 4)).cast nbuf0_1)
abbrev ms0_2 (t : Fin (cfgA hR).N) : Memref sig .tc .vmem S1x2048x512 .f32 := spec0_2.stage ((cfgA hR).slots t (2 : Fin 4))
abbrev hs0_2 (t : Fin (cfgA hR).N) : (ms0_2 hR t).IsWhole := hstage0_2 (((cfgA hR).slots t (2 : Fin 4)).cast nbuf0_2)
abbrev ms0_3 (t : Fin (cfgA hR).N) : Memref sig .tc .vmem S512x512 .bf16 := spec0_3.stage ((cfgA hR).slots t (3 : Fin 4))
abbrev hs0_3 (t : Fin (cfgA hR).N) : (ms0_3 hR t).IsWhole := hstage0_3 (((cfgA hR).slots t (3 : Fin 4)).cast nbuf0_3)

/-- The block of window `w` at step `t`, read off its array at launch. -/
def iblk (c : Dev nD) (w : Fin (cfgA hR).W) (t : Fin (cfgA hR).N) : (((cfgA hR).win w).xblock (crd hR t)).Idx → Elt Bits ((cfgA hR).win w).elt :=
  (((cfgA hR).win w).blk t).view.read (Elt Bits) (m (((cfgA hR).win w).arr.view.loc (c : Thread nD τ)))

/-! ## The schedule: nothing is left idle, every step writes its own block back -/

theorem N_eq : (cfgA hR).N = 1008 := N_0
theorem crd_val (t : Fin (cfgA hR).N) : (crd hR t 0).val = t.val :=
  (by decide +kernel : ∀ t : Fin grid0.N, (grid0.coords t 0).val = t.val) t

theorem index3_inj (t t' : Fin (cfgA hR).N) (h : ((cfgA hR).win (3 : Fin 4)).index t = ((cfgA hR).win (3 : Fin 4)).index t') : t = t' := by
  have h' : cc0_transform_3 k0_off1_inb numel1_S1 (pf m) (crd hR t) = cc0_transform_3 k0_off1_inb numel1_S1 (pf m) (crd hR t') := h
  rw [index3, index3] at h'
  have h0 := BitVec.eq_of_toNat_eq (congrFun h' 0)
  have h1 := BitVec.eq_of_toNat_eq (congrFun h' 1)
  have := congrArg Fin.val (hR.apart _ _ h0 h1)
  rw [crd_val, crd_val] at this
  exact Fin.ext this

theorem flush3 (t : Fin (cfgA hR).N) : ((cfgA hR).win (3 : Fin 4)).flush t = true := by
  by_cases h : t.val + 1 = (cfgA hR).N
  · show (true && (decide (t.val + 1 = (cfgA hR).N) || _)) = true
    rw [decide_eq_true h]; rfl
  · have hlt : t.val + 1 < (cfgA hR).N := lt_of_le_of_ne t.isLt h
    have hne : ∃ h : t.val + 1 < (cfgA hR).N, ((cfgA hR).win (3 : Fin 4)).index ⟨t.val + 1, h⟩ ≠ ((cfgA hR).win (3 : Fin 4)).index t :=
      ⟨hlt, fun e => by have := congrArg Fin.val (index3_inj hR _ _ e); exact absurd this (by show t.val + 1 ≠ t.val; omega)⟩
    show (true && (decide (t.val + 1 = (cfgA hR).N) || decide (∃ h : t.val + 1 < (cfgA hR).N, ((cfgA hR).win (3 : Fin 4)).index ⟨t.val + 1, h⟩ ≠ ((cfgA hR).win (3 : Fin 4)).index t))) = true
    rw [decide_eq_true hne, Bool.or_true]; rfl

theorem idle3 (t : Fin (cfgA hR).N) : (cfgA hR).idle (3 : Fin 4) ((cfgA hR).grid.coords t) = false := by
  show (!(k0_cond2 ((pf m).atD 5 (k0_off2 (crd hR t))) == 1#1) && !(k0_cond3 ((pf m).atD 5 (k0_off2 (crd hR t))) == 1#1)) = false
  rw [atD_eq]
  rcases hR.used (crd hR t 0) with h | h
  · rw [h]; decide
  · rw [h]; decide

theorem fresh3 (t : Fin (cfgA hR).N) : (cfgA hR).fresh (3 : Fin 4) t.val = true :=
  Pipeline.Cfg.fresh_tab (cfgA hR) (3 : Fin 4) (fun _ => true) rfl (fun t => by rw [flush3]; rfl) t.val (Nat.le_of_lt t.isLt)

/-- The hypotheses of the paths. -/
theorem first_pos {i : grid0.Coords} (h : T4 m (ix1 (i 0)) = 1#32) :
    Scalar.cmpi .ne (Scalar.extui (Scalar.cmpi .eq (View.readAt (Elt Bits) (tbM0_4).view (Rect.unit (s := S1008) (k0_off1 i) S1.size (k0_off1_inb i)).toLoadRect (T4 m) (Shape.Idx.first (numel1_S1.symm ▸ Nat.one_pos))) 1#32) : BitVec 32) 0#32 = 1#1 := by
  rw [word_at, first_iff]; exact h
theorem first_neg {i : grid0.Coords} (h : ¬ T4 m (ix1 (i 0)) = 1#32) :
    ¬ Scalar.cmpi .ne (Scalar.extui (Scalar.cmpi .eq (View.readAt (Elt Bits) (tbM0_4).view (Rect.unit (s := S1008) (k0_off1 i) S1.size (k0_off1_inb i)).toLoadRect (T4 m) (Shape.Idx.first (numel1_S1.symm ▸ Nat.one_pos))) 1#32) : BitVec 32) 0#32 = 1#1 := by
  rw [word_at, first_iff]; exact h
theorem used_eq (i : grid0.Coords) :
    View.readAt (Elt Bits) (tbM0_5).view (Rect.unit (s := S1008) (k0_off2 i) S1.size (k0_off2_inb i)).toLoadRect (T5 m) (Shape.Idx.first (numel1_S1.symm ▸ Nat.one_pos)) = T5 m (ix1 (i 0)) :=
  word_at (T5 m) i
theorem used_pos2 {i : grid0.Coords} (h : T5 m (ix1 (i 0)) = 1#32) :
    k0_cond2 (View.readAt (Elt Bits) (tbM0_5).view (Rect.unit (s := S1008) (k0_off2 i) S1.size (k0_off2_inb i)).toLoadRect (T5 m) (Shape.Idx.first (numel1_S1.symm ▸ Nat.one_pos))) = 1#1 :=
  (congrArg k0_cond2 (used_eq i)).trans ((cond2_iff _).2 h)
theorem used_neg2 {i : grid0.Coords} (h : ¬ T5 m (ix1 (i 0)) = 1#32) :
    ¬ k0_cond2 (View.readAt (Elt Bits) (tbM0_5).view (Rect.unit (s := S1008) (k0_off2 i) S1.size (k0_off2_inb i)).toLoadRect (T5 m) (Shape.Idx.first (numel1_S1.symm ▸ Nat.one_pos))) = 1#1 :=
  fun hc => h ((cond2_iff _).1 ((congrArg k0_cond2 (used_eq i)).symm.trans hc))
theorem used_pos3 {i : grid0.Coords} (h : T5 m (ix1 (i 0)) = 1#32) :
    ¬ k0_cond3 (View.readAt (Elt Bits) (tbM0_5).view (Rect.unit (s := S1008) (k0_off3 i) S1.size (k0_off3_inb i)).toLoadRect (T5 m) (Shape.Idx.first (numel1_S1.symm ▸ Nat.one_pos))) = 1#1 :=
  fun hc => by
    have := (cond3_iff _).1 ((congrArg k0_cond3 (used_eq i)).symm.trans hc)
    rw [h] at this; exact absurd this (by decide)
include hR in
theorem used_neg3 {i : grid0.Coords} (h : ¬ T5 m (ix1 (i 0)) = 1#32) :
    k0_cond3 (View.readAt (Elt Bits) (tbM0_5).view (Rect.unit (s := S1008) (k0_off3 i) S1.size (k0_off3_inb i)).toLoadRect (T5 m) (Shape.Idx.first (numel1_S1.symm ▸ Nat.one_pos))) = 1#1 :=
  (congrArg k0_cond3 (used_eq i)).trans ((cond3_iff _).2 ((hR.used (i 0)).resolve_right h))
include hR in
theorem first_free {i : grid0.Coords} (h : ¬ T5 m (ix1 (i 0)) = 1#32) : ¬ T4 m (ix1 (i 0)) = 1#32 := fun e => by
  rw [hR.idle (i 0) ((hR.used (i 0)).resolve_right h)] at e; exact absurd e (by decide)

/-! ## The weights kept from step to step -/

theorem weights1_eq (c : Dev nD) (t t' : Fin (cfgA hR).N) (h3 : T3 m (ix1 (crd hR t 0)) = T3 m (ix1 (crd hR t' 0))) (h2 : T2 m (ix1 (crd hR t 0)) = T2 m (ix1 (crd hR t' 0))) :
    (iblk hR c (1 : Fin 4) t : S1x2048x512.Idx → Elt Bits .f32) = iblk hR c (1 : Fin 4) t' := by
  have hi : cc0_transform_1 k0_off1_inb numel1_S1 (pf m) (crd hR t) = cc0_transform_1 k0_off1_inb numel1_S1 (pf m) (crd hR t') := by
    rw [index1, index1, h3, h2]
  funext x
  unfold iblk
  rw [View.read_apply, View.read_apply]
  refine congrArg (m ((c : Thread nD τ).loc main_arg7)) (funext fun a => Fin.ext ?_)
  show cc0_transform_1 k0_off1_inb numel1_S1 (pf m) (crd hR t) a * S1x2048x512.size a + 1 * (x a).val
    = cc0_transform_1 k0_off1_inb numel1_S1 (pf m) (crd hR t') a * S1x2048x512.size a + 1 * (x a).val
  rw [hi]

theorem weights2_eq (c : Dev nD) (t t' : Fin (cfgA hR).N) (h3 : T3 m (ix1 (crd hR t 0)) = T3 m (ix1 (crd hR t' 0))) (h2 : T2 m (ix1 (crd hR t 0)) = T2 m (ix1 (crd hR t' 0))) :
    (iblk hR c (2 : Fin 4) t : S1x2048x512.Idx → Elt Bits .f32) = iblk hR c (2 : Fin 4) t' := by
  have hi : cc0_transform_2 k0_off1_inb numel1_S1 (pf m) (crd hR t) = cc0_transform_2 k0_off1_inb numel1_S1 (pf m) (crd hR t') := by
    rw [index2, index2, h3, h2]
  funext x
  unfold iblk
  rw [View.read_apply, View.read_apply]
  refine congrArg (m ((c : Thread nD τ).loc main_arg8)) (funext fun a => Fin.ext ?_)
  show cc0_transform_2 k0_off1_inb numel1_S1 (pf m) (crd hR t) a * S1x2048x512.size a + 1 * (x a).val
    = cc0_transform_2 k0_off1_inb numel1_S1 (pf m) (crd hR t') a * S1x2048x512.size a + 1 * (x a).val
  rw [hi]

/-- What the scratch buffers hold before step `n`: the weights of the step before it, if that was a used one. -/
def Held (c : Dev nD) (n : ℕ) (a0 a1 : S2048x512.Idx → Elt Bits .bf16) : Prop :=
  ∀ t : Fin (cfgA hR).N, t.val + 1 = n → T5 m (ix1 (crd hR t 0)) = 1#32 →
    a0 = k0_pay1 (F := Bits) (iblk hR c (1 : Fin 4) t) ∧ a1 = k0_pay2 (F := Bits) (iblk hR c (2 : Fin 4) t)

theorem held_zero (c : Dev nD) (a0 a1) : Held hR c 0 a0 a1 := fun t h => absurd h (Nat.succ_ne_zero _)
theorem held_load (c : Dev nD) (t : Fin (cfgA hR).N) (a0 a1) (h0 : a0 = k0_pay1 (F := Bits) (iblk hR c (1 : Fin 4) t)) (h1 : a1 = k0_pay2 (F := Bits) (iblk hR c (2 : Fin 4) t)) : Held hR c (t.val + 1) a0 a1 := fun t' h _ => by
  have e : t' = t := Fin.ext (Nat.succ.inj h)
  rw [e]; exact ⟨h0, h1⟩
theorem held_free (c : Dev nD) (t : Fin (cfgA hR).N) (a0 a1) (hu : ¬ T5 m (ix1 (crd hR t 0)) = 1#32) : Held hR c (t.val + 1) a0 a1 := fun t' h h' => by
  have e : t' = t := Fin.ext (Nat.succ.inj h)
  rw [e] at h'; exact absurd h' hu
/-- A used step that is not the first of its group finds its own weights. -/
theorem held_keep (c : Dev nD) (t : Fin (cfgA hR).N) (a0 a1) (hu : T5 m (ix1 (crd hR t 0)) = 1#32) (hf : ¬ T4 m (ix1 (crd hR t 0)) = 1#32) (H : Held hR c t.val a0 a1) :
    a0 = k0_pay1 (F := Bits) (iblk hR c (1 : Fin 4) t) ∧ a1 = k0_pay2 (F := Bits) (iblk hR c (2 : Fin 4) t) := by
  have hv := crd_val hR t
  have h0 : t.val ≠ 0 := fun e => hf (hR.start _ (hv.trans e) hu)
  have hlt : t.val - 1 < (cfgA hR).N := lt_of_le_of_lt (Nat.sub_le _ _) t.isLt
  have hv' := crd_val hR ⟨t.val - 1, hlt⟩
  have hs : (crd hR ⟨t.val - 1, hlt⟩ 0).val + 1 = (crd hR t 0).val := by rw [hv, hv']; show t.val - 1 + 1 = t.val; omega
  obtain ⟨e5, e3, e2⟩ := hR.same _ _ hs hu hf
  obtain ⟨k0, k1⟩ := H ⟨t.val - 1, hlt⟩ (by show t.val - 1 + 1 = t.val; omega) e5
  rw [weights1_eq hR c ⟨t.val - 1, hlt⟩ t e3 e2] at k0
  rw [weights2_eq hR c ⟨t.val - 1, hlt⟩ t e3 e2] at k1
  exact ⟨k0, k1⟩

/-- What the body leaves in the output's buffer at a step. -/
def stored (c : Dev nD) (t : Fin (cfgA hR).N) : S512x512.Idx → Elt Bits .bf16 :=
  if T5 m (ix1 (crd hR t 0)) = 1#32 then
    k0_pay3 (F := Bits) (iblk hR c (0 : Fin 4) t) (k0_pay1 (F := Bits) (iblk hR c (1 : Fin 4) t)) (k0_pay2 (F := Bits) (iblk hR c (2 : Fin 4) t))
  else k0_pay4 (F := Bits)

/-! ## The pipeline's proof data -/

/-- The body's halves of the tables. -/
def Tables (m : (ℓ : Loc nD τ sig) → Buf (Elt Bits) ℓ) (c : Dev nD) : sProp 𝕄 :=
  iprop((tbM0_0.view.loc (c : Thread nD τ) ↦{fullShare.right} T0 m) ∗ (tbM0_1.view.loc (c : Thread nD τ) ↦{fullShare.right} T1 m) ∗ (tbM0_2.view.loc (c : Thread nD τ) ↦{fullShare.right} T2 m)
    ∗ (tbM0_3.view.loc (c : Thread nD τ) ↦{fullShare.right} T3 m) ∗ (tbM0_4.view.loc (c : Thread nD τ) ↦{fullShare.right} T4 m) ∗ (tbM0_5.view.loc (c : Thread nD τ) ↦{fullShare.right} T5 m))

/-- Before step `n`: the scratch buffers at the weights kept, and the tables. -/
def Phi (c : Dev nD) (n : ℕ) : sProp 𝕄 :=
  iprop((∃ a0 : Buf (Elt Bits) ((c : Thread nD τ).loc cc0_scratch0), ∃ a1 : Buf (Elt Bits) ((c : Thread nD τ).loc cc0_scratch1), ⌜Held hR c n a0 a1⌝
    ∗ (scM0_0.view.loc (c : Thread nD τ) ↦{fullShare} a0) ∗ (scM0_1.view.loc (c : Thread nD τ) ↦{fullShare} a1)) ∗ Tables m c)

def dats (_ : Fin 1) (c : Dev nD) : Dat τ (Elt Bits) Unit ℕ (UR sig nD τ) ℕ (cfgA hR) c where
  A w := m (((cfgA hR).win w).arr.view.loc (c : Thread nD τ))
  after w t := match w with
    | ⟨0, _⟩ => iblk hR c (0 : Fin 4) t
    | ⟨1, _⟩ => iblk hR c (1 : Fin 4) t
    | ⟨2, _⟩ => iblk hR c (2 : Fin 4) t
    | ⟨3, _⟩ => stored hR c t
  Φ t := Phi hR c t.val
  q _ := fullShare
  owed _ := 0

theorem after0_0 (c : Dev nD) (t : Fin (cfgA hR).N) : (dats hR 0 c).after (0 : Fin 4) t = iblk hR c (0 : Fin 4) t := rfl
theorem after0_1 (c : Dev nD) (t : Fin (cfgA hR).N) : (dats hR 0 c).after (1 : Fin 4) t = iblk hR c (1 : Fin 4) t := rfl
theorem after0_2 (c : Dev nD) (t : Fin (cfgA hR).N) : (dats hR 0 c).after (2 : Fin 4) t = iblk hR c (2 : Fin 4) t := rfl
theorem after0_3 (c : Dev nD) (t : Fin (cfgA hR).N) : (dats hR 0 c).after (3 : Fin 4) t = stored hR c t := rfl

theorem before0_0 (c : Dev nD) (t : Fin (cfgA hR).N) (d) : (dats hR 0 c).before (0 : Fin 4) t d = iblk hR c (0 : Fin 4) t :=
  ((dats hR 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA hR).N) (d) : (dats hR 0 c).before (1 : Fin 4) t d = iblk hR c (1 : Fin 4) t :=
  ((dats hR 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA hR).N) (d) : (dats hR 0 c).before (2 : Fin 4) t d = iblk hR c (2 : Fin 4) t :=
  ((dats hR 0 c).before_in_eq_fetched (2 : Fin 4) rfl (fun _ => rfl) (fun _ _ _ => rfl) (fun t => by rw [after0_2]; unfold Dat.blockOf iblk; rfl) t d).trans
    (by unfold Dat.fetched Dat.blockOf iblk; rfl)

/-! ## The body at a step -/

abbrev bodyAt0 (t : Fin (cfgA hR).N) : Prog (TpuEff nD τ sig (Elt Bits) Λ₀ .tc) PUnit :=
  cc0_moe_up (crd hR t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (ms0_0 hR t) (hs0_0 hR t) (ms0_1 hR t) (hs0_1 hR t) (ms0_2 hR t) (hs0_2 hR t) (ms0_3 hR t) (hs0_3 hR t) (Memref.whole cc0_scratch0) (Memref.isWhole_whole _) (Memref.whole cc0_scratch1) (Memref.isWhole_whole _)

set_option maxHeartbeats 8000000 in
/-- The body, from the three blocks, the weights kept and any output buffer, ends with the output buffer at what is stored. -/
theorem body_run (c : Dev nD) (t : Fin (cfgA hR).N) :
    iprop(Phi hR c t.val
        ∗ owns (c : Thread nD τ) (ms0_0 hR t) fullShare (iblk hR c (0 : Fin 4) t)
        ∗ owns (c : Thread nD τ) (ms0_1 hR t) fullShare (iblk hR c (1 : Fin 4) t)
        ∗ owns (c : Thread nD τ) (ms0_2 hR t) fullShare (iblk hR c (2 : Fin 4) t)
        ∗ (∃ d, owns (c : Thread nD τ) (ms0_3 hR t) fullShare d))
      ⊢ wp frame (wpE (defs₀ (F := Bits)) Variants.none c none) Set.univ (bodyAt0 hR t) fun _ =>
          iprop(Phi hR c (t.val + 1)
            ∗ owns (c : Thread nD τ) (ms0_0 hR t) fullShare (iblk hR c (0 : Fin 4) t)
            ∗ owns (c : Thread nD τ) (ms0_1 hR t) fullShare (iblk hR c (1 : Fin 4) t)
            ∗ owns (c : Thread nD τ) (ms0_2 hR t) fullShare (iblk hR c (2 : Fin 4) t)
            ∗ owns (c : Thread nD τ) (ms0_3 hR t) fullShare (stored hR c t)) := by
  unfold Phi Tables
  iintro ⟨⟨⟨%a0, %a1, %hH, HS0, HS1⟩, HT0, HT1, HT2, HT3, HT4, HT5⟩, H0, H1, H2, H3⟩
  by_cases hu : T5 m (ix1 (crd hR t 0)) = 1#32
  · rw [show stored hR c t = _ from if_pos hu]
    by_cases hf : T4 m (ix1 (crd hR t 0)) = 1#32
    · iapply ((kernelRun0_A c (crd hR t) (ms0_0 hR t) (hs0_0 hR t) (ms0_1 hR t) (hs0_1 hR t) (ms0_2 hR t) (hs0_2 hR t) (ms0_3 hR t) (hs0_3 hR t) (T0 m) (T1 m) (T2 m) (T3 m) (T4 m) (T5 m) (iblk hR c (0 : Fin 4) t) (iblk hR c (1 : Fin 4) t) (iblk hR c (2 : Fin 4) t) (first_pos hf) (used_pos2 hu) (used_pos3 hu)).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [HT5]; · iexact HT5
      isplitl [H3]; · iexact H3
      isplitl [HS0]; · iexact HS0
      isplitl [HS1]; · iexact HS1
      iintro ⟨H0, H1, H2, HT0, HT1, HT2, HT3, HT4, HT5, ⟨%e3, H3⟩, HS0, HS1⟩
      isplitl [HS0 HS1 HT0 HT1 HT2 HT3 HT4 HT5]
      · isplitl [HS0 HS1]
        · iexists _; iexists _
          isplitr; swap
          · isplitl [HS0]
            · iexact HS0
            iexact HS1
          · ipureintro; exact held_load hR c t _ _ (load0 c _ _ _ _ _ _ _ _ _ _ _ _ _ _ _ _ _ _ _ _ _) (load1 c _ _ _ _ _ _ _ _ _ _ _ _ _ _ _ _ _ _ _ _ _)
        isplitl [HT0]; · iexact HT0
        isplitl [HT1]; · iexact HT1
        isplitl [HT2]; · iexact HT2
        isplitl [HT3]; · iexact HT3
        isplitl [HT4]; · iexact HT4
        iexact HT5
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_A_3 c _ _ _ _ _ _ _ _ _ _ _ _ _ _ _ _ _ _ _ _ _)).trans (out_load c _ _ _ _ _ _ _ _ _ _ _ _ _ _ _ _ _ _ _ _ _)
    · obtain ⟨k0, k1⟩ := held_keep hR c t a0 a1 hu hf hH
      iapply ((kernelRun0_B c (crd hR t) (ms0_0 hR t) (hs0_0 hR t) (ms0_1 hR t) (hs0_1 hR t) (ms0_2 hR t) (hs0_2 hR t) (ms0_3 hR t) (hs0_3 hR t) (T0 m) (T1 m) (T2 m) (T3 m) (T4 m) (T5 m) (iblk hR c (0 : Fin 4) t) (iblk hR c (1 : Fin 4) t) (iblk hR c (2 : Fin 4) t) a0 a1 (first_neg hf) (used_pos2 hu) (used_pos3 hu)).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [HT5]; · iexact HT5
      isplitl [H3]; · iexact H3
      isplitl [HS0]; · iexact HS0
      isplitl [HS1]; · iexact HS1
      iintro ⟨H0, H1, H2, HT0, HT1, HT2, HT3, HT4, HT5, ⟨%e3, H3⟩, HS0, HS1⟩
      isplitl [HS0 HS1 HT0 HT1 HT2 HT3 HT4 HT5]
      · isplitl [HS0 HS1]
        · iexists _; iexists _
          isplitr; swap
          · isplitl [HS0]
            · iexact HS0
            iexact HS1
          · ipureintro; exact held_load hR c t _ _ k0 k1
        isplitl [HT0]; · iexact HT0
        isplitl [HT1]; · iexact HT1
        isplitl [HT2]; · iexact HT2
        isplitl [HT3]; · iexact HT3
        isplitl [HT4]; · iexact HT4
        iexact HT5
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_B_3 c _ _ _ _ _ _ _ _ _ _ _ _ _ _ _ _ _ _ _ _ _ _ _)).trans ((out_keep c _ _ _ _ _ _ _ _ _ _ _ _ _ _ _ _ _ _ a0 a1 _ _ _).trans (congrArg₂ (k0_pay3 (F := Bits) (iblk hR c (0 : Fin 4) t)) k0 k1))
  · rw [show stored hR c t = _ from if_neg hu]
    iapply ((kernelRun0_C c (crd hR t) (ms0_0 hR t) (hs0_0 hR t) (ms0_1 hR t) (hs0_1 hR t) (ms0_2 hR t) (hs0_2 hR t) (ms0_3 hR t) (hs0_3 hR t) (T0 m) (T1 m) (T2 m) (T3 m) (T4 m) (T5 m) (iblk hR c (0 : Fin 4) t) (iblk hR c (1 : Fin 4) t) (iblk hR c (2 : Fin 4) t) a0 a1 (first_neg (first_free hR hu)) (used_neg2 hu) (used_neg3 hR hu)).2.2.2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [HT3]; · iexact HT3
    isplitl [HT4]; · iexact HT4
    isplitl [HT5]; · iexact HT5
    isplitl [H3]; · iexact H3
    isplitl [HS0]; · iexact HS0
    isplitl [HS1]; · iexact HS1
    iintro ⟨H0, H1, H2, HT0, HT1, HT2, HT3, HT4, HT5, ⟨%e3, H3⟩, HS0, HS1⟩
    isplitl [HS0 HS1 HT0 HT1 HT2 HT3 HT4 HT5]
    · isplitl [HS0 HS1]
      · iexists _; iexists _
        isplitr; swap
        · isplitl [HS0]
          · iexact HS0
          iexact HS1
        · ipureintro; exact held_free hR c t _ _ hu
      isplitl [HT0]; · iexact HT0
      isplitl [HT1]; · iexact HT1
      isplitl [HT2]; · iexact HT2
      isplitl [HT3]; · iexact HT3
      isplitl [HT4]; · iexact HT4
      iexact HT5
    isplitl [H0]
    · iapply owns_of_rep; iexact H0
    isplitl [H1]
    · iapply owns_of_rep; iexact H1
    isplitl [H2]
    · iapply owns_of_rep; iexact H2
    unfold owns; iexists _; isplitr; swap
    · iexact H3
    · ipureintro
      exact (View.read_writes_of_cover _ _ _ _ _ (cover0_C_3 c _ _ _ _ _ _ _ _ _ _ _ _ _ _ _ _ _ _ _ _ _ _ _)).trans (out_free c _ _ _ _ _ _ _ _ _ _ _ _ _ _ _ _ _ _ a0 a1 _ _ _)

set_option maxHeartbeats 4000000 in
/-- So it meets the pipeline's demand at every step. -/
theorem body_obligation (c : Dev nD) : BodyObligation (dats hR 0 c) (defs₀ (F := Bits)) Variants.none () Set.univ := fun t => by
  rw [bigSep_W0, bigSep_W0]
  rewrite [idle3]
  simp only [before0_0, before0_1, before0_2, after0_0, after0_1, after0_2, after0_3]
  rewrite [show (dats hR 0 c).Φ t.succ = Phi hR c (t.val + 1) from rfl, show (dats hR 0 c).Φ t.castSucc = Phi hR c t.val from rfl,
    show (dats hR 0 c).owesAt () t.succ = (dats hR 0 c).owesAt () t.castSucc from rfl]
  iintro ⟨HP, Ho, ⟨%d0, H0⟩, ⟨%d1, H1⟩, ⟨%d2, H2⟩, ⟨%d3, H3⟩⟩
  iapply wp_wand_r
  isplitl [HP H0 H1 H2 H3]
  · iapply (body_run hR c t)
    isplitl [HP]; · iexact HP
    isplitl [H0]; · iexact H0
    isplitl [H1]; · iexact H1
    isplitl [H2]; · iexact H2
    iexists _; iexact H3
  iintro %a ⟨HP, H0, H1, H2, H3⟩
  isplitl [HP]; · iexact HP
  isplitl [Ho]; · iexact Ho
  isplitl [H0]; · iexact H0
  isplitl [H1]; · iexact H1
  isplitl [H2]; · iexact H2
  iexact H3

/-! ## The launch -/

/-- The launch element of the staging cells. -/
def u₀ : UR sig nD τ :=
  initOf (Pipeline.cells (pcs hR) ((launch0 (F := Bits)).cellOf_inj fun _ => adm hR))
    (Pipeline.launchToks (pcs hR) ((launch0 (F := Bits)).cellOf_inj fun _ => adm hR))

theorem share_eq (c : Dev nD) (w : Fin (cfgA hR).W) : (dats hR 0 c).share w = fullShare := by unfold Dat.share; split <;> rfl

theorem prefHeld_eq (c : Dev nD) (q : Fin 6 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3) ∗ (((c : Thread nD τ).loc main_arg4) ↦{q 4} v 4) ∗ (((c : Thread nD τ).loc main_arg5) ↦{q 5} v 5)) := by
  unfold Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

theorem phi0_intro (c : Dev nD) :
    iprop(BI.emp ∗ Pipeline.prefHeld pre0 c (fun _ => fullShare.right) (adm hR).1 ∗ Pipeline.scopedRest spec0 c) ⊢ (dats hR 0 c).Φ 0 := by
  rw [prefHeld_eq, scopedRest0_eq, show (dats hR 0 c).Φ 0 = Phi hR c 0 from rfl]
  unfold Phi Tables
  iintro ⟨-, ⟨HT0, HT1, HT2, HT3, HT4, HT5⟩, ⟨%a0, HS0⟩, ⟨%a1, HS1⟩⟩
  isplitl [HS0 HS1]
  · iexists a0; iexists a1
    isplitr; swap
    · isplitl [HS0]
      · iexact HS0
      iexact HS1
    · ipureintro; exact held_zero hR c a0 a1
  isplitl [HT0]; · iexact HT0
  isplitl [HT1]; · iexact HT1
  isplitl [HT2]; · iexact HT2
  isplitl [HT3]; · iexact HT3
  isplitl [HT4]; · iexact HT4
  iexact HT5

theorem phiN_exit (c : Dev nD) : (dats hR 0 c).Φ (Fin.last (cfgA hR).N) ⊢ iprop(BI.emp ∗ Pipeline.scopedRest spec0 c) := by
  rw [scopedRest0_eq, show (dats hR 0 c).Φ (Fin.last (cfgA hR).N) = Phi hR c (cfgA hR).N from rfl]
  unfold Phi
  iintro ⟨⟨%a0, %a1, -, HS0, HS1⟩, -⟩
  isplitr; · iempintro
  isplitl [HS0]
  · iexists a0; iexact HS0
  iexists a1; iexact HS1

/-- Every array at what the pipeline computes, every table as it was. -/
def QC : PUnit × MemSt nD τ sig (Elt Bits) → Prop := fun r =>
  ∀ c : Dev nD, (∀ w : Fin (cfgA hR).W, r.2.mem (((cfgA hR).win w).arr.view.loc (c : Thread nD τ)) = (dats hR 0 c).arrAt w (cfgA hR).N)
    ∧ ∀ j, r.2.mem ((c : Thread nD τ).loc (pre0.ref j)) = (adm hR).1 j

theorem V_pre (c : Dev nD) (j : Fin 6) : m ((c : Thread nD τ).loc (pre0.ref j)) = (adm hR).1 j := by
  rw [dev_eq c]
  fin_cases j <;> rfl

set_option backward.isDefEq.respectTransparency.types false in
set_option maxHeartbeats 4000000 in
theorem run_main_quiescent : θ_run (defs (F := Bits)) (onTc (τ := τ) (main (F := Bits))) (s₀ m ρ) (fun r => QC hR r ∧ r.2.sem = fun _ => 0) :=
  Pipeline.θ_run_region_noSem_pf_quiescent pcfgs (fun _ => adm hR) (dats hR) () ((launch0 (F := Bits)).cellOf_inj fun _ => adm hR) (0 : Fin 1)
    (launch0 (F := Bits)).win.to₀ (launch0 (F := Bits)).pre EP defs₀ Variants.none m ρ main
    (hbody := fun c => (body_obligation hR c).loose) (hne := (launch0 (F := Bits)).block_pos)
    (harr := (launch0 (F := Bits)).arr_whole) (hstage := (launch0 (F := Bits)).stage_whole) (howed := fun _ _ => rfl)
    (u₀ := u₀ hR) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hR) (dats hR) 0 (launch0 (F := Bits)).win.arr_inj c (launch0 (F := Bits)).arr_whole
      (share_eq hR c) _ _ fun _ => rfl)
    (hpf := V_pre hR)
    (X := fun _ => iprop(emp)) (Y := fun _ => iprop(emp)) (Z := fun _ => iprop(emp))
    (hX := fun c => by rw [unscopedRestP0_eq]; iintro -; isplitr <;> iempintro)
    (hin := phi0_intro hR)
    (hout := phiN_exit hR)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame, and with it the result's array as the pipeline computes it. -/
theorem run : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v0) = (dats hR 0 c).arrAt (3 : Fin 4) (cfgA hR).N)
      ∧ r.2.sem = fun _ => 0) :=
  (θ_run defs _ _).mono (fun _ h => ⟨fun c => ⟨((h.1 c).2 0).trans (V_pre hR c 0).symm, ((h.1 c).2 1).trans (V_pre hR c 1).symm, ((h.1 c).2 2).trans (V_pre hR c 2).symm, ((h.1 c).2 3).trans (V_pre hR c 3).symm, ((h.1 c).2 4).trans (V_pre hR c 4).symm, ((h.1 c).2 5).trans (V_pre hR c 5).symm,
    ((h.1 c).1 (0 : Fin 4)).trans ((dats hR 0 c).arrAt_in (0 : Fin 4) rfl _),
    ((h.1 c).1 (1 : Fin 4)).trans ((dats hR 0 c).arrAt_in (1 : Fin 4) rfl _),
    ((h.1 c).1 (2 : Fin 4)).trans ((dats hR 0 c).arrAt_in (2 : Fin 4) rfl _), (h.1 c).1 (3 : Fin 4)⟩, h.2⟩) (run_main_quiescent ρ hR)

end Cert.Up.Tab
-- ==== Proof.UpTab.lean ====
/-
  The experts' up projection at ANY tables that its steps may have: the pipeline at them, the blocks its steps read, the
  weights its two scratch buffers keep from step to step, and what the body leaves in the output's buffer at each step.
-/
module

public import proofs.«01_k».proof.Proof.Gen.UpIdeal.Flash.Runs
public import Idealize.ShloMosaic.Lib.Pipeline.Quiescent
public import Idealize.ShloMosaic.Lib.Claim
public import Idealize.ShloMosaic.Lib.Affine
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pipeline.Value
public import Idealize.ShloMosaic.Lib.Pointwise
public import Idealize.ShloMosaic.Lib.Exec
public import Idealize.ShloMosaic.Lib.Tactic
public import Idealize.ShloMosaic.Adequacy
public import Idealize.ShloMosaic.Init

@[expose] public section

set_option maxRecDepth 16384

noncomputable section

namespace Cert.UpIdeal.Tab

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## What the body stores, path by path -/

section Stores

variable (c : Dev nD) (i : grid0.Coords) (arg7 : Memref sig .tc .vmem S512x2048 .bf16) (harg7 : arg7.IsWhole) (arg8 : Memref sig .tc .vmem S1x2048x512 .f32) (harg8 : arg8.IsWhole) (arg9 : Memref sig .tc .vmem S1x2048x512 .f32) (harg9 : arg9.IsWhole) (arg10 : Memref sig .tc .vmem S512x512 .bf16) (harg10 : arg10.IsWhole)
  (t0 t1 t2 t3 t4 t5 : S1008.Idx → Elt Ideal .i32)
  (x0 : S512x2048.Idx → Elt Ideal .bf16) (x1 x2 : S1x2048x512.Idx → Elt Ideal .f32)

/-- A store of a whole buffer leaves its payload. -/
theorem whole_store (b : Ref sig .tc) (f : b.ty.Contents (Elt Ideal)) (off : Fin b.ty.shape.rank → ℕ) (inb : ∀ a, off a + b.ty.shape.size a ≤ b.ty.shape.size a) (w : b.ty.Contents (Elt Ideal)) :
    (View.whole b).writes (Elt Ideal) f [⟨Rect.unit off b.ty.shape.size inb, w⟩] = w :=
  View.read_writes_full (Val := Elt Ideal) (View.whole b) f inb w []

theorem load0 (h1 h2 h3) : (kernelRun0_A c i arg7 harg7 arg8 harg8 arg9 harg9 arg10 harg10 t0 t1 t2 t3 t4 t5 x0 x1 x2 h1 h2 h3).2.1 = (k0_pay1 (F := Ideal) x1 : Vec Ideal S2048x512 .bf16) := by
  unfold kernelRun0_A
  dsimp only
  sl_unfold_words
  refine (whole_store cc0_scratch0 _ _ _ _).trans (congrArg (k0_pay1 (F := Ideal)) ?_)
  rw [View.readAt_eq_ld, View.ld_unit_lit, View.read_rep]
  decide

theorem load1 (h1 h2 h3) : (kernelRun0_A c i arg7 harg7 arg8 harg8 arg9 harg9 arg10 harg10 t0 t1 t2 t3 t4 t5 x0 x1 x2 h1 h2 h3).2.2.1 = (k0_pay2 (F := Ideal) x2 : Vec Ideal S2048x512 .bf16) := by
  unfold kernelRun0_A
  dsimp only
  sl_unfold_words
  refine (whole_store cc0_scratch1 _ _ _ _).trans (congrArg (k0_pay2 (F := Ideal)) ?_)
  rw [View.readAt_eq_ld, View.ld_unit_lit, View.read_rep]
  decide

theorem out_load (h1 h2 h3) : out0_A_3 c i arg7 harg7 arg8 harg8 arg9 harg9 arg10 harg10 t0 t1 t2 t3 t4 t5 x0 x1 x2 h1 h2 h3 = k0_pay3 (F := Ideal) x0 (k0_pay1 (F := Ideal) x1) (k0_pay2 (F := Ideal) x2) := by
  unfold out0_A_3
  rw [View.read_writes_eq_canon _ _ _ (cover0_A_3 c i arg7 harg7 arg8 harg8 arg9 harg9 arg10 harg10 t0 t1 t2 t3 t4 t5 x0 x1 x2 h1 h2 h3)]
  unfold kernelRun0_A
  dsimp only
  sl_unfold_words
  rw [View.canon_cons_unit_lit, View.readCov_unit_lit, View.readCov_unit_lit]
  · simp only [View.readAt_eq_ld]
    rw [View.ld_unit_lit, View.ld_unit_lit, View.ld_unit_lit, View.read_rep, View.read_rep, View.read_rep]
    all_goals decide
  all_goals decide

variable (xa0 : Buf (Elt Ideal) ((c : Thread nD τ).loc cc0_scratch0)) (xa1 : Buf (Elt Ideal) ((c : Thread nD τ).loc cc0_scratch1))

theorem out_keep (h1 h2 h3) : out0_B_3 c i arg7 harg7 arg8 harg8 arg9 harg9 arg10 harg10 t0 t1 t2 t3 t4 t5 x0 x1 x2 xa0 xa1 h1 h2 h3 = k0_pay3 (F := Ideal) x0 (xa0 : Vec Ideal S2048x512 .bf16) (xa1 : Vec Ideal S2048x512 .bf16) := by
  unfold out0_B_3
  rw [View.read_writes_eq_canon _ _ _ (cover0_B_3 c i arg7 harg7 arg8 harg8 arg9 harg9 arg10 harg10 t0 t1 t2 t3 t4 t5 x0 x1 x2 xa0 xa1 h1 h2 h3)]
  unfold kernelRun0_B
  dsimp only
  sl_unfold_words
  rw [View.canon_cons_unit_lit]
  · simp only [View.readAt_eq_ld]
    rw [View.ld_unit_lit, View.ld_unit_lit, View.ld_unit_lit, View.read_rep]
    · rfl
    all_goals decide
  · decide

theorem keep0 (h1 h2 h3) : (kernelRun0_B c i arg7 harg7 arg8 harg8 arg9 harg9 arg10 harg10 t0 t1 t2 t3 t4 t5 x0 x1 x2 xa0 xa1 h1 h2 h3).2.1 = xa0 := rfl
theorem keep1 (h1 h2 h3) : (kernelRun0_B c i arg7 harg7 arg8 harg8 arg9 harg9 arg10 harg10 t0 t1 t2 t3 t4 t5 x0 x1 x2 xa0 xa1 h1 h2 h3).2.2.1 = xa1 := rfl

theorem out_free (h1 h2 h3) : out0_C_3 c i arg7 harg7 arg8 harg8 arg9 harg9 arg10 harg10 t0 t1 t2 t3 t4 t5 x0 x1 x2 xa0 xa1 h1 h2 h3 = (k0_pay4 (F := Ideal) : Vec Ideal S512x512 .bf16) := by
  unfold out0_C_3
  rw [View.read_writes_eq_canon _ _ _ (cover0_C_3 c i arg7 harg7 arg8 harg8 arg9 harg9 arg10 harg10 t0 t1 t2 t3 t4 t5 x0 x1 x2 xa0 xa1 h1 h2 h3)]
  unfold kernelRun0_C
  dsimp only
  sl_unfold_words
  rw [View.canon_cons_unit_lit]
  decide

end Stores

variable (m : (ℓ : Loc nD τ sig) → Buf (Elt Ideal) ℓ) (ρ : Dev nD → PrngReg)

/-- The one device. -/
def dev : Dev nD := ⟨0, by decide⟩
theorem dev_eq (c : Dev nD) : c = dev := by
  have := c.isLt
  exact Fin.ext (by have : c.val < 1 := c.isLt; show c.val = 0; omega)

/-- The six tables: a step's row tile, its column tile of the result, its column tile of the weights, its expert, whether
    it is the first of its group, and whether its row tile is used. -/
def T0 : S1008.Idx → BitVec 32 := m ((dev.tc : Thread nD τ).loc main_arg0)
def T1 : S1008.Idx → BitVec 32 := m ((dev.tc : Thread nD τ).loc main_arg1)
def T2 : S1008.Idx → BitVec 32 := m ((dev.tc : Thread nD τ).loc main_arg2)
def T3 : S1008.Idx → BitVec 32 := m ((dev.tc : Thread nD τ).loc main_arg3)
def T4 : S1008.Idx → BitVec 32 := m ((dev.tc : Thread nD τ).loc main_arg4)
def T5 : S1008.Idx → BitVec 32 := m ((dev.tc : Thread nD τ).loc main_arg5)

/-- What is asked of six tables. -/
structure Steps (t0 t1 t2 t3 t4 t5 : S1008.Idx → BitVec 32) : Prop where
  row : ∀ s : Fin 1008, (t0 (ix1 s)).toNat < 72
  col : ∀ s : Fin 1008, (t1 (ix1 s)).toNat < 14
  wcol : ∀ s : Fin 1008, (t2 (ix1 s)).toNat < 14
  expert : ∀ s : Fin 1008, (t3 (ix1 s)).toNat < 8
  used : ∀ s : Fin 1008, t5 (ix1 s) = 0#32 ∨ t5 (ix1 s) = 1#32
  own : ∀ s : Fin 1008, t5 (ix1 s) = 1#32 → t2 (ix1 s) = t1 (ix1 s)
  idle : ∀ s : Fin 1008, t5 (ix1 s) = 0#32 → t4 (ix1 s) = 0#32
  apart : ∀ s s' : Fin 1008, t0 (ix1 s) = t0 (ix1 s') → t1 (ix1 s) = t1 (ix1 s') → s = s'
  tile : ∀ s s' : Fin 1008, 14 * (t0 (ix1 s)).toNat = s'.val → t3 (ix1 s) = t3 (ix1 s') ∧ t5 (ix1 s) = t5 (ix1 s')
  same : ∀ s s' : Fin 1008, s.val + 1 = s'.val → t5 (ix1 s') = 1#32 → t4 (ix1 s') ≠ 1#32 →
    t5 (ix1 s) = 1#32 ∧ t3 (ix1 s) = t3 (ix1 s') ∧ t2 (ix1 s) = t2 (ix1 s')
  start : ∀ s : Fin 1008, s.val = 0 → t5 (ix1 s) = 1#32 → t4 (ix1 s) = 1#32

/-- What is asked of the launch's. -/
abbrev Good : Prop := Steps (T0 m) (T1 m) (T2 m) (T3 m) (T4 m) (T5 m)

set_option backward.proofsInPublic true in
/-- The tables' contents. -/
def pf : pre0.Contents (Elt Ideal) := fun | ⟨0, _⟩ => T0 m | ⟨1, _⟩ => T1 m | ⟨2, _⟩ => T2 m | ⟨3, _⟩ => T3 m | ⟨4, _⟩ => T4 m | ⟨5, _⟩ => T5 m | ⟨_ + 6, h⟩ => absurd h (by simp)

/-- The word of a table a step reads. -/
theorem word_at (T : S1008.Idx → Elt Ideal .i32) (i : grid0.Coords) :
    View.readAt (Elt Ideal) (tbM0_4).view (Rect.unit (s := S1008) (k0_off1 i) S1.size (k0_off1_inb i)).toLoadRect T (Shape.Idx.first (numel1_S1.symm ▸ Nat.one_pos))
      = T (ix1 (i 0)) := by
  have hi : (i 0).val < 1008 := (i 0).isLt
  have h : (BitVec.ofNat 32 (i 0).val).toNat = (i 0).val := by
    rw [BitVec.toNat_ofNat]; exact Nat.mod_eq_of_lt (by omega)
  refine congrArg T (funext fun a => Fin.ext ?_)
  match a with
  | ⟨0, _⟩ =>
    refine Eq.trans ?_ h
    rfl

theorem index0 (i : grid0.Coords) : cc0_transform_0 k0_off1_inb numel1_S1 (pf m) i = ![(T0 m (ix1 (i 0))).toNat, 0] := by
  have e : (pf m).at 0 (Rect.unit (s := S1008) ![(BitVec.ofNat 32 (i 0).val).toNat] S1.size (k0_off1_inb i)) numel1_S1 = T0 m (ix1 (i 0)) := word_at (T0 m) i
  unfold cc0_transform_0
  simp only [Scalar.indexCast]
  rw [e]; rfl

theorem index1 (i : grid0.Coords) : cc0_transform_1 k0_off1_inb numel1_S1 (pf m) i = ![(T3 m (ix1 (i 0))).toNat, 0, (T2 m (ix1 (i 0))).toNat] := by
  have e3 : (pf m).at 3 (Rect.unit (s := S1008) ![(BitVec.ofNat 32 (i 0).val).toNat] S1.size (k0_off1_inb i)) numel1_S1 = T3 m (ix1 (i 0)) := word_at (T3 m) i
  have e2 : (pf m).at 2 (Rect.unit (s := S1008) ![(BitVec.ofNat 32 (i 0).val).toNat] S1.size (k0_off1_inb i)) numel1_S1 = T2 m (ix1 (i 0)) := word_at (T2 m) i
  unfold cc0_transform_1
  simp only [Scalar.indexCast]
  rw [e3, e2]; rfl

theorem index2 (i : grid0.Coords) : cc0_transform_2 k0_off1_inb numel1_S1 (pf m) i = ![(T3 m (ix1 (i 0))).toNat, 0, (T2 m (ix1 (i 0))).toNat] :=
  index1 m i

theorem index3 (i : grid0.Coords) : cc0_transform_3 k0_off1_inb numel1_S1 (pf m) i = ![(T0 m (ix1 (i 0))).toNat, (T1 m (ix1 (i 0))).toNat] := by
  have e0 : (pf m).at 0 (Rect.unit (s := S1008) ![(BitVec.ofNat 32 (i 0).val).toNat] S1.size (k0_off1_inb i)) numel1_S1 = T0 m (ix1 (i 0)) := word_at (T0 m) i
  have e1 : (pf m).at 1 (Rect.unit (s := S1008) ![(BitVec.ofNat 32 (i 0).val).toNat] S1.size (k0_off1_inb i)) numel1_S1 = T1 m (ix1 (i 0)) := word_at (T1 m) i
  unfold cc0_transform_3
  simp only [Scalar.indexCast]
  rw [e0, e1]

theorem first_iff (v : BitVec 32) : Scalar.cmpi .ne (Scalar.extui (Scalar.cmpi .eq v 1#32) : BitVec 32) 0#32 = 1#1 ↔ v = 1#32 := by
  simp only [Scalar.cmpi, IntOp.cmpi, Scalar.extui]
  by_cases h : v = 1#32
  · simp [h]
  · rw [show (v == 1#32) = false from beq_eq_false_iff_ne.2 h]
    exact iff_of_false (by decide) h
theorem cond2_iff (v : BitVec 32) : k0_cond2 v = 1#1 ↔ v = 1#32 := first_iff v
theorem cond3_iff (v : BitVec 32) : k0_cond3 v = 1#1 ↔ v = 0#32 := by
  unfold k0_cond3; simp only [Scalar.cmpi, IntOp.cmpi, Scalar.extui]
  by_cases h : v = 0#32
  · simp [h]
  · rw [show (v == 0#32) = false from beq_eq_false_iff_ne.2 h]
    exact iff_of_false (by decide) h

theorem atD_eq (i : grid0.Coords) : (pf m).atD 5 (k0_off2 i) = T5 m (ix1 (i 0)) := by
  have h : ∀ a : Fin (pre0.ref 5).ty.shape.rank, k0_off2 i a + 1 ≤ (pre0.ref 5).ty.shape.size a := fun a => by
    match a with
    | ⟨0, _⟩ => exact k0_off2_inb i 0
  exact (dif_pos h).trans (word_at (T5 m) i)

variable {m}

theorem ok (h : Good m) : ok0 (F := Ideal) (pf m) := by
  refine ⟨fun i => ⟨?_, .inr (Affine.block_words_dvd (s := S36864x2048) (p := EltTy.packing .bf16) (by decide) (by decide))⟩, fun i => ⟨?_, .inl rfl⟩,
    fun i => ⟨?_, .inl rfl⟩, fun i => ⟨?_, .inr (Affine.block_words_dvd (s := S36864x7168) (p := EltTy.packing .bf16) (by decide) (by decide))⟩⟩
  · rw [index0]
    intro a
    match a with
    | ⟨0, _⟩ => show ((T0 m (ix1 (i 0))).toNat + 1) * 512 ≤ 36864; have := h.row (i 0); omega
    | ⟨1, _⟩ => exact (by decide : (0 + 1) * 2048 ≤ 2048)
  · rw [index1]
    intro a
    match a with
    | ⟨0, _⟩ => show ((T3 m (ix1 (i 0))).toNat + 1) * 1 ≤ 8; have := h.expert (i 0); omega
    | ⟨1, _⟩ => exact (by decide : (0 + 1) * 2048 ≤ 2048)
    | ⟨2, _⟩ => show ((T2 m (ix1 (i 0))).toNat + 1) * 512 ≤ 7168; have := h.wcol (i 0); omega
  · rw [index2]
    intro a
    match a with
    | ⟨0, _⟩ => show ((T3 m (ix1 (i 0))).toNat + 1) * 1 ≤ 8; have := h.expert (i 0); omega
    | ⟨1, _⟩ => exact (by decide : (0 + 1) * 2048 ≤ 2048)
    | ⟨2, _⟩ => show ((T2 m (ix1 (i 0))).toNat + 1) * 512 ≤ 7168; have := h.wcol (i 0); omega
  · rw [index3]
    intro a
    match a with
    | ⟨0, _⟩ => show ((T0 m (ix1 (i 0))).toNat + 1) * 512 ≤ 36864; have := h.row (i 0); omega
    | ⟨1, _⟩ => show ((T1 m (ix1 (i 0))).toNat + 1) * 512 ≤ 7168; have := h.col (i 0); omega

/-! ## The pipeline at the tables -/

local notation "𝕄" => MT nD τ sig Unit (Elt Ideal) ℕ (UR sig nD τ) ℕ

/-- The resource algebra: the pipeline's staging cells', embedded whole. -/
abbrev EP : Emb (UR sig nD τ) 𝕄 := emb₁

variable (hR : Good m)

def adm : (pcfg0 (F := Ideal)).Adm := ⟨pf m, ok hR⟩
abbrev cfgA : Pipeline.Cfg sig Λ₀ := cfg0 (F := Ideal) (adm hR)
abbrev pcs : Fin 1 → Pipeline.Cfg sig Λ₀ := Pipeline.pin (pcfgs (F := Ideal)) fun _ => adm hR

abbrev crd (t : Fin (cfgA hR).N) : (cfgA hR).grid.Coords := (cfgA hR).grid.coords t

abbrev ms0_0 (t : Fin (cfgA hR).N) : Memref sig .tc .vmem S512x2048 .bf16 := spec0_0.stage ((cfgA hR).slots t (0 : Fin 4))
abbrev hs0_0 (t : Fin (cfgA hR).N) : (ms0_0 hR t).IsWhole := hstage0_0 (((cfgA hR).slots t (0 : Fin 4)).cast nbuf0_0)
abbrev ms0_1 (t : Fin (cfgA hR).N) : Memref sig .tc .vmem S1x2048x512 .f32 := spec0_1.stage ((cfgA hR).slots t (1 : Fin 4))
abbrev hs0_1 (t : Fin (cfgA hR).N) : (ms0_1 hR t).IsWhole := hstage0_1 (((cfgA hR).slots t (1 : Fin 4)).cast nbuf0_1)
abbrev ms0_2 (t : Fin (cfgA hR).N) : Memref sig .tc .vmem S1x2048x512 .f32 := spec0_2.stage ((cfgA hR).slots t (2 : Fin 4))
abbrev hs0_2 (t : Fin (cfgA hR).N) : (ms0_2 hR t).IsWhole := hstage0_2 (((cfgA hR).slots t (2 : Fin 4)).cast nbuf0_2)
abbrev ms0_3 (t : Fin (cfgA hR).N) : Memref sig .tc .vmem S512x512 .bf16 := spec0_3.stage ((cfgA hR).slots t (3 : Fin 4))
abbrev hs0_3 (t : Fin (cfgA hR).N) : (ms0_3 hR t).IsWhole := hstage0_3 (((cfgA hR).slots t (3 : Fin 4)).cast nbuf0_3)

/-- The block of window `w` at step `t`, read off its array at launch. -/
def iblk (c : Dev nD) (w : Fin (cfgA hR).W) (t : Fin (cfgA hR).N) : (((cfgA hR).win w).xblock (crd hR t)).Idx → Elt Ideal ((cfgA hR).win w).elt :=
  (((cfgA hR).win w).blk t).view.read (Elt Ideal) (m (((cfgA hR).win w).arr.view.loc (c : Thread nD τ)))

/-! ## The schedule: nothing is left idle, every step writes its own block back -/

theorem N_eq : (cfgA hR).N = 1008 := N_0
theorem crd_val (t : Fin (cfgA hR).N) : (crd hR t 0).val = t.val :=
  (by decide +kernel : ∀ t : Fin grid0.N, (grid0.coords t 0).val = t.val) t

theorem index3_inj (t t' : Fin (cfgA hR).N) (h : ((cfgA hR).win (3 : Fin 4)).index t = ((cfgA hR).win (3 : Fin 4)).index t') : t = t' := by
  have h' : cc0_transform_3 k0_off1_inb numel1_S1 (pf m) (crd hR t) = cc0_transform_3 k0_off1_inb numel1_S1 (pf m) (crd hR t') := h
  rw [index3, index3] at h'
  have h0 := BitVec.eq_of_toNat_eq (congrFun h' 0)
  have h1 := BitVec.eq_of_toNat_eq (congrFun h' 1)
  have := congrArg Fin.val (hR.apart _ _ h0 h1)
  rw [crd_val, crd_val] at this
  exact Fin.ext this

theorem flush3 (t : Fin (cfgA hR).N) : ((cfgA hR).win (3 : Fin 4)).flush t = true := by
  by_cases h : t.val + 1 = (cfgA hR).N
  · show (true && (decide (t.val + 1 = (cfgA hR).N) || _)) = true
    rw [decide_eq_true h]; rfl
  · have hlt : t.val + 1 < (cfgA hR).N := lt_of_le_of_ne t.isLt h
    have hne : ∃ h : t.val + 1 < (cfgA hR).N, ((cfgA hR).win (3 : Fin 4)).index ⟨t.val + 1, h⟩ ≠ ((cfgA hR).win (3 : Fin 4)).index t :=
      ⟨hlt, fun e => by have := congrArg Fin.val (index3_inj hR _ _ e); exact absurd this (by show t.val + 1 ≠ t.val; omega)⟩
    show (true && (decide (t.val + 1 = (cfgA hR).N) || decide (∃ h : t.val + 1 < (cfgA hR).N, ((cfgA hR).win (3 : Fin 4)).index ⟨t.val + 1, h⟩ ≠ ((cfgA hR).win (3 : Fin 4)).index t))) = true
    rw [decide_eq_true hne, Bool.or_true]; rfl

theorem idle3 (t : Fin (cfgA hR).N) : (cfgA hR).idle (3 : Fin 4) ((cfgA hR).grid.coords t) = false := by
  show (!(k0_cond2 ((pf m).atD 5 (k0_off2 (crd hR t))) == 1#1) && !(k0_cond3 ((pf m).atD 5 (k0_off2 (crd hR t))) == 1#1)) = false
  rw [atD_eq]
  rcases hR.used (crd hR t 0) with h | h
  · rw [h]; decide
  · rw [h]; decide

theorem fresh3 (t : Fin (cfgA hR).N) : (cfgA hR).fresh (3 : Fin 4) t.val = true :=
  Pipeline.Cfg.fresh_tab (cfgA hR) (3 : Fin 4) (fun _ => true) rfl (fun t => by rw [flush3]; rfl) t.val (Nat.le_of_lt t.isLt)

/-- The hypotheses of the paths. -/
theorem first_pos {i : grid0.Coords} (h : T4 m (ix1 (i 0)) = 1#32) :
    Scalar.cmpi .ne (Scalar.extui (Scalar.cmpi .eq (View.readAt (Elt Ideal) (tbM0_4).view (Rect.unit (s := S1008) (k0_off1 i) S1.size (k0_off1_inb i)).toLoadRect (T4 m) (Shape.Idx.first (numel1_S1.symm ▸ Nat.one_pos))) 1#32) : BitVec 32) 0#32 = 1#1 := by
  rw [word_at, first_iff]; exact h
theorem first_neg {i : grid0.Coords} (h : ¬ T4 m (ix1 (i 0)) = 1#32) :
    ¬ Scalar.cmpi .ne (Scalar.extui (Scalar.cmpi .eq (View.readAt (Elt Ideal) (tbM0_4).view (Rect.unit (s := S1008) (k0_off1 i) S1.size (k0_off1_inb i)).toLoadRect (T4 m) (Shape.Idx.first (numel1_S1.symm ▸ Nat.one_pos))) 1#32) : BitVec 32) 0#32 = 1#1 := by
  rw [word_at, first_iff]; exact h
theorem used_eq (i : grid0.Coords) :
    View.readAt (Elt Ideal) (tbM0_5).view (Rect.unit (s := S1008) (k0_off2 i) S1.size (k0_off2_inb i)).toLoadRect (T5 m) (Shape.Idx.first (numel1_S1.symm ▸ Nat.one_pos)) = T5 m (ix1 (i 0)) :=
  word_at (T5 m) i
theorem used_pos2 {i : grid0.Coords} (h : T5 m (ix1 (i 0)) = 1#32) :
    k0_cond2 (View.readAt (Elt Ideal) (tbM0_5).view (Rect.unit (s := S1008) (k0_off2 i) S1.size (k0_off2_inb i)).toLoadRect (T5 m) (Shape.Idx.first (numel1_S1.symm ▸ Nat.one_pos))) = 1#1 :=
  (congrArg k0_cond2 (used_eq i)).trans ((cond2_iff _).2 h)
theorem used_neg2 {i : grid0.Coords} (h : ¬ T5 m (ix1 (i 0)) = 1#32) :
    ¬ k0_cond2 (View.readAt (Elt Ideal) (tbM0_5).view (Rect.unit (s := S1008) (k0_off2 i) S1.size (k0_off2_inb i)).toLoadRect (T5 m) (Shape.Idx.first (numel1_S1.symm ▸ Nat.one_pos))) = 1#1 :=
  fun hc => h ((cond2_iff _).1 ((congrArg k0_cond2 (used_eq i)).symm.trans hc))
theorem used_pos3 {i : grid0.Coords} (h : T5 m (ix1 (i 0)) = 1#32) :
    ¬ k0_cond3 (View.readAt (Elt Ideal) (tbM0_5).view (Rect.unit (s := S1008) (k0_off3 i) S1.size (k0_off3_inb i)).toLoadRect (T5 m) (Shape.Idx.first (numel1_S1.symm ▸ Nat.one_pos))) = 1#1 :=
  fun hc => by
    have := (cond3_iff _).1 ((congrArg k0_cond3 (used_eq i)).symm.trans hc)
    rw [h] at this; exact absurd this (by decide)
include hR in
theorem used_neg3 {i : grid0.Coords} (h : ¬ T5 m (ix1 (i 0)) = 1#32) :
    k0_cond3 (View.readAt (Elt Ideal) (tbM0_5).view (Rect.unit (s := S1008) (k0_off3 i) S1.size (k0_off3_inb i)).toLoadRect (T5 m) (Shape.Idx.first (numel1_S1.symm ▸ Nat.one_pos))) = 1#1 :=
  (congrArg k0_cond3 (used_eq i)).trans ((cond3_iff _).2 ((hR.used (i 0)).resolve_right h))
include hR in
theorem first_free {i : grid0.Coords} (h : ¬ T5 m (ix1 (i 0)) = 1#32) : ¬ T4 m (ix1 (i 0)) = 1#32 := fun e => by
  rw [hR.idle (i 0) ((hR.used (i 0)).resolve_right h)] at e; exact absurd e (by decide)

/-! ## The weights kept from step to step -/

theorem weights1_eq (c : Dev nD) (t t' : Fin (cfgA hR).N) (h3 : T3 m (ix1 (crd hR t 0)) = T3 m (ix1 (crd hR t' 0))) (h2 : T2 m (ix1 (crd hR t 0)) = T2 m (ix1 (crd hR t' 0))) :
    (iblk hR c (1 : Fin 4) t : S1x2048x512.Idx → Elt Ideal .f32) = iblk hR c (1 : Fin 4) t' := by
  have hi : cc0_transform_1 k0_off1_inb numel1_S1 (pf m) (crd hR t) = cc0_transform_1 k0_off1_inb numel1_S1 (pf m) (crd hR t') := by
    rw [index1, index1, h3, h2]
  funext x
  unfold iblk
  rw [View.read_apply, View.read_apply]
  refine congrArg (m ((c : Thread nD τ).loc main_arg7)) (funext fun a => Fin.ext ?_)
  show cc0_transform_1 k0_off1_inb numel1_S1 (pf m) (crd hR t) a * S1x2048x512.size a + 1 * (x a).val
    = cc0_transform_1 k0_off1_inb numel1_S1 (pf m) (crd hR t') a * S1x2048x512.size a + 1 * (x a).val
  rw [hi]

theorem weights2_eq (c : Dev nD) (t t' : Fin (cfgA hR).N) (h3 : T3 m (ix1 (crd hR t 0)) = T3 m (ix1 (crd hR t' 0))) (h2 : T2 m (ix1 (crd hR t 0)) = T2 m (ix1 (crd hR t' 0))) :
    (iblk hR c (2 : Fin 4) t : S1x2048x512.Idx → Elt Ideal .f32) = iblk hR c (2 : Fin 4) t' := by
  have hi : cc0_transform_2 k0_off1_inb numel1_S1 (pf m) (crd hR t) = cc0_transform_2 k0_off1_inb numel1_S1 (pf m) (crd hR t') := by
    rw [index2, index2, h3, h2]
  funext x
  unfold iblk
  rw [View.read_apply, View.read_apply]
  refine congrArg (m ((c : Thread nD τ).loc main_arg8)) (funext fun a => Fin.ext ?_)
  show cc0_transform_2 k0_off1_inb numel1_S1 (pf m) (crd hR t) a * S1x2048x512.size a + 1 * (x a).val
    = cc0_transform_2 k0_off1_inb numel1_S1 (pf m) (crd hR t') a * S1x2048x512.size a + 1 * (x a).val
  rw [hi]

/-- What the scratch buffers hold before step `n`: the weights of the step before it, if that was a used one. -/
def Held (c : Dev nD) (n : ℕ) (a0 a1 : S2048x512.Idx → Elt Ideal .bf16) : Prop :=
  ∀ t : Fin (cfgA hR).N, t.val + 1 = n → T5 m (ix1 (crd hR t 0)) = 1#32 →
    a0 = k0_pay1 (F := Ideal) (iblk hR c (1 : Fin 4) t) ∧ a1 = k0_pay2 (F := Ideal) (iblk hR c (2 : Fin 4) t)

theorem held_zero (c : Dev nD) (a0 a1) : Held hR c 0 a0 a1 := fun t h => absurd h (Nat.succ_ne_zero _)
theorem held_load (c : Dev nD) (t : Fin (cfgA hR).N) (a0 a1) (h0 : a0 = k0_pay1 (F := Ideal) (iblk hR c (1 : Fin 4) t)) (h1 : a1 = k0_pay2 (F := Ideal) (iblk hR c (2 : Fin 4) t)) : Held hR c (t.val + 1) a0 a1 := fun t' h _ => by
  have e : t' = t := Fin.ext (Nat.succ.inj h)
  rw [e]; exact ⟨h0, h1⟩
theorem held_free (c : Dev nD) (t : Fin (cfgA hR).N) (a0 a1) (hu : ¬ T5 m (ix1 (crd hR t 0)) = 1#32) : Held hR c (t.val + 1) a0 a1 := fun t' h h' => by
  have e : t' = t := Fin.ext (Nat.succ.inj h)
  rw [e] at h'; exact absurd h' hu
/-- A used step that is not the first of its group finds its own weights. -/
theorem held_keep (c : Dev nD) (t : Fin (cfgA hR).N) (a0 a1) (hu : T5 m (ix1 (crd hR t 0)) = 1#32) (hf : ¬ T4 m (ix1 (crd hR t 0)) = 1#32) (H : Held hR c t.val a0 a1) :
    a0 = k0_pay1 (F := Ideal) (iblk hR c (1 : Fin 4) t) ∧ a1 = k0_pay2 (F := Ideal) (iblk hR c (2 : Fin 4) t) := by
  have hv := crd_val hR t
  have h0 : t.val ≠ 0 := fun e => hf (hR.start _ (hv.trans e) hu)
  have hlt : t.val - 1 < (cfgA hR).N := lt_of_le_of_lt (Nat.sub_le _ _) t.isLt
  have hv' := crd_val hR ⟨t.val - 1, hlt⟩
  have hs : (crd hR ⟨t.val - 1, hlt⟩ 0).val + 1 = (crd hR t 0).val := by rw [hv, hv']; show t.val - 1 + 1 = t.val; omega
  obtain ⟨e5, e3, e2⟩ := hR.same _ _ hs hu hf
  obtain ⟨k0, k1⟩ := H ⟨t.val - 1, hlt⟩ (by show t.val - 1 + 1 = t.val; omega) e5
  rw [weights1_eq hR c ⟨t.val - 1, hlt⟩ t e3 e2] at k0
  rw [weights2_eq hR c ⟨t.val - 1, hlt⟩ t e3 e2] at k1
  exact ⟨k0, k1⟩

/-- What the body leaves in the output's buffer at a step. -/
def stored (c : Dev nD) (t : Fin (cfgA hR).N) : S512x512.Idx → Elt Ideal .bf16 :=
  if T5 m (ix1 (crd hR t 0)) = 1#32 then
    k0_pay3 (F := Ideal) (iblk hR c (0 : Fin 4) t) (k0_pay1 (F := Ideal) (iblk hR c (1 : Fin 4) t)) (k0_pay2 (F := Ideal) (iblk hR c (2 : Fin 4) t))
  else k0_pay4 (F := Ideal)

/-! ## The pipeline's proof data -/

/-- The body's halves of the tables. -/
def Tables (m : (ℓ : Loc nD τ sig) → Buf (Elt Ideal) ℓ) (c : Dev nD) : sProp 𝕄 :=
  iprop((tbM0_0.view.loc (c : Thread nD τ) ↦{fullShare.right} T0 m) ∗ (tbM0_1.view.loc (c : Thread nD τ) ↦{fullShare.right} T1 m) ∗ (tbM0_2.view.loc (c : Thread nD τ) ↦{fullShare.right} T2 m)
    ∗ (tbM0_3.view.loc (c : Thread nD τ) ↦{fullShare.right} T3 m) ∗ (tbM0_4.view.loc (c : Thread nD τ) ↦{fullShare.right} T4 m) ∗ (tbM0_5.view.loc (c : Thread nD τ) ↦{fullShare.right} T5 m))

/-- Before step `n`: the scratch buffers at the weights kept, and the tables. -/
def Phi (c : Dev nD) (n : ℕ) : sProp 𝕄 :=
  iprop((∃ a0 : Buf (Elt Ideal) ((c : Thread nD τ).loc cc0_scratch0), ∃ a1 : Buf (Elt Ideal) ((c : Thread nD τ).loc cc0_scratch1), ⌜Held hR c n a0 a1⌝
    ∗ (scM0_0.view.loc (c : Thread nD τ) ↦{fullShare} a0) ∗ (scM0_1.view.loc (c : Thread nD τ) ↦{fullShare} a1)) ∗ Tables m c)

def dats (_ : Fin 1) (c : Dev nD) : Dat τ (Elt Ideal) Unit ℕ (UR sig nD τ) ℕ (cfgA hR) c where
  A w := m (((cfgA hR).win w).arr.view.loc (c : Thread nD τ))
  after w t := match w with
    | ⟨0, _⟩ => iblk hR c (0 : Fin 4) t
    | ⟨1, _⟩ => iblk hR c (1 : Fin 4) t
    | ⟨2, _⟩ => iblk hR c (2 : Fin 4) t
    | ⟨3, _⟩ => stored hR c t
  Φ t := Phi hR c t.val
  q _ := fullShare
  owed _ := 0

theorem after0_0 (c : Dev nD) (t : Fin (cfgA hR).N) : (dats hR 0 c).after (0 : Fin 4) t = iblk hR c (0 : Fin 4) t := rfl
theorem after0_1 (c : Dev nD) (t : Fin (cfgA hR).N) : (dats hR 0 c).after (1 : Fin 4) t = iblk hR c (1 : Fin 4) t := rfl
theorem after0_2 (c : Dev nD) (t : Fin (cfgA hR).N) : (dats hR 0 c).after (2 : Fin 4) t = iblk hR c (2 : Fin 4) t := rfl
theorem after0_3 (c : Dev nD) (t : Fin (cfgA hR).N) : (dats hR 0 c).after (3 : Fin 4) t = stored hR c t := rfl

theorem before0_0 (c : Dev nD) (t : Fin (cfgA hR).N) (d) : (dats hR 0 c).before (0 : Fin 4) t d = iblk hR c (0 : Fin 4) t :=
  ((dats hR 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA hR).N) (d) : (dats hR 0 c).before (1 : Fin 4) t d = iblk hR c (1 : Fin 4) t :=
  ((dats hR 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA hR).N) (d) : (dats hR 0 c).before (2 : Fin 4) t d = iblk hR c (2 : Fin 4) t :=
  ((dats hR 0 c).before_in_eq_fetched (2 : Fin 4) rfl (fun _ => rfl) (fun _ _ _ => rfl) (fun t => by rw [after0_2]; unfold Dat.blockOf iblk; rfl) t d).trans
    (by unfold Dat.fetched Dat.blockOf iblk; rfl)

/-! ## The body at a step -/

abbrev bodyAt0 (t : Fin (cfgA hR).N) : Prog (TpuEff nD τ sig (Elt Ideal) Λ₀ .tc) PUnit :=
  cc0_moe_up (crd hR t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (ms0_0 hR t) (hs0_0 hR t) (ms0_1 hR t) (hs0_1 hR t) (ms0_2 hR t) (hs0_2 hR t) (ms0_3 hR t) (hs0_3 hR t) (Memref.whole cc0_scratch0) (Memref.isWhole_whole _) (Memref.whole cc0_scratch1) (Memref.isWhole_whole _)

set_option maxHeartbeats 8000000 in
/-- The body, from the three blocks, the weights kept and any output buffer, ends with the output buffer at what is stored. -/
theorem body_run (c : Dev nD) (t : Fin (cfgA hR).N) :
    iprop(Phi hR c t.val
        ∗ owns (c : Thread nD τ) (ms0_0 hR t) fullShare (iblk hR c (0 : Fin 4) t)
        ∗ owns (c : Thread nD τ) (ms0_1 hR t) fullShare (iblk hR c (1 : Fin 4) t)
        ∗ owns (c : Thread nD τ) (ms0_2 hR t) fullShare (iblk hR c (2 : Fin 4) t)
        ∗ (∃ d, owns (c : Thread nD τ) (ms0_3 hR t) fullShare d))
      ⊢ wp frame (wpE (defs₀ (F := Ideal)) Variants.none c none) Set.univ (bodyAt0 hR t) fun _ =>
          iprop(Phi hR c (t.val + 1)
            ∗ owns (c : Thread nD τ) (ms0_0 hR t) fullShare (iblk hR c (0 : Fin 4) t)
            ∗ owns (c : Thread nD τ) (ms0_1 hR t) fullShare (iblk hR c (1 : Fin 4) t)
            ∗ owns (c : Thread nD τ) (ms0_2 hR t) fullShare (iblk hR c (2 : Fin 4) t)
            ∗ owns (c : Thread nD τ) (ms0_3 hR t) fullShare (stored hR c t)) := by
  unfold Phi Tables
  iintro ⟨⟨⟨%a0, %a1, %hH, HS0, HS1⟩, HT0, HT1, HT2, HT3, HT4, HT5⟩, H0, H1, H2, H3⟩
  by_cases hu : T5 m (ix1 (crd hR t 0)) = 1#32
  · rw [show stored hR c t = _ from if_pos hu]
    by_cases hf : T4 m (ix1 (crd hR t 0)) = 1#32
    · iapply ((kernelRun0_A c (crd hR t) (ms0_0 hR t) (hs0_0 hR t) (ms0_1 hR t) (hs0_1 hR t) (ms0_2 hR t) (hs0_2 hR t) (ms0_3 hR t) (hs0_3 hR t) (T0 m) (T1 m) (T2 m) (T3 m) (T4 m) (T5 m) (iblk hR c (0 : Fin 4) t) (iblk hR c (1 : Fin 4) t) (iblk hR c (2 : Fin 4) t) (first_pos hf) (used_pos2 hu) (used_pos3 hu)).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [HT5]; · iexact HT5
      isplitl [H3]; · iexact H3
      isplitl [HS0]; · iexact HS0
      isplitl [HS1]; · iexact HS1
      iintro ⟨H0, H1, H2, HT0, HT1, HT2, HT3, HT4, HT5, ⟨%e3, H3⟩, HS0, HS1⟩
      isplitl [HS0 HS1 HT0 HT1 HT2 HT3 HT4 HT5]
      · isplitl [HS0 HS1]
        · iexists _; iexists _
          isplitr; swap
          · isplitl [HS0]
            · iexact HS0
            iexact HS1
          · ipureintro; exact held_load hR c t _ _ (load0 c _ _ _ _ _ _ _ _ _ _ _ _ _ _ _ _ _ _ _ _ _) (load1 c _ _ _ _ _ _ _ _ _ _ _ _ _ _ _ _ _ _ _ _ _)
        isplitl [HT0]; · iexact HT0
        isplitl [HT1]; · iexact HT1
        isplitl [HT2]; · iexact HT2
        isplitl [HT3]; · iexact HT3
        isplitl [HT4]; · iexact HT4
        iexact HT5
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_A_3 c _ _ _ _ _ _ _ _ _ _ _ _ _ _ _ _ _ _ _ _ _)).trans (out_load c _ _ _ _ _ _ _ _ _ _ _ _ _ _ _ _ _ _ _ _ _)
    · obtain ⟨k0, k1⟩ := held_keep hR c t a0 a1 hu hf hH
      iapply ((kernelRun0_B c (crd hR t) (ms0_0 hR t) (hs0_0 hR t) (ms0_1 hR t) (hs0_1 hR t) (ms0_2 hR t) (hs0_2 hR t) (ms0_3 hR t) (hs0_3 hR t) (T0 m) (T1 m) (T2 m) (T3 m) (T4 m) (T5 m) (iblk hR c (0 : Fin 4) t) (iblk hR c (1 : Fin 4) t) (iblk hR c (2 : Fin 4) t) a0 a1 (first_neg hf) (used_pos2 hu) (used_pos3 hu)).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [HT5]; · iexact HT5
      isplitl [H3]; · iexact H3
      isplitl [HS0]; · iexact HS0
      isplitl [HS1]; · iexact HS1
      iintro ⟨H0, H1, H2, HT0, HT1, HT2, HT3, HT4, HT5, ⟨%e3, H3⟩, HS0, HS1⟩
      isplitl [HS0 HS1 HT0 HT1 HT2 HT3 HT4 HT5]
      · isplitl [HS0 HS1]
        · iexists _; iexists _
          isplitr; swap
          · isplitl [HS0]
            · iexact HS0
            iexact HS1
          · ipureintro; exact held_load hR c t _ _ k0 k1
        isplitl [HT0]; · iexact HT0
        isplitl [HT1]; · iexact HT1
        isplitl [HT2]; · iexact HT2
        isplitl [HT3]; · iexact HT3
        isplitl [HT4]; · iexact HT4
        iexact HT5
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_B_3 c _ _ _ _ _ _ _ _ _ _ _ _ _ _ _ _ _ _ _ _ _ _ _)).trans ((out_keep c _ _ _ _ _ _ _ _ _ _ _ _ _ _ _ _ _ _ a0 a1 _ _ _).trans (congrArg₂ (k0_pay3 (F := Ideal) (iblk hR c (0 : Fin 4) t)) k0 k1))
  · rw [show stored hR c t = _ from if_neg hu]
    iapply ((kernelRun0_C c (crd hR t) (ms0_0 hR t) (hs0_0 hR t) (ms0_1 hR t) (hs0_1 hR t) (ms0_2 hR t) (hs0_2 hR t) (ms0_3 hR t) (hs0_3 hR t) (T0 m) (T1 m) (T2 m) (T3 m) (T4 m) (T5 m) (iblk hR c (0 : Fin 4) t) (iblk hR c (1 : Fin 4) t) (iblk hR c (2 : Fin 4) t) a0 a1 (first_neg (first_free hR hu)) (used_neg2 hu) (used_neg3 hR hu)).2.2.2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [HT3]; · iexact HT3
    isplitl [HT4]; · iexact HT4
    isplitl [HT5]; · iexact HT5
    isplitl [H3]; · iexact H3
    isplitl [HS0]; · iexact HS0
    isplitl [HS1]; · iexact HS1
    iintro ⟨H0, H1, H2, HT0, HT1, HT2, HT3, HT4, HT5, ⟨%e3, H3⟩, HS0, HS1⟩
    isplitl [HS0 HS1 HT0 HT1 HT2 HT3 HT4 HT5]
    · isplitl [HS0 HS1]
      · iexists _; iexists _
        isplitr; swap
        · isplitl [HS0]
          · iexact HS0
          iexact HS1
        · ipureintro; exact held_free hR c t _ _ hu
      isplitl [HT0]; · iexact HT0
      isplitl [HT1]; · iexact HT1
      isplitl [HT2]; · iexact HT2
      isplitl [HT3]; · iexact HT3
      isplitl [HT4]; · iexact HT4
      iexact HT5
    isplitl [H0]
    · iapply owns_of_rep; iexact H0
    isplitl [H1]
    · iapply owns_of_rep; iexact H1
    isplitl [H2]
    · iapply owns_of_rep; iexact H2
    unfold owns; iexists _; isplitr; swap
    · iexact H3
    · ipureintro
      exact (View.read_writes_of_cover _ _ _ _ _ (cover0_C_3 c _ _ _ _ _ _ _ _ _ _ _ _ _ _ _ _ _ _ _ _ _ _ _)).trans (out_free c _ _ _ _ _ _ _ _ _ _ _ _ _ _ _ _ _ _ a0 a1 _ _ _)

set_option maxHeartbeats 4000000 in
/-- So it meets the pipeline's demand at every step. -/
theorem body_obligation (c : Dev nD) : BodyObligation (dats hR 0 c) (defs₀ (F := Ideal)) Variants.none () Set.univ := fun t => by
  rw [bigSep_W0, bigSep_W0]
  rewrite [idle3]
  simp only [before0_0, before0_1, before0_2, after0_0, after0_1, after0_2, after0_3]
  rewrite [show (dats hR 0 c).Φ t.succ = Phi hR c (t.val + 1) from rfl, show (dats hR 0 c).Φ t.castSucc = Phi hR c t.val from rfl,
    show (dats hR 0 c).owesAt () t.succ = (dats hR 0 c).owesAt () t.castSucc from rfl]
  iintro ⟨HP, Ho, ⟨%d0, H0⟩, ⟨%d1, H1⟩, ⟨%d2, H2⟩, ⟨%d3, H3⟩⟩
  iapply wp_wand_r
  isplitl [HP H0 H1 H2 H3]
  · iapply (body_run hR c t)
    isplitl [HP]; · iexact HP
    isplitl [H0]; · iexact H0
    isplitl [H1]; · iexact H1
    isplitl [H2]; · iexact H2
    iexists _; iexact H3
  iintro %a ⟨HP, H0, H1, H2, H3⟩
  isplitl [HP]; · iexact HP
  isplitl [Ho]; · iexact Ho
  isplitl [H0]; · iexact H0
  isplitl [H1]; · iexact H1
  isplitl [H2]; · iexact H2
  iexact H3

/-! ## The launch -/

/-- The launch element of the staging cells. -/
def u₀ : UR sig nD τ :=
  initOf (Pipeline.cells (pcs hR) ((launch0 (F := Ideal)).cellOf_inj fun _ => adm hR))
    (Pipeline.launchToks (pcs hR) ((launch0 (F := Ideal)).cellOf_inj fun _ => adm hR))

theorem share_eq (c : Dev nD) (w : Fin (cfgA hR).W) : (dats hR 0 c).share w = fullShare := by unfold Dat.share; split <;> rfl

theorem prefHeld_eq (c : Dev nD) (q : Fin 6 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3) ∗ (((c : Thread nD τ).loc main_arg4) ↦{q 4} v 4) ∗ (((c : Thread nD τ).loc main_arg5) ↦{q 5} v 5)) := by
  unfold Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

theorem phi0_intro (c : Dev nD) :
    iprop(BI.emp ∗ Pipeline.prefHeld pre0 c (fun _ => fullShare.right) (adm hR).1 ∗ Pipeline.scopedRest spec0 c) ⊢ (dats hR 0 c).Φ 0 := by
  rw [prefHeld_eq, scopedRest0_eq, show (dats hR 0 c).Φ 0 = Phi hR c 0 from rfl]
  unfold Phi Tables
  iintro ⟨-, ⟨HT0, HT1, HT2, HT3, HT4, HT5⟩, ⟨%a0, HS0⟩, ⟨%a1, HS1⟩⟩
  isplitl [HS0 HS1]
  · iexists a0; iexists a1
    isplitr; swap
    · isplitl [HS0]
      · iexact HS0
      iexact HS1
    · ipureintro; exact held_zero hR c a0 a1
  isplitl [HT0]; · iexact HT0
  isplitl [HT1]; · iexact HT1
  isplitl [HT2]; · iexact HT2
  isplitl [HT3]; · iexact HT3
  isplitl [HT4]; · iexact HT4
  iexact HT5

theorem phiN_exit (c : Dev nD) : (dats hR 0 c).Φ (Fin.last (cfgA hR).N) ⊢ iprop(BI.emp ∗ Pipeline.scopedRest spec0 c) := by
  rw [scopedRest0_eq, show (dats hR 0 c).Φ (Fin.last (cfgA hR).N) = Phi hR c (cfgA hR).N from rfl]
  unfold Phi
  iintro ⟨⟨%a0, %a1, -, HS0, HS1⟩, -⟩
  isplitr; · iempintro
  isplitl [HS0]
  · iexists a0; iexact HS0
  iexists a1; iexact HS1

/-- Every array at what the pipeline computes, every table as it was. -/
def QC : PUnit × MemSt nD τ sig (Elt Ideal) → Prop := fun r =>
  ∀ c : Dev nD, (∀ w : Fin (cfgA hR).W, r.2.mem (((cfgA hR).win w).arr.view.loc (c : Thread nD τ)) = (dats hR 0 c).arrAt w (cfgA hR).N)
    ∧ ∀ j, r.2.mem ((c : Thread nD τ).loc (pre0.ref j)) = (adm hR).1 j

theorem V_pre (c : Dev nD) (j : Fin 6) : m ((c : Thread nD τ).loc (pre0.ref j)) = (adm hR).1 j := by
  rw [dev_eq c]
  fin_cases j <;> rfl

set_option backward.isDefEq.respectTransparency.types false in
set_option maxHeartbeats 4000000 in
theorem run_main_quiescent : θ_run (defs (F := Ideal)) (onTc (τ := τ) (main (F := Ideal))) (s₀ m ρ) (fun r => QC hR r ∧ r.2.sem = fun _ => 0) :=
  Pipeline.θ_run_region_noSem_pf_quiescent pcfgs (fun _ => adm hR) (dats hR) () ((launch0 (F := Ideal)).cellOf_inj fun _ => adm hR) (0 : Fin 1)
    (launch0 (F := Ideal)).win.to₀ (launch0 (F := Ideal)).pre EP defs₀ Variants.none m ρ main
    (hbody := fun c => (body_obligation hR c).loose) (hne := (launch0 (F := Ideal)).block_pos)
    (harr := (launch0 (F := Ideal)).arr_whole) (hstage := (launch0 (F := Ideal)).stage_whole) (howed := fun _ _ => rfl)
    (u₀ := u₀ hR) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hR) (dats hR) 0 (launch0 (F := Ideal)).win.arr_inj c (launch0 (F := Ideal)).arr_whole
      (share_eq hR c) _ _ fun _ => rfl)
    (hpf := V_pre hR)
    (X := fun _ => iprop(emp)) (Y := fun _ => iprop(emp)) (Z := fun _ => iprop(emp))
    (hX := fun c => by rw [unscopedRestP0_eq]; iintro -; isplitr <;> iempintro)
    (hin := phi0_intro hR)
    (hout := phiN_exit hR)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame, and with it the result's array as the pipeline computes it. -/
theorem run : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v0) = (dats hR 0 c).arrAt (3 : Fin 4) (cfgA hR).N)
      ∧ r.2.sem = fun _ => 0) :=
  (θ_run defs _ _).mono (fun _ h => ⟨fun c => ⟨((h.1 c).2 0).trans (V_pre hR c 0).symm, ((h.1 c).2 1).trans (V_pre hR c 1).symm, ((h.1 c).2 2).trans (V_pre hR c 2).symm, ((h.1 c).2 3).trans (V_pre hR c 3).symm, ((h.1 c).2 4).trans (V_pre hR c 4).symm, ((h.1 c).2 5).trans (V_pre hR c 5).symm,
    ((h.1 c).1 (0 : Fin 4)).trans ((dats hR 0 c).arrAt_in (0 : Fin 4) rfl _),
    ((h.1 c).1 (1 : Fin 4)).trans ((dats hR 0 c).arrAt_in (1 : Fin 4) rfl _),
    ((h.1 c).1 (2 : Fin 4)).trans ((dats hR 0 c).arrAt_in (2 : Fin 4) rfl _), (h.1 c).1 (3 : Fin 4)⟩, h.2⟩) (run_main_quiescent ρ hR)

end Cert.UpIdeal.Tab
-- ==== Proof.UpSpec.lean ====
/-
  The experts' up projection at an index: the gate's product through the sigmoid-weighted unit, times the other product.
-/
module

public import Idealize.ShloMosaic.Lib.Pointwise

@[expose] public section

noncomputable section

namespace Cert.UpSpec

open Idealize.ShloMosaic

/-- The unit: `h / (1 + exp (-h))`, times `g`. -/
def act (h g : EReal) : EReal := h * Ideal.div 1 (1 + Ideal.exp (-h)) * g

end Cert.UpSpec

end
-- ==== Proof.UpValue.lean ====
/-
  What the experts' up projection leaves in its result, at any tables that are a schedule: at each index the unit of the
  row's two products with its tile's expert, if the tile is used, and zero if not.
-/
module

public import proofs.«01_k».proof.Proof.UpTab
public import proofs.«01_k».proof.Proof.UpSpec

@[expose] public section

set_option maxRecDepth 16384

noncomputable section

namespace Cert.UpIdeal.Tab

open Cert.UpIdeal Cert.UpIdeal.Gen
open Idealize.ShloMosaic
open Idealize.ShloMosaic.TcCoe Idealize.ShloMosaic.Tactic
open Idealize.SL.Sem
open Idealize.ShloMosaic.Pipeline (Dat Cfg Window)
open Cert.UpSpec

variable {m : (ℓ : Loc nD τ sig) → Buf (Elt Ideal) ℓ} (hR : Good m)

/-- A used step's store, at an index of the block. -/
theorem pay_at (x : Vec Ideal S512x2048 .bf16) (y z : Vec Ideal S1x2048x512 .f32) (p q : Fin 512) :
    k0_pay3 x (k0_pay1 y) (k0_pay2 z) (ix2 p q)
      = act (∑ k : Fin 2048, x (ix2 p k) * y (ix3 (0 : Fin 1) k q) : EReal) (∑ k : Fin 2048, x (ix2 p k) * z (ix3 (0 : Fin 1) k q) : EReal) := by
  have h1 : ∀ k : Fin 2048, (k0_pay1 y : Vec Ideal S2048x512 .bf16) (ix2 k q) = y (ix3 (0 : Fin 1) k q) := fun k => by unfold k0_pay1; pointwise
  have h2 : ∀ k : Fin 2048, (k0_pay2 z : Vec Ideal S2048x512 .bf16) (ix2 k q) = z (ix3 (0 : Fin 1) k q) := fun k => by unfold k0_pay2; pointwise
  simp only [← h1, ← h2]
  generalize (k0_pay1 y : Vec Ideal S2048x512 .bf16) = a
  generalize (k0_pay2 z : Vec Ideal S2048x512 .bf16) = b
  unfold k0_pay3 act
  rw [← zero_sub]
  pointwise

/-- An unused step's store. -/
theorem free_at (p q : Fin 512) : (k0_pay4 (F := Ideal) : Vec Ideal S512x512 .bf16) (ix2 p q) = (0 : EReal) := by
  unfold k0_pay4
  pointwise

/-- The arguments, by their indices. -/
def argH (m : (ℓ : Loc nD τ sig) → Buf (Elt Ideal) ℓ) (r : Fin 36864) (k : Fin 2048) : EReal := (m ((dev : Thread nD τ).loc main_arg6) : Vec Ideal S36864x2048 .bf16) (ix2 r k)
def argW (m : (ℓ : Loc nD τ sig) → Buf (Elt Ideal) ℓ) (e : Fin 8) (k : Fin 2048) (s : Fin 7168) : EReal := (m ((dev : Thread nD τ).loc main_arg7) : Vec Ideal S8x2048x7168 .f32) (ix3 e k s)
def argV (m : (ℓ : Loc nD τ sig) → Buf (Elt Ideal) ℓ) (e : Fin 8) (k : Fin 2048) (s : Fin 7168) : EReal := (m ((dev : Thread nD τ).loc main_arg8) : Vec Ideal S8x2048x7168 .f32) (ix3 e k s)

/-- The first of the 14 steps of a row's tile, and a step's expert. -/
def head (r : Fin 36864) : Fin 1008 := ⟨r.val / 512 * 14, by have := r.isLt; omega⟩
def expert (i : Fin 1008) : Fin 8 := ⟨(T3 m (ix1 i)).toNat, hR.expert i⟩

/-- The unit of a row's products with an expert, at a column. -/
def unit (m : (ℓ : Loc nD τ sig) → Buf (Elt Ideal) ℓ) (e : Fin 8) (r : Fin 36864) (s : Fin 7168) : EReal :=
  act (∑ k : Fin 2048, argH m r k * argW m e k s) (∑ k : Fin 2048, argH m r k * argV m e k s)

/-- The result. -/
def G (c : Dev nD) : Buf (Elt Ideal) ((c : Thread nD τ).loc main_v0) := fun (j : S36864x7168.Idx) =>
  (if T5 m (ix1 (head (j 0))) = 1#32 then unit m (expert hR (head (j 0))) (j 0) (j 1) else 0 : EReal)

theorem iblk0 (c : Dev nD) (t : Fin (cfgA hR).N) (p : Fin 512) (k : Fin 2048) (r : Fin 36864) (hr : r.val = (T0 m (ix1 (crd hR t 0))).toNat * 512 + p.val) :
    (iblk hR c (0 : Fin 4) t : Vec Ideal S512x2048 .bf16) (ix2 p k) = argH m r k := by
  rw [dev_eq c]
  have hi := index0 m (crd hR t)
  unfold iblk argH
  rw [View.read_apply]
  refine congrArg (m ((dev : Thread nD τ).loc main_arg6)) (funext fun a => Fin.ext ?_)
  match a with
  | ⟨0, _⟩ =>
    show cc0_transform_0 k0_off1_inb numel1_S1 (pf m) (crd hR t) 0 * 512 + 1 * p.val = r.val
    rw [hi]; show (T0 m (ix1 (crd hR t 0))).toNat * 512 + 1 * p.val = _; omega
  | ⟨1, _⟩ =>
    show cc0_transform_0 k0_off1_inb numel1_S1 (pf m) (crd hR t) 1 * 2048 + 1 * k.val = k.val
    rw [hi]; show 0 * 2048 + 1 * k.val = k.val; omega

theorem iblk1 (c : Dev nD) (t : Fin (cfgA hR).N) (k : Fin 2048) (q : Fin 512) (s : Fin 7168) (hs : s.val = (T2 m (ix1 (crd hR t 0))).toNat * 512 + q.val) :
    (iblk hR c (1 : Fin 4) t : Vec Ideal S1x2048x512 .f32) (ix3 (0 : Fin 1) k q) = argW m (expert hR (crd hR t 0)) k s := by
  rw [dev_eq c]
  have hi := index1 m (crd hR t)
  unfold iblk argW
  rw [View.read_apply]
  refine congrArg (m ((dev : Thread nD τ).loc main_arg7)) (funext fun a => Fin.ext ?_)
  match a with
  | ⟨0, _⟩ =>
    show cc0_transform_1 k0_off1_inb numel1_S1 (pf m) (crd hR t) 0 * 1 + 1 * 0 = (T3 m (ix1 (crd hR t 0))).toNat
    rw [hi]; show (T3 m (ix1 (crd hR t 0))).toNat * 1 + 1 * 0 = _; omega
  | ⟨1, _⟩ =>
    show cc0_transform_1 k0_off1_inb numel1_S1 (pf m) (crd hR t) 1 * 2048 + 1 * k.val = k.val
    rw [hi]; show 0 * 2048 + 1 * k.val = k.val; omega
  | ⟨2, _⟩ =>
    show cc0_transform_1 k0_off1_inb numel1_S1 (pf m) (crd hR t) 2 * 512 + 1 * q.val = s.val
    rw [hi]; show (T2 m (ix1 (crd hR t 0))).toNat * 512 + 1 * q.val = s.val; omega

theorem iblk2 (c : Dev nD) (t : Fin (cfgA hR).N) (k : Fin 2048) (q : Fin 512) (s : Fin 7168) (hs : s.val = (T2 m (ix1 (crd hR t 0))).toNat * 512 + q.val) :
    (iblk hR c (2 : Fin 4) t : Vec Ideal S1x2048x512 .f32) (ix3 (0 : Fin 1) k q) = argV m (expert hR (crd hR t 0)) k s := by
  rw [dev_eq c]
  have hi := index2 m (crd hR t)
  unfold iblk argV
  rw [View.read_apply]
  refine congrArg (m ((dev : Thread nD τ).loc main_arg8)) (funext fun a => Fin.ext ?_)
  match a with
  | ⟨0, _⟩ =>
    show cc0_transform_2 k0_off1_inb numel1_S1 (pf m) (crd hR t) 0 * 1 + 1 * 0 = (T3 m (ix1 (crd hR t 0))).toNat
    rw [hi]; show (T3 m (ix1 (crd hR t 0))).toNat * 1 + 1 * 0 = _; omega
  | ⟨1, _⟩ =>
    show cc0_transform_2 k0_off1_inb numel1_S1 (pf m) (crd hR t) 1 * 2048 + 1 * k.val = k.val
    rw [hi]; show 0 * 2048 + 1 * k.val = k.val; omega
  | ⟨2, _⟩ =>
    show cc0_transform_2 k0_off1_inb numel1_S1 (pf m) (crd hR t) 2 * 512 + 1 * q.val = s.val
    rw [hi]; show (T2 m (ix1 (crd hR t 0))).toNat * 512 + 1 * q.val = s.val; omega

/-- What is stored at a step, at an index of the block. -/
theorem stored_at (c : Dev nD) (t : Fin (cfgA hR).N) (p q : Fin 512) (r : Fin 36864) (s : Fin 7168)
    (hr : r.val = (T0 m (ix1 (crd hR t 0))).toNat * 512 + p.val) (hs : s.val = (T1 m (ix1 (crd hR t 0))).toNat * 512 + q.val) :
    stored hR c t (ix2 p q) = (if T5 m (ix1 (head r)) = 1#32 then unit m (expert hR (head r)) r s else 0 : EReal) := by
  have ht := hR.tile (crd hR t 0) (head r) (by
    have := p.isLt
    show _ = r.val / 512 * 14
    omega)
  have he : expert hR (head r) = expert hR (crd hR t 0) := Fin.ext (by
    show (T3 m (ix1 (head r))).toNat = (T3 m (ix1 (crd hR t 0))).toNat
    rw [ht.1])
  rw [← ht.2, he]
  unfold stored
  by_cases h : T5 m (ix1 (crd hR t 0)) = 1#32
  · rw [if_pos h, if_pos h]
    have hs2 : s.val = (T2 m (ix1 (crd hR t 0))).toNat * 512 + q.val := by rw [hR.own (crd hR t 0) h]; exact hs
    refine (pay_at _ _ _ p q).trans ?_
    unfold unit
    exact congrArg₂ act
      (show (_ : EReal) = _ from Finset.sum_congr rfl fun k _ => by rw [iblk0 hR c t p k r hr, iblk1 hR c t k q s hs2])
      (show (_ : EReal) = _ from Finset.sum_congr rfl fun k _ => by rw [iblk0 hR c t p k r hr, iblk2 hR c t k q s hs2])
  · rw [if_neg h, if_neg h]
    exact free_at p q

theorem disjoint3 : ∀ t t' : Fin (cfgA hR).N, ((cfgA hR).win (3 : Fin 4)).flush t = true → ((cfgA hR).win (3 : Fin 4)).flush t' = true → t ≠ t' →
    Disjoint (((cfgA hR).win (3 : Fin 4)).blk t).view.set (((cfgA hR).win (3 : Fin 4)).blk t').view.set :=
  fun t t' _ _ hne => ((cfgA hR).win (3 : Fin 4)).disjoint_blk fun h => hne (index3_inj hR t t' h)

theorem flushed3 (c : Dev nD) (t : Fin (cfgA hR).N) : (dats hR 0 c).flushed (3 : Fin 4) t = stored hR c t := by
  show ((cfgA hR).win (3 : Fin 4)).cut ((cfgA hR).grid.coords t) ((dats hR 0 c).after (3 : Fin 4) t) = _
  rw [after0_3]
  rfl

theorem blocks3 (c : Dev nD) (t : Fin (cfgA hR).N) :
    (((cfgA hR).win (3 : Fin 4)).blk t).view.read (Elt Ideal) ((dats hR 0 c).arrAt (3 : Fin 4) (cfgA hR).N) = stored hR c t :=
  ((dats hR 0 c).read_blk_arrAt_eq_flushed (3 : Fin 4) (disjoint3 hR) (cfgA hR).N t t.isLt (flush3 hR t)).trans (flushed3 hR c t)

theorem out_at (c : Dev nD) (t : Fin (cfgA hR).N) (p q : Fin 512) (r : Fin 36864) (s : Fin 7168)
    (hr : r.val = (T0 m (ix1 (crd hR t 0))).toNat * 512 + p.val) (hs : s.val = (T1 m (ix1 (crd hR t 0))).toNat * 512 + q.val) :
    ((dats hR 0 c).arrAt (3 : Fin 4) (cfgA hR).N : S36864x7168.Idx → Elt Ideal .bf16) (ix2 r s) = stored hR c t (ix2 p q) := by
  have hi := index3 m (crd hR t)
  have he : (((cfgA hR).win (3 : Fin 4)).blk t).view.emb (ix2 p q) = (ix2 r s : S36864x7168.Idx) := by
    refine funext fun a => Fin.ext ?_
    match a with
    | ⟨0, _⟩ =>
      show cc0_transform_3 k0_off1_inb numel1_S1 (pf m) (crd hR t) 0 * 512 + 1 * p.val = r.val
      rw [hi]; show (T0 m (ix1 (crd hR t 0))).toNat * 512 + 1 * p.val = r.val; omega
    | ⟨1, _⟩ =>
      show cc0_transform_3 k0_off1_inb numel1_S1 (pf m) (crd hR t) 1 * 512 + 1 * q.val = s.val
      rw [hi]; show (T1 m (ix1 (crd hR t 0))).toNat * 512 + 1 * q.val = s.val; omega
  have hb := congrFun (blocks3 hR c t) (ix2 p q)
  generalize (dats hR 0 c).arrAt (3 : Fin 4) (cfgA hR).N = A at hb ⊢
  rw [← he]
  exact hb

include hR in
/-- Every tile of the result has its step: the steps are as many as the tiles, and no two have the same. -/
theorem step_of (i : Fin 72) (j : Fin 14) : ∃ s : Fin 1008, (T0 m (ix1 s)).toNat = i.val ∧ (T1 m (ix1 s)).toNat = j.val := by
  let f : Fin 1008 → Fin 1008 := fun s => ⟨(T0 m (ix1 s)).toNat * 14 + (T1 m (ix1 s)).toNat, by have := hR.row s; have := hR.col s; omega⟩
  have hf : Function.Injective f := fun s s' h => by
    have h' : (T0 m (ix1 s)).toNat * 14 + (T1 m (ix1 s)).toNat = (T0 m (ix1 s')).toNat * 14 + (T1 m (ix1 s')).toNat := congrArg Fin.val h
    have := hR.col s
    have := hR.col s'
    exact hR.apart s s' (BitVec.eq_of_toNat_eq (by omega)) (BitVec.eq_of_toNat_eq (by omega))
  obtain ⟨s, hs⟩ := Finite.injective_iff_surjective.1 hf ⟨i.val * 14 + j.val, by have := i.isLt; have := j.isLt; omega⟩
  have h : (T0 m (ix1 s)).toNat * 14 + (T1 m (ix1 s)).toNat = i.val * 14 + j.val := congrArg Fin.val hs
  have := hR.col s
  have := j.isLt
  exact ⟨s, by omega, by omega⟩

theorem ix2_eta {n k : ℕ} (j : Shape.Idx ⟨2, ![n, k]⟩) : j = ix2 (j 0) (j 1) := by
  funext a
  match a with
  | ⟨0, _⟩ => rfl
  | ⟨1, _⟩ => rfl

theorem result_at (c : Dev nD) (r : Fin 36864) (s : Fin 7168) :
    ((dats hR 0 c).arrAt (3 : Fin 4) (cfgA hR).N : S36864x7168.Idx → Elt Ideal .bf16) (ix2 r s)
      = (if T5 m (ix1 (head r)) = 1#32 then unit m (expert hR (head r)) r s else 0 : EReal) := by
  have j0 : r.val < 36864 := r.isLt
  have j1 : s.val < 7168 := s.isLt
  obtain ⟨i, h0, h1⟩ := step_of hR ⟨r.val / 512, by omega⟩ ⟨s.val / 512, by omega⟩
  have ht : i.val < (cfgA hR).N := lt_of_lt_of_eq i.isLt (N_eq hR).symm
  have hc : crd hR ⟨i.val, ht⟩ 0 = i := Fin.ext (crd_val hR ⟨i.val, ht⟩)
  have e0 : r.val = (T0 m (ix1 (crd hR ⟨i.val, ht⟩ 0))).toNat * 512 + r.val % 512 := by rw [hc, h0]; show _ = r.val / 512 * 512 + _; omega
  have e1 : s.val = (T1 m (ix1 (crd hR ⟨i.val, ht⟩ 0))).toNat * 512 + s.val % 512 := by rw [hc, h1]; show _ = s.val / 512 * 512 + _; omega
  exact (out_at hR c ⟨_, ht⟩ ⟨r.val % 512, Nat.mod_lt _ (by decide)⟩ ⟨s.val % 512, Nat.mod_lt _ (by decide)⟩ r s e0 e1).trans
    (stored_at hR c ⟨_, ht⟩ _ _ r s e0 e1)

theorem result (c : Dev nD) : (dats hR 0 c).arrAt (3 : Fin 4) (cfgA hR).N = G hR c := by
  funext j
  have h := result_at hR c (j 0) (j 1)
  generalize (dats hR 0 c).arrAt (3 : Fin 4) (cfgA hR).N = A at h ⊢
  exact (congrArg A (ix2_eta (n := 36864) (k := 7168) j)).trans h

end Cert.UpIdeal.Tab

end
-- ==== Proof.UpRef.lean ====
/-
  What the reference of the experts' up projection holds at an index: the unit of the row's two products with its tile's
  expert, if the tile is used, and zero if not.
-/
module

public import proofs.«01_k».proof.Proof.Gen.UpRefIdeal.Run
public import proofs.«01_k».proof.Proof.UpSpec

@[expose] public section

set_option maxRecDepth 16384

noncomputable section

namespace Cert.UpRefIdeal.Read

open Cert.UpRefIdeal Cert.UpRefIdeal.Gen Idealize.ShloMosaic Idealize.SL.Sem
open Idealize.ShloMosaic.TcCoe
open Cert.UpSpec

/-- The first of the 14 steps of a row's tile. -/
def head (r : Fin 36864) : Fin 1008 := ⟨r.val / 512 * 14, by have := r.isLt; omega⟩

/-- A table's word at the first step of each tile, spread over the tile's 512 rows. -/
def spread (t : IVec S1008 32) : IVec S36864 32 :=
  shapeCast _ (broadcastInDim S72x512 ![0, 1] bcast_S72x1_S72x512_0_1 (broadcastInDim S72x1 ![0] bcast_S72_S72x1_0 (shapeCast _ (extractStridedSlice S72x1 ![0, 0] (shapeCast _ t shapeCasts_S1008_S72x14) slices_S72x14_S72x1_0_0) shapeCasts_S72x1_S72))) shapeCasts_S72x512_S36864

theorem spread_at (t : IVec S1008 32) (r : Fin 36864) : spread t (ix1 r) = t (ix1 (head r)) := by
  have hr := r.isLt
  unfold spread
  pointwise
  rfl

section
variable (e : ℕ) (hsl : S8x2048x7168.Slices ![e, 0, 0] S1x2048x7168) (hs : FVec Ideal S36864x2048 .bf16)

/-- The rows' products with expert `e`'s weights. -/
def prod (w : FVec Ideal S8x2048x7168 .f32) : FVec Ideal S36864x7168 .f32 :=
  Host.dotGeneral dot_S36864x2048_S2048x7168_S36864x7168_1_0_0_1_n_n none (extf .f32 hs bitsLt_bf16_f32) (extf .f32 (truncf .bf16 (shapeCast _ (extractStridedSlice S1x2048x7168 ![e, 0, 0] w hsl) shapeCasts_S1x2048x7168_S2048x7168) bitsLt_bf16_f32) bitsLt_bf16_f32)

theorem prod_at (he : e < 8) (w : FVec Ideal S8x2048x7168 .f32) (r : Fin 36864) (s : Fin 7168) :
    prod e hsl hs w (ix2 r s) = (∑ k : Fin 2048, hs (ix2 r k) * w (ix3 (⟨e, he⟩ : Fin 8) k s) : EReal) := by
  unfold prod
  pointwise

/-- One expert's turn: the rows it serves take its unit, the others keep what they had. -/
def turn (te tv : IVec S1008 32) (w1 w3 : FVec Ideal S8x2048x7168 .f32) (prev : FVec Ideal S36864x7168 .f32) : FVec Ideal S36864x7168 .f32 :=
  select (broadcastInDim S36864x7168 ![0, 1] bcast_S36864x1_S36864x7168_0_1 (broadcastInDim S36864x1 ![0] bcast_S36864_S36864x1_0 (andi (cmpi .eq (spread tv) (broadcastInDim S36864 ![] bcast_S_S36864 (constantI S_ 32 1#32))) (cmpi .eq (spread te) (broadcastInDim S36864 ![] bcast_S_S36864 (constantI S_ 32 (BitVec.ofNat 32 e)))))))
    (mulf (mulf (prod e hsl hs w1) (Host.divf (broadcastInDim S36864x7168 ![] bcast_S_S36864x7168 (constant S_ .f32 0x3F800000#32)) (addf (broadcastInDim S36864x7168 ![] bcast_S_S36864x7168 (constant S_ .f32 0x3F800000#32)) (Host.exp (Host.negf (prod e hsl hs w1)))))) (prod e hsl hs w3))
    prev

theorem eq_zero_of_ne_one {c : BitVec 1} (h : c ≠ 1#1) : c = 0#1 := by revert h; revert c; decide

theorem turn_at (he : e < 8) (te tv : IVec S1008 32) (w1 w3 : FVec Ideal S8x2048x7168 .f32) (prev : FVec Ideal S36864x7168 .f32) (r : Fin 36864) (s : Fin 7168) :
    turn e hsl hs te tv w1 w3 prev (ix2 r s)
      = if tv (ix1 (head r)) = 1#32 ∧ te (ix1 (head r)) = BitVec.ofNat 32 e
        then act (∑ k : Fin 2048, hs (ix2 r k) * w1 (ix3 (⟨e, he⟩ : Fin 8) k s) : EReal) (∑ k : Fin 2048, hs (ix2 r k) * w3 (ix3 (⟨e, he⟩ : Fin 8) k s) : EReal)
        else prev (ix2 r s) := by
  rw [← prod_at e hsl hs he w1 r s, ← prod_at e hsl hs he w3 r s, ← spread_at tv r, ← spread_at te r]
  unfold turn
  generalize spread tv = A
  generalize spread te = B
  generalize prod e hsl hs w1 = H
  generalize prod e hsl hs w3 = D
  generalize BitVec.ofNat 32 e = w
  refine Eq.trans (b := Scalar.select (IntOp.andi (IntOp.cmpi CmpIPredicate.eq (A (ix1 r)) 1#32) (IntOp.cmpi CmpIPredicate.eq (B (ix1 r)) w)) (act (H (ix2 r s)) (D (ix2 r s))) (prev (ix2 r s))) (by unfold act; pointwise) ?_
  by_cases hA : A (ix1 r) = 1#32
  · by_cases hB : B (ix1 r) = w
    · rw [if_pos ⟨hA, hB⟩, hA, hB]
      rw [show _ = 1#1 from IntOp.andi_eq_one.2 ⟨IntOp.cmpi_eq.2 rfl, IntOp.cmpi_eq.2 rfl⟩]; rfl
    · rw [if_neg fun h => hB h.2]
      rw [show _ = 0#1 from eq_zero_of_ne_one fun h => hB (IntOp.cmpi_eq.1 (IntOp.andi_eq_one.1 h).2)]; rfl
  · rw [if_neg fun h => hA h.1]
    rw [show _ = 0#1 from eq_zero_of_ne_one fun h => hA (IntOp.cmpi_eq.1 (IntOp.andi_eq_one.1 h).1)]; rfl

end

/-- The reference's result, of the two tables, the rows and the weights. -/
def outV (te tv : IVec S1008 32) (hs : FVec Ideal S36864x2048 .bf16) (w1 w3 : FVec Ideal S8x2048x7168 .f32) : FVec Ideal S36864x7168 .bf16 :=
  truncf .bf16
    (turn 7 slices_S8x2048x7168_S1x2048x7168_7_0_0 hs te tv w1 w3 (turn 6 slices_S8x2048x7168_S1x2048x7168_6_0_0 hs te tv w1 w3
      (turn 5 slices_S8x2048x7168_S1x2048x7168_5_0_0 hs te tv w1 w3 (turn 4 slices_S8x2048x7168_S1x2048x7168_4_0_0 hs te tv w1 w3
        (turn 3 slices_S8x2048x7168_S1x2048x7168_3_0_0 hs te tv w1 w3 (turn 2 slices_S8x2048x7168_S1x2048x7168_2_0_0 hs te tv w1 w3
          (turn 1 slices_S8x2048x7168_S1x2048x7168_1_0_0 hs te tv w1 w3 (turn 0 slices_S8x2048x7168_S1x2048x7168_0_0_0 hs te tv w1 w3
            (broadcastInDim S36864x7168 ![] bcast_S_S36864x7168 (constant S_ .f32 0x00000000#32)))))))))) bitsLt_bf16_f32

theorem zeros_at (r : Fin 36864) (s : Fin 7168) :
    (broadcastInDim S36864x7168 ![] bcast_S_S36864x7168 (constant S_ .f32 0x00000000#32) : FVec Ideal S36864x7168 .f32) (ix2 r s) = (0 : EReal) := by
  pointwise

theorem trunc_at (x : FVec Ideal S36864x7168 .f32) (i : S36864x7168.Idx) : (truncf .bf16 x bitsLt_bf16_f32 : FVec Ideal S36864x7168 .bf16) i = x i := rfl

section
variable (te tv : IVec S1008 32) (hs : FVec Ideal S36864x2048 .bf16) (w1 w3 : FVec Ideal S8x2048x7168 .f32) (r : Fin 36864) (s : Fin 7168)

/-- At an index of a used tile whose expert is `e`. -/
theorem out_used (e : Fin 8) (hv : tv (ix1 (head r)) = 1#32) (he : (te (ix1 (head r))).toNat = e.val) :
    outV te tv hs w1 w3 (ix2 r s)
      = act (∑ k : Fin 2048, hs (ix2 r k) * w1 (ix3 e k s) : EReal) (∑ k : Fin 2048, hs (ix2 r k) * w3 (ix3 e k s) : EReal) := by
  unfold outV
  rw [trunc_at]
  rw [turn_at 7 _ _ (by decide), turn_at 6 _ _ (by decide), turn_at 5 _ _ (by decide), turn_at 4 _ _ (by decide), turn_at 3 _ _ (by decide), turn_at 2 _ _ (by decide), turn_at 1 _ _ (by decide), turn_at 0 _ _ (by decide)]
  generalize te (ix1 (head r)) = w at he ⊢
  rw [hv]
  obtain ⟨e, hlt⟩ := e
  have hw : w = BitVec.ofNat 32 e := BitVec.eq_of_toNat_eq (he.trans (by rw [BitVec.toNat_ofNat]; exact (Nat.mod_eq_of_lt (by omega)).symm))
  subst hw
  interval_cases e
  all_goals
    simp only [true_and]
    repeat first
      | (rw [if_pos rfl]; done)
      | (rw [if_pos trivial]; done)
      | rw [if_neg (by decide)]

theorem out_free (hv : ¬ tv (ix1 (head r)) = 1#32) : outV te tv hs w1 w3 (ix2 r s) = (0 : EReal) := by
  unfold outV
  rw [trunc_at]
  rw [turn_at 7 _ _ (by decide), turn_at 6 _ _ (by decide), turn_at 5 _ _ (by decide), turn_at 4 _ _ (by decide), turn_at 3 _ _ (by decide), turn_at 2 _ _ (by decide), turn_at 1 _ _ (by decide), turn_at 0 _ _ (by decide)]
  rw [if_neg fun h => hv h.1, if_neg fun h => hv h.1, if_neg fun h => hv h.1, if_neg fun h => hv h.1,
    if_neg fun h => hv h.1, if_neg fun h => hv h.1, if_neg fun h => hv h.1, if_neg fun h => hv h.1]
  exact zeros_at r s

end

/-- The reference's result at its launch's arguments. -/
def result (m : (ℓ : Loc nD τ sig) → Buf (Elt Ideal) ℓ) (c : Dev nD) : FVec Ideal S36864x7168 .bf16 :=
  outV (m ((c : Thread nD τ).loc main_arg3)) (m ((c : Thread nD τ).loc main_arg5)) (m ((c : Thread nD τ).loc main_arg6)) (m ((c : Thread nD τ).loc main_arg7)) (m ((c : Thread nD τ).loc main_arg8))

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v166) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (by
      unfold Value.res_main_v108 Value.res_main_v151 Value.res_main_v132 Value.res_main_v113 Value.res_main_v94 Value.res_main_v75 Value.res_main_v56 Value.res_main_v37 Value.res_main_v18
      unfold Value.res_main_v12 Value.res_main_v11 Value.res_main_v8
      unfold result outV turn prod spread
      rfl), (h c).2⟩) (Value.run m ρ)

end Cert.UpRefIdeal.Read

end
-- ==== Proof.UpPre.lean ====
/-
  What the precondition of the experts' up projection says of its tables, read off the function word by word: they are a
  schedule.
-/
module

public import proofs.«01_k».proof.Proof.UpTab
public import proofs.«01_k».proof.Proof.Gen.Pre_up_tables
public import Idealize.ShloMosaic.Lib.Affine
public import Idealize.ShloMosaic.Lib.Pointwise

@[expose] public section

set_option maxRecDepth 16384

noncomputable section

namespace Cert.UpPre

open Idealize.ShloMosaic
open Cert.Pre_up_tables

/-- A word in a range from zero. -/
def within (n : BitVec 32) (c : BitVec 1) (x : BitVec 32) : BitVec 1 :=
  IntOp.andi (IntOp.andi c (IntOp.cmpi .sge x 0#32)) (IntOp.cmpi .slt x n)

def ranges (x0 x1 x2 x3 x4 x5 : BitVec 32) : BitVec 1 :=
  within 2#32 (within 2#32 (within 8#32 (within 14#32 (within 14#32 (IntOp.andi (IntOp.cmpi .sge x0 0#32) (IntOp.cmpi .slt x0 72#32)) x1) x2) x3) x4) x5
def own (x1 x2 x4 x5 : BitVec 32) : BitVec 1 := Scalar.select (IntOp.cmpi .eq x5 1#32) (IntOp.cmpi .eq x2 x1) (IntOp.cmpi .eq x4 0#32)
def apart (a b x0 x1 y0 y1 : BitVec 32) : BitVec 1 := IntOp.ori (IntOp.ori (IntOp.cmpi .eq a b) (IntOp.cmpi .ne x0 y0)) (IntOp.cmpi .ne x1 y1)
def tiles (b x0 x3 x5 y3 y5 : BitVec 32) : BitVec 1 := IntOp.ori (IntOp.cmpi .ne (IntOp.muli 14#32 x0) b) (IntOp.andi (IntOp.cmpi .eq x3 y3) (IntOp.cmpi .eq x5 y5))
def kept (a b x2 x3 x5 y2 y3 y4 y5 : BitVec 32) : BitVec 1 :=
  IntOp.ori (IntOp.ori (IntOp.ori (IntOp.cmpi .ne (IntOp.addi a 1#32) b) (IntOp.cmpi .eq y5 0#32)) (IntOp.cmpi .eq y4 1#32))
    (IntOp.andi (IntOp.andi (IntOp.cmpi .eq x5 1#32) (IntOp.cmpi .eq x3 y3)) (IntOp.cmpi .eq x2 y2))
def start (a x4 x5 : BitVec 32) : BitVec 1 := IntOp.ori (IntOp.ori (IntOp.cmpi .ne a 0#32) (IntOp.cmpi .eq x5 0#32)) (IntOp.cmpi .eq x4 1#32)

section
variable {F : FTy → Type} [FloatOps F] (t0 t1 t2 t3 t4 t5 : IVec S1008 32) (hs : FVec F S36864x2048 .bf16) (w1 w3 : FVec F S8x2048x7168 .f32)

/-- The function at two steps. -/
theorem fn_at (s s' : Fin 1008) :
    Cert.Pre_up_tables.fn t0 t1 t2 t3 t4 t5 hs w1 w3 (ix2 s s')
      = IntOp.andi (IntOp.andi (IntOp.andi (IntOp.andi (IntOp.andi
          (ranges (t0 (ix1 s)) (t1 (ix1 s)) (t2 (ix1 s)) (t3 (ix1 s)) (t4 (ix1 s)) (t5 (ix1 s)))
          (own (t1 (ix1 s)) (t2 (ix1 s)) (t4 (ix1 s)) (t5 (ix1 s))))
          (apart (BitVec.ofNat 32 s.val) (BitVec.ofNat 32 s'.val) (t0 (ix1 s)) (t1 (ix1 s)) (t0 (ix1 s')) (t1 (ix1 s'))))
          (tiles (BitVec.ofNat 32 s'.val) (t0 (ix1 s)) (t3 (ix1 s)) (t5 (ix1 s)) (t3 (ix1 s')) (t5 (ix1 s'))))
          (kept (BitVec.ofNat 32 s.val) (BitVec.ofNat 32 s'.val) (t2 (ix1 s)) (t3 (ix1 s)) (t5 (ix1 s)) (t2 (ix1 s')) (t3 (ix1 s')) (t4 (ix1 s')) (t5 (ix1 s'))))
          (start (BitVec.ofNat 32 s.val) (t4 (ix1 s)) (t5 (ix1 s))) := by
  dsimp only [Cert.Pre_up_tables.fn, Cert.Pre_up_tables.fn_part1, Cert.Pre_up_tables.fn_part2, Cert.Pre_up_tables.fn_part3, Cert.Pre_up_tables.fn_part4, Cert.Pre_up_tables.fn_part5, Cert.Pre_up_tables.fn_part6, Cert.Pre_up_tables.fn_where]
  unfold ranges within own apart tiles kept start
  pointwise

end

/-! ## The words, read -/

theorem ori_eq_one {x y : BitVec 1} : IntOp.ori x y = 1#1 ↔ x = 1#1 ∨ y = 1#1 := by revert x y; decide
theorem ne_iff {x y : BitVec 32} : IntOp.cmpi .ne x y = 1#1 ↔ x ≠ y := by
  simp only [IntOp.cmpi]
  by_cases h : x = y
  · subst h; simp
  · rw [show (x != y) = true from bne_iff_ne.2 h]
    exact iff_of_true (by decide) h

theorem within_eq_one {n c x} (h : within n c x = 1#1) : c = 1#1 ∧ IntOp.cmpi .sge x 0#32 = 1#1 ∧ IntOp.cmpi .slt x n = 1#1 := by
  obtain ⟨h, h2⟩ := IntOp.andi_eq_one.1 h
  obtain ⟨h0, h1⟩ := IntOp.andi_eq_one.1 h
  exact ⟨h0, h1, h2⟩

theorem lt_of_within {x : BitVec 32} {n : ℕ} (hn : n < 2 ^ 31) (h0 : IntOp.cmpi .sge x 0#32 = 1#1) (h1 : IntOp.cmpi .slt x (BitVec.ofNat 32 n) = 1#1) : x.toNat < n := by
  have a0 : (0#32 : BitVec 32).toInt ≤ x.toInt := IntOp.cmpi_sge.1 h0
  have a1 : x.toInt < (BitVec.ofNat 32 n).toInt := IntOp.cmpi_slt.1 h1
  rw [show (0#32 : BitVec 32).toInt = 0 from by decide] at a0
  have e := BitVec.toInt_eq_toNat_cond (BitVec.ofNat 32 n)
  rw [BitVec.toNat_ofNat, Nat.mod_eq_of_lt (by omega), if_pos (by omega)] at e
  rw [e] at a1
  have := BitVec.toInt_eq_toNat_cond x
  have := x.isLt
  split_ifs at * <;> omega

theorem zero_or_one {x : BitVec 32} (h : x.toNat < 2) : x = 0#32 ∨ x = 1#32 := by
  have hx : x.toNat = 0 ∨ x.toNat = 1 := by omega
  exact hx.imp (fun e => BitVec.eq_of_toNat_eq e) (fun e => BitVec.eq_of_toNat_eq e)

theorem num_inj {s s' : Fin 1008} (h : BitVec.ofNat 32 s.val = BitVec.ofNat 32 s'.val) : s = s' := by
  have h := congrArg BitVec.toNat h
  rw [BitVec.toNat_ofNat, BitVec.toNat_ofNat, Nat.mod_eq_of_lt (by have := s.isLt; omega), Nat.mod_eq_of_lt (by have := s'.isLt; omega)] at h
  exact Fin.ext h

/-- The precondition makes the tables a schedule. -/
theorem steps {F : FTy → Type} [FloatOps F] (t0 t1 t2 t3 t4 t5 : IVec S1008 32) (hs : FVec F S36864x2048 .bf16) (w1 w3 : FVec F S8x2048x7168 .f32)
    (h : Cert.Pre_up_tables.fn t0 t1 t2 t3 t4 t5 hs w1 w3 = fun _ => 1#1) : Cert.UpIdeal.Tab.Steps t0 t1 t2 t3 t4 t5 := by
  have H : ∀ s s' : Fin 1008, _ := fun s s' => (fn_at t0 t1 t2 t3 t4 t5 hs w1 w3 s s').symm.trans (congrFun h (ix2 s s'))
  have hr : ∀ s : Fin 1008, (t0 (ix1 s)).toNat < 72 ∧ (t1 (ix1 s)).toNat < 14 ∧ (t2 (ix1 s)).toNat < 14 ∧ (t3 (ix1 s)).toNat < 8 ∧ (t4 (ix1 s)).toNat < 2 ∧ (t5 (ix1 s)).toNat < 2 := fun s => by
    have h := H s s
    have h := (IntOp.andi_eq_one.1 h).1
    have h := (IntOp.andi_eq_one.1 h).1
    have h := (IntOp.andi_eq_one.1 h).1
    have h := (IntOp.andi_eq_one.1 h).1
    have h := (IntOp.andi_eq_one.1 h).1
    obtain ⟨h, a5, b5⟩ := within_eq_one h
    obtain ⟨h, a4, b4⟩ := within_eq_one h
    obtain ⟨h, a3, b3⟩ := within_eq_one h
    obtain ⟨h, a2, b2⟩ := within_eq_one h
    obtain ⟨h, a1, b1⟩ := within_eq_one h
    obtain ⟨a0, b0⟩ := IntOp.andi_eq_one.1 h
    exact ⟨lt_of_within (by decide) a0 b0, lt_of_within (by decide) a1 b1, lt_of_within (by decide) a2 b2, lt_of_within (by decide) a3 b3, lt_of_within (by decide) a4 b4, lt_of_within (by decide) a5 b5⟩
  have ho : ∀ s : Fin 1008, own (t1 (ix1 s)) (t2 (ix1 s)) (t4 (ix1 s)) (t5 (ix1 s)) = 1#1 := fun s => by
    have h := H s s
    have h := (IntOp.andi_eq_one.1 h).1
    have h := (IntOp.andi_eq_one.1 h).1
    have h := (IntOp.andi_eq_one.1 h).1
    have h := (IntOp.andi_eq_one.1 h).1
    exact (IntOp.andi_eq_one.1 h).2
  have hp : ∀ s s' : Fin 1008, _ := fun s s' => by
    have h := H s s'
    have h := (IntOp.andi_eq_one.1 h).1
    have h := (IntOp.andi_eq_one.1 h).1
    have h := (IntOp.andi_eq_one.1 h).1
    exact (IntOp.andi_eq_one.1 h).2
  have ht : ∀ s s' : Fin 1008, _ := fun s s' => by
    have h := H s s'
    have h := (IntOp.andi_eq_one.1 h).1
    have h := (IntOp.andi_eq_one.1 h).1
    exact (IntOp.andi_eq_one.1 h).2
  have hk : ∀ s s' : Fin 1008, _ := fun s s' => by
    have h := H s s'
    have h := (IntOp.andi_eq_one.1 h).1
    exact (IntOp.andi_eq_one.1 h).2
  have hz : ∀ s : Fin 1008, _ := fun s => (IntOp.andi_eq_one.1 (H s s)).2
  clear H
  exact {
    row := fun s => (hr s).1
    col := fun s => (hr s).2.1
    wcol := fun s => (hr s).2.2.1
    expert := fun s => (hr s).2.2.2.1
    used := fun s => zero_or_one (hr s).2.2.2.2.2
    own := fun s e => by
      have h := ho s
      unfold own at h
      rw [e, show IntOp.cmpi .eq (1#32 : BitVec 32) 1#32 = 1#1 from by decide] at h
      exact IntOp.cmpi_eq.1 h
    idle := fun s e => by
      have h := ho s
      unfold own at h
      rw [e, show IntOp.cmpi .eq (0#32 : BitVec 32) 1#32 = 0#1 from by decide] at h
      exact IntOp.cmpi_eq.1 h
    apart := fun s s' e0 e1 => by
      rcases ori_eq_one.1 (hp s s') with h | h
      · rcases ori_eq_one.1 h with h | h
        · exact num_inj (IntOp.cmpi_eq.1 h)
        · exact absurd e0 (ne_iff.1 h)
      · exact absurd e1 (ne_iff.1 h)
    tile := fun s s' e => by
      rcases ori_eq_one.1 (ht s s') with h | h
      · refine absurd (BitVec.eq_of_toNat_eq ?_) (ne_iff.1 h)
        have := (hr s).1
        have := s'.isLt
        show (14#32 * t0 (ix1 s)).toNat = _
        rw [BitVec.toNat_mul, BitVec.toNat_ofNat, BitVec.toNat_ofNat, ← e]
      · obtain ⟨h3, h5⟩ := IntOp.andi_eq_one.1 h
        exact ⟨IntOp.cmpi_eq.1 h3, IntOp.cmpi_eq.1 h5⟩
    same := fun s s' e hv hf => by
      rcases ori_eq_one.1 (hk s s') with h | h
      · rcases ori_eq_one.1 h with h | h
        · rcases ori_eq_one.1 h with h | h
          · refine absurd (BitVec.eq_of_toNat_eq ?_) (ne_iff.1 h)
            have := s'.isLt
            show (BitVec.ofNat 32 s.val + 1#32).toNat = _
            rw [BitVec.toNat_add, BitVec.toNat_ofNat, BitVec.toNat_ofNat, BitVec.toNat_ofNat, ← e]
            omega
          · rw [IntOp.cmpi_eq.1 h] at hv
            exact absurd hv (by decide)
        · exact absurd (IntOp.cmpi_eq.1 h) hf
      · obtain ⟨h, h2⟩ := IntOp.andi_eq_one.1 h
        obtain ⟨h5, h3⟩ := IntOp.andi_eq_one.1 h
        exact ⟨IntOp.cmpi_eq.1 h5, IntOp.cmpi_eq.1 h3, IntOp.cmpi_eq.1 h2⟩
    start := fun s e hv => by
      rcases ori_eq_one.1 (hz s) with h | h
      · rcases ori_eq_one.1 h with h | h
        · exact absurd (by rw [e]) (ne_iff.1 h)
        · rw [IntOp.cmpi_eq.1 h] at hv
          exact absurd hv (by decide)
      · exact IntOp.cmpi_eq.1 h }

end Cert.UpPre

end
-- ==== Proof.UpClaims.lean ====
/-
  The claims about the experts' up projection: at any tables that are a schedule it runs, and its result is the plain one.
-/
module

public import proofs.«01_k».proof.Defs
public import proofs.«01_k».proof.Proof.UpTabBits
public import proofs.«01_k».proof.Proof.UpValue
public import proofs.«01_k».proof.Proof.UpRef
public import proofs.«01_k».proof.Proof.UpPre

@[expose] public section

set_option maxRecDepth 16384

noncomputable section

namespace Cert.UpClaims

open Idealize.ShloMosaic Idealize.SL.Sem
open Idealize.ShloMosaic.TcCoe

theorem good_p (m : (ℓ : Loc Cert.Up.nD Cert.Up.τ Cert.Up.sig) → Buf (Elt Bits) ℓ) (h : Pre_Up m) : Cert.Up.Tab.Good m :=
  let S := Cert.UpPre.steps _ _ _ _ _ _ _ _ _ (h Cert.Up.Tab.dev)
  ⟨S.row, S.col, S.wcol, S.expert, S.used, S.own, S.idle, S.apart, S.tile, S.same, S.start⟩
theorem good_pi (m : (ℓ : Loc Cert.UpIdeal.nD Cert.UpIdeal.τ Cert.UpIdeal.sig) → Buf (Elt Ideal) ℓ) (h : Pre_UpIdeal m) : Cert.UpIdeal.Tab.Good m :=
  Cert.UpPre.steps _ _ _ _ _ _ _ _ _ (h Cert.UpIdeal.Tab.dev)

theorem frame_p : Cert.quiescent_Up := fun m ρ h =>
  (θ_run Cert.Up.defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩, h.2⟩) (Cert.Up.Tab.run ρ (good_p m h))
theorem frame_pi : Cert.quiescent_UpIdeal := fun m ρ h =>
  (θ_run Cert.UpIdeal.defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩, h.2⟩) (Cert.UpIdeal.Tab.run ρ (good_pi m h))
theorem frame_ri : Cert.quiescent_UpRefIdeal := fun m ρ _ =>
  (θ_run Cert.UpRefIdeal.defs _ _).mono (fun r h => ⟨fun c => (h c).2, Idealize.ShloMosaic.sem_eq_zero_of_no_sems (by decide) r.2⟩)
    (Cert.UpRefIdeal.Read.run m ρ)
theorem frame_ri_pre : Cert.quiescent_UpRefIdeal_pre_up_tables := fun m ρ _ => frame_ri m ρ trivial
theorem preserves : Cert.preserves_Up_UpIdeal := trivial

/-- The reference's result, at the kernel's arguments. -/
theorem ref_result (m : (ℓ : Loc Cert.UpIdeal.nD Cert.UpIdeal.τ Cert.UpIdeal.sig) → Buf (Elt Ideal) ℓ) (m' : (ℓ : Loc Cert.UpRefIdeal.nD Cert.UpRefIdeal.τ Cert.UpRefIdeal.sig) → Buf (Elt Ideal) ℓ)
    (hR : Cert.UpIdeal.Tab.Good m) (c : Dev Cert.UpIdeal.nD)
    (h3 : m' ((c : Thread Cert.UpRefIdeal.nD Cert.UpRefIdeal.τ).loc Cert.UpRefIdeal.main_arg3) = m ((c : Thread Cert.UpIdeal.nD Cert.UpIdeal.τ).loc Cert.UpIdeal.main_arg3))
    (h5 : m' ((c : Thread Cert.UpRefIdeal.nD Cert.UpRefIdeal.τ).loc Cert.UpRefIdeal.main_arg5) = m ((c : Thread Cert.UpIdeal.nD Cert.UpIdeal.τ).loc Cert.UpIdeal.main_arg5))
    (h6 : m' ((c : Thread Cert.UpRefIdeal.nD Cert.UpRefIdeal.τ).loc Cert.UpRefIdeal.main_arg6) = m ((c : Thread Cert.UpIdeal.nD Cert.UpIdeal.τ).loc Cert.UpIdeal.main_arg6))
    (h7 : m' ((c : Thread Cert.UpRefIdeal.nD Cert.UpRefIdeal.τ).loc Cert.UpRefIdeal.main_arg7) = m ((c : Thread Cert.UpIdeal.nD Cert.UpIdeal.τ).loc Cert.UpIdeal.main_arg7))
    (h8 : m' ((c : Thread Cert.UpRefIdeal.nD Cert.UpRefIdeal.τ).loc Cert.UpRefIdeal.main_arg8) = m ((c : Thread Cert.UpIdeal.nD Cert.UpIdeal.τ).loc Cert.UpIdeal.main_arg8)) :
    Cert.UpRefIdeal.Read.result m' c = Cert.UpIdeal.Tab.G hR c := by
  have hc := Cert.UpIdeal.Tab.dev_eq c
  unfold Cert.UpRefIdeal.Read.result
  rw [h3, h5, h6, h7, h8, hc]
  funext j
  refine (congrArg _ (Cert.UpIdeal.Tab.ix2_eta (n := 36864) (k := 7168) j)).trans ?_
  unfold Cert.UpIdeal.Tab.G
  by_cases h : Cert.UpIdeal.Tab.T5 m (ix1 (Cert.UpIdeal.Tab.head (j 0))) = 1#32
  · rw [if_pos h]
    exact Cert.UpRefIdeal.Read.out_used _ _ _ _ _ (j 0) (j 1) (Cert.UpIdeal.Tab.expert hR (Cert.UpIdeal.Tab.head (j 0))) h rfl
  · rw [if_neg h]
    exact Cert.UpRefIdeal.Read.out_free _ _ _ _ _ (j 0) (j 1) h

theorem value : Cert.algebraic_UpIdeal_UpRefIdeal := fun m ρ m' ρ' hp hm =>
  ⟨fun c => Cert.UpIdeal.Tab.G (good_pi m hp) c,
    (θ_run Cert.UpIdeal.defs _ _).mono (fun r h c => ⟨(h.1 c).2.2.2.2.2.2.2.2.2.trans (Cert.UpIdeal.Tab.result (good_pi m hp) c), (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩) (Cert.UpIdeal.Tab.run ρ (good_pi m hp)),
    (θ_run Cert.UpRefIdeal.defs _ _).mono (fun r h c =>
      ⟨(h c).1.trans (ref_result m m' (good_pi m hp) c (hm c).2.2.2.1 (hm c).2.2.2.2.2.1 (hm c).2.2.2.2.2.2.1 (hm c).2.2.2.2.2.2.2.1 (hm c).2.2.2.2.2.2.2.2), (h c).2⟩) (Cert.UpRefIdeal.Read.run m' ρ')⟩

end Cert.UpClaims

end
-- ==== Proof.Tiles.lean ====
/-
  Arrays cut into equal tiles: two arrays that agree on every tile agree.
-/
module

public import Idealize.ShloMosaic.Lib.Pointwise
public import Idealize.ShloMosaic.Init

@[expose] public section

namespace Cert.Tiles

open Idealize.ShloMosaic

/-- Two tables of `nR` by `nC` tiles, each of `a` rows and `b` columns, numbered row of tiles by row of tiles, are equal when
    they are equal at every place of every tile. -/
theorem tile_ext {α : Type} {R C : ℕ} (nR nC a b : ℕ) (ha : 0 < a) (hb : 0 < b) (hR : R = nR * a) (hC : C = nC * b)
    (f g : Fin R → Fin C → α)
    (h : ∀ t : ℕ, t < nR * nC → ∀ (i : Fin a) (q : Fin b) (hr : t / nC * a + i.val < R) (hc : t % nC * b + q.val < C),
      f ⟨t / nC * a + i.val, hr⟩ ⟨t % nC * b + q.val, hc⟩ = g ⟨t / nC * a + i.val, hr⟩ ⟨t % nC * b + q.val, hc⟩)
    (r : Fin R) (s : Fin C) : f r s = g r s := by
  subst hR hC
  have hr := Nat.div_add_mod' r.val a
  have hs := Nat.div_add_mod' s.val b
  have hp : r.val / a < nR := (Nat.div_lt_iff_lt_mul ha).mpr r.isLt
  have hq : s.val / b < nC := (Nat.div_lt_iff_lt_mul hb).mpr s.isLt
  have h1 : (r.val / a * nC + s.val / b) / nC = r.val / a := by
    rw [Nat.add_comm, Nat.add_mul_div_right _ _ (Nat.zero_lt_of_lt hq), Nat.div_eq_of_lt hq, Nat.zero_add]
  have h2 : (r.val / a * nC + s.val / b) % nC = s.val / b := by
    rw [Nat.add_comm, Nat.add_mul_mod_self_right, Nat.mod_eq_of_lt hq]
  have hlt : r.val / a * nC + s.val / b < nR * nC :=
    calc r.val / a * nC + s.val / b < r.val / a * nC + nC := Nat.add_lt_add_left hq _
      _ = (r.val / a + 1) * nC := by rw [Nat.add_mul, Nat.one_mul]
      _ ≤ nR * nC := Nat.mul_le_mul_right _ hp
  have key := h _ hlt ⟨r.val % a, Nat.mod_lt _ ha⟩ ⟨s.val % b, Nat.mod_lt _ hb⟩
    (by dsimp only; rw [h1, hr]; exact r.isLt) (by dsimp only; rw [h2, hs]; exact s.isLt)
  have e1 : ∀ hh, (⟨(r.val / a * nC + s.val / b) / nC * a + r.val % a, hh⟩ : Fin (nR * a)) = r := fun hh => Fin.ext (by dsimp only; rw [h1, hr])
  have e2 : ∀ hh, (⟨(r.val / a * nC + s.val / b) % nC * b + s.val % b, hh⟩ : Fin (nC * b)) = s := fun hh => Fin.ext (by dsimp only; rw [h2, hs])
  dsimp only at key
  rw [e1, e2] at key
  exact key

/-- An index of two axes is its two coordinates. -/
theorem ix2_eta {R C : ℕ} (j : (⟨2, ![R, C]⟩ : Shape).Idx) : ix2 (j 0) (j 1) = j := by
  funext a
  match a with
  | ⟨0, _⟩ => rfl
  | ⟨1, _⟩ => rfl

/-- Two arrays of two axes are equal when they are equal at every place of every tile. -/
theorem arr_ext {α : Type} {R C : ℕ} (nR nC a b : ℕ) (ha : 0 < a) (hb : 0 < b) (hR : R = nR * a) (hC : C = nC * b)
    (A B : (⟨2, ![R, C]⟩ : Shape).Idx → α)
    (h : ∀ t : ℕ, t < nR * nC → ∀ (i : Fin a) (q : Fin b) (hr : t / nC * a + i.val < R) (hc : t % nC * b + q.val < C),
      A (ix2 ⟨t / nC * a + i.val, hr⟩ ⟨t % nC * b + q.val, hc⟩) = B (ix2 ⟨t / nC * a + i.val, hr⟩ ⟨t % nC * b + q.val, hc⟩)) : A = B := by
  funext j
  rw [← ix2_eta j]
  exact tile_ext nR nC a b ha hb hR hC (fun r s => A (ix2 r s)) (fun r s => B (ix2 r s)) h (j 0) (j 1)

/-- Where a place of a tile lies in the array: `n0`, `n1` number the tile, `i`, `q` the place in it. -/
theorem emb_eq {R C a b n0 n1 p0 p1 i q : ℕ} (e : (⟨2, ![R, C]⟩ : Shape).Idx) (r : Fin R) (s : Fin C)
    (h0 : (e 0).val = n0 * a + 1 * i) (h1 : (e 1).val = n1 * b + 1 * q) (hp0 : n0 = p0) (hp1 : n1 = p1)
    (hr : p0 * a + i = r.val) (hs : p1 * b + q = s.val) : e = ix2 r s := by
  subst hp0 hp1
  rw [← ix2_eta e]
  exact congrArg₂ ix2 (Fin.ext (by rw [h0, Nat.one_mul, hr])) (Fin.ext (by rw [h1, Nat.one_mul, hs]))

/-- The same for an array of three axes. -/
theorem emb_eq3 {P R C d a b n0 n1 n2 p0 p1 p2 l i q : ℕ} (e : (⟨3, ![P, R, C]⟩ : Shape).Idx) (v : Fin P) (r : Fin R) (s : Fin C)
    (h0 : (e 0).val = n0 * d + 1 * l) (h1 : (e 1).val = n1 * a + 1 * i) (h2 : (e 2).val = n2 * b + 1 * q)
    (hp0 : n0 = p0) (hp1 : n1 = p1) (hp2 : n2 = p2) (hv : p0 * d + l = v.val) (hr : p1 * a + i = r.val) (hs : p2 * b + q = s.val) :
    e = ix3 v r s := by
  subst hp0 hp1 hp2
  funext x
  apply Fin.ext
  match x with
  | ⟨0, _⟩ => show (e 0).val = v.val; rw [h0, Nat.one_mul, hv]
  | ⟨1, _⟩ => show (e 1).val = r.val; rw [h1, Nat.one_mul, hr]
  | ⟨2, _⟩ => show (e 2).val = s.val; rw [h2, Nat.one_mul, hs]

/-- An index of three axes is its three coordinates. -/
theorem ix3_eta {P R C : ℕ} (j : (⟨3, ![P, R, C]⟩ : Shape).Idx) : ix3 (j 0) (j 1) (j 2) = j := by
  funext a
  match a with
  | ⟨0, _⟩ => rfl
  | ⟨1, _⟩ => rfl
  | ⟨2, _⟩ => rfl

/-- Two arrays of three axes, cut into `P` times `nR` tiles of `a` whole rows, are equal when they are equal at every place of every tile. -/
theorem arr_ext3 {α : Type} {P R C : ℕ} (nR a : ℕ) (ha : 0 < a) (hR : R = nR * a) (A B : (⟨3, ![P, R, C]⟩ : Shape).Idx → α)
    (h : ∀ t : ℕ, t < P * nR → ∀ (i : Fin a) (v : Fin P) (r : Fin R) (s : Fin C), t / nR = v.val → t % nR * a + i.val = r.val →
      A (ix3 v r s) = B (ix3 v r s)) : A = B := by
  subst hR
  funext j
  rw [← ix3_eta j]
  generalize j 0 = v
  generalize j 2 = s
  generalize j 1 = w
  obtain ⟨r, hr⟩ : ∃ r : Fin (nR * a), r = w := ⟨w, rfl⟩
  rw [← hr]
  have hq : r.val / a < nR := (Nat.div_lt_iff_lt_mul ha).mpr r.isLt
  have hv : v.val < P := v.isLt
  have hlt : v.val * nR + r.val / a < P * nR :=
    calc v.val * nR + r.val / a < v.val * nR + nR := Nat.add_lt_add_left hq _
      _ = (v.val + 1) * nR := by rw [Nat.add_mul, Nat.one_mul]
      _ ≤ P * nR := Nat.mul_le_mul_right _ hv
  refine h _ hlt ⟨r.val % a, Nat.mod_lt _ ha⟩ v r s ?_ ?_
  · rw [Nat.add_comm, Nat.add_mul_div_right _ _ (Nat.zero_lt_of_lt hq), Nat.div_eq_of_lt hq, Nat.zero_add]
  · rw [Nat.add_comm (v.val * nR), Nat.add_mul_mod_self_right, Nat.mod_eq_of_lt hq]
    exact Nat.div_add_mod' r.val a

/-- A product with a residual added, computed tile by tile: tile `t` of the result is the residual's tile plus the product of a
    whole-row block of the left factor and a whole-column block of the right one. -/
theorem residual_product {R C K : ℕ} (nR nC a b : ℕ) (ha : 0 < a) (hb : 0 < b) (hR : R = nR * a) (hC : C = nC * b)
    (A x : (⟨2, ![R, C]⟩ : Shape).Idx → EReal) (u : (⟨2, ![R, K]⟩ : Shape).Idx → EReal) (w : (⟨2, ![K, C]⟩ : Shape).Idx → EReal)
    (bu : Fin (nR * nC) → (⟨2, ![a, K]⟩ : Shape).Idx → EReal) (bw : Fin (nR * nC) → (⟨2, ![K, b]⟩ : Shape).Idx → EReal)
    (bx : Fin (nR * nC) → (⟨2, ![a, b]⟩ : Shape).Idx → EReal)
    (hu : ∀ t (i : Fin a) (k : Fin K) (hr : t.val / nC * a + i.val < R), bu t (ix2 i k) = u (ix2 ⟨t.val / nC * a + i.val, hr⟩ k))
    (hw : ∀ t (k : Fin K) (q : Fin b) (hc : t.val % nC * b + q.val < C), bw t (ix2 k q) = w (ix2 k ⟨t.val % nC * b + q.val, hc⟩))
    (hx : ∀ t (i : Fin a) (q : Fin b) (hr : t.val / nC * a + i.val < R) (hc : t.val % nC * b + q.val < C),
      bx t (ix2 i q) = x (ix2 ⟨t.val / nC * a + i.val, hr⟩ ⟨t.val % nC * b + q.val, hc⟩))
    (hA : ∀ t (i : Fin a) (q : Fin b) (hr : t.val / nC * a + i.val < R) (hc : t.val % nC * b + q.val < C),
      A (ix2 ⟨t.val / nC * a + i.val, hr⟩ ⟨t.val % nC * b + q.val, hc⟩) = bx t (ix2 i q) + ∑ k : Fin K, bu t (ix2 i k) * bw t (ix2 k q)) :
    A = fun j => x (ix2 (j 0) (j 1)) + ∑ k : Fin K, u (ix2 (j 0) k) * w (ix2 k (j 1)) := by
  refine arr_ext nR nC a b ha hb hR hC _ _ fun n hn i q hr hc => ?_
  rw [hA ⟨n, hn⟩ i q hr hc, hx ⟨n, hn⟩ i q hr hc]
  refine congrArg₂ (· + ·) rfl (Finset.sum_congr rfl fun k _ => ?_)
  rw [hu ⟨n, hn⟩ i k hr, hw ⟨n, hn⟩ k q hc]
  rfl

end Cert.Tiles

end
-- ==== Proof.GluClaims.lean ====
/-
  The claims about the dense feed-forward's gated unit: its frames, and its result, the unit of the two products of the
  normalised rows. The rows of a block are normalised at its first column tile and kept in scratch over the other ten.
-/
module

public import proofs.«01_k».proof.Defs
public import proofs.«01_k».proof.Proof.UpSpec
public import proofs.«01_k».proof.Proof.Gen.Glu.Frame
public import proofs.«01_k».proof.Proof.Gen.GluIdeal.Value
public import proofs.«01_k».proof.Proof.Gen.GluRefIdeal.Run
public import proofs.«01_k».proof.Proof.Tiles
public import Idealize.ShloMosaic.Lib.Pipeline.ValueKit
public import Idealize.ShloMosaic.Lib.Pipeline.ReadBack
public import Idealize.ShloMosaic.Lib.StableHlo.ReadAt
public import Idealize.ShloMosaic.Adequacy

@[expose] public section

set_option maxRecDepth 16384

noncomputable section

namespace Cert.GluIdeal.Read

open Cert.GluIdeal Cert.GluIdeal.Gen Idealize.ShloMosaic Idealize.SL.Sem
open Idealize.ShloMosaic.TcCoe

section Body
variable {F : FTy → Type} [FloatOps F]

theorem out_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S1024x512 .bf16) (h6 : a6.IsWhole) (a7 : Memref sig .tc .vmem S1024x2048 .bf16) (h7 : a7.IsWhole) (hc0 : cond0_0 i)
    (x0 : Vec F S1024x2048 .f32) (x1 : Vec F S1x2048 .f32) (x2 x3 : Vec F S2048x512 .bf16) :
    out0_A_4 c i a2 h2 a3 h3 a4 h4 a5 h5 a6 h6 a7 h7 hc0 x0 x1 x2 x3 = k0_pay2 (k0_pay1 x0 x1) x2 x3 := by
  unfold out0_A_4
  rw [View.read_writes_eq_canon _ _ _ (cover0_A_4 c i a2 h2 a3 h3 a4 h4 a5 h5 a6 h6 a7 h7 hc0 x0 x1 x2 x3)]
  unfold kernelRun0_A
  dsimp only
  sl_unfold_words
  rw [View.canon_cons_unit_lit _ _ _ (by decide)]
  simp (disch := first | rfl | decide) only [↓View.readCov_skip, View.readCov_fill, View.readAt_eq_ld, h2.read_unread, h3.read_unread, h4.read_unread, h5.read_unread, View.ld_unit_lit]

theorem sout_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S1024x512 .bf16) (h6 : a6.IsWhole) (a7 : Memref sig .tc .vmem S1024x2048 .bf16) (h7 : a7.IsWhole) (hc0 : cond0_0 i)
    (x0 : Vec F S1024x2048 .f32) (x1 : Vec F S1x2048 .f32) (x2 x3 : Vec F S2048x512 .bf16) :
    sout0_A_0 c i a2 h2 a3 h3 a4 h4 a5 h5 a6 h6 a7 h7 hc0 x0 x1 x2 x3 = k0_pay1 x0 x1 := by
  unfold sout0_A_0
  rw [View.read_writes_eq_canon _ _ _ (scover0_A_0 c i a2 h2 a3 h3 a4 h4 a5 h5 a6 h6 a7 h7 hc0 x0 x1 x2 x3)]
  unfold kernelRun0_A
  dsimp only
  sl_unfold_words
  rw [View.canon_cons_unit_lit _ _ _ (by decide)]
  simp (disch := first | rfl | decide) only [View.readAt_eq_ld, h2.read_unread, h3.read_unread, h4.read_unread, h5.read_unread, View.ld_unit_lit]

theorem out_B (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S1024x512 .bf16) (h6 : a6.IsWhole) (a7 : Memref sig .tc .vmem S1024x2048 .bf16) (h7 : a7.IsWhole) (hc0 : ¬cond0_0 i)
    (x0 : Vec F S1024x2048 .f32) (x1 : Vec F S1x2048 .f32) (x2 x3 : Vec F S2048x512 .bf16) (xs : Vec F S1024x2048 .bf16) :
    out0_B_4 c i a2 h2 a3 h3 a4 h4 a5 h5 a6 h6 a7 h7 hc0 x0 x1 x2 x3 xs = k0_pay2 xs x2 x3 := by
  unfold out0_B_4
  rw [View.read_writes_eq_canon _ _ _ (cover0_B_4 c i a2 h2 a3 h3 a4 h4 a5 h5 a6 h6 a7 h7 hc0 x0 x1 x2 x3 xs)]
  unfold kernelRun0_B
  dsimp only
  sl_unfold_words
  rw [View.canon_cons_unit_lit _ _ _ (by decide)]
  simp (disch := first | rfl | decide) only [View.readAt_eq_ld, h2.read_unread, h3.read_unread, h4.read_unread, h5.read_unread, h7.read_unread, View.ld_unit_lit]

end Body

/-- The reciprocal of a row's root mean square. -/
def rms (x : Fin 2048 → EReal) : EReal :=
  Ideal.rsqrt (Ideal.div (∑ k : Fin 2048, x k * x k) (Ideal.ofBits .f32 0x45000000#32) + Ideal.ofBits .f32 0x358637BD#32)

theorem pay1_at (x : Vec Ideal S1024x2048 .f32) (g : Vec Ideal S1x2048 .f32) (i : Fin 1024) (k : Fin 2048) :
    (k0_pay1 x g : FVec Ideal S1024x2048 .bf16) (ix2 i k) = (x (ix2 i k) * rms (fun k => x (ix2 i k)) * g (ix2 0 k) : EReal) := by
  unfold k0_pay1 rms
  pointwise

theorem pay2_at (a : Vec Ideal S1024x2048 .bf16) (w v : Vec Ideal S2048x512 .bf16) (i : Fin 1024) (q : Fin 512) :
    (k0_pay2 a w v : FVec Ideal S1024x512 .bf16) (ix2 i q)
      = UpSpec.act (∑ k : Fin 2048, a (ix2 i k) * w (ix2 k q)) (∑ k : Fin 2048, a (ix2 i k) * v (ix2 k q)) := by
  unfold k0_pay2 UpSpec.act
  rw [← zero_sub]
  pointwise

variable (m : (ℓ : Loc nD τ sig) → Buf (Elt Ideal) ℓ) (c : Dev nD)

theorem V_gain (k : Fin 2048) : (V m c main_v0 : Vec Ideal S1x2048 .f32) (ix2 0 k) = (m ((c : Thread nD τ).loc main_arg1) : Vec Ideal S2048 .f32) (ix1 k) := by
  unfold V
  after_reads_at

/-- Which tile of each array a point works on. -/
theorem tiles : ∀ t : Fin cfg0.N, (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val / 11 ∧ win0_4.index t 1 = t.val % 11) ∧ (cfg0.win 4).flush t = true :=
  (by decide +kernel : ∀ t : Fin grid0.N, (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val / 11 ∧ win0_4.index t 1 = t.val % 11) ∧ (cfg0.win 4).flush t = true)

/-- The arguments: the rows, the norm's gain, and the two weights. -/
def xs : S16384x2048.Idx → EReal := (m ((c : Thread nD τ).loc main_arg0) : Vec Ideal S16384x2048 .f32)
def gain : S2048.Idx → EReal := (m ((c : Thread nD τ).loc main_arg1) : Vec Ideal S2048 .f32)
def wa : S2048x5632.Idx → EReal := (m ((c : Thread nD τ).loc main_arg2) : Vec Ideal S2048x5632 .bf16)
def wb : S2048x5632.Idx → EReal := (m ((c : Thread nD τ).loc main_arg3) : Vec Ideal S2048x5632 .bf16)

/-- A normalised row. -/
def normed (x : S16384x2048.Idx → EReal) (g : S2048.Idx → EReal) (r : Fin 16384) (k : Fin 2048) : EReal :=
  x (ix2 r k) * rms (fun k => x (ix2 r k)) * g (ix1 k)

/-- The unit of a row's two products. -/
def unit (a : Fin 2048 → EReal) (v w : S2048x5632.Idx → EReal) (s : Fin 5632) : EReal :=
  UpSpec.act (∑ k : Fin 2048, a k * v (ix2 k s)) (∑ k : Fin 2048, a k * w (ix2 k s))

def term (r : Fin 16384) (s : Fin 5632) : EReal := unit (normed (xs m c) (gain m c) r) (wa m c) (wb m c) s

/-- The array the kernel leaves. -/
def G (c : Dev nD) : Buf (Elt Ideal) ((c : Thread nD τ).loc main_v1) := fun (j : S16384x5632.Idx) => (term m c (j 0) (j 1) : EReal)

section Blocks

variable (t : Fin cfg0.N) (i : Fin 1024) (k : Fin 2048) (q : Fin 512) (r : Fin 16384) (s : Fin 5632)

theorem blk0 (hr : t.val / 11 * 1024 + i.val = r.val) : (iblk m c 0 t : Vec Ideal S1024x2048 .f32) (ix2 i k) = xs m c (ix2 r k) := by
  have h := (tiles t).1
  unfold iblk xs
  rw [View.read_apply, ← V_main_arg0 m c]
  exact congrArg (V m c main_arg0) (Tiles.emb_eq _ _ _ rfl rfl h.1 h.2 hr (by rw [Nat.zero_mul, Nat.zero_add]; rfl))

theorem blk1 : (iblk m c 1 t : Vec Ideal S1x2048 .f32) (ix2 0 k) = gain m c (ix1 k) := by
  have h := (tiles t).2.1
  unfold iblk gain
  rw [View.read_apply, ← V_gain m c k]
  exact congrArg (V m c main_v0) (Tiles.emb_eq _ _ _ rfl rfl h.1 h.2 rfl (by rw [Nat.zero_mul, Nat.zero_add]; rfl))

theorem blk2 (hs : t.val % 11 * 512 + q.val = s.val) : (iblk m c 2 t : Vec Ideal S2048x512 .bf16) (ix2 k q) = wa m c (ix2 k s) := by
  have h := (tiles t).2.2.1
  unfold iblk wa
  rw [View.read_apply, ← V_main_arg2 m c]
  exact congrArg (V m c main_arg2) (Tiles.emb_eq _ _ _ rfl rfl h.1 h.2 (by rw [Nat.zero_mul, Nat.zero_add]; rfl) hs)

theorem blk3 (hs : t.val % 11 * 512 + q.val = s.val) : (iblk m c 3 t : Vec Ideal S2048x512 .bf16) (ix2 k q) = wb m c (ix2 k s) := by
  have h := (tiles t).2.2.2.1
  unfold iblk wb
  rw [View.read_apply, ← V_main_arg3 m c]
  exact congrArg (V m c main_arg3) (Tiles.emb_eq _ _ _ rfl rfl h.1 h.2 (by rw [Nat.zero_mul, Nat.zero_add]; rfl) hs)

/-- The block's normalised rows. -/
theorem norm_at (hr : t.val / 11 * 1024 + i.val = r.val) :
    (k0_pay1 (iblk m c 0 t) (iblk m c 1 t) : FVec Ideal S1024x2048 .bf16) (ix2 i k) = normed (xs m c) (gain m c) r k := by
  refine (pay1_at _ _ i k).trans ?_
  unfold normed
  rw [blk1 m c t k]
  simp only [blk0 m c t i _ r hr]

/-- A tile of the result, of the normalised rows in scratch. -/
theorem unit_at (a : Vec Ideal S1024x2048 .bf16) (hs : t.val % 11 * 512 + q.val = s.val) (ha : ∀ k, a (ix2 i k) = normed (xs m c) (gain m c) r k) :
    (k0_pay2 a (iblk m c 2 t) (iblk m c 3 t) : FVec Ideal S1024x512 .bf16) (ix2 i q) = term m c r s := by
  refine (pay2_at _ _ _ i q).trans ?_
  unfold term unit
  simp only [ha, blk2 m c t _ q s hs, blk3 m c t _ q s hs]

end Blocks

/-- After every point the scratch holds the normalised rows of the point's block. -/
theorem scratch_at (i : Fin 1024) (k : Fin 2048) (r : Fin 16384) : ∀ (n : ℕ) (hn : n < cfg0.N), n / 11 * 1024 + i.val = r.val →
    ((outsAt0 m c n hn).2 : FVec Ideal S1024x2048 .bf16) (ix2 i k) = normed (xs m c) (gain m c) r k := by
  intro n
  induction n with
  | zero =>
    intro hn hr
    have e := congrArg Prod.snd (outsAt0_A m c ⟨0, hn⟩ rfl)
    refine (congrFun e (ix2 i k)).trans ?_
    dsimp only
    rw [sout_A]
    exact norm_at m c ⟨0, hn⟩ i k r hr
  | succ n ih =>
    intro hn hr
    by_cases h0 : (n + 1) % 11 = 0
    · have e := congrArg Prod.snd (outsAt0_A m c ⟨n + 1, hn⟩ h0)
      refine (congrFun e (ix2 i k)).trans ?_
      dsimp only
      rw [sout_A]
      exact norm_at m c ⟨n + 1, hn⟩ i k r hr
    · have e := congrArg Prod.snd (outsAt0_B m c ⟨n + 1, hn⟩ h0)
      refine (congrFun e (ix2 i k)).trans ?_
      exact ih (Nat.lt_of_succ_lt hn) (by omega)

theorem flushed (t : Fin cfg0.N) (i : Fin 1024) (q : Fin 512) (r : Fin 16384) (s : Fin 5632) (hr : t.val / 11 * 1024 + i.val = r.val)
    (hs : t.val % 11 * 512 + q.val = s.val) : (dats m 0 c).flushed 4 t (ix2 i q) = (term m c r s : EReal) := by
  by_cases h0 : t.val % 11 = 0
  · rw [Value.flushed4_A m c t h0, out_A]
    exact unit_at m c t i q r s _ hs fun k => norm_at m c t i k r hr
  · rw [Value.flushed4_B m c t h0, out_B]
    exact unit_at m c t i q r s _ hs fun k => scratch_at m c i k r _ _ (by omega)

/-- The array after the run at a place of a point's tile. -/
theorem tile_at (t : Fin cfg0.N) (i : Fin 1024) (q : Fin 512) (hr : t.val / 11 * 1024 + i.val < 16384) (hc : t.val % 11 * 512 + q.val < 5632) :
    ((dats m 0 c).arrAt 4 cfg0.N : S16384x5632.Idx → Elt Ideal .bf16) (ix2 ⟨t.val / 11 * 1024 + i.val, hr⟩ ⟨t.val % 11 * 512 + q.val, hc⟩)
      = (term m c ⟨t.val / 11 * 1024 + i.val, hr⟩ ⟨t.val % 11 * 512 + q.val, hc⟩ : EReal) := by
  obtain ⟨-, -, -, -, ⟨h0, h1⟩, hf⟩ := tiles t
  have hb := congrFun (Value.blocks4 m c t hf) (ix2 i q)
  rw [View.read_apply, flushed m c t i q ⟨_, hr⟩ ⟨_, hc⟩ rfl rfl] at hb
  have he : ((cfg0.win 4).blk t).view.emb (ix2 i q) = (ix2 ⟨t.val / 11 * 1024 + i.val, hr⟩ ⟨t.val % 11 * 512 + q.val, hc⟩ : S16384x5632.Idx) :=
    Tiles.emb_eq _ _ _ rfl rfl h0 h1 rfl rfl
  generalize (dats m 0 c).arrAt 4 cfg0.N = A at hb ⊢
  rw [← he]
  exact hb

theorem result (c : Dev nD) : (dats m 0 c).arrAt 4 cfg0.N = G m c := by
  have key := tile_at m c
  generalize (dats m 0 c).arrAt 4 cfg0.N = A at key ⊢
  exact Tiles.arr_ext (R := 16384) (C := 5632) 16 11 1024 512 (by decide) (by decide) (by decide) (by decide) A (G m c)
    fun n hn i q hr hc => key ⟨n, lt_of_lt_of_eq hn N_0.symm⟩ i q hr hc

end Cert.GluIdeal.Read

namespace Cert.GluClaims

open Cert.GluRefIdeal Cert.GluRefIdeal.Gen Idealize.ShloMosaic Idealize.SL.Sem
open Idealize.ShloMosaic.TcCoe
open Cert.GluIdeal.Read (normed rms unit)

/-- The reference's normalised rows. -/
theorem ref_norm (x : FVec Ideal S16384x2048 .f32) (g : FVec Ideal S2048 .f32) (r : Fin 16384) (k : Fin 2048) :
    (truncf .bf16 (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) bitsLt_bf16_f32 : FVec Ideal S16384x2048 .bf16) (ix2 r k)
      = normed x g r k := by
  unfold normed rms
  pointwise

/-- The reference's unit of the products. -/
theorem ref_at (a : FVec Ideal S16384x2048 .bf16) (v w : Vec Ideal S2048x5632 .bf16) (r : Fin 16384) (s : Fin 5632) :
    (truncf .bf16 (mulf (mulf (Host.dotGeneral dot_S16384x2048_S2048x5632_S16384x5632_1_0_0_1_n_n none (extf .f32 a bitsLt_bf16_f32) (extf .f32 v bitsLt_bf16_f32)) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (Host.dotGeneral dot_S16384x2048_S2048x5632_S16384x5632_1_0_0_1_n_n none (extf .f32 a bitsLt_bf16_f32) (extf .f32 v bitsLt_bf16_f32))))))) (Host.dotGeneral dot_S16384x2048_S2048x5632_S16384x5632_1_0_0_1_n_n none (extf .f32 a bitsLt_bf16_f32) (extf .f32 w bitsLt_bf16_f32))) bitsLt_bf16_f32 : FVec Ideal S16384x5632 .bf16) (ix2 r s)
      = unit (fun k => a (ix2 r k)) v w s := by
  unfold unit UpSpec.act
  pointwise

theorem frame_p : Cert.quiescent_Glu := fun m ρ _ => Cert.Glu.Gen.frame m ρ
theorem frame_pi : Cert.quiescent_GluIdeal := fun m ρ _ => Cert.GluIdeal.Gen.frame m ρ
theorem frame_ri : Cert.quiescent_GluRefIdeal := fun m ρ _ =>
  (θ_run Cert.GluRefIdeal.defs _ _).mono (fun r h => ⟨fun c => (h c).2, Idealize.ShloMosaic.sem_eq_zero_of_no_sems (by decide) r.2⟩)
    (Cert.GluRefIdeal.Value.run m ρ)
theorem preserves : Cert.preserves_Glu_GluIdeal := trivial

theorem value : Cert.algebraic_GluIdeal_GluRefIdeal := fun m ρ m' ρ' _ hm =>
  ⟨fun c => Cert.GluIdeal.Read.G m c,
    (θ_run Cert.GluIdeal.defs _ _).mono (fun r h c => ⟨(h c).1.trans (Cert.GluIdeal.Read.result m c), (h c).2⟩) (Cert.GluIdeal.Value.run_blocks m ρ),
    (θ_run Cert.GluRefIdeal.defs _ _).mono (fun r h c => by
      refine ⟨(h c).1.trans ?_, (h c).2⟩
      obtain ⟨h0, h1, h2, h3⟩ := hm c
      rw [h0, h1, h2, h3]
      funext j
      refine (congrArg _ (Tiles.ix2_eta (R := 16384) (C := 5632) j).symm).trans ((ref_at _ _ _ (j 0) (j 1)).trans ?_)
      exact congrArg (fun a : Fin 2048 → EReal => unit a (Cert.GluIdeal.Read.wa m c) (Cert.GluIdeal.Read.wb m c) (j 1))
        (funext fun k => ref_norm _ _ (j 0) k)) (Cert.GluRefIdeal.Value.run m' ρ')⟩

end Cert.GluClaims
end
-- ==== Proof.MergeClaims.lean ====
/-
  The claims about the merge of the three branches: its frames, and its result, the gated sum of the branches' products.
-/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Tiles
public import Idealize.ShloMosaic.Lib.Pipeline.ValueKit
public import Idealize.ShloMosaic.Adequacy

@[expose] public section

set_option maxRecDepth 16384

noncomputable section

namespace Cert.MergeIdeal.Read

open Cert.MergeIdeal Cert.MergeIdeal.Gen Idealize.ShloMosaic Idealize.SL.Sem
open Idealize.ShloMosaic.TcCoe

variable (m : (ℓ : Loc nD τ sig) → Buf (Elt Ideal) ℓ) (c : Dev nD)

/-- The sigmoid. -/
def sg (g : EReal) : EReal := Ideal.div 1 (1 + Ideal.exp (-g))

/-- A branch's plane of the weights, cut from the block of three. -/
theorem plane (x : Vec Ideal S3x1024x512 .bf16) (k : Fin 1024) (q : Fin 512) :
    View.ld x r0_1 (ix3 0 k q) = x (ix3 0 k q) ∧ View.ld x r0_3 (ix3 0 k q) = x (ix3 1 k q) ∧ View.ld x r0_4 (ix3 0 k q) = x (ix3 2 k q) := by
  refine ⟨congrArg x ?_, congrArg x ?_, congrArg x ?_⟩ <;>
  · funext a
    apply Fin.ext
    match a with
    | ⟨0, _⟩ => rfl
    | ⟨1, _⟩ => show 0 + 1 * k.val = k.val; omega
    | ⟨2, _⟩ => show 0 + 1 * q.val = q.val; omega

theorem pay1_at (a : FVec Ideal S1024x512 .f32) (y : Vec Ideal S1024x1024 .bf16) (w : Vec Ideal S1x1024x512 .bf16) (g : Vec Ideal S1024x512 .bf16) (i : Fin 1024) (q : Fin 512) :
    (k0_pay1 a y w g : FVec Ideal S1024x512 .bf16) (ix2 i q) = (a (ix2 i q) + sg (g (ix2 i q)) * ∑ k : Fin 1024, y (ix2 i k) * w (ix3 0 k q) : EReal) := by
  unfold k0_pay1 sg
  rw [← zero_sub]
  pointwise

theorem pay2_at (y0 y1 : Vec Ideal S1024x1024 .bf16) (w0 w1 : Vec Ideal S1x1024x512 .bf16) (g0 g1 : Vec Ideal S1024x512 .bf16) (i : Fin 1024) (q : Fin 512) :
    (k0_pay2 y0 w0 g0 y1 w1 g1 : FVec Ideal S1024x512 .f32) (ix2 i q) = (sg (g0 (ix2 i q)) * (∑ k : Fin 1024, y0 (ix2 i k) * w0 (ix3 0 k q))
      + sg (g1 (ix2 i q)) * ∑ k : Fin 1024, y1 (ix2 i k) * w1 (ix3 0 k q) : EReal) := by
  unfold k0_pay2 sg
  rw [← zero_sub, ← zero_sub]
  pointwise

/-- A tile's result at an index. -/
theorem out_at (y0 y1 y2 : Vec Ideal S1024x1024 .bf16) (w : Vec Ideal S3x1024x512 .bf16) (g0 g1 g2 : Vec Ideal S1024x512 .bf16) (i : Fin 1024) (q : Fin 512) :
    out0_7 y0 y1 y2 w g0 g1 g2 (ix2 i q) = (sg (g0 (ix2 i q)) * (∑ k : Fin 1024, y0 (ix2 i k) * w (ix3 0 k q))
      + sg (g1 (ix2 i q)) * (∑ k : Fin 1024, y1 (ix2 i k) * w (ix3 1 k q))
      + sg (g2 (ix2 i q)) * (∑ k : Fin 1024, y2 (ix2 i k) * w (ix3 2 k q)) : EReal) := by
  have h : out0_7 y0 y1 y2 w g0 g1 g2 = k0_pay1 (k0_pay2 y0 (View.ld w r0_1) g0 y1 (View.ld w r0_3) g1) y2 (View.ld w r0_4) g2 := by
    unfold out0_7
    rw [View.canon_cons_unit_lit, View.ld_unit_lit (X := y0), View.ld_unit_lit (X := y1), View.ld_unit_lit (X := y2), View.ld_unit_lit (X := g0), View.ld_unit_lit (X := g1), View.ld_unit_lit (X := g2)]
    all_goals decide
  rw [h]
  refine (pay1_at _ _ _ _ i q).trans ?_
  rw [pay2_at]
  simp only [(plane w _ q).1, (plane w _ q).2.1, (plane w _ q).2.2]

/-- Which tile of each array a point works on. -/
theorem rows : ∀ t : Fin cfg0.N, (win0_0.index t 0 = t.val / 4 ∧ win0_0.index t 1 = 0) ∧ (win0_1.index t 0 = t.val / 4 ∧ win0_1.index t 1 = 0)
    ∧ (win0_2.index t 0 = t.val / 4 ∧ win0_2.index t 1 = 0) ∧ (win0_3.index t 0 = 0 ∧ win0_3.index t 1 = 0 ∧ win0_3.index t 2 = t.val % 4) :=
  (by decide +kernel : ∀ t : Fin grid0.N, (win0_0.index t 0 = t.val / 4 ∧ win0_0.index t 1 = 0) ∧ (win0_1.index t 0 = t.val / 4 ∧ win0_1.index t 1 = 0)
    ∧ (win0_2.index t 0 = t.val / 4 ∧ win0_2.index t 1 = 0) ∧ (win0_3.index t 0 = 0 ∧ win0_3.index t 1 = 0 ∧ win0_3.index t 2 = t.val % 4))
theorem gates : ∀ t : Fin cfg0.N, (win0_4.index t 0 = t.val / 4 ∧ win0_4.index t 1 = 20 + t.val % 4) ∧ (win0_5.index t 0 = t.val / 4 ∧ win0_5.index t 1 = 24 + t.val % 4)
    ∧ (win0_6.index t 0 = t.val / 4 ∧ win0_6.index t 1 = 28 + t.val % 4) ∧ (win0_7.index t 0 = t.val / 4 ∧ win0_7.index t 1 = t.val % 4) ∧ (cfg0.win 7).flush t = true :=
  (by decide +kernel : ∀ t : Fin grid0.N, (win0_4.index t 0 = t.val / 4 ∧ win0_4.index t 1 = 20 + t.val % 4) ∧ (win0_5.index t 0 = t.val / 4 ∧ win0_5.index t 1 = 24 + t.val % 4)
    ∧ (win0_6.index t 0 = t.val / 4 ∧ win0_6.index t 1 = 28 + t.val % 4) ∧ (win0_7.index t 0 = t.val / 4 ∧ win0_7.index t 1 = t.val % 4) ∧ (cfg0.win 7).flush t = true)

/-- The arguments: the three branches, their weights, and the projection that holds the gates. -/
def ys (n : Fin 3) : S16384x1024.Idx → EReal :=
  ![(m ((c : Thread nD τ).loc main_arg0) : Vec Ideal S16384x1024 .bf16), (m ((c : Thread nD τ).loc main_arg1) : Vec Ideal S16384x1024 .bf16),
    (m ((c : Thread nD τ).loc main_arg2) : Vec Ideal S16384x1024 .bf16)] n
def ws : S3x1024x2048.Idx → EReal := (m ((c : Thread nD τ).loc main_arg3) : Vec Ideal S3x1024x2048 .bf16)
def proj : S16384x17408.Idx → EReal := (m ((c : Thread nD τ).loc main_arg4) : Vec Ideal S16384x17408 .bf16)

/-- Branch `n`'s share of the result: its product, gated. -/
def term (r : Fin 16384) (s : Fin 2048) (n : Fin 3) : EReal :=
  sg (proj m c (ix2 r ⟨10240 + (n.val * 2048 + s.val), by omega⟩)) * ∑ k : Fin 1024, ys m c n (ix2 r k) * ws m c (ix3 n k s)

/-- The array the kernel leaves. -/
def G (c : Dev nD) : Buf (Elt Ideal) ((c : Thread nD τ).loc main_v0) := fun (j : S16384x2048.Idx) => (∑ n : Fin 3, term m c (j 0) (j 1) n : EReal)

section Blocks

variable (t : Fin cfg0.N) (i k : Fin 1024) (q : Fin 512) (r : Fin 16384) (s : Fin 2048) (hr : t.val / 4 * 1024 + i.val = r.val) (hs : t.val % 4 * 512 + q.val = s.val)
include hr

theorem blk0 : (iblk m c 0 t : Vec Ideal S1024x1024 .bf16) (ix2 i k) = ys m c 0 (ix2 r k) := by
  have h := (rows t).1
  unfold iblk ys
  rw [View.read_apply, ← V_main_arg0 m c]
  exact congrArg (V m c main_arg0) (Tiles.emb_eq _ _ _ rfl rfl h.1 h.2 hr (by rw [Nat.zero_mul, Nat.zero_add]; rfl))

theorem blk1 : (iblk m c 1 t : Vec Ideal S1024x1024 .bf16) (ix2 i k) = ys m c 1 (ix2 r k) := by
  have h := (rows t).2.1
  unfold iblk ys
  rw [View.read_apply, ← V_main_arg1 m c]
  exact congrArg (V m c main_arg1) (Tiles.emb_eq _ _ _ rfl rfl h.1 h.2 hr (by rw [Nat.zero_mul, Nat.zero_add]; rfl))

theorem blk2 : (iblk m c 2 t : Vec Ideal S1024x1024 .bf16) (ix2 i k) = ys m c 2 (ix2 r k) := by
  have h := (rows t).2.2.1
  unfold iblk ys
  rw [View.read_apply, ← V_main_arg2 m c]
  exact congrArg (V m c main_arg2) (Tiles.emb_eq _ _ _ rfl rfl h.1 h.2 hr (by rw [Nat.zero_mul, Nat.zero_add]; rfl))

include hs
/-- The three gates, each 2048 columns after the one before. -/
theorem blkG : (iblk m c 4 t : Vec Ideal S1024x512 .bf16) (ix2 i q) = proj m c (ix2 r ⟨10240 + (0 * 2048 + s.val), by omega⟩)
    ∧ (iblk m c 5 t : Vec Ideal S1024x512 .bf16) (ix2 i q) = proj m c (ix2 r ⟨10240 + (1 * 2048 + s.val), by omega⟩)
    ∧ (iblk m c 6 t : Vec Ideal S1024x512 .bf16) (ix2 i q) = proj m c (ix2 r ⟨10240 + (2 * 2048 + s.val), by omega⟩) := by
  obtain ⟨h0, h1, h2, -⟩ := gates t
  unfold iblk proj
  rw [View.read_apply, View.read_apply, View.read_apply, ← V_main_arg4 m c]
  refine ⟨congrArg (V m c main_arg4) (Tiles.emb_eq _ _ _ rfl rfl h0.1 h0.2 hr ?_), congrArg (V m c main_arg4) (Tiles.emb_eq _ _ _ rfl rfl h1.1 h1.2 hr ?_),
    congrArg (V m c main_arg4) (Tiles.emb_eq _ _ _ rfl rfl h2.1 h2.2 hr ?_)⟩
  · show (20 + t.val % 4) * 512 + q.val = 10240 + (0 * 2048 + s.val); omega
  · show (24 + t.val % 4) * 512 + q.val = 10240 + (1 * 2048 + s.val); omega
  · show (28 + t.val % 4) * 512 + q.val = 10240 + (2 * 2048 + s.val); omega

omit hr
theorem blkW (n : Fin 3) : (iblk m c 3 t : Vec Ideal S3x1024x512 .bf16) (ix3 n k q) = ws m c (ix3 n k s) := by
  obtain ⟨-, -, -, h0, h1, h2⟩ := rows t
  unfold iblk ws
  rw [View.read_apply, ← V_main_arg3 m c]
  exact congrArg (V m c main_arg3) (Tiles.emb_eq3 _ _ _ _ rfl rfl rfl h0 h1 h2 (by rw [Nat.zero_mul, Nat.zero_add]; rfl)
    (by rw [Nat.zero_mul, Nat.zero_add]; rfl) hs)

include hr
theorem flushed : (dats m 0 c).flushed 7 t (ix2 i q) = (∑ n : Fin 3, term m c r s n : EReal) := by
  rw [Value.flushed7]
  refine (out_at _ _ _ _ _ _ _ i q).trans ?_
  obtain ⟨g0, g1, g2⟩ := blkG m c t i q r s hr hs
  rw [g0, g1, g2, Fin.sum_univ_three]
  unfold term
  simp only [blk0 m c t i _ r hr, blk1 m c t i _ r hr, blk2 m c t i _ r hr, blkW m c t _ q s hs]
  rfl

end Blocks

/-- The array after the run at a place of a point's tile. -/
theorem tile_at (t : Fin cfg0.N) (i : Fin 1024) (q : Fin 512) (hr : t.val / 4 * 1024 + i.val < 16384) (hc : t.val % 4 * 512 + q.val < 2048) :
    ((dats m 0 c).arrAt 7 cfg0.N : S16384x2048.Idx → Elt Ideal .bf16) (ix2 ⟨t.val / 4 * 1024 + i.val, hr⟩ ⟨t.val % 4 * 512 + q.val, hc⟩)
      = (∑ n : Fin 3, term m c ⟨t.val / 4 * 1024 + i.val, hr⟩ ⟨t.val % 4 * 512 + q.val, hc⟩ n : EReal) := by
  obtain ⟨-, -, -, ⟨h0, h1⟩, hf⟩ := gates t
  have hb := congrFun (Value.blocks7 m c t hf) (ix2 i q)
  rw [View.read_apply, flushed m c t i q ⟨_, hr⟩ ⟨_, hc⟩ rfl rfl] at hb
  have he : ((cfg0.win 7).blk t).view.emb (ix2 i q) = (ix2 ⟨t.val / 4 * 1024 + i.val, hr⟩ ⟨t.val % 4 * 512 + q.val, hc⟩ : S16384x2048.Idx) :=
    Tiles.emb_eq _ _ _ rfl rfl h0 h1 rfl rfl
  generalize (dats m 0 c).arrAt 7 cfg0.N = A at hb ⊢
  rw [← he]
  exact hb

theorem result (c : Dev nD) : (dats m 0 c).arrAt 7 cfg0.N = G m c := by
  have key := tile_at m c
  generalize (dats m 0 c).arrAt 7 cfg0.N = A at key ⊢
  exact Tiles.arr_ext (R := 16384) (C := 2048) 16 4 1024 512 (by decide) (by decide) (by decide) (by decide) A (G m c)
    fun n hn i q hr hc => key ⟨n, lt_of_lt_of_eq hn N_0.symm⟩ i q hr hc

end Cert.MergeIdeal.Read

namespace Cert.MergeClaims

open Cert.MergeRefIdeal Cert.MergeRefIdeal.Gen Idealize.ShloMosaic Idealize.SL.Sem
open Idealize.ShloMosaic.TcCoe
open Cert.MergeIdeal.Read (sg)

/-- The reference's gate of branch `n`. -/
theorem ref_gate (p : Vec Ideal S16384x17408 .bf16) (r : Fin 16384) (n : Fin 3) (s : Fin 2048) :
    (Host.divf (broadcastInDim S16384x3x2048 ![] bcast_S_S16384x3x2048 (constant S_ .f32 0x3F800000#32)) (addf (broadcastInDim S16384x3x2048 ![] bcast_S_S16384x3x2048 (constant S_ .f32 0x3F800000#32)) (Host.exp (Host.negf (shapeCast _ (extf .f32 (extractStridedSlice S16384x6144 ![0, 10240] p slices_S16384x17408_S16384x6144_0_10240) bitsLt_bf16_f32) shapeCasts_S16384x6144_S16384x3x2048)))) : FVec Ideal S16384x3x2048 .f32) (ix3 r n s)
     = sg (p (ix2 r ⟨10240 + (n.val * 2048 + s.val), by omega⟩)) := by
  unfold sg
  pointwise

/-- The three branches, stacked. -/
theorem ref_stack (y0 y1 y2 : Vec Ideal S16384x1024 .bf16) (r : Fin 16384) (k : Fin 1024) (n : Fin 3) :
    ((concatenate S3x16384x1024 0 [⟨S1x16384x1024, ((broadcastInDim S1x16384x1024 ![1, 2] bcast_S16384x1024_S1x16384x1024_1_2 y0) : (⟨S1x16384x1024, .bf16⟩ : BufTy).Contents (Elt Ideal))⟩, ⟨S1x16384x1024, ((broadcastInDim S1x16384x1024 ![1, 2] bcast_S16384x1024_S1x16384x1024_1_2 y1) : (⟨S1x16384x1024, .bf16⟩ : BufTy).Contents (Elt Ideal))⟩, ⟨S1x16384x1024, ((broadcastInDim S1x16384x1024 ![1, 2] bcast_S16384x1024_S1x16384x1024_1_2 y2) : (⟨S1x16384x1024, .bf16⟩ : BufTy).Contents (Elt Ideal))⟩] concatenates_S1x16384x1024_S1x16384x1024_S1x16384x1024_S3x16384x1024_d0 : (⟨S3x16384x1024, .bf16⟩ : BufTy).Contents (Elt Ideal))) (ix3 n r k)
     = (![y0, y1, y2] n) (ix2 r k) := by
  match n with
  | 0 => pointwise
  | 1 => pointwise
  | 2 => pointwise

/-- The reference's gated sum at an index. -/
theorem ref_at (g : FVec Ideal S16384x3x2048 .f32) (y : Vec Ideal S3x16384x1024 .bf16) (w : Vec Ideal S3x1024x2048 .bf16) (r : Fin 16384) (s : Fin 2048) :
    (truncf .bf16 (Host.dotGeneral dot_S16384x3x2048_S3x16384x2048_S16384x2048_1_0_n_n_02_12 none g (Host.dotGeneral dot_S3x16384x1024_S3x1024x2048_S3x16384x2048_2_1_1_2_0_0 none (extf .f32 y bitsLt_bf16_f32) (extf .f32 w bitsLt_bf16_f32))) bitsLt_bf16_f32 : FVec Ideal S16384x2048 .bf16) (ix2 r s)
     = ∑ n : Fin 3, g (ix3 r n s) * ∑ k : Fin 1024, y (ix3 n r k) * w (ix3 n k s) := by
  pointwise

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run m ρ)
theorem preserves : Cert.preserves_Merge_MergeIdeal := trivial

theorem value : Cert.algebraic_MergeIdeal_MergeRefIdeal := fun m ρ m' ρ' _ hm =>
  ⟨fun c => Cert.MergeIdeal.Read.G m c,
    (θ_run Cert.MergeIdeal.defs _ _).mono (fun r h c => ⟨(h c).1.trans (Cert.MergeIdeal.Read.result m c), (h c).2⟩) (Cert.MergeIdeal.Value.run_blocks m ρ),
    (θ_run Cert.MergeRefIdeal.defs _ _).mono (fun r h c => by
      refine ⟨(h c).1.trans ?_, (h c).2⟩
      obtain ⟨h0, h1, h2, h3, h4⟩ := hm c
      rw [h0, h1, h2, h3, h4]
      funext j
      refine (congrArg _ (Tiles.ix2_eta (R := 16384) (C := 2048) j).symm).trans ((ref_at _ _ _ (j 0) (j 1)).trans ?_)
      refine (show (_ : EReal) = _ from Finset.sum_congr rfl fun n _ => ?_)
      unfold Cert.MergeIdeal.Read.term
      refine congrArg₂ (fun a b : EReal => a * b) (ref_gate _ (j 0) n (j 1)) (show (_ : EReal) = _ from Finset.sum_congr rfl fun k _ => ?_)
      exact congrArg₂ (fun a b : EReal => a * b) (ref_stack _ _ _ (j 0) k n) rfl) (Cert.MergeRefIdeal.Value.run m' ρ')⟩

end Cert.MergeClaims
end
-- ==== Proof.FfnDownClaims.lean ====
/-
  The claims about the second product of the dense feed-forward block, with the residual added.
-/
module

public import proofs.«01_k».proof.Defs
public import proofs.«01_k».proof.Proof.Gen.FfnDown.Frame
public import proofs.«01_k».proof.Proof.Gen.FfnDownIdeal.Value
public import proofs.«01_k».proof.Proof.Gen.FfnDownRefIdeal.Run
public import proofs.«01_k».proof.Proof.Tiles
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.FfnDownIdeal.Read

open Cert.FfnDownIdeal Cert.FfnDownIdeal.Gen Idealize.ShloMosaic Idealize.SL.Sem
open Idealize.ShloMosaic.TcCoe

variable (m : (ℓ : Loc nD τ sig) → Buf (Elt Ideal) ℓ) (c : Dev nD)

/-- The tiles a point works on: its row of tiles and its column of tiles. -/
theorem tiles : ∀ t : Fin cfg0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) ∧ (win0_3.index t 0 = t.val / 4 ∧ win0_3.index t 1 = t.val % 4)
    ∧ (cfg0.win 3).flush t = true :=
  (by decide +kernel : ∀ t : Fin grid0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) ∧ (win0_3.index t 0 = t.val / 4 ∧ win0_3.index t 1 = t.val % 4)
    ∧ (cfg0.win 3).flush t = true)

/-- The three arguments: the hidden activations, the weights, the residual. -/
def u : S16384x5632.Idx → EReal := (m ((c : Thread nD τ).loc main_arg0) : Vec Ideal S16384x5632 .bf16)
def w : S5632x2048.Idx → EReal := (m ((c : Thread nD τ).loc main_arg1) : Vec Ideal S5632x2048 .bf16)
def x : S16384x2048.Idx → EReal := (m ((c : Thread nD τ).loc main_arg2) : Vec Ideal S16384x2048 .f32)

/-- The blocks of the arguments a point works on. -/
def bu (t : Fin cfg0.N) : S1024x5632.Idx → EReal := (iblk m c 0 t : Vec Ideal S1024x5632 .bf16)
def bw (t : Fin cfg0.N) : S5632x512.Idx → EReal := (iblk m c 1 t : Vec Ideal S5632x512 .bf16)
def bx (t : Fin cfg0.N) : S1024x512.Idx → EReal := (iblk m c 2 t : Vec Ideal S1024x512 .f32)

/-- The array the kernel leaves: the residual and the product. -/
def G (c : Dev nD) : Buf (Elt Ideal) ((c : Thread nD τ).loc main_v0) := fun (j : S16384x2048.Idx) =>
  (x m c (ix2 (j 0) (j 1)) + ∑ k : Fin 5632, u m c (ix2 (j 0) k) * w m c (ix2 k (j 1)) : EReal)

/-- A tile's result at an index. -/
theorem out_at (a : Vec Ideal S1024x5632 .bf16) (b : Vec Ideal S5632x512 .bf16) (d : Vec Ideal S1024x512 .f32) (i : Fin 1024) (q : Fin 512) :
    out0_3 a b d (ix2 i q) = d (ix2 i q) + ∑ k : Fin 5632, a (ix2 i k) * b (ix2 k q) := by
  have h : out0_3 a b d = k0_pay1 d a b := by
    unfold out0_3
    rw [View.canon_cons_unit_lit, View.ld_unit_lit, View.ld_unit_lit, View.ld_unit_lit]
    all_goals decide
  rw [h]
  unfold k0_pay1
  pointwise

theorem flushed (t : Fin cfg0.N) (i : Fin 1024) (q : Fin 512) :
    (dats m 0 c).flushed 3 t (ix2 i q) = (bx m c t (ix2 i q) + ∑ k : Fin 5632, bu m c t (ix2 i k) * bw m c t (ix2 k q) : EReal) := by
  rw [Value.flushed3]
  exact out_at _ _ _ i q

/-- The array after the run at a place of a point's tile. -/
theorem tile_at (t : Fin cfg0.N) (i : Fin 1024) (q : Fin 512) (hr : t.val / 4 * 1024 + i.val < 16384) (hc : t.val % 4 * 512 + q.val < 2048) :
    ((dats m 0 c).arrAt 3 cfg0.N : S16384x2048.Idx → Elt Ideal .f32) (ix2 ⟨t.val / 4 * 1024 + i.val, hr⟩ ⟨t.val % 4 * 512 + q.val, hc⟩)
      = bx m c t (ix2 i q) + ∑ k : Fin 5632, bu m c t (ix2 i k) * bw m c t (ix2 k q) := by
  obtain ⟨-, -, -, ⟨h0, h1⟩, hf⟩ := tiles t
  have hb := congrFun (Value.blocks3 m c t hf) (ix2 i q)
  rw [View.read_apply, flushed m c t i q] at hb
  have he : ((cfg0.win 3).blk t).view.emb (ix2 i q) = (ix2 ⟨t.val / 4 * 1024 + i.val, hr⟩ ⟨t.val % 4 * 512 + q.val, hc⟩ : S16384x2048.Idx) :=
    Tiles.emb_eq _ _ _ rfl rfl h0 h1 rfl rfl
  generalize (dats m 0 c).arrAt 3 cfg0.N = A at hb ⊢
  rw [← he]
  exact hb

theorem result (c : Dev nD) : (dats m 0 c).arrAt 3 cfg0.N = G m c := by
  have key := tile_at m c
  generalize (dats m 0 c).arrAt 3 cfg0.N = A at key ⊢
  refine Tiles.residual_product (R := 16384) (C := 2048) (K := 5632) 16 4 1024 512 (by decide) (by decide) (by decide) (by decide)
    A (x m c) (u m c) (w m c) (fun t => bu m c (t.cast N_0.symm)) (fun t => bw m c (t.cast N_0.symm)) (fun t => bx m c (t.cast N_0.symm)) ?_ ?_ ?_ ?_
  · intro t i k hr
    obtain ⟨⟨h0, h1⟩, -⟩ := tiles (t.cast N_0.symm)
    unfold bu iblk u
    rw [View.read_apply, ← V_main_arg0 m c]
    exact congrArg (V m c main_arg0) (Tiles.emb_eq _ _ _ rfl rfl h0 h1 rfl (by rw [Nat.zero_mul, Nat.zero_add]; rfl))
  · intro t k q hc
    obtain ⟨-, ⟨h0, h1⟩, -⟩ := tiles (t.cast N_0.symm)
    unfold bw iblk w
    rw [View.read_apply, ← V_main_arg1 m c]
    exact congrArg (V m c main_arg1) (Tiles.emb_eq _ _ _ rfl rfl h0 h1 (by rw [Nat.zero_mul, Nat.zero_add]; rfl) rfl)
  · intro t i q hr hc
    obtain ⟨-, -, ⟨h0, h1⟩, -⟩ := tiles (t.cast N_0.symm)
    unfold bx iblk x
    rw [View.read_apply, ← V_main_arg2 m c]
    exact congrArg (V m c main_arg2) (Tiles.emb_eq _ _ _ rfl rfl h0 h1 rfl rfl)
  · exact fun t i q hr hc => key (t.cast N_0.symm) i q hr hc

end Cert.FfnDownIdeal.Read

namespace Cert.FfnDownClaims

open Idealize.ShloMosaic Idealize.SL.Sem
open Idealize.ShloMosaic.TcCoe

theorem frame_p : Cert.quiescent_FfnDown := fun m ρ _ => Cert.FfnDown.Gen.frame m ρ
theorem frame_pi : Cert.quiescent_FfnDownIdeal := fun m ρ _ => Cert.FfnDownIdeal.Gen.frame m ρ
theorem frame_ri : Cert.quiescent_FfnDownRefIdeal := fun m ρ _ =>
  (θ_run Cert.FfnDownRefIdeal.defs _ _).mono (fun r h => ⟨fun c => (h c).2, Idealize.ShloMosaic.sem_eq_zero_of_no_sems (by decide) r.2⟩)
    (Cert.FfnDownRefIdeal.Value.run m ρ)
theorem preserves : Cert.preserves_FfnDown_FfnDownIdeal := trivial

/-- The reference's residual and product at an index. -/
theorem ref_at (a : Vec Ideal Cert.FfnDownRefIdeal.S16384x5632 .bf16) (b : Vec Ideal Cert.FfnDownRefIdeal.S5632x2048 .bf16)
    (d : Vec Ideal Cert.FfnDownRefIdeal.S16384x2048 .f32) (r : Fin 16384) (s : Fin 2048) :
    (addf d (Host.dotGeneral Cert.FfnDownRefIdeal.dot_S16384x5632_S5632x2048_S16384x2048_1_0_0_1_n_n none
      (extf .f32 a Cert.FfnDownRefIdeal.Gen.bitsLt_bf16_f32) (extf .f32 b Cert.FfnDownRefIdeal.Gen.bitsLt_bf16_f32))
        : FVec Ideal Cert.FfnDownRefIdeal.S16384x2048 .f32) (ix2 r s)
      = d (ix2 r s) + ∑ k : Fin 5632, a (ix2 r k) * b (ix2 k s) := by
  pointwise

theorem value : Cert.algebraic_FfnDownIdeal_FfnDownRefIdeal := fun m ρ m' ρ' _ hm =>
  ⟨fun c => Cert.FfnDownIdeal.Read.G m c,
    (θ_run Cert.FfnDownIdeal.defs _ _).mono (fun r h c => ⟨(h c).1.trans (Cert.FfnDownIdeal.Read.result m c), (h c).2⟩) (Cert.FfnDownIdeal.Value.run_blocks m ρ),
    (θ_run Cert.FfnDownRefIdeal.defs _ _).mono (fun r h c => by
      refine ⟨(h c).1.trans ?_, (h c).2⟩
      obtain ⟨h0, h1, h2⟩ := hm c
      rw [h0, h1, h2]
      funext j
      exact (congrArg _ (Tiles.ix2_eta (R := 16384) (C := 2048) j).symm).trans (ref_at _ _ _ (j 0) (j 1))) (Cert.FfnDownRefIdeal.Value.run m' ρ')⟩

end Cert.FfnDownClaims

end
-- ==== Proof.OutProjClaims.lean ====
/-
  The claims about the output projection of the mixer, with the residual added. The tiles are put together by the same lemma as
  the feed-forward block's second product (Tiles); here are this call's tiles and its reference.
-/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Tiles
public import Idealize.ShloMosaic.Lib.Pipeline.ValueKit
public import Idealize.ShloMosaic.Adequacy

@[expose] public section

set_option maxRecDepth 16384

noncomputable section

namespace Cert.OutProjIdeal.Read

open Cert.OutProjIdeal Cert.OutProjIdeal.Gen Idealize.ShloMosaic Idealize.SL.Sem
open Idealize.ShloMosaic.TcCoe

variable (m : (ℓ : Loc nD τ sig) → Buf (Elt Ideal) ℓ) (c : Dev nD)

/-- Eight rows of four tiles: which tile of each array a point works on. -/
theorem tiles : ∀ t : Fin cfg0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) ∧ (win0_3.index t 0 = t.val / 4 ∧ win0_3.index t 1 = t.val % 4)
    ∧ (cfg0.win 3).flush t = true :=
  (by decide +kernel : ∀ t : Fin grid0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) ∧ (win0_3.index t 0 = t.val / 4 ∧ win0_3.index t 1 = t.val % 4)
    ∧ (cfg0.win 3).flush t = true)

/-- The merged branches, the projection's weights, the residual stream; and their blocks at a point. -/
def merged : S16384x2048.Idx → EReal := (m ((c : Thread nD τ).loc main_arg0) : Vec Ideal S16384x2048 .bf16)
def wo : S2048x2048.Idx → EReal := (m ((c : Thread nD τ).loc main_arg1) : Vec Ideal S2048x2048 .bf16)
def resid : S16384x2048.Idx → EReal := (m ((c : Thread nD τ).loc main_arg2) : Vec Ideal S16384x2048 .f32)
def blkM (t : Fin cfg0.N) : S2048x2048.Idx → EReal := (iblk m c 0 t : Vec Ideal S2048x2048 .bf16)
def blkW (t : Fin cfg0.N) : S2048x512.Idx → EReal := (iblk m c 1 t : Vec Ideal S2048x512 .bf16)
def blkR (t : Fin cfg0.N) : S2048x512.Idx → EReal := (iblk m c 2 t : Vec Ideal S2048x512 .f32)

/-- The array the kernel leaves. -/
def G (c : Dev nD) : Buf (Elt Ideal) ((c : Thread nD τ).loc main_v0) := fun (j : S16384x2048.Idx) =>
  (resid m c (ix2 (j 0) (j 1)) + ∑ k : Fin 2048, merged m c (ix2 (j 0) k) * wo m c (ix2 k (j 1)) : EReal)

theorem out_at (a : Vec Ideal S2048x2048 .bf16) (b : Vec Ideal S2048x512 .bf16) (d : Vec Ideal S2048x512 .f32) (i : Fin 2048) (q : Fin 512) :
    out0_3 a b d (ix2 i q) = d (ix2 i q) + ∑ k : Fin 2048, a (ix2 i k) * b (ix2 k q) := by
  unfold out0_3
  rw [View.canon_cons_unit_lit, View.ld_unit_lit, View.ld_unit_lit, View.ld_unit_lit]
  · unfold k0_pay1
    pointwise
  all_goals decide

theorem tile_at (t : Fin cfg0.N) (i : Fin 2048) (q : Fin 512) (hr : t.val / 4 * 2048 + i.val < 16384) (hc : t.val % 4 * 512 + q.val < 2048) :
    ((dats m 0 c).arrAt 3 cfg0.N : S16384x2048.Idx → Elt Ideal .f32) (ix2 ⟨t.val / 4 * 2048 + i.val, hr⟩ ⟨t.val % 4 * 512 + q.val, hc⟩)
      = blkR m c t (ix2 i q) + ∑ k : Fin 2048, blkM m c t (ix2 i k) * blkW m c t (ix2 k q) := by
  obtain ⟨-, -, -, ⟨h0, h1⟩, hf⟩ := tiles t
  have hb := congrFun (Value.blocks3 m c t hf) (ix2 i q)
  have hv : (dats m 0 c).flushed 3 t (ix2 i q) = (blkR m c t (ix2 i q) + ∑ k : Fin 2048, blkM m c t (ix2 i k) * blkW m c t (ix2 k q) : EReal) := by
    rw [Value.flushed3]
    exact out_at _ _ _ i q
  rw [View.read_apply, hv] at hb
  have he : ((cfg0.win 3).blk t).view.emb (ix2 i q) = (ix2 ⟨t.val / 4 * 2048 + i.val, hr⟩ ⟨t.val % 4 * 512 + q.val, hc⟩ : S16384x2048.Idx) :=
    Tiles.emb_eq _ _ _ rfl rfl h0 h1 rfl rfl
  generalize (dats m 0 c).arrAt 3 cfg0.N = A at hb ⊢
  rw [← he]
  exact hb

theorem result (c : Dev nD) : (dats m 0 c).arrAt 3 cfg0.N = G m c := by
  have key := tile_at m c
  generalize (dats m 0 c).arrAt 3 cfg0.N = A at key ⊢
  refine Tiles.residual_product (R := 16384) (C := 2048) (K := 2048) 8 4 2048 512 (by decide) (by decide) (by decide) (by decide)
    A (resid m c) (merged m c) (wo m c) (fun t => blkM m c (t.cast N_0.symm)) (fun t => blkW m c (t.cast N_0.symm)) (fun t => blkR m c (t.cast N_0.symm))
    ?_ ?_ ?_ (fun t i q hr hc => key (t.cast N_0.symm) i q hr hc)
  · intro t i k hr
    have h := (tiles (t.cast N_0.symm)).1
    unfold blkM iblk merged
    rw [View.read_apply, ← V_main_arg0 m c]
    exact congrArg (V m c main_arg0) (Tiles.emb_eq _ _ _ rfl rfl h.1 h.2 rfl (by rw [Nat.zero_mul, Nat.zero_add]; rfl))
  · intro t k q hc
    have h := (tiles (t.cast N_0.symm)).2.1
    unfold blkW iblk wo
    rw [View.read_apply, ← V_main_arg1 m c]
    exact congrArg (V m c main_arg1) (Tiles.emb_eq _ _ _ rfl rfl h.1 h.2 (by rw [Nat.zero_mul, Nat.zero_add]; rfl) rfl)
  · intro t i q hr hc
    have h := (tiles (t.cast N_0.symm)).2.2.1
    unfold blkR iblk resid
    rw [View.read_apply, ← V_main_arg2 m c]
    exact congrArg (V m c main_arg2) (Tiles.emb_eq _ _ _ rfl rfl h.1 h.2 rfl rfl)

end Cert.OutProjIdeal.Read

namespace Cert.OutProjClaims

open Idealize.ShloMosaic Idealize.SL.Sem
open Idealize.ShloMosaic.TcCoe

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run m ρ)
theorem preserves : Cert.preserves_OutProj_OutProjIdeal := trivial

/-- The reference at an index. -/
theorem ref_at (a : Vec Ideal Cert.OutProjRefIdeal.S16384x2048 .bf16) (b : Vec Ideal Cert.OutProjRefIdeal.S2048x2048 .bf16)
    (d : Vec Ideal Cert.OutProjRefIdeal.S16384x2048 .f32) (r : Fin 16384) (s : Fin 2048) :
    (addf d (Host.dotGeneral Cert.OutProjRefIdeal.dot_S16384x2048_S2048x2048_S16384x2048_1_0_0_1_n_n none
      (extf .f32 a Cert.OutProjRefIdeal.Gen.bitsLt_bf16_f32) (extf .f32 b Cert.OutProjRefIdeal.Gen.bitsLt_bf16_f32))
        : FVec Ideal Cert.OutProjRefIdeal.S16384x2048 .f32) (ix2 r s)
      = d (ix2 r s) + ∑ k : Fin 2048, a (ix2 r k) * b (ix2 k s) := by
  pointwise

theorem value : Cert.algebraic_OutProjIdeal_OutProjRefIdeal := fun m ρ m' ρ' _ hm =>
  ⟨fun c => Cert.OutProjIdeal.Read.G m c,
    (θ_run Cert.OutProjIdeal.defs _ _).mono (fun r h c => ⟨(h c).1.trans (Cert.OutProjIdeal.Read.result m c), (h c).2⟩) (Cert.OutProjIdeal.Value.run_blocks m ρ),
    (θ_run Cert.OutProjRefIdeal.defs _ _).mono (fun r h c => by
      refine ⟨(h c).1.trans ?_, (h c).2⟩
      obtain ⟨h0, h1, h2⟩ := hm c
      rw [h0, h1, h2]
      funext j
      exact (congrArg _ (Tiles.ix2_eta (R := 16384) (C := 2048) j).symm).trans (ref_at _ _ _ (j 0) (j 1))) (Cert.OutProjRefIdeal.Value.run m' ρ')⟩

end Cert.OutProjClaims

end
-- ==== Proof.NormClaims.lean ====
/-
  The claims about the mixers' input norm: its frames, and its result, each row over its root mean square times the gain.
-/
module

public import proofs.«01_k».proof.Defs
public import proofs.«01_k».proof.Proof.GluClaims
public import proofs.«01_k».proof.Proof.Gen.Norm.Frame
public import proofs.«01_k».proof.Proof.Gen.NormIdeal.Value
public import proofs.«01_k».proof.Proof.Gen.NormRefIdeal.Run

@[expose] public section

set_option maxRecDepth 16384

noncomputable section

namespace Cert.NormIdeal.Read

open Cert.NormIdeal Cert.NormIdeal.Gen Idealize.ShloMosaic Idealize.SL.Sem
open Idealize.ShloMosaic.TcCoe
open Cert.GluIdeal.Read (normed rms)

variable (m : (ℓ : Loc nD τ sig) → Buf (Elt Ideal) ℓ) (c : Dev nD)

theorem out_at (x : Vec Ideal S512x2048 .f32) (g : Vec Ideal S1x2048 .f32) (i : Fin 512) (k : Fin 2048) :
    out0_2 x g (ix2 i k) = (x (ix2 i k) * rms (fun k => x (ix2 i k)) * g (ix2 0 k) : EReal) := by
  have h : out0_2 x g = k0_pay1 x g := by
    unfold out0_2
    rw [View.canon_cons_unit_lit, View.ld_unit_lit (X := x), View.ld_unit_lit (X := g)]
    all_goals decide
  rw [h]
  unfold k0_pay1 rms
  pointwise

theorem V_gain (k : Fin 2048) : (V m c main_v0 : Vec Ideal S1x2048 .f32) (ix2 0 k) = (m ((c : Thread nD τ).loc main_arg1) : Vec Ideal S2048 .f32) (ix1 k) := by
  unfold V
  after_reads_at

/-- Which tile of each array a point works on. -/
theorem tiles : ∀ t : Fin cfg0.N, (win0_0.index t 0 = t.val / 1 ∧ win0_0.index t 1 = 0) ∧ (win0_1.index t 0 = 0 ∧ win0_1.index t 1 = 0)
    ∧ (win0_2.index t 0 = t.val / 1 ∧ win0_2.index t 1 = t.val % 1) ∧ (cfg0.win 2).flush t = true :=
  (by decide +kernel : ∀ t : Fin grid0.N, (win0_0.index t 0 = t.val / 1 ∧ win0_0.index t 1 = 0) ∧ (win0_1.index t 0 = 0 ∧ win0_1.index t 1 = 0)
    ∧ (win0_2.index t 0 = t.val / 1 ∧ win0_2.index t 1 = t.val % 1) ∧ (cfg0.win 2).flush t = true)

/-- The arguments: the rows and the gain. -/
def xs : S16384x2048.Idx → EReal := (m ((c : Thread nD τ).loc main_arg0) : Vec Ideal S16384x2048 .f32)
def gain : S2048.Idx → EReal := (m ((c : Thread nD τ).loc main_arg1) : Vec Ideal S2048 .f32)

/-- The array the kernel leaves. -/
def G (c : Dev nD) : Buf (Elt Ideal) ((c : Thread nD τ).loc main_v1) := fun (j : S16384x2048.Idx) => (normed (xs m c) (gain m c) (j 0) (j 1) : EReal)

theorem blk0 (t : Fin cfg0.N) (i : Fin 512) (k : Fin 2048) (r : Fin 16384) (hr : t.val / 1 * 512 + i.val = r.val) :
    (iblk m c 0 t : Vec Ideal S512x2048 .f32) (ix2 i k) = xs m c (ix2 r k) := by
  have h := (tiles t).1
  unfold iblk xs
  rw [View.read_apply, ← V_main_arg0 m c]
  exact congrArg (V m c main_arg0) (Tiles.emb_eq _ _ _ rfl rfl h.1 h.2 hr (by rw [Nat.zero_mul, Nat.zero_add]; rfl))

theorem blk1 (t : Fin cfg0.N) (k : Fin 2048) : (iblk m c 1 t : Vec Ideal S1x2048 .f32) (ix2 0 k) = gain m c (ix1 k) := by
  have h := (tiles t).2.1
  unfold iblk gain
  rw [View.read_apply, ← V_gain m c k]
  exact congrArg (V m c main_v0) (Tiles.emb_eq _ _ _ rfl rfl h.1 h.2 rfl (by rw [Nat.zero_mul, Nat.zero_add]; rfl))

theorem flushed (t : Fin cfg0.N) (i : Fin 512) (k : Fin 2048) (r : Fin 16384) (hr : t.val / 1 * 512 + i.val = r.val) :
    (dats m 0 c).flushed 2 t (ix2 i k) = normed (xs m c) (gain m c) r k := by
  rw [Value.flushed2]
  refine (out_at _ _ i k).trans ?_
  unfold normed
  rw [blk1 m c t k]
  simp only [blk0 m c t i _ r hr]

/-- The array after the run at a place of a point's tile. -/
theorem tile_at (t : Fin cfg0.N) (i : Fin 512) (k s : Fin 2048) (hr : t.val / 1 * 512 + i.val < 16384) (hs : t.val % 1 * 2048 + k.val = s.val) :
    ((dats m 0 c).arrAt 2 cfg0.N : S16384x2048.Idx → Elt Ideal .bf16) (ix2 ⟨t.val / 1 * 512 + i.val, hr⟩ s)
      = normed (xs m c) (gain m c) ⟨t.val / 1 * 512 + i.val, hr⟩ s := by
  obtain ⟨-, -, ⟨h0, h1⟩, hf⟩ := tiles t
  obtain rfl : k = s := Fin.ext (by omega)
  have hb := congrFun (Value.blocks2 m c t hf) (ix2 i k)
  rw [View.read_apply, flushed m c t i k ⟨_, hr⟩ rfl] at hb
  have he : ((cfg0.win 2).blk t).view.emb (ix2 i k) = (ix2 ⟨t.val / 1 * 512 + i.val, hr⟩ k : S16384x2048.Idx) :=
    Tiles.emb_eq _ _ _ rfl rfl h0 h1 rfl hs
  generalize (dats m 0 c).arrAt 2 cfg0.N = A at hb ⊢
  rw [← he]
  exact hb

theorem result (c : Dev nD) : (dats m 0 c).arrAt 2 cfg0.N = G m c := by
  have key := tile_at m c
  generalize (dats m 0 c).arrAt 2 cfg0.N = A at key ⊢
  exact Tiles.arr_ext (R := 16384) (C := 2048) 32 1 512 2048 (by decide) (by decide) (by decide) (by decide) A (G m c)
    fun n hn i q hr hc => key ⟨n, lt_of_lt_of_eq hn N_0.symm⟩ i q ⟨_, hc⟩ hr rfl

end Cert.NormIdeal.Read

namespace Cert.NormClaims

open Cert.NormRefIdeal Cert.NormRefIdeal.Gen Idealize.ShloMosaic Idealize.SL.Sem
open Idealize.ShloMosaic.TcCoe

theorem frame_p : Cert.quiescent_Norm := fun m ρ _ => Cert.Norm.Gen.frame m ρ
theorem frame_pi : Cert.quiescent_NormIdeal := fun m ρ _ => Cert.NormIdeal.Gen.frame m ρ
theorem frame_ri : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run m ρ)
theorem preserves : Cert.preserves_Norm_NormIdeal := trivial

theorem value : Cert.algebraic_NormIdeal_NormRefIdeal := fun m ρ m' ρ' _ hm =>
  ⟨fun c => Cert.NormIdeal.Read.G m c,
    (θ_run Cert.NormIdeal.defs _ _).mono (fun r h c => ⟨(h c).1.trans (Cert.NormIdeal.Read.result m c), (h c).2⟩) (Cert.NormIdeal.Value.run_blocks m ρ),
    (θ_run Cert.NormRefIdeal.defs _ _).mono (fun r h c => by
      refine ⟨(h c).1.trans ?_, (h c).2⟩
      obtain ⟨h0, h1⟩ := hm c
      rw [h0, h1]
      funext j
      exact (congrArg _ (Tiles.ix2_eta (R := 16384) (C := 2048) j).symm).trans (GluClaims.ref_norm _ _ (j 0) (j 1))) (Cert.NormRefIdeal.Value.run m' ρ')⟩

end Cert.NormClaims
end
-- ==== Proof.ConvClaims.lean ====
/-
  The claims about the gated causal convolution of three taps: the frames, and the result, each row's gate times the taps'
  sum over the row and the two before it.
-/
module

public import proofs.«01_k».proof.Defs
public import proofs.«01_k».proof.Proof.Gen.Conv.Frame
public import proofs.«01_k».proof.Proof.Gen.ConvIdeal.Value
public import proofs.«01_k».proof.Proof.Gen.ConvRefIdeal.Run
public import proofs.«01_k».proof.Proof.Tiles
public import Idealize.ShloMosaic.Lib.Pipeline.ValueKit
public import Idealize.ShloMosaic.Lib.Pipeline.ReadBack
public import Idealize.ShloMosaic.Lib.WritesUnit
public import Idealize.ShloMosaic.Adequacy

@[expose] public section

set_option maxRecDepth 16384

noncomputable section

namespace Cert.ConvIdeal.Read

open Cert.ConvIdeal Cert.ConvIdeal.Gen Idealize.ShloMosaic Idealize.SL.Sem
open Idealize.ShloMosaic.TcCoe

/-- The body's sum of three taps, gated. -/
theorem pay_at (x0 x1 x2 : Vec Ideal S1x512x1024 .bf16) (v13 v14 : Vec Ideal S512x1024 .f32) (w0 w1 w2 : Vec Ideal S1x1024 .f32) (q : Fin 512) (s : Fin 1024) :
    (k0_pay1 (k0_pay6 x1 x2 v13 v14 w0 w1 w2 x0) : FVec Ideal S1x512x1024 .bf16) (ix3 0 q s)
      = (x0 (ix3 0 q s) * (w0 (ix2 0 s) * v14 (ix2 q s) + w1 (ix2 0 s) * v13 (ix2 q s) + w2 (ix2 0 s) * (x1 (ix3 0 q s) * x2 (ix3 0 q s))) : EReal) := by
  unfold k0_pay1 k0_pay6 k0_pay4
  pointwise

/-- The rows a point stores, and the rows a sequence's first point clears. -/
theorem pay5_at (x1 x2 : Vec Ideal S1x512x1024 .bf16) (q : Fin 512) (s : Fin 1024) :
    (k0_pay5 x1 x2 : FVec Ideal S512x1024 .f32) (ix2 q s) = (x1 (ix3 0 q s) * x2 (ix3 0 q s) : EReal) := by
  unfold k0_pay5 k0_pay4
  pointwise

theorem pay2_at (v : Vec Ideal S8x1024 .f32) (j : Fin 8) (s : Fin 1024) : (k0_pay2 v : FVec Ideal S8x1024 .f32) (ix2 j s) = v (ix2 j s) := by
  unfold k0_pay2
  pointwise

theorem pay3_at (j : Fin 8) (s : Fin 1024) : (k0_pay3 : FVec Ideal S8x1024 .f32) (ix2 j s) = (0 : EReal) := by
  unfold k0_pay3
  pointwise

/-- Rows and taps loaded at an offset. -/
theorem ld_rows {n N : ℕ} (o : ℕ) (v : Vec Ideal ⟨2, ![N, 1024]⟩ .f32) (inb) (q : Fin n) (s : Fin 1024) (k : Fin N) (h : o + q.val = k.val) :
    View.ld v (Rect.unit (s := ⟨2, ![N, 1024]⟩) ![o, 0] ![n, 1024] inb) (ix2 q s) = v (ix2 k s) := by
  refine congrArg v ?_
  funext a
  apply Fin.ext
  match a with
  | ⟨0, _⟩ => show o + 1 * q.val = k.val; omega
  | ⟨1, _⟩ => show 0 + 1 * s.val = s.val; omega

section Scratch

variable {κ : Kind} {sp : Space} (v : View sig κ sp S520x1024 .f32) (f : v.ty.Contents (Elt Ideal)) (x1 x2 : Vec Ideal S1x512x1024 .bf16) (inb)
  (L : List (View.Piece (Elt Ideal) S520x1024 .f32)) (z : Fin 8 → Fin 1024 → EReal)

/-- The scratch after a point's rows are stored from row 8: the eight rows `z`, then the point's. -/
def col (n : Fin 520) (s : Fin 1024) : EReal :=
  if h : n.val < 8 then z ⟨n.val, h⟩ s else x1 (ix3 0 ⟨n.val - 8, by omega⟩ s) * x2 (ix3 0 ⟨n.val - 8, by omega⟩ s)

theorem hi_at (n : Fin 520) (q : Fin 512) (h : n.val = 8 + q.val) (s : Fin 1024) :
    v.read (Elt Ideal) (v.writes (Elt Ideal) f (⟨Rect.unit ![8, 0] ![512, 1024] inb, k0_pay5 x1 x2⟩ :: L)) (ix2 n s) = (x1 (ix3 0 q s) * x2 (ix3 0 q s) : EReal) :=
  (View.read_writes_cons_rows_of_mem v f (o := 8) inb (k0_pay5 x1 x2) L (ix2 n s) (ix2 q s) rfl h rfl).trans (pay5_at x1 x2 q s)

theorem col_at (hz : ∀ (j : Fin 8) (s : Fin 1024), v.read (Elt Ideal) (v.writes (Elt Ideal) f L) (ix2 ⟨j.val, by omega⟩ s) = z j s) (n : Fin 520) (s : Fin 1024) :
    v.read (Elt Ideal) (v.writes (Elt Ideal) f (⟨Rect.unit ![8, 0] ![512, 1024] inb, k0_pay5 x1 x2⟩ :: L)) (ix2 n s) = col x1 x2 z n s := by
  unfold col
  split
  case isTrue h =>
    exact (View.read_writes_cons_rows_of_not_mem v f (o := 8) (W := 512) inb (k0_pay5 x1 x2) L (ix2 n s) rfl rfl (Or.inl h)).trans (hz ⟨n.val, h⟩ s)
  case isFalse h => exact hi_at v f x1 x2 inb L n ⟨n.val - 8, by omega⟩ (by show n.val = 8 + (n.val - 8); omega) s

/-- The first eight rows, stored last. -/
theorem lo_at (w : Vec Ideal S8x1024 .f32) (inb') (j : Fin 8) (s : Fin 1024) :
    v.read (Elt Ideal) (v.writes (Elt Ideal) f (⟨Rect.unit (s := S520x1024) ![0, 0] ![8, 1024] inb', w⟩ :: L)) (ix2 ⟨j.val, by omega⟩ s) = w (ix2 j s) :=
  View.read_writes_cons_rows_of_mem (size := ![8, 1024]) v f (o := 0) inb' w L (ix2 ⟨j.val, by omega⟩ s) (ix2 j s) rfl (Nat.zero_add _).symm rfl

end Scratch

/-- A point's result. -/
def conv (x0 x1 x2 : S1x512x1024.Idx → EReal) (x3 : S3x1024.Idx → EReal) (z : Fin 8 → Fin 1024 → EReal) (q : Fin 512) (s : Fin 1024) : EReal :=
  x0 (ix3 0 q s) * (x3 (ix2 0 s) * col x1 x2 z ⟨6 + q.val, by omega⟩ s + x3 (ix2 1 s) * col x1 x2 z ⟨7 + q.val, by omega⟩ s + x3 (ix2 2 s) * (x1 (ix3 0 q s) * x2 (ix3 0 q s)))

/-- The body's result, of what its loads of the taps and of the scratch read. -/
theorem conv_of (x0 x1 x2 : Vec Ideal S1x512x1024 .bf16) (v13 v14 : Vec Ideal S512x1024 .f32) (w0 w1 w2 : Vec Ideal S1x1024 .f32) (x3 : S3x1024.Idx → EReal) (z) (q : Fin 512) (s : Fin 1024)
    (e0 : w0 (ix2 0 s) = x3 (ix2 0 s)) (e1 : w1 (ix2 0 s) = x3 (ix2 1 s)) (e2 : w2 (ix2 0 s) = x3 (ix2 2 s))
    (e14 : v14 (ix2 q s) = col x1 x2 z ⟨6 + q.val, by omega⟩ s) (e13 : v13 (ix2 q s) = col x1 x2 z ⟨7 + q.val, by omega⟩ s) :
    (k0_pay1 (k0_pay6 x1 x2 v13 v14 w0 w1 w2 x0) : FVec Ideal S1x512x1024 .bf16) (ix3 0 q s) = conv x0 x1 x2 x3 z q s := by
  rw [pay_at, e0, e1, e2, e14, e13]
  rfl

section Body

variable (c : Dev nD) (i : grid0.Coords) (a2 : Memref sig .tc .vmem S1x512x1024 .bf16) (h2 : a2.IsWhole) (a3 : Memref sig .tc .vmem S1x512x1024 .bf16) (h3 : a3.IsWhole) (a4 : Memref sig .tc .vmem S1x512x1024 .bf16) (h4 : a4.IsWhole) (a5 : Memref sig .tc .vmem S3x1024 .f32) (h5 : a5.IsWhole) (a6 : Memref sig .tc .vmem S1x512x1024 .bf16) (h6 : a6.IsWhole) (a7 : Memref sig .tc .vmem S520x1024 .f32) (h7 : a7.IsWhole)
  (x0 x1 x2 : Vec Ideal S1x512x1024 .bf16) (x3 : Vec Ideal S3x1024 .f32) (xs : Vec Ideal S520x1024 .f32) (q : Fin 512) (j : Fin 8) (s : Fin 1024)

theorem out_A (hc0 : cond0_0 i) : out0_A_4 c i a2 h2 a3 h3 a4 h4 a5 h5 a6 h6 a7 h7 hc0 x0 x1 x2 x3 (ix3 0 q s) = conv x0 x1 x2 x3 (fun _ _ => 0) q s := by
  unfold out0_A_4
  rw [View.read_writes_eq_canon _ _ _ (cover0_A_4 c i a2 h2 a3 h3 a4 h4 a5 h5 a6 h6 a7 h7 hc0 x0 x1 x2 x3)]
  unfold kernelRun0_A
  dsimp only
  sl_unfold_words
  rw [View.canon_cons_unit_lit _ _ _ (by decide)]
  simp (disch := first | rfl | decide) only [View.readCov, View.readAt_eq_ld, h2.read_unread, h3.read_unread, h4.read_unread, h5.read_unread, View.ld_unit_lit]
  refine conv_of _ _ _ _ _ _ _ _ x3 _ q s (ld_rows (N := 3) 0 x3 _ 0 s 0 rfl) (ld_rows (N := 3) 1 x3 _ 0 s 1 rfl) (ld_rows (N := 3) 2 x3 _ 0 s 2 rfl) ?_ ?_
  · exact (ld_rows (N := 520) 6 _ _ q s ⟨6 + q.val, by omega⟩ rfl).trans (col_at _ _ x1 x2 _ _ _ (fun j s => (lo_at _ _ _ _ _ j s).trans (pay3_at j s)) _ s)
  · exact (ld_rows (N := 520) 7 _ _ q s ⟨7 + q.val, by omega⟩ rfl).trans (col_at _ _ x1 x2 _ _ _ (fun j s => (lo_at _ _ _ _ _ j s).trans (pay3_at j s)) _ s)

theorem sout_A (hc0 : cond0_0 i) : sout0_A_0 c i a2 h2 a3 h3 a4 h4 a5 h5 a6 h6 a7 h7 hc0 x0 x1 x2 x3 (ix2 ⟨j.val, by omega⟩ s) = (x1 (ix3 0 ⟨504 + j.val, by omega⟩ s) * x2 (ix3 0 ⟨504 + j.val, by omega⟩ s) : EReal) := by
  unfold sout0_A_0 kernelRun0_A
  dsimp only
  sl_unfold_words
  simp (disch := first | rfl | decide) only [View.readCov, View.readAt_eq_ld, h3.read_unread, h4.read_unread, View.ld_unit_lit]
  refine (lo_at _ _ _ _ _ j s).trans ((pay2_at _ j s).trans ?_)
  exact (ld_rows (N := 520) 512 _ _ j s ⟨512 + j.val, by omega⟩ rfl).trans (hi_at _ _ x1 x2 _ _ _ ⟨504 + j.val, by omega⟩ (by show 512 + j.val = 8 + (504 + j.val); omega) s)

theorem out_B (hc0 : ¬cond0_0 i) : out0_B_4 c i a2 h2 a3 h3 a4 h4 a5 h5 a6 h6 a7 h7 hc0 x0 x1 x2 x3 xs (ix3 0 q s) = conv x0 x1 x2 x3 (fun j s => xs (ix2 ⟨j.val, by omega⟩ s)) q s := by
  unfold out0_B_4
  rw [View.read_writes_eq_canon _ _ _ (cover0_B_4 c i a2 h2 a3 h3 a4 h4 a5 h5 a6 h6 a7 h7 hc0 x0 x1 x2 x3 xs)]
  unfold kernelRun0_B
  dsimp only
  sl_unfold_words
  rw [View.canon_cons_unit_lit _ _ _ (by decide)]
  simp (disch := first | rfl | decide) only [View.readCov, View.readAt_eq_ld, h2.read_unread, h3.read_unread, h4.read_unread, h5.read_unread, View.ld_unit_lit]
  refine conv_of _ _ _ _ _ _ _ _ x3 _ q s (ld_rows (N := 3) 0 x3 _ 0 s 0 rfl) (ld_rows (N := 3) 1 x3 _ 0 s 1 rfl) (ld_rows (N := 3) 2 x3 _ 0 s 2 rfl) ?_ ?_
  · exact (ld_rows (N := 520) 6 _ _ q s ⟨6 + q.val, by omega⟩ rfl).trans (col_at _ _ x1 x2 _ _ _ (fun j s => congrFun (h7.read_unread xs) _) _ s)
  · exact (ld_rows (N := 520) 7 _ _ q s ⟨7 + q.val, by omega⟩ rfl).trans (col_at _ _ x1 x2 _ _ _ (fun j s => congrFun (h7.read_unread xs) _) _ s)

theorem sout_B (hc0 : ¬cond0_0 i) : sout0_B_0 c i a2 h2 a3 h3 a4 h4 a5 h5 a6 h6 a7 h7 hc0 x0 x1 x2 x3 xs (ix2 ⟨j.val, by omega⟩ s) = (x1 (ix3 0 ⟨504 + j.val, by omega⟩ s) * x2 (ix3 0 ⟨504 + j.val, by omega⟩ s) : EReal) := by
  unfold sout0_B_0 kernelRun0_B
  dsimp only
  sl_unfold_words
  simp (disch := first | rfl | decide) only [View.readCov, View.readAt_eq_ld, h3.read_unread, h4.read_unread, View.ld_unit_lit]
  refine (lo_at _ _ _ _ _ j s).trans ((pay2_at _ j s).trans ?_)
  exact (ld_rows (N := 520) 512 _ _ j s ⟨512 + j.val, by omega⟩ rfl).trans (hi_at _ _ x1 x2 _ _ _ ⟨504 + j.val, by omega⟩ (by show 512 + j.val = 8 + (504 + j.val); omega) s)

end Body

variable (m : (ℓ : Loc nD τ sig) → Buf (Elt Ideal) ℓ) (c : Dev nD)

/-- Which tile of each array a point works on. -/
theorem tiles : ∀ t : Fin cfg0.N, (win0_0.index t 0 = t.val / 16 ∧ win0_0.index t 1 = t.val % 16 ∧ win0_0.index t 2 = 4)
    ∧ (win0_1.index t 0 = t.val / 16 ∧ win0_1.index t 1 = t.val % 16 ∧ win0_1.index t 2 = 5)
    ∧ (win0_2.index t 0 = t.val / 16 ∧ win0_2.index t 1 = t.val % 16 ∧ win0_2.index t 2 = 6) ∧ (win0_3.index t 0 = 0 ∧ win0_3.index t 1 = 0)
    ∧ (win0_4.index t 0 = t.val / 16 ∧ win0_4.index t 1 = t.val % 16 ∧ win0_4.index t 2 = 0) ∧ (cfg0.win 4).flush t = true :=
  (by decide +kernel : ∀ t : Fin grid0.N, (win0_0.index t 0 = t.val / 16 ∧ win0_0.index t 1 = t.val % 16 ∧ win0_0.index t 2 = 4)
    ∧ (win0_1.index t 0 = t.val / 16 ∧ win0_1.index t 1 = t.val % 16 ∧ win0_1.index t 2 = 5)
    ∧ (win0_2.index t 0 = t.val / 16 ∧ win0_2.index t 1 = t.val % 16 ∧ win0_2.index t 2 = 6) ∧ (win0_3.index t 0 = 0 ∧ win0_3.index t 1 = 0)
    ∧ (win0_4.index t 0 = t.val / 16 ∧ win0_4.index t 1 = t.val % 16 ∧ win0_4.index t 2 = 0) ∧ (cfg0.win 4).flush t = true)

/-- The arguments: the projection, and the taps. -/
def proj : S2x8192x17408.Idx → EReal := (m ((c : Thread nD τ).loc main_arg0) : Vec Ideal S2x8192x17408 .bf16)
def taps : S3x1024.Idx → EReal := (m ((c : Thread nD τ).loc main_arg1) : Vec Ideal S3x1024 .f32)

/-- A column of the projection, from column `o`. -/
def at_ (p : S2x8192x17408.Idx → EReal) (o : ℕ) (ho : o + 1024 ≤ 17408) (b : Fin 2) (r : Fin 8192) (s : Fin 1024) : EReal := p (ix3 b r ⟨o + s.val, by omega⟩)

/-- The rows convolved, and the row `k` before (zero before the sequence). -/
def u (p : S2x8192x17408.Idx → EReal) (b : Fin 2) (r : Fin 8192) (s : Fin 1024) : EReal := at_ p 5120 (by decide) b r s * at_ p 6144 (by decide) b r s
def back (p : S2x8192x17408.Idx → EReal) (k : ℕ) (b : Fin 2) (r : Fin 8192) (s : Fin 1024) : EReal :=
  if _h : k ≤ r.val then u p b ⟨r.val - k, by omega⟩ s else 0

/-- The gated convolution. -/
def term (p : S2x8192x17408.Idx → EReal) (w : S3x1024.Idx → EReal) (b : Fin 2) (r : Fin 8192) (s : Fin 1024) : EReal :=
  at_ p 4096 (by decide) b r s * (w (ix2 0 s) * back p 2 b r s + w (ix2 1 s) * back p 1 b r s + w (ix2 2 s) * u p b r s)

/-- The array the kernel leaves. -/
def G (c : Dev nD) : Buf (Elt Ideal) ((c : Thread nD τ).loc main_v0) := fun (j : S2x8192x1024.Idx) => (term (proj m c) (taps m c) (j 0) (j 1) (j 2) : EReal)

section Blocks

variable (t : Fin cfg0.N) (q : Fin 512) (b : Fin 2) (r : Fin 8192) (s : Fin 1024)

theorem blk3 (k : Fin 3) : (iblk m c 3 t : Vec Ideal S3x1024 .f32) (ix2 k s) = taps m c (ix2 k s) := by
  have h := (tiles t).2.2.2.1
  unfold iblk taps
  rw [View.read_apply, ← V_main_arg1 m c]
  exact congrArg (V m c main_arg1) (Tiles.emb_eq _ _ _ rfl rfl h.1 h.2 (by rw [Nat.zero_mul, Nat.zero_add]; rfl) (by rw [Nat.zero_mul, Nat.zero_add]; rfl))

section Rows

variable (hb : t.val / 16 = b.val) (hr : t.val % 16 * 512 + q.val = r.val)
include hb hr

theorem blk0 : (iblk m c 0 t : Vec Ideal S1x512x1024 .bf16) (ix3 0 q s) = at_ (proj m c) 4096 (by decide) b r s := by
  obtain ⟨h0, h1, h2⟩ := (tiles t).1
  unfold iblk at_ proj
  rw [View.read_apply, ← V_main_arg0 m c]
  exact congrArg (V m c main_arg0) (Tiles.emb_eq3 _ _ _ _ rfl rfl rfl h0 h1 h2 ((Nat.mul_one _).trans hb) hr rfl)

theorem blk1 : (iblk m c 1 t : Vec Ideal S1x512x1024 .bf16) (ix3 0 q s) = at_ (proj m c) 5120 (by decide) b r s := by
  obtain ⟨h0, h1, h2⟩ := (tiles t).2.1
  unfold iblk at_ proj
  rw [View.read_apply, ← V_main_arg0 m c]
  exact congrArg (V m c main_arg0) (Tiles.emb_eq3 _ _ _ _ rfl rfl rfl h0 h1 h2 ((Nat.mul_one _).trans hb) hr rfl)

theorem blk2 : (iblk m c 2 t : Vec Ideal S1x512x1024 .bf16) (ix3 0 q s) = at_ (proj m c) 6144 (by decide) b r s := by
  obtain ⟨h0, h1, h2⟩ := (tiles t).2.2.1
  unfold iblk at_ proj
  rw [View.read_apply, ← V_main_arg0 m c]
  exact congrArg (V m c main_arg0) (Tiles.emb_eq3 _ _ _ _ rfl rfl rfl h0 h1 h2 ((Nat.mul_one _).trans hb) hr rfl)

end Rows

/-- The scratch's rows are the rows before a point's. -/
theorem col_back (z : Fin 8 → Fin 1024 → EReal) (o k : ℕ) (ho : o + k = 8) (hk : 1 ≤ k) (ho' : o ≤ 8) (hb : t.val / 16 = b.val) (hr : t.val % 16 * 512 + q.val = r.val)
    (h0 : t.val % 16 = 0 → ∀ j, z j s = 0)
    (h1 : t.val % 16 ≠ 0 → ∀ (j : Fin 8) (r' : Fin 8192), r'.val + 8 = t.val % 16 * 512 + j.val → z j s = u (proj m c) b r' s) :
    col (iblk m c 1 t) (iblk m c 2 t) z ⟨o + q.val, by omega⟩ s = back (proj m c) k b r s := by
  unfold col back
  split
  case isTrue h =>
    have h : o + q.val < 8 := h
    by_cases ht : t.val % 16 = 0
    · rw [dif_neg (by omega)]
      exact h0 ht _
    · rw [dif_pos (by omega)]
      exact h1 ht _ _ (by show r.val - k + 8 = t.val % 16 * 512 + (o + q.val); omega)
  case isFalse h =>
    have h : ¬ o + q.val < 8 := h
    rw [dif_pos (by omega)]
    have e : t.val % 16 * 512 + (o + q.val - 8) = r.val - k := by omega
    exact congrArg₂ (fun a b : EReal => a * b) (blk1 m c t ⟨o + q.val - 8, by omega⟩ b ⟨r.val - k, by omega⟩ s hb e) (blk2 m c t ⟨o + q.val - 8, by omega⟩ b ⟨r.val - k, by omega⟩ s hb e)

/-- After every point the scratch's first rows are the point's last. -/
theorem scratch_at (j : Fin 8) (hb : t.val / 16 = b.val) (hr : t.val % 16 * 512 + (504 + j.val) = r.val) :
    ((outsAt0 m c t.val t.isLt).2 : FVec Ideal S520x1024 .f32) (ix2 ⟨j.val, by omega⟩ s) = u (proj m c) b r s := by
  have e := congrArg₂ (fun a b : EReal => a * b) (blk1 m c t ⟨504 + j.val, by omega⟩ b r s hb hr) (blk2 m c t ⟨504 + j.val, by omega⟩ b r s hb hr)
  by_cases h0 : t.val % 16 = 0
  · refine (congrFun (congrArg Prod.snd (outsAt0_A m c t h0)) _).trans ?_
    dsimp only
    exact (sout_A ..).trans e
  · refine (congrFun (congrArg Prod.snd (outsAt0_B m c t h0)) _).trans ?_
    dsimp only
    exact (sout_B ..).trans e

/-- A point's result, of what the scratch held before it. -/
theorem conv_at (z : Fin 8 → Fin 1024 → EReal) (hb : t.val / 16 = b.val) (hr : t.val % 16 * 512 + q.val = r.val)
    (h0 : t.val % 16 = 0 → ∀ j, z j s = 0)
    (h1 : t.val % 16 ≠ 0 → ∀ (j : Fin 8) (r' : Fin 8192), r'.val + 8 = t.val % 16 * 512 + j.val → z j s = u (proj m c) b r' s) :
    conv (iblk m c 0 t) (iblk m c 1 t) (iblk m c 2 t) (iblk m c 3 t) z q s = term (proj m c) (taps m c) b r s := by
  unfold conv term
  rw [col_back m c t q b r s z 6 2 rfl (by decide) (by decide) hb hr h0 h1, col_back m c t q b r s z 7 1 rfl (by decide) (by decide) hb hr h0 h1,
    blk0 m c t q b r s hb hr, blk1 m c t q b r s hb hr, blk2 m c t q b r s hb hr, blk3 m c t s 0, blk3 m c t s 1, blk3 m c t s 2]
  rfl

theorem flushed (hb : t.val / 16 = b.val) (hr : t.val % 16 * 512 + q.val = r.val) :
    (dats m 0 c).flushed 4 t (ix3 0 q s) = (term (proj m c) (taps m c) b r s : EReal) := by
  by_cases h0 : t.val % 16 = 0
  · rw [Value.flushed4_A m c t h0]
    exact (out_A ..).trans (conv_at m c t q b r s _ hb hr (fun _ _ => rfl) fun h => absurd h0 h)
  · rw [Value.flushed4_B m c t h0]
    refine (out_B ..).trans (conv_at m c t q b r s _ hb hr (fun h => absurd h h0) fun _ j r' h => ?_)
    exact scratch_at m c ⟨t.val - 1, Nat.lt_of_le_of_lt (Nat.sub_le _ _) t.isLt⟩ b r' s j (by show (t.val - 1) / 16 = b.val; omega)
      (by show (t.val - 1) % 16 * 512 + (504 + j.val) = r'.val; omega)

/-- The array after the run at a place of a point's tile. -/
theorem tile_at (hb : t.val / 16 = b.val) (hr : t.val % 16 * 512 + q.val = r.val) :
    ((dats m 0 c).arrAt 4 cfg0.N : S2x8192x1024.Idx → Elt Ideal .bf16) (ix3 b r s) = (term (proj m c) (taps m c) b r s : EReal) := by
  obtain ⟨-, -, -, -, ⟨h0, h1, h2⟩, hf⟩ := tiles t
  have hB := congrFun (Value.blocks4 m c t hf) (ix3 0 q s)
  rw [View.read_apply, flushed m c t q b r s hb hr] at hB
  have he : ((cfg0.win 4).blk t).view.emb (ix3 0 q s) = (ix3 b r s : S2x8192x1024.Idx) :=
    Tiles.emb_eq3 _ _ _ _ rfl rfl rfl h0 h1 h2 ((Nat.mul_one _).trans hb) hr (by rw [Nat.zero_mul, Nat.zero_add]; rfl)
  generalize (dats m 0 c).arrAt 4 cfg0.N = A at hB ⊢
  rw [← he]
  exact hB

end Blocks

theorem result (c : Dev nD) : (dats m 0 c).arrAt 4 cfg0.N = G m c := by
  have key := tile_at m c
  generalize (dats m 0 c).arrAt 4 cfg0.N = A at key ⊢
  exact Tiles.arr_ext3 (P := 2) (R := 8192) (C := 1024) 16 512 (by decide) (by decide) A (G m c)
    fun n hn i b r s hb hr => key ⟨n, lt_of_lt_of_eq hn N_0.symm⟩ i b r s hb hr

end Cert.ConvIdeal.Read

namespace Cert.ConvClaims

open Cert.ConvRefIdeal Cert.ConvRefIdeal.Gen Idealize.ShloMosaic Idealize.SL.Sem
open Idealize.ShloMosaic.TcCoe
open Cert.ConvIdeal.Read (at_ u back term)

/-- The reference's rows, two rows of zeros before them. -/
theorem ref_pad (p : Vec Ideal S2x8192x17408 .bf16) (b : Fin 2) (r : Fin 8192) (k : ℕ) (n : Fin 8194) (h : n.val + k = r.val + 2) (hk : k ≤ 2) (s : Fin 1024) :
    (concatenate S2x8194x1024 1 [⟨S2x2x1024, (broadcastInDim S2x2x1024 ![] bcast_S_S2x2x1024 (constant (F := Ideal) S_ .f32 0x00000000#32))⟩, ⟨S2x8192x1024, (mulf (extf .f32 (extractStridedSlice S2x8192x1024 ![0, 0, 5120] p slices_S2x8192x17408_S2x8192x1024_0_0_5120) bitsLt_bf16_f32) (extf .f32 (extractStridedSlice S2x8192x1024 ![0, 0, 6144] p slices_S2x8192x17408_S2x8192x1024_0_0_6144) bitsLt_bf16_f32))⟩] concatenates_S2x2x1024_S2x8192x1024_S2x8194x1024_d1 : FVec Ideal S2x8194x1024 .f32) (ix3 b n s)
      = back p k b r s := by
  unfold back u at_
  by_cases hn : k ≤ r.val
  · rw [dif_pos hn]
    pointwise
    have e : n.val - 2 = r.val - k := by omega
    rw [dif_neg (by omega)]
    simp only [e]
  · rw [dif_neg hn]
    pointwise
    exact dif_pos (by omega)

/-- The reference's gated sum at an index. -/
theorem ref_at (p : Vec Ideal S2x8192x17408 .bf16) (w : Vec Ideal S3x1024 .f32) (x : FVec Ideal S2x8194x1024 .f32) (b : Fin 2) (r : Fin 8192) (s : Fin 1024) :
    (truncf .bf16 (mulf (extf .f32 (extractStridedSlice S2x8192x1024 ![0, 0, 4096] p slices_S2x8192x17408_S2x8192x1024_0_0_4096) bitsLt_bf16_f32) (addf (addf (mulf (broadcastInDim S2x8192x1024 ![0, 1, 2] bcast_S1x1x1024_S2x8192x1024_0_1_2 (broadcastInDim S1x1x1024 ![2] bcast_S1024_S1x1x1024_2 (shapeCast _ (extractStridedSlice S1x1024 ![0, 0] w slices_S3x1024_S1x1024_0_0) shapeCasts_S1x1024_S1024))) (extractStridedSlice S2x8192x1024 ![0, 0, 0] x slices_S2x8194x1024_S2x8192x1024_0_0_0)) (mulf (broadcastInDim S2x8192x1024 ![0, 1, 2] bcast_S1x1x1024_S2x8192x1024_0_1_2 (broadcastInDim S1x1x1024 ![2] bcast_S1024_S1x1x1024_2 (shapeCast _ (extractStridedSlice S1x1024 ![1, 0] w slices_S3x1024_S1x1024_1_0) shapeCasts_S1x1024_S1024))) (extractStridedSlice S2x8192x1024 ![0, 1, 0] x slices_S2x8194x1024_S2x8192x1024_0_1_0))) (mulf (broadcastInDim S2x8192x1024 ![0, 1, 2] bcast_S1x1x1024_S2x8192x1024_0_1_2 (broadcastInDim S1x1x1024 ![2] bcast_S1024_S1x1x1024_2 (shapeCast _ (extractStridedSlice S1x1024 ![2, 0] w slices_S3x1024_S1x1024_2_0) shapeCasts_S1x1024_S1024))) (extractStridedSlice S2x8192x1024 ![0, 2, 0] x slices_S2x8194x1024_S2x8192x1024_0_2_0)))) bitsLt_bf16_f32 : FVec Ideal S2x8192x1024 .bf16) (ix3 b r s)
      = (at_ p 4096 (by decide) b r s * (w (ix2 0 s) * x (ix3 b ⟨r.val, by omega⟩ s) + w (ix2 1 s) * x (ix3 b ⟨1 + r.val, by omega⟩ s) + w (ix2 2 s) * x (ix3 b ⟨2 + r.val, by omega⟩ s)) : EReal) := by
  unfold at_
  pointwise

/-- The gated sum of the padded rows is the gated convolution. -/
theorem term_of (p : S2x8192x17408.Idx → EReal) (w : S3x1024.Idx → EReal) (x : S2x8194x1024.Idx → EReal) (b : Fin 2) (r : Fin 8192) (s : Fin 1024)
    (e : ∀ (k : ℕ) (n : Fin 8194), n.val + k = r.val + 2 → k ≤ 2 → x (ix3 b n s) = back p k b r s) :
    at_ p 4096 (by decide) b r s * (w (ix2 0 s) * x (ix3 b ⟨r.val, by omega⟩ s) + w (ix2 1 s) * x (ix3 b ⟨1 + r.val, by omega⟩ s) + w (ix2 2 s) * x (ix3 b ⟨2 + r.val, by omega⟩ s))
      = term p w b r s := by
  rw [e 2 ⟨r.val, by omega⟩ rfl (by decide), e 1 ⟨1 + r.val, by omega⟩ (by show 1 + r.val + 1 = r.val + 2; omega) (by decide),
    e 0 ⟨2 + r.val, by omega⟩ (by show 2 + r.val + 0 = r.val + 2; omega) (by decide)]
  rfl

theorem frame_p : Cert.quiescent_Conv := fun m ρ _ => Cert.Conv.Gen.frame m ρ
theorem frame_pi : Cert.quiescent_ConvIdeal := fun m ρ _ => Cert.ConvIdeal.Gen.frame m ρ
theorem frame_ri : Cert.quiescent_ConvRefIdeal := fun m ρ _ =>
  (θ_run Cert.ConvRefIdeal.defs _ _).mono (fun r h => ⟨fun c => (h c).2, Idealize.ShloMosaic.sem_eq_zero_of_no_sems (by decide) r.2⟩)
    (Cert.ConvRefIdeal.Value.run m ρ)
theorem preserves : Cert.preserves_Conv_ConvIdeal := trivial

theorem value : Cert.algebraic_ConvIdeal_ConvRefIdeal := fun m ρ m' ρ' _ hm =>
  ⟨fun c => Cert.ConvIdeal.Read.G m c,
    (θ_run Cert.ConvIdeal.defs _ _).mono (fun r h c => ⟨(h c).1.trans (Cert.ConvIdeal.Read.result m c), (h c).2⟩) (Cert.ConvIdeal.Value.run_blocks m ρ),
    (θ_run Cert.ConvRefIdeal.defs _ _).mono (fun r h c => by
      refine ⟨(h c).1.trans ?_, (h c).2⟩
      obtain ⟨h0, h1⟩ := hm c
      rw [h0, h1]
      funext j
      exact (congrArg _ (Tiles.ix3_eta (P := 2) (R := 8192) (C := 1024) j).symm).trans
        ((ref_at _ _ _ (j 0) (j 1) (j 2)).trans (term_of _ _ _ (j 0) (j 1) (j 2) fun k n h hk => ref_pad _ (j 0) (j 1) k n h hk (j 2)))) (Cert.ConvRefIdeal.Value.run m' ρ')⟩

end Cert.ConvClaims
end
-- ==== Proof.QkNormClaims.lean ====
/-
  The claims about the norms of the attention's queries and keys: the frames, and the results, each head's 128 lanes over
  their root mean square times the gain, the queries scaled.
-/
module

public import proofs.«01_k».proof.Defs
public import proofs.«01_k».proof.Proof.Gen.QkNorm.Frame
public import proofs.«01_k».proof.Proof.Gen.QkNormIdeal.Value
public import proofs.«01_k».proof.Proof.Gen.QkNormRefIdeal.Run
public import proofs.«01_k».proof.Proof.Tiles
public import Idealize.ShloMosaic.Lib.Pipeline.ValueKit
public import Idealize.ShloMosaic.Lib.StableHlo.ReadAt
public import Idealize.ShloMosaic.Adequacy

@[expose] public section

set_option maxRecDepth 16384

noncomputable section

namespace Cert.QkNormIdeal.Read

open Cert.QkNormIdeal Cert.QkNormIdeal.Gen Idealize.ShloMosaic Idealize.SL.Sem
open Idealize.ShloMosaic.TcCoe

/-- The reciprocal of a head's root mean square. -/
def rms (x : Fin 128 → EReal) : EReal :=
  Ideal.rsqrt (Ideal.div (∑ k : Fin 128, x k * x k) (Ideal.ofBits .f32 0x43000000#32) + Ideal.ofBits .f32 0x358637BD#32)

/-- Lane `d` of a normalised head. -/
def head (x g : Fin 128 → EReal) (d : Fin 128) : EReal := x d * rms x * g d

/-- The scale of the queries. -/
def scale : EReal := Ideal.ofBits .f32 0x3E0293EE#32

/-- The columns of head `h`, from column `o`. -/
def lanes {n : ℕ} (o : ℕ) (ho : o + 1024 ≤ n) (h : Fin 8) (d : Fin 128) : Fin n := ⟨o + (h.val * 128 + d.val), by omega⟩

/-- The head and the lane of a column. -/
theorem split (l : Fin 1024) : ∃ (h : Fin 8) (d : Fin 128), l = lanes 0 (Nat.le_refl 1024) h d :=
  ⟨⟨l.val / 128, by omega⟩, ⟨l.val % 128, by omega⟩, Fin.ext (by show l.val = 0 + (l.val / 128 * 128 + l.val % 128); omega)⟩

/-- A head's queries and keys, as the body computes them. -/
theorem q_at (x : Vec Ideal S1x512x128 .bf16) (g : Vec Ideal S1x128 .f32) (i : Fin 512) (d : Fin 128) :
    (k0_pay32 x g : FVec Ideal S1x512x128 .bf16) (ix3 0 i d) = head (fun d => x (ix3 0 i d)) (fun d => g (ix2 0 d)) d * scale := by
  unfold k0_pay32 head rms scale
  pointwise

theorem k_at (x : Vec Ideal S1x512x128 .bf16) (g : Vec Ideal S1x128 .f32) (i : Fin 512) (d : Fin 128) :
    (k0_pay34 (k0_pay33 x g) : FVec Ideal S1x512x128 .bf16) (ix3 0 i d) = head (fun d => x (ix3 0 i d)) (fun d => g (ix2 0 d)) d := by
  unfold k0_pay34 k0_pay33 head rms
  pointwise

/-- The columns of one head of a block. -/
theorem slab (x : Vec Ideal S1x512x1024 .bf16) (h : Fin 8) (inb) (i : Fin 512) (d : Fin 128) :
    View.ld x (Rect.unit (s := S1x512x1024) ![0, 0, h.val * 128] S1x512x128.size inb) (ix3 0 i d) = x (ix3 0 i (lanes 0 (Nat.le_refl 1024) h d)) := by
  refine congrArg x ?_
  funext a
  apply Fin.ext
  match a with
  | ⟨0, _⟩ => rfl
  | ⟨1, _⟩ => show 0 + 1 * i.val = i.val; omega
  | ⟨2, _⟩ => show h.val * 128 + 1 * d.val = 0 + (h.val * 128 + d.val); omega

/-- The head of a column, and its lane. -/
def hd (l : Fin 1024) : Fin 8 := ⟨l.val / 128, by omega⟩
def ln (l : Fin 1024) : Fin 128 := ⟨l.val % 128, Nat.mod_lt _ (by decide)⟩
theorem hd_lanes (h : Fin 8) (d : Fin 128) : hd (lanes 0 (Nat.le_refl 1024) h d) = h := Fin.ext (by show (0 + (h.val * 128 + d.val)) / 128 = h.val; omega)
theorem ln_lanes (h : Fin 8) (d : Fin 128) : ln (lanes 0 (Nat.le_refl 1024) h d) = d := Fin.ext (by show (0 + (h.val * 128 + d.val)) % 128 = d.val; omega)

section Heads

variable (f : Vec Ideal S1x512x128 .bf16 → FVec Ideal S1x512x128 .bf16) (F : (Fin 128 → EReal) → Fin 128 → EReal)
  (hf : ∀ y i d, f y (ix3 0 i d) = F (fun d => y (ix3 0 i d)) d) (x : Vec Ideal S1x512x1024 .bf16)

/-- Every head of a block, by `F`. -/
def all (y : S1x512x1024.Idx) : EReal := F (fun d => x (ix3 0 (y 1) (lanes 0 (Nat.le_refl 1024) (hd (y 2)) d))) (ln (y 2))

theorem all_at (i : Fin 512) (h : Fin 8) (d : Fin 128) :
    all F x (ix3 0 i (lanes 0 (Nat.le_refl 1024) h d)) = F (fun d => x (ix3 0 i (lanes 0 (Nat.le_refl 1024) h d))) d := by
  show F (fun d' => x (ix3 0 i (lanes 0 (Nat.le_refl 1024) (hd (lanes 0 (Nat.le_refl 1024) h d)) d'))) (ln (lanes 0 (Nat.le_refl 1024) h d)) = _
  rw [hd_lanes, ln_lanes]

include hf in
theorem piece_at (h : Fin 8) (inb) (z : S1x512x128.Idx) :
    f (View.ld x (Rect.unit (s := S1x512x1024) ![0, 0, h.val * 128] S1x512x128.size inb)) z
      = all F x ((Rect.unit (s := S1x512x1024) ![0, 0, h.val * 128] S1x512x128.size inb).emb z) := by
  obtain ⟨z0, i, d, rfl⟩ : ∃ (z0 : Fin 1) (z1 : Fin 512) (z2 : Fin 128), z = ix3 z0 z1 z2 := ⟨_, _, _, (Tiles.ix3_eta (P := 1) (R := 512) (C := 128) z).symm⟩
  obtain rfl : z0 = 0 := Subsingleton.elim _ _
  have e : (Rect.unit (s := S1x512x1024) ![0, 0, h.val * 128] S1x512x128.size inb).emb (ix3 0 i d) = (ix3 0 i (lanes 0 (Nat.le_refl 1024) h d) : S1x512x1024.Idx) := by
    funext a
    apply Fin.ext
    match a with
    | ⟨0, _⟩ => rfl
    | ⟨1, _⟩ => show 0 + 1 * i.val = i.val; omega
    | ⟨2, _⟩ => show h.val * 128 + 1 * d.val = 0 + (h.val * 128 + d.val); omega
  rw [e, all_at, hf]
  exact congrArg (fun v => F v d) (funext fun d => slab x h inb i d)

include hf in
/-- Eight heads written side by side, read at a head's lane. -/
theorem heads_at (h : Fin 8) (i : Fin 512) (d : Fin 128) :
    View.canon [(⟨r0_8, f (View.ld x r0_8)⟩ : View.Piece (Elt Ideal) S1x512x1024 .bf16), ⟨r0_7, f (View.ld x r0_7)⟩, ⟨r0_6, f (View.ld x r0_6)⟩, ⟨r0_5, f (View.ld x r0_5)⟩,
      ⟨r0_4, f (View.ld x r0_4)⟩, ⟨r0_3, f (View.ld x r0_3)⟩, ⟨r0_2, f (View.ld x r0_2)⟩, ⟨r0_0, f (View.ld x r0_0)⟩] (ix3 0 i (lanes 0 (Nat.le_refl 1024) h d))
      = F (fun d => x (ix3 0 i (lanes 0 (Nat.le_refl 1024) h d))) d := by
  rw [View.canon_apply_of_pieces (all F x) _ ?_ _ (cover0_4 _ _ _ _ _ _ _ _ _), all_at]
  intro p hp z
  simp only [List.mem_cons, List.not_mem_nil, or_false] at hp
  rcases hp with rfl | rfl | rfl | rfl | rfl | rfl | rfl | rfl
  · exact piece_at f F hf x 7 _ z
  · exact piece_at f F hf x 6 _ z
  · exact piece_at f F hf x 5 _ z
  · exact piece_at f F hf x 4 _ z
  · exact piece_at f F hf x 3 _ z
  · exact piece_at f F hf x 2 _ z
  · exact piece_at f F hf x 1 _ z
  · exact piece_at f F hf x 0 _ z

end Heads

theorem gain_ld (g : Vec Ideal S1x128 .f32) : View.ld g r0_1 = g := by
  rw [View.ld_unit_lit (X := g)]
  decide

theorem outq_at (x y : Vec Ideal S1x512x1024 .bf16) (g g' : Vec Ideal S1x128 .f32) (h : Fin 8) (i : Fin 512) (d : Fin 128) :
    out0_4 x y g g' (ix3 0 i (lanes 0 (Nat.le_refl 1024) h d))
      = head (fun d => x (ix3 0 i (lanes 0 (Nat.le_refl 1024) h d))) (fun d => g (ix2 0 d)) d * scale := by
  unfold out0_4
  rw [gain_ld]
  exact heads_at (fun v => k0_pay32 v g) (fun v d => head v (fun d => g (ix2 0 d)) d * scale) (fun v i d => q_at v g i d) x h i d

theorem outk_at (x y : Vec Ideal S1x512x1024 .bf16) (g g' : Vec Ideal S1x128 .f32) (h : Fin 8) (i : Fin 512) (d : Fin 128) :
    out0_5 y x g' g (ix3 0 i (lanes 0 (Nat.le_refl 1024) h d))
      = head (fun d => x (ix3 0 i (lanes 0 (Nat.le_refl 1024) h d))) (fun d => g (ix2 0 d)) d := by
  unfold out0_5
  rw [gain_ld]
  exact heads_at (fun v => k0_pay34 (k0_pay33 v g)) (fun v d => head v (fun d => g (ix2 0 d)) d) (fun v i d => k_at v g i d) x h i d

variable (m : (ℓ : Loc nD τ sig) → Buf (Elt Ideal) ℓ) (c : Dev nD)

theorem V_gain (d : Fin 128) : (V m c main_v0 : Vec Ideal S1x128 .f32) (ix2 0 d) = (m ((c : Thread nD τ).loc main_arg1) : Vec Ideal S128 .f32) (ix1 d)
    ∧ (V m c main_v1 : Vec Ideal S1x128 .f32) (ix2 0 d) = (m ((c : Thread nD τ).loc main_arg2) : Vec Ideal S128 .f32) (ix1 d) := by
  unfold V
  constructor
  · after_reads_at
  · after_reads_at

/-- Which tile of each array a point works on. -/
theorem tiles : ∀ t : Fin cfg0.N, (win0_0.index t 0 = t.val / 16 ∧ win0_0.index t 1 = t.val % 16 ∧ win0_0.index t 2 = 7)
    ∧ (win0_1.index t 0 = t.val / 16 ∧ win0_1.index t 1 = t.val % 16 ∧ win0_1.index t 2 = 8)
    ∧ (win0_2.index t 0 = 0 ∧ win0_2.index t 1 = 0) ∧ (win0_3.index t 0 = 0 ∧ win0_3.index t 1 = 0) :=
  (by decide +kernel : ∀ t : Fin grid0.N, (win0_0.index t 0 = t.val / 16 ∧ win0_0.index t 1 = t.val % 16 ∧ win0_0.index t 2 = 7)
    ∧ (win0_1.index t 0 = t.val / 16 ∧ win0_1.index t 1 = t.val % 16 ∧ win0_1.index t 2 = 8)
    ∧ (win0_2.index t 0 = 0 ∧ win0_2.index t 1 = 0) ∧ (win0_3.index t 0 = 0 ∧ win0_3.index t 1 = 0))
theorem outs : ∀ t : Fin cfg0.N, (win0_4.index t 0 = t.val / 16 ∧ win0_4.index t 1 = t.val % 16 ∧ win0_4.index t 2 = 0) ∧ (cfg0.win 4).flush t = true
    ∧ (win0_5.index t 0 = t.val / 16 ∧ win0_5.index t 1 = t.val % 16 ∧ win0_5.index t 2 = 0) ∧ (cfg0.win 5).flush t = true :=
  (by decide +kernel : ∀ t : Fin grid0.N, (win0_4.index t 0 = t.val / 16 ∧ win0_4.index t 1 = t.val % 16 ∧ win0_4.index t 2 = 0) ∧ (cfg0.win 4).flush t = true
    ∧ (win0_5.index t 0 = t.val / 16 ∧ win0_5.index t 1 = t.val % 16 ∧ win0_5.index t 2 = 0) ∧ (cfg0.win 5).flush t = true)

/-- The arguments: the projection, and the two gains. -/
def proj : S2x8192x17408.Idx → EReal := (m ((c : Thread nD τ).loc main_arg0) : Vec Ideal S2x8192x17408 .bf16)
def gq : S128.Idx → EReal := (m ((c : Thread nD τ).loc main_arg1) : Vec Ideal S128 .f32)
def gk : S128.Idx → EReal := (m ((c : Thread nD τ).loc main_arg2) : Vec Ideal S128 .f32)

/-- The queries and the keys, of the projection's columns from 7168 and from 8192. -/
def qn (p : S2x8192x17408.Idx → EReal) (g : S128.Idx → EReal) (b : Fin 2) (r : Fin 8192) (h : Fin 8) (d : Fin 128) : EReal :=
  head (fun d => p (ix3 b r (lanes 7168 (by decide) h d))) (fun d => g (ix1 d)) d * scale
def kn (p : S2x8192x17408.Idx → EReal) (g : S128.Idx → EReal) (b : Fin 2) (r : Fin 8192) (h : Fin 8) (d : Fin 128) : EReal :=
  head (fun d => p (ix3 b r (lanes 8192 (by decide) h d))) (fun d => g (ix1 d)) d

/-- The arrays the kernel leaves. -/
def GQ (c : Dev nD) : Buf (Elt Ideal) ((c : Thread nD τ).loc main_v2_0) := fun (j : S2x8192x1024.Idx) => (qn (proj m c) (gq m c) (j 0) (j 1) (hd (j 2)) (ln (j 2)) : EReal)
def GK (c : Dev nD) : Buf (Elt Ideal) ((c : Thread nD τ).loc main_v2_1) := fun (j : S2x8192x1024.Idx) => (kn (proj m c) (gk m c) (j 0) (j 1) (hd (j 2)) (ln (j 2)) : EReal)

theorem GQ_at (b : Fin 2) (r : Fin 8192) (h : Fin 8) (d : Fin 128) :
    (GQ m c : S2x8192x1024.Idx → EReal) (ix3 b r (lanes 0 (Nat.le_refl 1024) h d)) = qn (proj m c) (gq m c) b r h d := by
  show qn (proj m c) (gq m c) b r (hd (lanes 0 (Nat.le_refl 1024) h d)) (ln (lanes 0 (Nat.le_refl 1024) h d)) = _
  rw [hd_lanes, ln_lanes]

theorem GK_at (b : Fin 2) (r : Fin 8192) (h : Fin 8) (d : Fin 128) :
    (GK m c : S2x8192x1024.Idx → EReal) (ix3 b r (lanes 0 (Nat.le_refl 1024) h d)) = kn (proj m c) (gk m c) b r h d := by
  show kn (proj m c) (gk m c) b r (hd (lanes 0 (Nat.le_refl 1024) h d)) (ln (lanes 0 (Nat.le_refl 1024) h d)) = _
  rw [hd_lanes, ln_lanes]

section Blocks

variable (t : Fin cfg0.N) (i : Fin 512) (b : Fin 2) (r : Fin 8192) (h : Fin 8) (d : Fin 128)

theorem blkG : (iblk m c 2 t : Vec Ideal S1x128 .f32) (ix2 0 d) = gq m c (ix1 d) ∧ (iblk m c 3 t : Vec Ideal S1x128 .f32) (ix2 0 d) = gk m c (ix1 d) := by
  obtain ⟨-, -, h2, h3⟩ := tiles t
  unfold iblk gq gk
  rw [View.read_apply, View.read_apply, ← (V_gain m c d).1, ← (V_gain m c d).2]
  exact ⟨congrArg (V m c main_v0) (Tiles.emb_eq _ _ _ rfl rfl h2.1 h2.2 rfl (by rw [Nat.zero_mul, Nat.zero_add]; rfl)),
    congrArg (V m c main_v1) (Tiles.emb_eq _ _ _ rfl rfl h3.1 h3.2 rfl (by rw [Nat.zero_mul, Nat.zero_add]; rfl))⟩

variable (hb : t.val / 16 = b.val) (hr : t.val % 16 * 512 + i.val = r.val)
include hb hr

theorem blkQ : (iblk m c 0 t : Vec Ideal S1x512x1024 .bf16) (ix3 0 i (lanes 0 (Nat.le_refl 1024) h d)) = proj m c (ix3 b r (lanes 7168 (by decide) h d)) := by
  obtain ⟨h0, h1, h2⟩ := (tiles t).1
  unfold iblk proj
  rw [View.read_apply, ← V_main_arg0 m c]
  exact congrArg (V m c main_arg0) (Tiles.emb_eq3 _ _ _ _ rfl rfl rfl h0 h1 h2 ((Nat.mul_one _).trans hb) hr (by show 7 * 1024 + (0 + _) = 7168 + _; omega))

theorem blkK : (iblk m c 1 t : Vec Ideal S1x512x1024 .bf16) (ix3 0 i (lanes 0 (Nat.le_refl 1024) h d)) = proj m c (ix3 b r (lanes 8192 (by decide) h d)) := by
  obtain ⟨h0, h1, h2⟩ := (tiles t).2.1
  unfold iblk proj
  rw [View.read_apply, ← V_main_arg0 m c]
  exact congrArg (V m c main_arg0) (Tiles.emb_eq3 _ _ _ _ rfl rfl rfl h0 h1 h2 ((Nat.mul_one _).trans hb) hr (by show 8 * 1024 + (0 + _) = 8192 + _; omega))

theorem flushedQ : (dats m 0 c).flushed 4 t (ix3 0 i (lanes 0 (Nat.le_refl 1024) h d)) = qn (proj m c) (gq m c) b r h d := by
  rw [Value.flushed4]
  refine (outq_at _ _ _ _ h i d).trans ?_
  unfold qn
  simp only [blkQ m c t i b r h _ hb hr, (blkG m c t _).1]

theorem flushedK : (dats m 0 c).flushed 5 t (ix3 0 i (lanes 0 (Nat.le_refl 1024) h d)) = kn (proj m c) (gk m c) b r h d := by
  rw [Value.flushed5]
  refine (outk_at _ _ _ _ h i d).trans ?_
  unfold kn
  simp only [blkK m c t i b r h _ hb hr, (blkG m c t _).2]

/-- The arrays after the run at a place of a point's tile. -/
theorem tileQ : ((dats m 0 c).arrAt 4 cfg0.N : S2x8192x1024.Idx → Elt Ideal .bf16) (ix3 b r (lanes 0 (Nat.le_refl 1024) h d)) = qn (proj m c) (gq m c) b r h d := by
  obtain ⟨⟨h0, h1, h2⟩, hf, -⟩ := outs t
  have hB := congrFun (Value.blocks4 m c t hf) (ix3 0 i (lanes 0 (Nat.le_refl 1024) h d))
  rw [View.read_apply, flushedQ m c t i b r h d hb hr] at hB
  have he : ((cfg0.win 4).blk t).view.emb (ix3 0 i (lanes 0 (Nat.le_refl 1024) h d)) = (ix3 b r (lanes 0 (Nat.le_refl 1024) h d) : S2x8192x1024.Idx) :=
    Tiles.emb_eq3 _ _ _ _ rfl rfl rfl h0 h1 h2 ((Nat.mul_one _).trans hb) hr (by rw [Nat.zero_mul, Nat.zero_add]; rfl)
  generalize (dats m 0 c).arrAt 4 cfg0.N = A at hB ⊢
  rw [← he]
  exact hB

theorem tileK : ((dats m 0 c).arrAt 5 cfg0.N : S2x8192x1024.Idx → Elt Ideal .bf16) (ix3 b r (lanes 0 (Nat.le_refl 1024) h d)) = kn (proj m c) (gk m c) b r h d := by
  obtain ⟨-, -, ⟨h0, h1, h2⟩, hf⟩ := outs t
  have hB := congrFun (Value.blocks5 m c t hf) (ix3 0 i (lanes 0 (Nat.le_refl 1024) h d))
  rw [View.read_apply, flushedK m c t i b r h d hb hr] at hB
  have he : ((cfg0.win 5).blk t).view.emb (ix3 0 i (lanes 0 (Nat.le_refl 1024) h d)) = (ix3 b r (lanes 0 (Nat.le_refl 1024) h d) : S2x8192x1024.Idx) :=
    Tiles.emb_eq3 _ _ _ _ rfl rfl rfl h0 h1 h2 ((Nat.mul_one _).trans hb) hr (by rw [Nat.zero_mul, Nat.zero_add]; rfl)
  generalize (dats m 0 c).arrAt 5 cfg0.N = A at hB ⊢
  rw [← he]
  exact hB

end Blocks

theorem resultQ (c : Dev nD) : (dats m 0 c).arrAt 4 cfg0.N = GQ m c := by
  have key := tileQ m c
  generalize (dats m 0 c).arrAt 4 cfg0.N = A at key ⊢
  refine Tiles.arr_ext3 (P := 2) (R := 8192) (C := 1024) 16 512 (by decide) (by decide) A (GQ m c) fun n hn i b r l hb hr => ?_
  obtain ⟨h, d, rfl⟩ := split l
  exact (key ⟨n, lt_of_lt_of_eq hn N_0.symm⟩ i b r h d hb hr).trans (GQ_at m c b r h d).symm

theorem resultK (c : Dev nD) : (dats m 0 c).arrAt 5 cfg0.N = GK m c := by
  have key := tileK m c
  generalize (dats m 0 c).arrAt 5 cfg0.N = A at key ⊢
  refine Tiles.arr_ext3 (P := 2) (R := 8192) (C := 1024) 16 512 (by decide) (by decide) A (GK m c) fun n hn i b r l hb hr => ?_
  obtain ⟨h, d, rfl⟩ := split l
  exact (key ⟨n, lt_of_lt_of_eq hn N_0.symm⟩ i b r h d hb hr).trans (GK_at m c b r h d).symm

end Cert.QkNormIdeal.Read

namespace Cert.QkNormClaims

open Cert.QkNormRefIdeal Cert.QkNormRefIdeal.Gen Idealize.ShloMosaic Idealize.SL.Sem
open Idealize.ShloMosaic.TcCoe
open Cert.QkNormIdeal.Read (qn kn head rms lanes scale hd ln split hd_lanes ln_lanes)

/-- The reference's norm of a head. -/
theorem ref_head (x : FVec Ideal S2x8192x8x128 .f32) (g : FVec Ideal S128 .f32) (b : Fin 2) (r : Fin 8192) (h : Fin 8) (d : Fin 128) :
    (mulf (mulf x (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf x x) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x358637BD#32)))))) (broadcastInDim S2x8192x8x128 ![0, 1, 2, 3] bcast_S1x1x1x128_S2x8192x8x128_0_1_2_3 (broadcastInDim S1x1x1x128 ![3] bcast_S128_S1x1x1x128_3 g)) : FVec Ideal S2x8192x8x128 .f32) (ix4 b r h d)
      = head (fun d => x (ix4 b r h d)) (fun d => g (ix1 d)) d := by
  unfold head rms
  pointwise

/-- The reference's queries and keys before the norm, by head and lane. -/
theorem ref_cols (p : Vec Ideal S2x8192x17408 .bf16) (b : Fin 2) (r : Fin 8192) (h : Fin 8) (d : Fin 128) :
    (shapeCast S2x8192x8x128 (extf .f32 (extractStridedSlice S2x8192x1024 ![0, 0, 7168] p slices_S2x8192x17408_S2x8192x1024_0_0_7168) bitsLt_bf16_f32) shapeCasts_S2x8192x1024_S2x8192x8x128 : FVec Ideal S2x8192x8x128 .f32) (ix4 b r h d)
      = p (ix3 b r (lanes 7168 (by decide) h d))
    ∧ (shapeCast S2x8192x8x128 (extf .f32 (extractStridedSlice S2x8192x1024 ![0, 0, 8192] p slices_S2x8192x17408_S2x8192x1024_0_0_8192) bitsLt_bf16_f32) shapeCasts_S2x8192x1024_S2x8192x8x128 : FVec Ideal S2x8192x8x128 .f32) (ix4 b r h d)
      = p (ix3 b r (lanes 8192 (by decide) h d)) := by
  unfold lanes
  constructor
  · pointwise
  · pointwise

/-- The heads side by side again. -/
theorem ref_q (x : FVec Ideal S2x8192x8x128 .f32) (b : Fin 2) (r : Fin 8192) (h : Fin 8) (d : Fin 128) :
    (truncf .bf16 (shapeCast S2x8192x1024 (mulf x (broadcastInDim S2x8192x8x128 ![] bcast_S_S2x8192x8x128 (constant S_ .f32 0x3E0293EE#32))) shapeCasts_S2x8192x8x128_S2x8192x1024) bitsLt_bf16_f32 : FVec Ideal S2x8192x1024 .bf16) (ix3 b r (lanes 0 (Nat.le_refl 1024) h d))
      = x (ix4 b r h d) * scale := by
  unfold scale lanes
  pointwise

theorem ref_k (x : FVec Ideal S2x8192x8x128 .f32) (b : Fin 2) (r : Fin 8192) (h : Fin 8) (d : Fin 128) :
    (truncf .bf16 (shapeCast S2x8192x1024 x shapeCasts_S2x8192x8x128_S2x8192x1024) bitsLt_bf16_f32 : FVec Ideal S2x8192x1024 .bf16) (ix3 b r (lanes 0 (Nat.le_refl 1024) h d))
      = x (ix4 b r h d) := by
  unfold lanes
  pointwise

theorem frame_p : Cert.quiescent_QkNorm := fun m ρ _ => Cert.QkNorm.Gen.frame m ρ
theorem frame_pi : Cert.quiescent_QkNormIdeal := fun m ρ _ => Cert.QkNormIdeal.Gen.frame m ρ
theorem frame_ri : Cert.quiescent_QkNormRefIdeal := fun m ρ _ =>
  (θ_run Cert.QkNormRefIdeal.defs _ _).mono (fun r h => ⟨fun c => (h c).2.2, Idealize.ShloMosaic.sem_eq_zero_of_no_sems (by decide) r.2⟩)
    (Cert.QkNormRefIdeal.Value.run m ρ)
theorem preserves : Cert.preserves_QkNorm_QkNormIdeal := trivial

/-- The reference's results, at a head's lane. -/
theorem ref_eq {X Y : S2x8192x1024.Idx → EReal} (h : ∀ b r h d, X (ix3 b r (lanes 0 (Nat.le_refl 1024) h d)) = Y (ix3 b r (lanes 0 (Nat.le_refl 1024) h d))) : X = Y := by
  funext j
  obtain ⟨b, r, l, rfl⟩ : ∃ (b : Fin 2) (r : Fin 8192) (l : Fin 1024), j = ix3 b r l := ⟨_, _, _, (Tiles.ix3_eta (P := 2) (R := 8192) (C := 1024) j).symm⟩
  obtain ⟨k, d, rfl⟩ := split l
  exact h b r k d

theorem value : Cert.algebraic_QkNormIdeal_QkNormRefIdeal := fun m ρ m' ρ' _ hm =>
  ⟨fun c => Cert.QkNormIdeal.Read.GQ m c, fun c => Cert.QkNormIdeal.Read.GK m c,
    (θ_run Cert.QkNormIdeal.defs _ _).mono (fun r h c => ⟨(h c).1.trans (Cert.QkNormIdeal.Read.resultQ m c), (h c).2.1.trans (Cert.QkNormIdeal.Read.resultK m c), (h c).2.2⟩)
      (Cert.QkNormIdeal.Value.run_blocks m ρ),
    (θ_run Cert.QkNormRefIdeal.defs _ _).mono (fun r h c => by
      obtain ⟨h0, h1, h2⟩ := hm c
      refine ⟨(h c).1.trans ?_, (h c).2.1.trans ?_, (h c).2.2⟩
      · rw [h0, h1]
        refine ref_eq fun b r k d => (ref_q _ b r k d).trans ((congrArg (fun v : EReal => v * scale) (ref_head _ _ b r k d)).trans ?_)
        refine Eq.trans ?_ (Cert.QkNormIdeal.Read.GQ_at m c b r k d).symm
        exact congrArg (fun v => head v _ d * scale) (funext fun d => (ref_cols _ b r k d).1)
      · rw [h0, h2]
        refine ref_eq fun b r k d => (ref_k _ b r k d).trans ((ref_head _ _ b r k d).trans ?_)
        refine Eq.trans ?_ (Cert.QkNormIdeal.Read.GK_at m c b r k d).symm
        exact congrArg (fun v => head v _ d) (funext fun d => (ref_cols _ b r k d).2)) (Cert.QkNormRefIdeal.Value.run m' ρ')⟩

end Cert.QkNormClaims
end
-- ==== Proof.lean ====
module

public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.RetIdeal.Value
public import proofs.«01_k».proof.Proof.Gen.RetRefIdeal.Run
public import proofs.«01_k».proof.Proof.RetClaims
public import proofs.«01_k».proof.Proof.InProjClaims
public import proofs.«01_k».proof.Proof.DownClaims
public import proofs.«01_k».proof.Proof.UpClaims
public import proofs.«01_k».proof.Proof.Gen.Down
public import proofs.«01_k».proof.Proof.Gen.Down.Skeleton
public import proofs.«01_k».proof.Proof.Gen.Down.Launch
public import proofs.«01_k».proof.Proof.Gen.Down.Flash.Runs
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Flash.Runs
public import proofs.«01_k».proof.Proof.Gen.DownRefIdeal
public import proofs.«01_k».proof.Proof.Gen.DownRefIdeal.Run
public import proofs.«01_k».proof.Proof.Gen.Pre_down_tables
public import proofs.«01_k».proof.Proof.Gen.Up
public import proofs.«01_k».proof.Proof.Gen.Up.Skeleton
public import proofs.«01_k».proof.Proof.Gen.Up.Launch
public import proofs.«01_k».proof.Proof.Gen.Up.Flash.Runs
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Flash.Runs
public import proofs.«01_k».proof.Proof.Gen.UpRefIdeal
public import proofs.«01_k».proof.Proof.Gen.UpRefIdeal.Run
public import proofs.«01_k».proof.Proof.Gen.Pre_up_tables
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import Idealize.ShloMosaic.Adequacy
public import Idealize.ShloMosaic.Init
public import proofs.«01_k».proof.Proof.Gen.Glu.Frame
public import proofs.«01_k».proof.Proof.Gen.GluIdeal.Frame
public import proofs.«01_k».proof.Proof.Gen.GluIdeal.Value
public import proofs.«01_k».proof.Proof.Gen.GluRefIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.QkNorm.Frame
public import proofs.«01_k».proof.Proof.Gen.QkNormIdeal.Frame
public import proofs.«01_k».proof.Proof.Gen.QkNormIdeal.Value
public import proofs.«01_k».proof.Proof.Gen.QkNormRefIdeal.Run
public import proofs.«01_k».proof.Proof.GluClaims
public import proofs.«01_k».proof.Proof.MergeClaims
public import proofs.«01_k».proof.Proof.FfnDownClaims
public import proofs.«01_k».proof.Proof.OutProjClaims
public import proofs.«01_k».proof.Proof.NormClaims
public import proofs.«01_k».proof.Proof.ConvClaims
public import proofs.«01_k».proof.Proof.QkNormClaims

@[expose] public section

noncomputable section

namespace Cert.Proof

open Idealize.ShloMosaic Idealize.SL.Sem Cert.Ret

theorem claim : Cert.Claim := ⟨Cert.Ret.Gen.facts, Cert.RetIdeal.Gen.facts, Cert.RetRefIdeal.Gen.facts, Cert.InProj.Gen.facts, Cert.InProjIdeal.Gen.facts, Cert.InProjRefIdeal.Gen.facts,
  Cert.Down.Gen.facts, Cert.DownIdeal.Gen.facts, Cert.DownRefIdeal.Gen.facts,
  Cert.Up.Gen.facts, Cert.UpIdeal.Gen.facts, Cert.UpRefIdeal.Gen.facts, Cert.Glu.Gen.facts, Cert.GluIdeal.Gen.facts, Cert.GluRefIdeal.Gen.facts,
  Cert.Merge.Gen.facts, Cert.MergeIdeal.Gen.facts, Cert.MergeRefIdeal.Gen.facts,
  Cert.FfnDown.Gen.facts, Cert.FfnDownIdeal.Gen.facts, Cert.FfnDownRefIdeal.Gen.facts,
  Cert.OutProj.Gen.facts, Cert.OutProjIdeal.Gen.facts, Cert.OutProjRefIdeal.Gen.facts,
  Cert.Norm.Gen.facts, Cert.NormIdeal.Gen.facts, Cert.NormRefIdeal.Gen.facts,
  Cert.Conv.Gen.facts, Cert.ConvIdeal.Gen.facts, Cert.ConvRefIdeal.Gen.facts,
  Cert.QkNorm.Gen.facts, Cert.QkNormIdeal.Gen.facts, Cert.QkNormRefIdeal.Gen.facts,
  Cert.Pre_down_tables.Gen.facts, Cert.Pre_up_tables.Gen.facts,
  Cert.RetClaims.frame_p, Cert.RetClaims.frame_pi, Cert.RetClaims.frame_ri, Cert.InProjClaims.frame_p, Cert.InProjClaims.frame_pi, Cert.InProjClaims.frame_ri,
  Cert.DownClaims.frame_p, Cert.DownClaims.frame_pi, Cert.DownClaims.frame_ri, Cert.DownClaims.frame_ri_pre,
  Cert.UpClaims.frame_p, Cert.UpClaims.frame_pi, Cert.UpClaims.frame_ri, Cert.UpClaims.frame_ri_pre,
  Cert.GluClaims.frame_p, Cert.GluClaims.frame_pi, Cert.GluClaims.frame_ri,
  Cert.MergeClaims.frame_p, Cert.MergeClaims.frame_pi, Cert.MergeClaims.frame_ri,
  Cert.FfnDownClaims.frame_p, Cert.FfnDownClaims.frame_pi, Cert.FfnDownClaims.frame_ri,
  Cert.OutProjClaims.frame_p, Cert.OutProjClaims.frame_pi, Cert.OutProjClaims.frame_ri,
  Cert.NormClaims.frame_p, Cert.NormClaims.frame_pi, Cert.NormClaims.frame_ri,
  Cert.ConvClaims.frame_p, Cert.ConvClaims.frame_pi, Cert.ConvClaims.frame_ri,
  Cert.QkNormClaims.frame_p, Cert.QkNormClaims.frame_pi, Cert.QkNormClaims.frame_ri,
  Cert.RetClaims.preserves, Cert.RetClaims.value, Cert.InProjClaims.preserves, Cert.InProjClaims.value, Cert.DownClaims.preserves, Cert.DownClaims.value,
  Cert.UpClaims.preserves, Cert.UpClaims.value,
  Cert.GluClaims.preserves, Cert.GluClaims.value,
  Cert.MergeClaims.preserves, Cert.MergeClaims.value,
  Cert.FfnDownClaims.preserves, Cert.FfnDownClaims.value,
  Cert.OutProjClaims.preserves, Cert.OutProjClaims.value,
  Cert.NormClaims.preserves, Cert.NormClaims.value,
  Cert.ConvClaims.preserves, Cert.ConvClaims.value,
  Cert.QkNormClaims.preserves, Cert.QkNormClaims.value⟩

end Cert.Proof

end
